-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_routed [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_routed [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_routed [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v53_0)) (v1 : (c : Dev Cert.Kernel3Ideal.nD) → Buf (Elt Ideal) ((c.tc : Thread Cert.Kernel3Ideal.nD Cert.Kernel3Ideal.τ).loc Cert.Kernel3Ideal.main_v53_1)) (v2 : (c : Dev Cert.Kernel3Ideal.nD) → Buf (Elt Ideal) ((c.tc : Thread Cert.Kernel3Ideal.nD Cert.Kernel3Ideal.τ).loc Cert.Kernel3Ideal.main_v53_2)) (v3 : (c : Dev Cert.Kernel3Ideal.nD) → Buf (Elt Ideal) ((c.tc : Thread Cert.Kernel3Ideal.nD Cert.Kernel3Ideal.τ).loc Cert.Kernel3Ideal.main_v53_3)) (v4 : (c : Dev Cert.Kernel3Ideal.nD) → Buf (Elt Ideal) ((c.tc : Thread Cert.Kernel3Ideal.nD Cert.Kernel3Ideal.τ).loc Cert.Kernel3Ideal.main_v53_4)) (v5 : (c : Dev Cert.Kernel3Ideal.nD) → Buf (Elt Ideal) ((c.tc : Thread Cert.Kernel3Ideal.nD Cert.Kernel3Ideal.τ).loc Cert.Kernel3Ideal.main_v53_5)) (v6 : (c : Dev Cert.Kernel3Ideal.nD) → Buf (Elt Ideal) ((c.tc : Thread Cert.Kernel3Ideal.nD Cert.Kernel3Ideal.τ).loc Cert.Kernel3Ideal.main_v53_6)) (v7 : (c : Dev Cert.Kernel3Ideal.nD) → Buf (Elt Ideal) ((c.tc : Thread Cert.Kernel3Ideal.nD Cert.Kernel3Ideal.τ).loc Cert.Kernel3Ideal.main_v53_7)) (v8 : (c : Dev Cert.Kernel3Ideal.nD) → Buf (Elt Ideal) ((c.tc : Thread Cert.Kernel3Ideal.nD Cert.Kernel3Ideal.τ).loc Cert.Kernel3Ideal.main_v53_8)) (v9 : (c : Dev Cert.Kernel3Ideal.nD) → Buf (Elt Ideal) ((c.tc : Thread Cert.Kernel3Ideal.nD Cert.Kernel3Ideal.τ).loc Cert.Kernel3Ideal.main_v53_9)) (v10 : (c : Dev Cert.Kernel3Ideal.nD) → Buf (Elt Ideal) ((c.tc : Thread Cert.Kernel3Ideal.nD Cert.Kernel3Ideal.τ).loc Cert.Kernel3Ideal.main_v53_10)) (v11 : (c : Dev Cert.Kernel3Ideal.nD) → Buf (Elt Ideal) ((c.tc : Thread Cert.Kernel3Ideal.nD Cert.Kernel3Ideal.τ).loc Cert.Kernel3Ideal.main_v53_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53_0) = v0 c
          ∧ r.2.mem ((c.tc : Thread Cert.Kernel3Ideal.nD Cert.Kernel3Ideal.τ).loc Cert.Kernel3Ideal.main_v53_1) = v1 c
          ∧ r.2.mem ((c.tc : Thread Cert.Kernel3Ideal.nD Cert.Kernel3Ideal.τ).loc Cert.Kernel3Ideal.main_v53_2) = v2 c
          ∧ r.2.mem ((c.tc : Thread Cert.Kernel3Ideal.nD Cert.Kernel3Ideal.τ).loc Cert.Kernel3Ideal.main_v53_3) = v3 c
          ∧ r.2.mem ((c.tc : Thread Cert.Kernel3Ideal.nD Cert.Kernel3Ideal.τ).loc Cert.Kernel3Ideal.main_v53_4) = v4 c
          ∧ r.2.mem ((c.tc : Thread Cert.Kernel3Ideal.nD Cert.Kernel3Ideal.τ).loc Cert.Kernel3Ideal.main_v53_5) = v5 c
          ∧ r.2.mem ((c.tc : Thread Cert.Kernel3Ideal.nD Cert.Kernel3Ideal.τ).loc Cert.Kernel3Ideal.main_v53_6) = v6 c
          ∧ r.2.mem ((c.tc : Thread Cert.Kernel3Ideal.nD Cert.Kernel3Ideal.τ).loc Cert.Kernel3Ideal.main_v53_7) = v7 c
          ∧ r.2.mem ((c.tc : Thread Cert.Kernel3Ideal.nD Cert.Kernel3Ideal.τ).loc Cert.Kernel3Ideal.main_v53_8) = v8 c
          ∧ r.2.mem ((c.tc : Thread Cert.Kernel3Ideal.nD Cert.Kernel3Ideal.τ).loc Cert.Kernel3Ideal.main_v53_9) = v9 c
          ∧ r.2.mem ((c.tc : Thread Cert.Kernel3Ideal.nD Cert.Kernel3Ideal.τ).loc Cert.Kernel3Ideal.main_v53_10) = v10 c
          ∧ r.2.mem ((c.tc : Thread Cert.Kernel3Ideal.nD Cert.Kernel3Ideal.τ).loc Cert.Kernel3Ideal.main_v53_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v88) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_v95) = v4 c
          ∧ r.2.mem ((c.tc : Thread Cert.Reference3Ideal.nD Cert.Reference3Ideal.τ).loc Cert.Reference3Ideal.main_v98) = v5 c
          ∧ r.2.mem ((c.tc : Thread Cert.Reference3Ideal.nD Cert.Reference3Ideal.τ).loc Cert.Reference3Ideal.main_v100) = v6 c
          ∧ r.2.mem ((c.tc : Thread Cert.Reference3Ideal.nD Cert.Reference3Ideal.τ).loc Cert.Reference3Ideal.main_v108) = v7 c
          ∧ r.2.mem ((c.tc : Thread Cert.Reference3Ideal.nD Cert.Reference3Ideal.τ).loc Cert.Reference3Ideal.main_v116) = v8 c
          ∧ r.2.mem ((c.tc : Thread Cert.Reference3Ideal.nD Cert.Reference3Ideal.τ).loc Cert.Reference3Ideal.main_v117) = v9 c
          ∧ r.2.mem ((c.tc : Thread Cert.Reference3Ideal.nD Cert.Reference3Ideal.τ).loc Cert.Reference3Ideal.main_v118) = v10 c
          ∧ r.2.mem ((c.tc : Thread Cert.Reference3Ideal.nD Cert.Reference3Ideal.τ).loc Cert.Reference3Ideal.main_v119) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_routed (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_routed (hKernel2Ideal := hKernel2Ideal) (hReference2Ideal := hReference2Ideal) (hPre_routed := hPre_routed)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S16x4096x1024 : Shape := ⟨3, ![16, 4096, 1024]⟩
abbrev S1024 : Shape := ⟨1, ![1024]⟩
abbrev S1024x3912 : Shape := ⟨2, ![1024, 3912]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3912 : S_.BroadcastsInDim S1024x3912 (![] : Fin 0 → Fin S1024x3912.rank)
  reducesTo_S1024x3912_S_d0_1 : S1024x3912.ReducesTo [0, 1] S_

variable [Facts]

def fn {F : FTy → Type} [FloatOps F] (main_arg0 : FVec F S16x4096x1024 .f32) (main_arg1 : FVec F S1024 .f32) (main_arg2 : FVec F S1024x3912 .f32) (main_arg3 : FVec F S64 .f32) (main_arg4 : FVec F S64 .f32) (main_arg5 : FVec F S64 .f32) (main_arg6 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3912 .f32 := Host.absf main_arg2
  let main_cst_0 : FVec F S_ .f32 := constant S_ .f32 0x7F800000#32
  let main_v5 : FVec F S1024x3912 .f32 := broadcastInDim S1024x3912 ![] bcast_S_S1024x3912 main_cst_0
  let main_v6 : IVec S1024x3912 1 := cmpf .olt main_v4 main_v5
  let main_c_1 : IVec S_ 1 := constantI S_ 1 1#1
  let main_v7 : IVec S_ 1 := (fun x v => Host.reduce IntOp.andi x v reducesTo_S1024x3912_S_d0_1 h_S_) main_v6 main_c_1
  let main_v8 : IVec S_ 1 := andi main_v3 main_v7
  main_v8
-- ==== Pre_routed.lean ====
abbrev S2048 : Shape := ⟨1, ![2048]⟩
abbrev S65536x1024 : Shape := ⟨2, ![65536, 1024]⟩
abbrev S32x65536 : Shape := ⟨2, ![32, 65536]⟩
abbrev S32x1024x1024 : Shape := ⟨3, ![32, 1024, 1024]⟩
abbrev S32x1024 : Shape := ⟨2, ![32, 1024]⟩
abbrev S32x64x1024 : Shape := ⟨3, ![32, 64, 1024]⟩
abbrev S64x32 : Shape := ⟨2, ![64, 32]⟩
abbrev S1024 : Shape := ⟨1, ![1024]⟩
abbrev S32x64x1024x1 : Shape := ⟨4, ![32, 64, 1024, 1]⟩
abbrev S32x64x1x1024 : Shape := ⟨4, ![32, 64, 1, 1024]⟩
abbrev S32x64x1024x1024 : Shape := ⟨4, ![32, 64, 1024, 1024]⟩
abbrev S1024x1 : Shape := ⟨2, ![1024, 1]⟩
abbrev S1x1024 : Shape := ⟨2, ![1, 1024]⟩
abbrev S1024x1024 : Shape := ⟨2, ![1024, 1024]⟩
abbrev S1x1x1024x1024 : Shape := ⟨4, ![1, 1, 1024, 1024]⟩
abbrev S_ : Shape := ⟨0, ![]⟩
abbrev S32x64 : Shape := ⟨2, ![32, 64]⟩
abbrev S32x64x1 : Shape := ⟨3, ![32, 64, 1]⟩

class Facts : Prop where
  shapeCasts_S32x65536_S32x64x1024 : S32x65536.ShapeCasts S32x64x1024
  shapeCasts_S2048_S64x32 : S2048.ShapeCasts S64x32
  bcast_S32x64x1024_S32x64x1024x1_0_1_2 : S32x64x1024.BroadcastsInDim S32x64x1024x1 (![0, 1, 2] : Fin 3 → Fin S32x64x1024x1.rank)
  bcast_S32x64x1024_S32x64x1x1024_0_1_3 : S32x64x1024.BroadcastsInDim S32x64x1x1024 (![0, 1, 3] : Fin 3 → Fin S32x64x1x1024.rank)
  bcast_S32x64x1024x1_S32x64x1024x1024_0_1_2_3 : S32x64x1024x1.BroadcastsInDim S32x64x1024x1024 (![0, 1, 2, 3] : Fin 4 → Fin S32x64x1024x1024.rank)
  bcast_S32x64x1x1024_S32x64x1024x1024_0_1_2_3 : S32x64x1x1024.BroadcastsInDim S32x64x1024x1024 (![0, 1, 2, 3] : Fin 4 → Fin S32x64x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1x1024x1024_2_3 : S1024x1024.BroadcastsInDim S1x1x1024x1024 (![2, 3] : Fin 2 → Fin S1x1x1024x1024.rank)
  bcast_S1x1x1024x1024_S32x64x1024x1024_0_1_2_3 : S1x1x1024x1024.BroadcastsInDim S32x64x1024x1024 (![0, 1, 2, 3] : Fin 4 → Fin S32x64x1024x1024.rank)
  bcast_S_S32x64x1024 : S_.BroadcastsInDim S32x64x1024 (![] : Fin 0 → Fin S32x64x1024.rank)
  reducesTo_S32x64x1024x1024_S_d0_1_2_3 : S32x64x1024x1024.ReducesTo [0, 1, 2, 3] S_
  h_S_ : 0 < S_.numel
  reducesTo_S32x64x1024_S_d0_1_2 : S32x64x1024.ReducesTo [0, 1, 2] S_
  transposes_S64x32_S32x64_1_0 : S64x32.Transposes [1, 0] S32x64
  bcast_S32x64_S32x64x1_0_1 : S32x64.BroadcastsInDim S32x64x1 (![0, 1] : Fin 2 → Fin S32x64x1.rank)
  bcast_S32x64x1_S32x64x1024_0_1_2 : S32x64x1.BroadcastsInDim S32x64x1024 (![0, 1, 2] : Fin 3 → Fin S32x64x1024.rank)
  bcast_S_S64x32 : S_.BroadcastsInDim S64x32 (![] : Fin 0 → Fin S64x32.rank)
  reducesTo_S64x32_S_d0_1 : S64x32.ReducesTo [0, 1] S_

variable [Facts]

def fn_part2 {F : FTy → Type} [FloatOps F] (main_v36 : IVec S_ 1) (main_v38 : IVec S64x32 1) (main_v40 : IVec S64x32 1) : IVec S_ 1 :=
  let main_v41 : IVec S64x32 1 := andi main_v38 main_v40
  let main_c_5 : IVec S_ 1 := constantI S_ 1 1#1
  let main_v42 : IVec S_ 1 := (fun x v => Host.reduce IntOp.andi x v reducesTo_S64x32_S_d0_1 h_S_) main_v41 main_c_5
  let main_v43 : IVec S_ 1 := andi main_v36 main_v42
  main_v43

def fn_part1 {F : FTy → Type} [FloatOps F] (main_v0 : FVec F S32x64x1024 .f32) (main_v1 : IVec S64x32 32) (main_v21 : IVec S32x64x1024x1024 1) (main_c : IVec S_ 1) : IVec S_ 1 :=
  let main_v22 : IVec S_ 1 := (fun x v => Host.reduce IntOp.andi x v reducesTo_S32x64x1024x1024_S_d0_1_2_3 h_S_) main_v21 main_c
  let main_cst_0 : FVec F S_ .f32 := constant S_ .f32 0x00000000#32
  let main_v23 : FVec F S32x64x1024 .f32 := broadcastInDim S32x64x1024 ![] bcast_S_S32x64x1024 main_cst_0
  let main_v24 : IVec S32x64x1024 1 := cmpf .olt main_v0 main_v23
  let main_v25 : FVec F S32x64x1024 .f32 := Host.floor main_v0
  let main_v26 : IVec S32x64x1024 1 := cmpf .oeq main_v0 main_v25
  let main_v27 : IVec S32x64x1024 1 := ori main_v24 main_v26
  let main_c_1 : IVec S_ 1 := constantI S_ 1 1#1
  let main_v28 : IVec S_ 1 := (fun x v => Host.reduce IntOp.andi x v reducesTo_S32x64x1024_S_d0_1_2 h_S_) main_v27 main_c_1
  let main_v29 : IVec S_ 1 := andi main_v22 main_v28
  let main_v30 : FVec F S64x32 .f32 := sitofp .f32 main_v1
  let main_v31 : FVec F S32x64 .f32 := (transpose S32x64 [1, 0] · transposes_S64x32_S32x64_1_0) main_v30
  let main_v32 : FVec F S32x64x1 .f32 := broadcastInDim S32x64x1 ![0, 1] bcast_S32x64_S32x64x1_0_1 main_v31
  let main_v33 : FVec F S32x64x1024 .f32 := broadcastInDim S32x64x1024 ![0, 1, 2] bcast_S32x64x1_S32x64x1024_0_1_2 main_v32
  let main_v34 : IVec S32x64x1024 1 := cmpf .olt main_v0 main_v33
  let main_c_2 : IVec S_ 1 := constantI S_ 1 1#1
  let main_v35 : IVec S_ 1 := (fun x v => Host.reduce IntOp.andi x v reducesTo_S32x64x1024_S_d0_1_2 h_S_) main_v34 main_c_2
  let main_v36 : IVec S_ 1 := andi main_v29 main_v35
  let main_c_3 : IVec S_ 32 := constantI S_ 32 0#32
  let main_v37 : IVec S64x32 32 := broadcastInDim S64x32 ![] bcast_S_S64x32 main_c_3
  let main_v38 : IVec S64x32 1 := cmpi .sge main_v1 main_v37
  let main_c_4 : IVec S_ 32 := constantI S_ 32 1024#32
  let main_v39 : IVec S64x32 32 := broadcastInDim S64x32 ![] bcast_S_S64x32 main_c_4
  let main_v40 : IVec S64x32 1 := cmpi .sle main_v1 main_v39
  fn_part2 (F := F) main_v36 main_v38 main_v40

def fn {F : FTy → Type} [FloatOps F] (main_arg0 : IVec S2048 32) (main_arg1 : FVec F S65536x1024 .bf16) (main_arg2 : FVec F S65536x1024 .f32) (main_arg3 : FVec F S32x65536 .f32) (main_arg4 : FVec F S32x65536 .f32) (main_arg5 : FVec F S32x1024x1024 .f32) (main_arg6 : FVec F S32x1024 .f32) (main_arg7 : FVec F S32x1024x1024 .f32) (main_arg8 : FVec F S32x1024 .f32) (main_arg9 : FVec F S32x1024x1024 .f32) (main_arg10 : FVec F S32x1024 .f32) : IVec S_ 1 :=
  let main_v0 : FVec F S32x64x1024 .f32 := shapeCast S32x64x1024 main_arg4 shapeCasts_S32x65536_S32x64x1024
  let main_v1 : IVec S64x32 32 := shapeCast S64x32 main_arg0 shapeCasts_S2048_S64x32
  let main_v2 : IVec S1024 32 := iotaInDim S1024 32 0
  let main_v3 : FVec F S32x64x1024x1 .f32 := broadcastInDim S32x64x1024x1 ![0, 1, 2] bcast_S32x64x1024_S32x64x1024x1_0_1_2 main_v0
  let main_v4 : FVec F S32x64x1x1024 .f32 := broadcastInDim S32x64x1x1024 ![0, 1, 3] bcast_S32x64x1024_S32x64x1x1024_0_1_3 main_v0
  let main_v5 : FVec F S32x64x1024x1024 .f32 := broadcastInDim S32x64x1024x1024 ![0, 1, 2, 3] bcast_S32x64x1024x1_S32x64x1024x1024_0_1_2_3 main_v3
  let main_v6 : FVec F S32x64x1024x1024 .f32 := broadcastInDim S32x64x1024x1024 ![0, 1, 2, 3] bcast_S32x64x1x1024_S32x64x1024x1024_0_1_2_3 main_v4
  let main_v7 : IVec S32x64x1024x1024 1 := cmpf .oeq main_v5 main_v6
  let main_v8 : IVec S1024x1 32 := broadcastInDim S1024x1 ![0] bcast_S1024_S1024x1_0 main_v2
  let main_v9 : IVec S1x1024 32 := broadcastInDim S1x1024 ![1] bcast_S1024_S1x1024_1 main_v2
  let main_v10 : IVec S1024x1024 32 := broadcastInDim S1024x1024 ![0, 1] bcast_S1024x1_S1024x1024_0_1 main_v8
  let main_v11 : IVec S1024x1024 32 := broadcastInDim S1024x1024 ![0, 1] bcast_S1x1024_S1024x1024_0_1 main_v9
  let main_v12 : IVec S1024x1024 1 := cmpi .ne main_v10 main_v11
  let main_v13 : IVec S1x1x1024x1024 1 := broadcastInDim S1x1x1024x1024 ![2, 3] bcast_S1024x1024_S1x1x1024x1024_2_3 main_v12
  let main_v14 : IVec S32x64x1024x1024 1 := broadcastInDim S32x64x1024x1024 ![0, 1, 2, 3] bcast_S1x1x1024x1024_S32x64x1024x1024_0_1_2_3 main_v13
  let main_v15 : IVec S32x64x1024x1024 1 := andi main_v7 main_v14
  let main_cst : FVec F S_ .f32 := constant S_ .f32 0x00000000#32
  let main_v16 : FVec F S32x64x1024 .f32 := broadcastInDim S32x64x1024 ![] bcast_S_S32x64x1024 main_cst
  let main_v17 : IVec S32x64x1024 1 := cmpf .oge main_v0 main_v16
  let main_v18 : IVec S32x64x1024x1 1 := broadcastInDim S32x64x1024x1 ![0, 1, 2] bcast_S32x64x1024_S32x64x1024x1_0_1_2 main_v17
  let main_v19 : IVec S32x64x1024x1024 1 := broadcastInDim S32x64x1024x1024 ![0, 1, 2, 3] bcast_S32x64x1024x1_S32x64x1024x1024_0_1_2_3 main_v18
  let main_v20 : IVec S32x64x1024x1024 1 := andi main_v15 main_v19
  let main_v21 : IVec S32x64x1024x1024 1 := noti main_v20
  let main_c : IVec S_ 1 := constantI S_ 1 1#1
  fn_part1 (F := F) main_v0 main_v1 main_v21 main_c
-- ==== Kernel.lean ====
abbrev S4096x8192 : Shape := ⟨2, ![4096, 8192]⟩
abbrev S16x32x64 : Shape := ⟨3, ![16, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x1024 : Shape := ⟨2, ![512, 1024]⟩
abbrev S32x1 : Shape := ⟨2, ![32, 1]⟩
abbrev S_ : Shape := ⟨0, ![]⟩
abbrev S32x64x1 : Shape := ⟨3, ![32, 64, 1]⟩
abbrev S32x32 : Shape := ⟨2, ![32, 32]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S512x4096 : Shape := ⟨2, ![512, 4096]⟩
abbrev S4096x512 : Shape := ⟨2, ![4096, 512]⟩
abbrev S1x2048 : Shape := ⟨2, ![1, 2048]⟩
abbrev S1x512 : Shape := ⟨2, ![1, 512]⟩
abbrev S16x2048 : Shape := ⟨2, ![16, 2048]⟩
abbrev S16x4096 : Shape := ⟨2, ![16, 4096]⟩
abbrev S65536x512 : Shape := ⟨2, ![65536, 512]⟩
abbrev S65536x1024 : Shape := ⟨2, ![65536, 1024]⟩
abbrev S512x512 : Shape := ⟨2, ![512, 512]⟩
abbrev S16x512 : Shape := ⟨2, ![16, 512]⟩

abbrev nBuf : Space → Nat
  | .hbm => 106
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S16x32x64, .f32⟩
  | .hbm, ⟨2, _⟩ => ⟨S16x32x64, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x64x16, .f32⟩
  | .hbm, ⟨7, _⟩ => ⟨S32x64x16, .f32⟩
  | .hbm, ⟨8, _⟩ => ⟨S32x16x64, .f32⟩
  | .hbm, ⟨9, _⟩ => ⟨S32x16x64, .f32⟩
  | .hbm, ⟨10, _⟩ => ⟨S512, .f32⟩
  | .hbm, ⟨11, _⟩ => ⟨S512x1024, .f32⟩
  | .hbm, ⟨12, _⟩ => ⟨S512x1024, .f32⟩
  | .hbm, ⟨13, _⟩ => ⟨S32, .f32⟩
  | .hbm, ⟨14, _⟩ => ⟨S32x1, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64x1, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S32x64x16, .f32⟩
  | .hbm, ⟨52, _⟩ => ⟨S32x64x16, .f32⟩
  | .hbm, ⟨53, _⟩ => ⟨S32x64x16, .f32⟩
  | .hbm, ⟨54, _⟩ => ⟨S32x64x16, .f32⟩
  | .hbm, ⟨55, _⟩ => ⟨S32x32, .i32⟩
  | .hbm, ⟨56, _⟩ => ⟨S32x32, .i32⟩
  | .hbm, ⟨57, _⟩ => ⟨S_, .i32⟩
  | .hbm, ⟨58, _⟩ => ⟨S32x32, .i32⟩
  | .hbm, ⟨59, _⟩ => ⟨S32x32, .i32⟩
  | .hbm, ⟨60, _⟩ => ⟨S32x32, .i1⟩
  | .hbm, ⟨61, _⟩ => ⟨S32x32, .f32⟩
  | .hbm, ⟨62, _⟩ => ⟨S32x16x64, .f32⟩
  | .hbm, ⟨63, _⟩ => ⟨S32x16x1x64, .f32⟩
  | .hbm, ⟨64, _⟩ => ⟨S32x1x32x1, .f32⟩
  | .hbm, ⟨65, _⟩ => ⟨S32x16x32x64, .f32⟩
  | .hbm, ⟨66, _⟩ => ⟨S32x16x32x64, .f32⟩
  | .hbm, ⟨67, _⟩ => ⟨S32x16x32x64, .f32⟩
  | .hbm, ⟨68, _⟩ => ⟨S512x2048, .f32⟩
  | .hbm, ⟨69, _⟩ => ⟨S32x16x64, .f32⟩
  | .hbm, ⟨70, _⟩ => ⟨S32x16x1x64, .f32⟩
  | .hbm, ⟨71, _⟩ => ⟨S32x1x32x1, .f32⟩
  | .hbm, ⟨72, _⟩ => ⟨S32x16x32x64, .f32⟩
  | .hbm, ⟨73, _⟩ => ⟨S32x16x32x64, .f32⟩
  | .hbm, ⟨74, _⟩ => ⟨S32x16x32x64, .f32⟩
  | .hbm, ⟨75, _⟩ => ⟨S512x2048, .f32⟩
  | .hbm, ⟨76, _⟩ => ⟨S32x64x16, .f32⟩
  | .hbm, ⟨77, _⟩ => ⟨S32x64x1x16, .f32⟩
  | .hbm, ⟨78, _⟩ => ⟨S32x1x32x1, .f32⟩
  | .hbm, ⟨79, _⟩ => ⟨S32x64x32x16, .f32⟩
  | .hbm, ⟨80, _⟩ => ⟨S32x64x32x16, .f32⟩
  | .hbm, ⟨81, _⟩ => ⟨S32x64x32x16, .f32⟩
  | .hbm, ⟨82, _⟩ => ⟨S2048x512, .f32⟩
  | .hbm, ⟨83, _⟩ => ⟨S32x64x16, .f32⟩
  | .hbm, ⟨84, _⟩ => ⟨S32x64x1x16, .f32⟩
  | .hbm, ⟨85, _⟩ => ⟨S32x1x32x1, .f32⟩
  | .hbm, ⟨86, _⟩ => ⟨S32x64x32x16, .f32⟩
  | .hbm, ⟨87, _⟩ => ⟨S32x64x32x16, .f32⟩
  | .hbm, ⟨88, _⟩ => ⟨S32x64x32x16, .f32⟩
  | .hbm, ⟨89, _⟩ => ⟨S2048x512, .f32⟩
  | .hbm, ⟨90, _⟩ => ⟨S512x4096, .f32⟩
  | .hbm, ⟨91, _⟩ => ⟨S512x4096, .bf16⟩
  | .hbm, ⟨92, _⟩ => ⟨S2048x512, .f32⟩
  | .hbm, ⟨93, _⟩ => ⟨S4096x512, .f32⟩
  | .hbm, ⟨94, _⟩ => ⟨S4096x512, .bf16⟩
  | .hbm, ⟨95, _⟩ => ⟨S1x2048, .f32⟩
  | .hbm, ⟨96, _⟩ => ⟨S1x2048, .f32⟩
  | .hbm, ⟨97, _⟩ => ⟨S1x512, .f32⟩
  | .hbm, ⟨98, _⟩ => ⟨S512x1024, .bf16⟩
  | .hbm, ⟨99, _⟩ => ⟨S512x1024, .bf16⟩
  | .hbm, ⟨100, _⟩ => ⟨S16x2048, .f32⟩
  | .hbm, ⟨101, _⟩ => ⟨S16x2048, .f32⟩
  | .hbm, ⟨102, _⟩ => ⟨S16x4096, .f32⟩
  | .hbm, ⟨103, _⟩ => ⟨S65536x512, .bf16⟩
  | .hbm, ⟨104, _⟩ => ⟨S65536x1024, .bf16⟩
  | .hbm, ⟨105, _⟩ => ⟨S16x4096, .f32⟩
  | .local _ .vmem, ⟨0, _⟩ => ⟨S512x512, .bf16⟩
  | .local _ .vmem, ⟨1, _⟩ => ⟨S512x512, .bf16⟩
  | .local _ .vmem, ⟨2, _⟩ => ⟨S16x4096, .f32⟩
  | .local _ .vmem, ⟨3, _⟩ => ⟨S512x4096, .bf16⟩
  | .local _ .vmem, ⟨4, _⟩ => ⟨S1x2048, .f32⟩
  | .local _ .vmem, ⟨5, _⟩ => ⟨S1x2048, .f32⟩
  | .local _ .vmem, ⟨6, _⟩ => ⟨S4096x512, .bf16⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x4096, .f32⟩
  | .local _ .vmem, ⟨13, _⟩ => ⟨S16x4096, .f32⟩
  | .local _ .vmem, ⟨14, _⟩ => ⟨S512x4096, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88_0 : Ref sig .tc := ⟨.hbm, 104, rfl⟩
abbrev main_v88_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_13 : BitVec 32 := 0#32
  let c32_i32 : BitVec 32 := 32#32
  let v21 : BitVec 32 := Scalar.addi c0_i32_13 c32_i32
  let c1_i32 : BitVec 32 := 1#32
  ⟨c0_i32_13, v21, c1_i32⟩
def k0_mult1 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c16_i32 : BitVec 32 := 16#32
  let v121 : BitVec 32 := Scalar.muli arg14 c16_i32
  v121
def k0_off1 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c16_i32 : BitVec 32 := 16#32
  let v121 : BitVec 32 := Scalar.muli arg14 c16_i32
  let v122 : BitVec 32 := v121
  let v123 : Index := Scalar.indexCast v122
  let c0_81 : Index := 0#32
  ![v123.toNat, 0]
def k0_off2 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c16_i32 : BitVec 32 := 16#32
  let v121 : BitVec 32 := Scalar.muli arg14 c16_i32
  let v122 : BitVec 32 := v121
  let v125 : Index := Scalar.indexCast v122
  let c2048_82 : Index := 2048#32
  ![v125.toNat, 2048]
@[reducible] def k0_t2_loop : Scf.Loop 32 :=
  let c0_i32_25 : BitVec 32 := 0#32
  let c32_i32_26 : BitVec 32 := 32#32
  let v39 : BitVec 32 := Scalar.addi c0_i32_25 c32_i32_26
  let c1_i32_27 : BitVec 32 := 1#32
  ⟨c0_i32_25, v39, c1_i32_27⟩
def k0_mult2 (k0_t2 : Fin k0_t2_loop.trips) : BitVec 32 :=
  let c0_i32_25 : BitVec 32 := 0#32
  let c1_i32_27 : BitVec 32 := 1#32
  let arg14 : BitVec 32 := Scf.iv c0_i32_25 c1_i32_27 k0_t2
  let c16_i32 : BitVec 32 := 16#32
  let v121 : BitVec 32 := Scalar.muli arg14 c16_i32
  v121
def k0_off3 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c16_i32 : BitVec 32 := 16#32
  let v121 : BitVec 32 := Scalar.muli arg14 c16_i32
  let v122 : BitVec 32 := v121
  let v123 : Index := Scalar.indexCast v122
  let c512_81 : Index := 512#32
  ![v123.toNat, 512]
def k0_off4 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c16_i32 : BitVec 32 := 16#32
  let v121 : BitVec 32 := Scalar.muli arg14 c16_i32
  let v122 : BitVec 32 := v121
  let v125 : Index := Scalar.indexCast v122
  let c2560_82 : Index := 2560#32
  ![v125.toNat, 2560]
@[reducible] def k0_t3_loop : Scf.Loop 32 :=
  let c0_i32_39 : BitVec 32 := 0#32
  let c32_i32_40 : BitVec 32 := 32#32
  let v57 : BitVec 32 := Scalar.addi c0_i32_39 c32_i32_40
  let c1_i32_41 : BitVec 32 := 1#32
  ⟨c0_i32_39, v57, c1_i32_41⟩
def k0_mult3 (k0_t3 : Fin k0_t3_loop.trips) : BitVec 32 :=
  let c0_i32_39 : BitVec 32 := 0#32
  let c1_i32_41 : BitVec 32 := 1#32
  let arg14 : BitVec 32 := Scf.iv c0_i32_39 c1_i32_41 k0_t3
  let c16_i32 : BitVec 32 := 16#32
  let v121 : BitVec 32 := Scalar.muli arg14 c16_i32
  v121
def k0_off5 (k0_t3 : Fin k0_t3_loop.trips) : Fin 2 → Nat :=
  let c0_i32_39 : BitVec 32 := 0#32
  let c1_i32_41 : BitVec 32 := 1#32
  let arg14 : BitVec 32 := Scf.iv c0_i32_39 c1_i32_41 k0_t3
  let c16_i32 : BitVec 32 := 16#32
  let v121 : BitVec 32 := Scalar.muli arg14 c16_i32
  let v122 : BitVec 32 := v121
  let v123 : Index := Scalar.indexCast v122
  let c1024_81 : Index := 1024#32
  ![v123.toNat, 1024]
def k0_off6 (k0_t3 : Fin k0_t3_loop.trips) : Fin 2 → Nat :=
  let c0_i32_39 : BitVec 32 := 0#32
  let c1_i32_41 : BitVec 32 := 1#32
  let arg14 : BitVec 32 := Scf.iv c0_i32_39 c1_i32_41 k0_t3
  let c16_i32 : BitVec 32 := 16#32
  let v121 : BitVec 32 := Scalar.muli arg14 c16_i32
  let v122 : BitVec 32 := v121
  let v125 : Index := Scalar.indexCast v122
  let c3072_82 : Index := 3072#32
  ![v125.toNat, 3072]
@[reducible] def k0_t4_loop : Scf.Loop 32 :=
  let c0_i32_53 : BitVec 32 := 0#32
  let c32_i32_54 : BitVec 32 := 32#32
  let v75 : BitVec 32 := Scalar.addi c0_i32_53 c32_i32_54
  let c1_i32_55 : BitVec 32 := 1#32
  ⟨c0_i32_53, v75, c1_i32_55⟩
def k0_mult4 (k0_t4 : Fin k0_t4_loop.trips) : BitVec 32 :=
  let c0_i32_53 : BitVec 32 := 0#32
  let c1_i32_55 : BitVec 32 := 1#32
  let arg14 : BitVec 32 := Scf.iv c0_i32_53 c1_i32_55 k0_t4
  let c16_i32 : BitVec 32 := 16#32
  let v121 : BitVec 32 := Scalar.muli arg14 c16_i32
  v121
def k0_off7 (k0_t4 : Fin k0_t4_loop.trips) : Fin 2 → Nat :=
  let c0_i32_53 : BitVec 32 := 0#32
  let c1_i32_55 : BitVec 32 := 1#32
  let arg14 : BitVec 32 := Scf.iv c0_i32_53 c1_i32_55 k0_t4
  let c16_i32 : BitVec 32 := 16#32
  let v121 : BitVec 32 := Scalar.muli arg14 c16_i32
  let v122 : BitVec 32 := v121
  let v123 : Index := Scalar.indexCast v122
  let c1536_81 : Index := 1536#32
  ![v123.toNat, 1536]
def k0_off8 (k0_t4 : Fin k0_t4_loop.trips) : Fin 2 → Nat :=
  let c0_i32_53 : BitVec 32 := 0#32
  let c1_i32_55 : BitVec 32 := 1#32
  let arg14 : BitVec 32 := Scf.iv c0_i32_53 c1_i32_55 k0_t4
  let c16_i32 : BitVec 32 := 16#32
  let v121 : BitVec 32 := Scalar.muli arg14 c16_i32
  let v122 : BitVec 32 := v121
  let v125 : Index := Scalar.indexCast v122
  let c3584_82 : Index := 3584#32
  ![v125.toNat, 3584]
def k0_cond2 (i : grid0.Coords) : BitVec 1 :=
  let arg0 : BitVec 32 := BitVec.ofNat 32 (i 0).val
  let c127_i32 : BitVec 32 := 127#32
  let v118 : BitVec 1 := Scalar.cmpi .eq arg0 c127_i32
  let v119 : BitVec 32 := Scalar.extui v118
  let c0_i32_80 : BitVec 32 := 0#32
  let v120 : BitVec 1 := Scalar.cmpi .ne v119 c0_i32_80
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x8192 : Shape := ⟨2, ![4096, 8192]⟩
abbrev S16x32x64 : Shape := ⟨3, ![16, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x1024 : Shape := ⟨2, ![512, 1024]⟩
abbrev S32x1 : Shape := ⟨2, ![32, 1]⟩
abbrev S_ : Shape := ⟨0, ![]⟩
abbrev S32x64x1 : Shape := ⟨3, ![32, 64, 1]⟩
abbrev S4096x16x32x16 : Shape := ⟨4, ![4096, 16, 32, 16]⟩
abbrev S32x64x4096x16 : Shape := ⟨4, ![32, 64, 4096, 16]⟩
abbrev S4096x16x32x64 : Shape := ⟨4, ![4096, 16, 32, 64]⟩
abbrev S1x16x32x64 : Shape := ⟨4, ![1, 16, 32, 64]⟩
abbrev S1x32x64 : Shape := ⟨3, ![1, 32, 64]⟩
abbrev S32x16x4096x16 : Shape := ⟨4, ![32, 16, 4096, 16]⟩
abbrev S65536x512 : Shape := ⟨2, ![65536, 512]⟩
abbrev S1x512 : Shape := ⟨2, ![1, 512]⟩
abbrev S65536x1024 : Shape := ⟨2, ![65536, 1024]⟩
abbrev S16x2048 : Shape := ⟨2, ![16, 2048]⟩
abbrev S16x4096 : Shape := ⟨2, ![16, 4096]⟩

abbrev nBuf : Space → Nat
  | .hbm => 162
  | .vmem => 0
  | .smem => 0
  | _ => 0

abbrev hbmTy0_0 (i : Nat) : BufTy := match i % 128 with
  | 0 => ⟨S4096x8192, .bf16⟩
  | 1 => ⟨S16x32x64, .f32⟩
  | 2 => ⟨S16x32x64, .f32⟩
  | 3 => ⟨S32x64, .f32⟩
  | 4 => ⟨S32x64, .f32⟩
  | 5 => ⟨S32, .f32⟩
  | 6 => ⟨S32x64x16, .f32⟩
  | 7 => ⟨S32x64x16, .f32⟩
  | 8 => ⟨S32x16x64, .f32⟩
  | 9 => ⟨S32x16x64, .f32⟩
  | 10 => ⟨S512, .f32⟩
  | 11 => ⟨S512x1024, .f32⟩
  | 12 => ⟨S512x1024, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64x1, .f32⟩
  | 44 => ⟨S32x64x16, .f32⟩
  | 45 => ⟨S32x64x16, .f32⟩
  | 46 => ⟨S32x64x1, .f32⟩
  | 47 => ⟨S32x64x16, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S4096x8192, .f32⟩
  | 58 => ⟨S4096x16x32x16, .f32⟩
  | 59 => ⟨S32x64x4096x16, .f32⟩
  | 60 => ⟨S4096x16x32x64, .f32⟩
  | 61 => ⟨S32x64x4096x16, .f32⟩
  | 62 => ⟨S4096x16x32x64, .f32⟩
  | 63 => ⟨S_, .f32⟩
  | 64 => ⟨S4096x16x32x64, .f32⟩
  | 65 => ⟨S_, .f32⟩
  | 66 => ⟨S4096x16x32x64, .f32⟩
  | 67 => ⟨S_, .i32⟩
  | 68 => ⟨S4096x16x32x64, .f32⟩
  | 69 => ⟨S4096x16x32x64, .f32⟩
  | 70 => ⟨S32x64, .f32⟩
  | 71 => ⟨S32x64, .f32⟩
  | 72 => ⟨S_, .i32⟩
  | 73 => ⟨S16x32x64, .f32⟩
  | 74 => ⟨S16x32x64, .f32⟩
  | 75 => ⟨S4096x16x32x64, .f32⟩
  | 76 => ⟨S4096x16x32x64, .f32⟩
  | 77 => ⟨S_, .i32⟩
  | 78 => ⟨S_, .i1⟩
  | 79 => ⟨S_, .i32⟩
  | 80 => ⟨S_, .i32⟩
  | 81 => ⟨S_, .i32⟩
  | 82 => ⟨S1x16x32x64, .f32⟩
  | 83 => ⟨S16x32x64, .f32⟩
  | 84 => ⟨S_, .i32⟩
  | 85 => ⟨S_, .i32⟩
  | 86 => ⟨S_, .i32⟩
  | 87 => ⟨S1x16x32x64, .f32⟩
  | 88 => ⟨S16x32x64, .f32⟩
  | 89 => ⟨S1x32x64, .f32⟩
  | 90 => ⟨S16x32x64, .f32⟩
  | 91 => ⟨S16x32x64, .f32⟩
  | 92 => ⟨S1x32x64, .f32⟩
  | 93 => ⟨S16x32x64, .f32⟩
  | 94 => ⟨S16x32x64, .f32⟩
  | 95 => ⟨S16x32x64, .f32⟩
  | 96 => ⟨S16x32x64, .f32⟩
  | 97 => ⟨S1x32x64, .f32⟩
  | 98 => ⟨S16x32x64, .f32⟩
  | 99 => ⟨S16x32x64, .f32⟩
  | 100 => ⟨S1x32x64, .f32⟩
  | 101 => ⟨S16x32x64, .f32⟩
  | 102 => ⟨S16x32x64, .f32⟩
  | 103 => ⟨S16x32x64, .f32⟩
  | 104 => ⟨S16x32x64, .f32⟩
  | 105 => ⟨S1x16x32x64, .f32⟩
  | 106 => ⟨S_, .i32⟩
  | 107 => ⟨S_, .i32⟩
  | 108 => ⟨S_, .i32⟩
  | 109 => ⟨S4096x16x32x64, .f32⟩
  | 110 => ⟨S1x16x32x64, .f32⟩
  | 111 => ⟨S_, .i32⟩
  | 112 => ⟨S_, .i32⟩
  | 113 => ⟨S_, .i32⟩
  | 114 => ⟨S4096x16x32x64, .f32⟩
  | 115 => ⟨S_, .i32⟩
  | 116 => ⟨S_, .i32⟩
  | 117 => ⟨S32x16x4096x16, .f32⟩
  | 118 => ⟨S4096x16x32x16, .f32⟩
  | 119 => ⟨S32x16x64, .f32⟩
  | 120 => ⟨S32x16x4096x16, .f32⟩
  | 121 => ⟨S4096x16x32x16, .f32⟩
  | 122 => ⟨S4096x16x32x16, .f32⟩
  | 123 => ⟨S65536x512, .f32⟩
  | 124 => ⟨S4096x8192, .f32⟩
  | 125 => ⟨S65536x512, .f32⟩
  | 126 => ⟨S1x512, .f32⟩
  | 127 => ⟨S65536x512, .f32⟩
  | _ => ⟨S4096x8192, .bf16⟩

abbrev hbmTy0_1 (i : Nat) : BufTy := match i % 128 with
  | 0 => ⟨S65536x512, .f32⟩
  | 1 => ⟨S65536x512, .f32⟩
  | 2 => ⟨S65536x512, .f32⟩
  | 3 => ⟨S65536x512, .f32⟩
  | 4 => ⟨S_, .f32⟩
  | 5 => ⟨S65536x512, .f32⟩
  | 6 => ⟨S65536x512, .f32⟩
  | 7 => ⟨S65536x512, .f32⟩
  | 8 => ⟨S_, .f32⟩
  | 9 => ⟨S65536x512, .f32⟩
  | 10 => ⟨S65536x512, .f32⟩
  | 11 => ⟨S65536x512, .f32⟩
  | 12 => ⟨S_, .f32⟩
  | 13 => ⟨S65536x512, .f32⟩
  | 14 => ⟨S65536x512, .f32⟩
  | 15 => ⟨S_, .f32⟩
  | 16 => ⟨S65536x512, .f32⟩
  | 17 => ⟨S65536x512, .f32⟩
  | 18 => ⟨S65536x512, .f32⟩
  | 19 => ⟨S65536x1024, .f32⟩
  | 20 => ⟨S65536x1024, .f32⟩
  | 21 => ⟨S65536x1024, .f32⟩
  | 22 => ⟨S65536x1024, .f32⟩
  | 23 => ⟨S_, .f32⟩
  | 24 => ⟨S65536x1024, .f32⟩
  | 25 => ⟨S65536x1024, .f32⟩
  | 26 => ⟨S_, .f32⟩
  | 27 => ⟨S65536x1024, .f32⟩
  | 28 => ⟨S65536x1024, .f32⟩
  | 29 => ⟨S65536x1024, .f32⟩
  | 30 => ⟨S16x2048, .f32⟩
  | 31 => ⟨S16x2048, .f32⟩
  | 32 => ⟨S16x4096, .f32⟩
  | 33 => ⟨S65536x1024, .bf16⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_1 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_c : Ref sig .tc := ⟨.hbm, 67, rfl⟩
abbrev main_v50_0 : Ref sig .tc := ⟨.hbm, 68, rfl⟩
abbrev main_v50_1 : Ref sig .tc := ⟨.hbm, 69, rfl⟩
abbrev main_v50_2 : Ref sig .tc := ⟨.hbm, 70, rfl⟩
abbrev main_v50_3 : Ref sig .tc := ⟨.hbm, 71, rfl⟩
abbrev main_v50_4 : Ref sig .tc := ⟨.hbm, 72, rfl⟩
abbrev main_v50_5 : Ref sig .tc := ⟨.hbm, 73, rfl⟩
abbrev main_v50_6 : Ref sig .tc := ⟨.hbm, 74, rfl⟩
abbrev main_v50_7 : Ref sig .tc := ⟨.hbm, 75, rfl⟩
abbrev main_v50_8 : Ref sig .tc := ⟨.hbm, 76, rfl⟩
abbrev main_while0c_c_17 : Ref sig .tc := ⟨.hbm, 77, rfl⟩
abbrev main_while0c_v90 : Ref sig .tc := ⟨.hbm, 78, rfl⟩
abbrev main_while0b_call0_c : Ref sig .tc := ⟨.hbm, 79, rfl⟩
abbrev main_while0b_call0_c_0 : Ref sig .tc := ⟨.hbm, 80, rfl⟩
abbrev main_while0b_call0_c_1 : Ref sig .tc := ⟨.hbm, 81, rfl⟩
abbrev main_while0b_call0_v0 : Ref sig .tc := ⟨.hbm, 82, rfl⟩
abbrev main_while0b_v90 : Ref sig .tc := ⟨.hbm, 83, rfl⟩
abbrev main_while0b_call1_c : Ref sig .tc := ⟨.hbm, 84, rfl⟩
abbrev main_while0b_call1_c_0 : Ref sig .tc := ⟨.hbm, 85, rfl⟩
abbrev main_while0b_call1_c_1 : Ref sig .tc := ⟨.hbm, 86, rfl⟩
abbrev main_while0b_call1_v0 : Ref sig .tc := ⟨.hbm, 87, rfl⟩
abbrev main_while0b_v91 : Ref sig .tc := ⟨.hbm, 88, rfl⟩
abbrev main_while0b_v92 : Ref sig .tc := ⟨.hbm, 89, rfl⟩
abbrev main_while0b_v93 : Ref sig .tc := ⟨.hbm, 90, rfl⟩
abbrev main_while0b_v94 : Ref sig .tc := ⟨.hbm, 91, rfl⟩
abbrev main_while0b_v95 : Ref sig .tc := ⟨.hbm, 92, rfl⟩
abbrev main_while0b_v96 : Ref sig .tc := ⟨.hbm, 93, rfl⟩
abbrev main_while0b_v97 : Ref sig .tc := ⟨.hbm, 94, rfl⟩
abbrev main_while0b_v98 : Ref sig .tc := ⟨.hbm, 95, rfl⟩
abbrev main_while0b_v99 : Ref sig .tc := ⟨.hbm, 96, rfl⟩
abbrev main_while0b_v100 : Ref sig .tc := ⟨.hbm, 97, rfl⟩
abbrev main_while0b_v101 : Ref sig .tc := ⟨.hbm, 98, rfl⟩
abbrev main_while0b_v102 : Ref sig .tc := ⟨.hbm, 99, rfl⟩
abbrev main_while0b_v103 : Ref sig .tc := ⟨.hbm, 100, rfl⟩
abbrev main_while0b_v104 : Ref sig .tc := ⟨.hbm, 101, rfl⟩
abbrev main_while0b_v105 : Ref sig .tc := ⟨.hbm, 102, rfl⟩
abbrev main_while0b_v106 : Ref sig .tc := ⟨.hbm, 103, rfl⟩
abbrev main_while0b_v107 : Ref sig .tc := ⟨.hbm, 104, rfl⟩
abbrev main_while0b_call2_v0 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_v108 : Ref sig .tc := ⟨.hbm, 109, rfl⟩
abbrev main_while0b_call3_v0 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_v109 : Ref sig .tc := ⟨.hbm, 114, rfl⟩
abbrev main_while0b_c_17 : Ref sig .tc := ⟨.hbm, 115, rfl⟩
abbrev main_while0b_v110 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_3 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_4 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_cst_5 : Ref sig .tc := ⟨.hbm, 140, rfl⟩
abbrev main_v72 : Ref sig .tc := ⟨.hbm, 141, rfl⟩
abbrev main_v73 : Ref sig .tc := ⟨.hbm, 142, rfl⟩
abbrev main_cst_6 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_7 : Ref sig .tc := ⟨.hbm, 151, rfl⟩
abbrev main_v81 : Ref sig .tc := ⟨.hbm, 152, rfl⟩
abbrev main_v82 : Ref sig .tc := ⟨.hbm, 153, rfl⟩
abbrev main_cst_8 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S2048 : Shape := ⟨1, ![2048]⟩
abbrev S65536x1024 : Shape := ⟨2, ![65536, 1024]⟩
abbrev S32x65536 : Shape := ⟨2, ![32, 65536]⟩
abbrev S32x1024x1024 : Shape := ⟨3, ![32, 1024, 1024]⟩
abbrev S32x1024 : Shape := ⟨2, ![32, 1024]⟩
abbrev S32x1x1024 : Shape := ⟨3, ![32, 1, 1024]⟩
abbrev S32x1x65536 : Shape := ⟨3, ![32, 1, 65536]⟩
abbrev S1024x1024 : Shape := ⟨2, ![1024, 1024]⟩
abbrev S1x1x1024 : Shape := ⟨3, ![1, 1, 1024]⟩
abbrev S1x1024x1024 : Shape := ⟨3, ![1, 1024, 1024]⟩
abbrev S1 : Shape := ⟨1, ![1]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩

abbrev nBuf : Space → Nat
  | .hbm => 19
  | .vmem => 22
  | .smem => 1
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S32x65536, .f32⟩
  | .hbm, ⟨3, _⟩ => ⟨S32x65536, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024x1024, .f32⟩
  | .hbm, ⟨9, _⟩ => ⟨S32x1024, .f32⟩
  | .hbm, ⟨10, _⟩ => ⟨S32x1024x1024, .bf16⟩
  | .hbm, ⟨11, _⟩ => ⟨S32x1024x1024, .bf16⟩
  | .hbm, ⟨12, _⟩ => ⟨S32x1024x1024, .bf16⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x65536, .f32⟩
  | .hbm, ⟨17, _⟩ => ⟨S32x1x65536, .f32⟩
  | .hbm, ⟨18, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x1024, .f32⟩
  | .local _ .vmem, ⟨21, _⟩ => ⟨S1024x1024, .f32⟩
  | .local _ .smem, ⟨0, _⟩ => ⟨S2048, .i32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![64, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let v5 : Index := Scalar.indexCast v4
  ![v5.toNat]
@[reducible] def k0_t1_loop (v6 : BitVec 32) : Scf.Loop 32 :=
  let c0_i32_14 : BitVec 32 := 0#32
  let c128_i32 : BitVec 32 := 128#32
  let v7 : BitVec 32 := Scalar.addi v6 c128_i32
  let c1_i32 : BitVec 32 := 1#32
  let v8 : BitVec 32 := Scalar.subi v7 c1_i32
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let v32 : BitVec 32 := Scalar.subi v25 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_16 : BitVec 32 := 1#32
  ⟨c0_i32_14, v36, c1_i32_16⟩

@[reducible] def k0_t2_loop (v6 : BitVec 32) : Scf.Loop 32 :=
  let c0_i32_14 : BitVec 32 := 0#32
  let c128_i32 : BitVec 32 := 128#32
  let v7 : BitVec 32 := Scalar.addi v6 c128_i32
  let c1_i32 : BitVec 32 := 1#32
  let v8 : BitVec 32 := Scalar.subi v7 c1_i32
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c128_i32_1 : BitVec 32 := 128#32
  let c0_i32_4 : BitVec 32 := 0#32
  let v15 : BitVec 1 := Scalar.cmpi .sgt c128_i32_1 c0_i32_4
  let v16 : BitVec 32 := Scalar.extui v15
  let c0_i32_5 : BitVec 32 := 0#32
  let v17 : BitVec 1 := Scalar.cmpi .slt c128_i32_1 c0_i32_5
  let v18 : BitVec 32 := Scalar.extui v17
  let v19 : BitVec 32 := Scalar.subi v16 v18
  let v20 : BitVec 1 := Scalar.cmpi .ne v14 v19
  let v21 : BitVec 32 := Scalar.remsi v8 c128_i32_1
  let c0_i32_6 : BitVec 32 := 0#32
  let v22 : BitVec 1 := Scalar.cmpi .ne v21 c0_i32_6
  let v23 : BitVec 1 := Scalar.andi v20 v22
  let v9 : BitVec 32 := Scalar.divsi v8 c128_i32_1
  let c1_i32_7 : BitVec 32 := 1#32
  let v24 : BitVec 32 := Scalar.subi v9 c1_i32_7
  let v25 : BitVec 32 := Scalar.select v23 v24 v9
  let v32 : BitVec 32 := Scalar.subi v25 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let v33 : BitVec 32 := Scalar.addi c0_i32_14 v32
  let c1_i32_17 : BitVec 32 := 1#32
  ⟨v36, v33, c1_i32_17⟩

def k0_chk1 (v6 : BitVec 32) : Prop :=
  ((k0_t1_loop v6).OK) ∧
  ((k0_t2_loop v6).OK)
theorem k0_t1_ok : ∀ (v6 : BitVec 32) (k0_hw1 : k0_chk1 v6), (k0_t1_loop v6).OK := fun v6 k0_hw1 => k0_hw1.1
theorem k0_t2_ok : ∀ (v6 : BitVec 32) (k0_hw1 : k0_chk1 v6), (k0_t2_loop v6).OK := fun v6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S2048 : Shape := ⟨1, ![2048]⟩
abbrev S65536x1024 : Shape := ⟨2, ![65536, 1024]⟩
abbrev S32x65536 : Shape := ⟨2, ![32, 65536]⟩
abbrev S32x1024x1024 : Shape := ⟨3, ![32, 1024, 1024]⟩
abbrev S32x1024 : Shape := ⟨2, ![32, 1024]⟩
abbrev S_ : Shape := ⟨0, ![]⟩
abbrev S65536x32x1024 : Shape := ⟨3, ![65536, 32, 1024]⟩
abbrev S1x32x1024 : Shape := ⟨3, ![1, 32, 1024]⟩
abbrev S32x65536x1024 : Shape := ⟨3, ![32, 65536, 1024]⟩
abbrev S32x1x1024 : Shape := ⟨3, ![32, 1, 1024]⟩
abbrev S32x65536x1 : Shape := ⟨3, ![32, 65536, 1]⟩

abbrev nBuf : Space → Nat
  | .hbm => 64
  | .vmem => 0
  | .smem => 0
  | _ => 0

abbrev bufTy : (tb : Table) → Fin (tcTables nBuf tb) → BufTy
  | .hbm, ⟨0, _⟩ => ⟨S2048, .i32⟩
  | .hbm, ⟨1, _⟩ => ⟨S65536x1024, .bf16⟩
  | .hbm, ⟨2, _⟩ => ⟨S65536x1024, .f32⟩
  | .hbm, ⟨3, _⟩ => ⟨S32x65536, .f32⟩
  | .hbm, ⟨4, _⟩ => ⟨S32x65536, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S32x1024x1024, .f32⟩
  | .hbm, ⟨10, _⟩ => ⟨S32x1024, .f32⟩
  | .hbm, ⟨11, _⟩ => ⟨S65536x1024, .f32⟩
  | .hbm, ⟨12, _⟩ => ⟨S_, .f32⟩
  | .hbm, ⟨13, _⟩ => ⟨S32x65536, .f32⟩
  | .hbm, ⟨14, _⟩ => ⟨S32x65536, .i1⟩
  | .hbm, ⟨15, _⟩ => ⟨S_, .f32⟩
  | .hbm, ⟨16, _⟩ => ⟨S_, .f32⟩
  | .hbm, ⟨17, _⟩ => ⟨S32x65536, .f32⟩
  | .hbm, ⟨18, _⟩ => ⟨S32x65536, .f32⟩
  | .hbm, ⟨19, _⟩ => ⟨S65536x32x1024, .f32⟩
  | .hbm, ⟨20, _⟩ => ⟨S1x32x1024, .f32⟩
  | .hbm, ⟨21, _⟩ => ⟨S65536x32x1024, .f32⟩
  | .hbm, ⟨22, _⟩ => ⟨S65536x32x1024, .f32⟩
  | .hbm, ⟨23, _⟩ => ⟨S_, .f32⟩
  | .hbm, ⟨24, _⟩ => ⟨S65536x32x1024, .f32⟩
  | .hbm, ⟨25, _⟩ => ⟨S65536x32x1024, .f32⟩
  | .hbm, ⟨26, _⟩ => ⟨S65536x32x1024, .f32⟩
  | .hbm, ⟨27, _⟩ => ⟨S1x32x1024, .f32⟩
  | .hbm, ⟨28, _⟩ => ⟨S65536x32x1024, .f32⟩
  | .hbm, ⟨29, _⟩ => ⟨S65536x32x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S65536x32x1024, .f32⟩
  | .hbm, ⟨34, _⟩ => ⟨S65536x32x1024, .f32⟩
  | .hbm, ⟨35, _⟩ => ⟨S_, .f32⟩
  | .hbm, ⟨36, _⟩ => ⟨S65536x32x1024, .f32⟩
  | .hbm, ⟨37, _⟩ => ⟨S65536x32x1024, .f32⟩
  | .hbm, ⟨38, _⟩ => ⟨S_, .f32⟩
  | .hbm, ⟨39, _⟩ => ⟨S65536x32x1024, .f32⟩
  | .hbm, ⟨40, _⟩ => ⟨S65536x32x1024, .f32⟩
  | .hbm, ⟨41, _⟩ => ⟨S65536x32x1024, .f32⟩
  | .hbm, ⟨42, _⟩ => ⟨S65536x32x1024, .f32⟩
  | .hbm, ⟨43, _⟩ => ⟨S_, .f32⟩
  | .hbm, ⟨44, _⟩ => ⟨S65536x32x1024, .f32⟩
  | .hbm, ⟨45, _⟩ => ⟨S65536x32x1024, .f32⟩
  | .hbm, ⟨46, _⟩ => ⟨S_, .f32⟩
  | .hbm, ⟨47, _⟩ => ⟨S65536x32x1024, .f32⟩
  | .hbm, ⟨48, _⟩ => ⟨S65536x32x1024, .f32⟩
  | .hbm, ⟨49, _⟩ => ⟨S65536x32x1024, .f32⟩
  | .hbm, ⟨50, _⟩ => ⟨S_, .f32⟩
  | .hbm, ⟨51, _⟩ => ⟨S65536x32x1024, .f32⟩
  | .hbm, ⟨52, _⟩ => ⟨S65536x32x1024, .f32⟩
  | .hbm, ⟨53, _⟩ => ⟨S65536x32x1024, .f32⟩
  | .hbm, ⟨54, _⟩ => ⟨S32x65536x1024, .f32⟩
  | .hbm, ⟨55, _⟩ => ⟨S32x1x1024, .f32⟩
  | .hbm, ⟨56, _⟩ => ⟨S32x65536x1024, .f32⟩
  | .hbm, ⟨57, _⟩ => ⟨S32x65536x1024, .f32⟩
  | .hbm, ⟨58, _⟩ => ⟨S32x65536x1, .f32⟩
  | .hbm, ⟨59, _⟩ => ⟨S32x65536x1024, .f32⟩
  | .hbm, ⟨60, _⟩ => ⟨S32x65536x1024, .f32⟩
  | .hbm, ⟨61, _⟩ => ⟨S_, .f32⟩
  | .hbm, ⟨62, _⟩ => ⟨S65536x1024, .f32⟩
  | .hbm, ⟨63, _⟩ => ⟨S65536x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v14 : Ref sig .tc := ⟨.hbm, 37, rfl⟩
abbrev main_cst_4 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_cst_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S1024x3912 : Shape := ⟨2, ![1024, 3912]⟩
abbrev S64 : Shape := ⟨1, ![64]⟩
abbrev S128x128 : Shape := ⟨2, ![128, 128]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1x1024 : Shape := ⟨2, ![1, 1024]⟩
abbrev S1024x8x64 : Shape := ⟨3, ![1024, 8, 64]⟩
abbrev S_ : Shape := ⟨0, ![]⟩
abbrev S1024x8x128 : Shape := ⟨3, ![1024, 8, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x1x64 : Shape := ⟨3, ![1024, 1, 64]⟩
abbrev S1024x1x128 : Shape := ⟨3, ![1024, 1, 128]⟩
abbrev S1024x1x8 : Shape := ⟨3, ![1024, 1, 8]⟩
abbrev S1x64 : Shape := ⟨2, ![1, 64]⟩
abbrev S1x128 : Shape := ⟨2, ![1, 128]⟩
abbrev S2x64 : Shape := ⟨2, ![2, 64]⟩
abbrev S128 : Shape := ⟨1, ![128]⟩
abbrev S65536x1024 : Shape := ⟨2, ![65536, 1024]⟩
abbrev S4096x8192 : Shape := ⟨2, ![4096, 8192]⟩
abbrev S16x8x4096x128 : Shape := ⟨4, ![16, 8, 4096, 128]⟩
abbrev S16x2x4096x128 : Shape := ⟨4, ![16, 2, 4096, 128]⟩
abbrev S65536x128 : Shape := ⟨2, ![65536, 128]⟩
abbrev S65536x64 : Shape := ⟨2, ![65536, 64]⟩
abbrev S512x1024 : Shape := ⟨2, ![512, 1024]⟩
abbrev S512x512 : Shape := ⟨2, ![512, 512]⟩
abbrev S1x8x512x128 : Shape := ⟨4, ![1, 8, 512, 128]⟩
abbrev S1x2x512x128 : Shape := ⟨4, ![1, 2, 512, 128]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1x1x512x128 : Shape := ⟨4, ![1, 1, 512, 128]⟩
abbrev S512x256 : Shape := ⟨2, ![512, 256]⟩

abbrev nBuf : Space → Nat
  | .hbm => 94
  | .vmem => 45
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3912, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128x128, .bf16⟩
  | .hbm, ⟨8, _⟩ => ⟨S1024x512, .f32⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x512, .f32⟩
  | .hbm, ⟨13, _⟩ => ⟨S1024x64, .f32⟩
  | .hbm, ⟨14, _⟩ => ⟨S1024x8, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x512, .bf16⟩
  | .hbm, ⟨19, _⟩ => ⟨S1024x8x64, .f32⟩
  | .hbm, ⟨20, _⟩ => ⟨S_, .i32⟩
  | .hbm, ⟨21, _⟩ => ⟨S_, .f32⟩
  | .hbm, ⟨22, _⟩ => ⟨S1024x8x128, .f32⟩
  | .hbm, ⟨23, _⟩ => ⟨S1024x1024, .f32⟩
  | .hbm, ⟨24, _⟩ => ⟨S1024x1024, .bf16⟩
  | .hbm, ⟨25, _⟩ => ⟨S1024x2x64, .f32⟩
  | .hbm, ⟨26, _⟩ => ⟨S_, .i32⟩
  | .hbm, ⟨27, _⟩ => ⟨S_, .f32⟩
  | .hbm, ⟨28, _⟩ => ⟨S1024x2x128, .f32⟩
  | .hbm, ⟨29, _⟩ => ⟨S1024x256, .f32⟩
  | .hbm, ⟨30, _⟩ => ⟨S1024x256, .bf16⟩
  | .hbm, ⟨31, _⟩ => ⟨S1024x2x64, .f32⟩
  | .hbm, ⟨32, _⟩ => ⟨S_, .i32⟩
  | .hbm, ⟨33, _⟩ => ⟨S_, .f32⟩
  | .hbm, ⟨34, _⟩ => ⟨S1024x2x128, .f32⟩
  | .hbm, ⟨35, _⟩ => ⟨S1024x256, .f32⟩
  | .hbm, ⟨36, _⟩ => ⟨S1024x256, .bf16⟩
  | .hbm, ⟨37, _⟩ => ⟨S1024x8x64, .f32⟩
  | .hbm, ⟨38, _⟩ => ⟨S_, .i32⟩
  | .hbm, ⟨39, _⟩ => ⟨S_, .f32⟩
  | .hbm, ⟨40, _⟩ => ⟨S1024x8x128, .f32⟩
  | .hbm, ⟨41, _⟩ => ⟨S1024x1024, .f32⟩
  | .hbm, ⟨42, _⟩ => ⟨S1024x1024, .bf16⟩
  | .hbm, ⟨43, _⟩ => ⟨S1024x1x64, .f32⟩
  | .hbm, ⟨44, _⟩ => ⟨S_, .i32⟩
  | .hbm, ⟨45, _⟩ => ⟨S_, .f32⟩
  | .hbm, ⟨46, _⟩ => ⟨S1024x1x128, .f32⟩
  | .hbm, ⟨47, _⟩ => ⟨S1024x128, .f32⟩
  | .hbm, ⟨48, _⟩ => ⟨S1024x128, .bf16⟩
  | .hbm, ⟨49, _⟩ => ⟨S1024x1x8, .f32⟩
  | .hbm, ⟨50, _⟩ => ⟨S_, .i32⟩
  | .hbm, ⟨51, _⟩ => ⟨S_, .f32⟩
  | .hbm, ⟨52, _⟩ => ⟨S1024x1x128, .f32⟩
  | .hbm, ⟨53, _⟩ => ⟨S1024x128, .f32⟩
  | .hbm, ⟨54, _⟩ => ⟨S1024x128, .bf16⟩
  | .hbm, ⟨55, _⟩ => ⟨S1024x1024, .bf16⟩
  | .hbm, ⟨56, _⟩ => ⟨S1024x1024, .bf16⟩
  | .hbm, ⟨57, _⟩ => ⟨S1024x128, .bf16⟩
  | .hbm, ⟨58, _⟩ => ⟨S1024x128, .bf16⟩
  | .hbm, ⟨59, _⟩ => ⟨S1x64, .f32⟩
  | .hbm, ⟨60, _⟩ => ⟨S_, .i32⟩
  | .hbm, ⟨61, _⟩ => ⟨S_, .f32⟩
  | .hbm, ⟨62, _⟩ => ⟨S1x128, .f32⟩
  | .hbm, ⟨63, _⟩ => ⟨S1x64, .f32⟩
  | .hbm, ⟨64, _⟩ => ⟨S_, .i32⟩
  | .hbm, ⟨65, _⟩ => ⟨S_, .f32⟩
  | .hbm, ⟨66, _⟩ => ⟨S1x128, .f32⟩
  | .hbm, ⟨67, _⟩ => ⟨S1x64, .f32⟩
  | .hbm, ⟨68, _⟩ => ⟨S2x64, .f32⟩
  | .hbm, ⟨69, _⟩ => ⟨S128, .f32⟩
  | .hbm, ⟨70, _⟩ => ⟨S1x128, .f32⟩
  | .hbm, ⟨71, _⟩ => ⟨S1x64, .f32⟩
  | .hbm, ⟨72, _⟩ => ⟨S_, .i32⟩
  | .hbm, ⟨73, _⟩ => ⟨S_, .f32⟩
  | .hbm, ⟨74, _⟩ => ⟨S1x128, .f32⟩
  | .hbm, ⟨75, _⟩ => ⟨S1x64, .f32⟩
  | .hbm, ⟨76, _⟩ => ⟨S_, .i32⟩
  | .hbm, ⟨77, _⟩ => ⟨S_, .f32⟩
  | .hbm, ⟨78, _⟩ => ⟨S1x128, .f32⟩
  | .hbm, ⟨79, _⟩ => ⟨S_, .bf16⟩
  | .hbm, ⟨80, _⟩ => ⟨S128x128, .bf16⟩
  | .hbm, ⟨81, _⟩ => ⟨S65536x1024, .f32⟩
  | .hbm, ⟨82, _⟩ => ⟨S4096x8192, .bf16⟩
  | .hbm, ⟨83, _⟩ => ⟨S16x8x4096x128, .bf16⟩
  | .hbm, ⟨84, _⟩ => ⟨S16x2x4096x128, .bf16⟩
  | .hbm, ⟨85, _⟩ => ⟨S16x2x4096x128, .bf16⟩
  | .hbm, ⟨86, _⟩ => ⟨S16x8x4096x128, .bf16⟩
  | .hbm, ⟨87, _⟩ => ⟨S65536x128, .bf16⟩
  | .hbm, ⟨88, _⟩ => ⟨S65536x128, .f32⟩
  | .hbm, ⟨89, _⟩ => ⟨S65536x1024, .bf16⟩
  | .hbm, ⟨90, _⟩ => ⟨S65536x1024, .bf16⟩
  | .hbm, ⟨91, _⟩ => ⟨S65536x128, .f32⟩
  | .hbm, ⟨92, _⟩ => ⟨S65536x128, .f32⟩
  | .hbm, ⟨93, _⟩ => ⟨S65536x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x256, .bf16⟩
  | .local _ .vmem, ⟨6, _⟩ => ⟨S1024x256, .bf16⟩
  | .local _ .vmem, ⟨7, _⟩ => ⟨S1024x1024, .bf16⟩
  | .local _ .vmem, ⟨8, _⟩ => ⟨S1024x128, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .bf16⟩
  | .local _ .vmem, ⟨20, _⟩ => ⟨S128x128, .bf16⟩
  | .local _ .vmem, ⟨21, _⟩ => ⟨S512x512, .bf16⟩
  | .local _ .vmem, ⟨22, _⟩ => ⟨S512x512, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x2x512x128, .bf16⟩
  | .local _ .vmem, ⟨26, _⟩ => ⟨S1x2x512x128, .bf16⟩
  | .local _ .vmem, ⟨27, _⟩ => ⟨S1x2x512x128, .bf16⟩
  | .local _ .vmem, ⟨28, _⟩ => ⟨S1x2x512x128, .bf16⟩
  | .local _ .vmem, ⟨29, _⟩ => ⟨S1x8x512x128, .bf16⟩
  | .local _ .vmem, ⟨30, _⟩ => ⟨S1x8x512x128, .bf16⟩
  | .local _ .vmem, ⟨31, _⟩ => ⟨S512x128, .bf16⟩
  | .local _ .vmem, ⟨32, _⟩ => ⟨S512x128, .bf16⟩
  | .local _ .vmem, ⟨33, _⟩ => ⟨S512x128, .f32⟩
  | .local _ .vmem, ⟨34, _⟩ => ⟨S512x128, .f32⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x64, .f32⟩
  | .local _ .vmem, ⟨44, _⟩ => ⟨S512x64, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_call2_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_call3_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_call4_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_call5_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_call6_v0 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_call7_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_call8_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_call9_v0 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_v53_3 : Ref sig .tc := ⟨.hbm, 85, rfl⟩
abbrev main_v53_4 : Ref sig .tc := ⟨.hbm, 86, rfl⟩
abbrev main_v53_5 : Ref sig .tc := ⟨.hbm, 87, rfl⟩
abbrev main_v53_6 : Ref sig .tc := ⟨.hbm, 88, rfl⟩
abbrev main_v53_7 : Ref sig .tc := ⟨.hbm, 89, rfl⟩
abbrev main_v53_8 : Ref sig .tc := ⟨.hbm, 90, rfl⟩
abbrev main_v53_9 : Ref sig .tc := ⟨.hbm, 91, rfl⟩
abbrev main_v53_10 : Ref sig .tc := ⟨.hbm, 92, rfl⟩
abbrev main_v53_11 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_stg29_0 : Ref sig .tc := ⟨.vmem, 39, rfl⟩
abbrev cc0_stg29_1 : Ref sig .tc := ⟨.vmem, 40, rfl⟩
abbrev cc0_stg30_0 : Ref sig .tc := ⟨.vmem, 41, rfl⟩
abbrev cc0_stg30_1 : Ref sig .tc := ⟨.vmem, 42, rfl⟩
abbrev cc0_stg31_0 : Ref sig .tc := ⟨.vmem, 43, rfl⟩
abbrev cc0_stg31_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36
abbrev cc0_sem28_0 : DmaSem sig := 37
abbrev cc0_sem28_1 : DmaSem sig := 38
abbrev cc0_sem29_0 : DmaSem sig := 39
abbrev cc0_sem29_1 : DmaSem sig := 40
abbrev cc0_sem30_0 : DmaSem sig := 41
abbrev cc0_sem30_1 : DmaSem sig := 42
abbrev cc0_sem31_0 : DmaSem sig := 43
abbrev cc0_sem31_1 : DmaSem sig := 44

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_27 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_28 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_29 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_30 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_31 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S512x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S512x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S512x64 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]
-- ==== Reference3Ideal.lean ====
abbrev S16x4096x1024 : Shape := ⟨3, ![16, 4096, 1024]⟩
abbrev S1024 : Shape := ⟨1, ![1024]⟩
abbrev S1024x3912 : Shape := ⟨2, ![1024, 3912]⟩
abbrev S64 : Shape := ⟨1, ![64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3912 : Shape := ⟨3, ![16, 4096, 3912]⟩
abbrev S16x4096x512 : Shape := ⟨3, ![16, 4096, 512]⟩
abbrev S16x4096x128 : Shape := ⟨3, ![16, 4096, 128]⟩
abbrev S16x4096x64 : Shape := ⟨3, ![16, 4096, 64]⟩
abbrev S16x4096x8 : Shape := ⟨3, ![16, 4096, 8]⟩
abbrev S16x4096x8x64 : Shape := ⟨4, ![16, 4096, 8, 64]⟩
abbrev S16x4096x8x1 : Shape := ⟨4, ![16, 4096, 8, 1]⟩
abbrev S1x1x1x64 : Shape := ⟨4, ![1, 1, 1, 64]⟩
abbrev S16x4096x2x64 : Shape := ⟨4, ![16, 4096, 2, 64]⟩
abbrev S16x4096x2 : Shape := ⟨3, ![16, 4096, 2]⟩
abbrev S16x4096x2x1 : Shape := ⟨4, ![16, 4096, 2, 1]⟩
abbrev S1x1x64 : Shape := ⟨3, ![1, 1, 64]⟩
abbrev S16x4096x2x65 : Shape := ⟨4, ![16, 4096, 2, 65]⟩
abbrev S4096x16x512 : Shape := ⟨3, ![4096, 16, 512]⟩
abbrev S4096x8192 : Shape := ⟨2, ![4096, 8192]⟩
abbrev S16x8x4096x64 : Shape := ⟨4, ![16, 8, 4096, 64]⟩
abbrev S16x8x4096x128 : Shape := ⟨4, ![16, 8, 4096, 128]⟩
abbrev S16x2x4096x64 : Shape := ⟨4, ![16, 2, 4096, 64]⟩
abbrev S16x2x4096x128 : Shape := ⟨4, ![16, 2, 4096, 128]⟩
abbrev S16x2x4096x65 : Shape := ⟨4, ![16, 2, 4096, 65]⟩
abbrev S65536x128 : Shape := ⟨2, ![65536, 128]⟩
abbrev S65536x1024 : Shape := ⟨2, ![65536, 1024]⟩
abbrev S65536x64 : Shape := ⟨2, ![65536, 64]⟩

abbrev nBuf : Space → Nat
  | .hbm => 160
  | .vmem => 0
  | .smem => 0
  | _ => 0

abbrev hbmTy0_0 (i : Nat) : BufTy := match i % 128 with
  | 0 => ⟨S16x4096x1024, .f32⟩
  | 1 => ⟨S1024, .f32⟩
  | 2 => ⟨S1024x3912, .f32⟩
  | 3 => ⟨S64, .f32⟩
  | 4 => ⟨S64, .f32⟩
  | 5 => ⟨S64, .f32⟩
  | 6 => ⟨S64, .f32⟩
  | 7 => ⟨S16x4096x1024, .f32⟩
  | 8 => ⟨S_, .f32⟩
  | 9 => ⟨S16x4096, .f32⟩
  | 10 => ⟨S16x4096x1, .f32⟩
  | 11 => ⟨S_, .f32⟩
  | 12 => ⟨S16x4096x1, .f32⟩
  | 13 => ⟨S16x4096x1, .f32⟩
  | 14 => ⟨S_, .f32⟩
  | 15 => ⟨S16x4096x1, .f32⟩
  | 16 => ⟨S16x4096x1, .f32⟩
  | 17 => ⟨S16x4096x1, .f32⟩
  | 18 => ⟨S16x4096x1024, .f32⟩
  | 19 => ⟨S16x4096x1024, .f32⟩
  | 20 => ⟨S1x1x1024, .f32⟩
  | 21 => ⟨S16x4096x1024, .f32⟩
  | 22 => ⟨S16x4096x1024, .f32⟩
  | 23 => ⟨S16x4096x3912, .f32⟩
  | 24 => ⟨S16x4096x512, .f32⟩
  | 25 => ⟨S16x4096x512, .f32⟩
  | 26 => ⟨S16x4096x128, .f32⟩
  | 27 => ⟨S16x4096x128, .f32⟩
  | 28 => ⟨S16x4096x512, .f32⟩
  | 29 => ⟨S16x4096x64, .f32⟩
  | 30 => ⟨S16x4096x8, .f32⟩
  | 31 => ⟨S16x4096x1024, .f32⟩
  | 32 => ⟨S16x4096x1024, .f32⟩
  | 33 => ⟨S16x4096x8x64, .f32⟩
  | 34 => ⟨S16x4096x8x64, .f32⟩
  | 35 => ⟨S_, .f32⟩
  | 36 => ⟨S16x4096x8, .f32⟩
  | 37 => ⟨S16x4096x8x1, .f32⟩
  | 38 => ⟨S_, .f32⟩
  | 39 => ⟨S16x4096x8x1, .f32⟩
  | 40 => ⟨S16x4096x8x1, .f32⟩
  | 41 => ⟨S_, .f32⟩
  | 42 => ⟨S16x4096x8x1, .f32⟩
  | 43 => ⟨S16x4096x8x1, .f32⟩
  | 44 => ⟨S16x4096x8x1, .f32⟩
  | 45 => ⟨S16x4096x8x64, .f32⟩
  | 46 => ⟨S16x4096x8x64, .f32⟩
  | 47 => ⟨S1x1x1x64, .f32⟩
  | 48 => ⟨S16x4096x8x64, .f32⟩
  | 49 => ⟨S16x4096x8x64, .f32⟩
  | 50 => ⟨S_, .f32⟩
  | 51 => ⟨S16x4096x8x64, .f32⟩
  | 52 => ⟨S16x4096x8x64, .f32⟩
  | 53 => ⟨S16x4096x2x64, .f32⟩
  | 54 => ⟨S16x4096x2x64, .f32⟩
  | 55 => ⟨S_, .f32⟩
  | 56 => ⟨S16x4096x2, .f32⟩
  | 57 => ⟨S16x4096x2x1, .f32⟩
  | 58 => ⟨S_, .f32⟩
  | 59 => ⟨S16x4096x2x1, .f32⟩
  | 60 => ⟨S16x4096x2x1, .f32⟩
  | 61 => ⟨S_, .f32⟩
  | 62 => ⟨S16x4096x2x1, .f32⟩
  | 63 => ⟨S16x4096x2x1, .f32⟩
  | 64 => ⟨S16x4096x2x1, .f32⟩
  | 65 => ⟨S16x4096x2x64, .f32⟩
  | 66 => ⟨S16x4096x2x64, .f32⟩
  | 67 => ⟨S1x1x1x64, .f32⟩
  | 68 => ⟨S16x4096x2x64, .f32⟩
  | 69 => ⟨S16x4096x2x64, .f32⟩
  | 70 => ⟨S_, .f32⟩
  | 71 => ⟨S16x4096, .f32⟩
  | 72 => ⟨S16x4096x1, .f32⟩
  | 73 => ⟨S_, .f32⟩
  | 74 => ⟨S16x4096x1, .f32⟩
  | 75 => ⟨S16x4096x1, .f32⟩
  | 76 => ⟨S16x4096x64, .f32⟩
  | 77 => ⟨S16x4096x64, .f32⟩
  | 78 => ⟨S16x4096x64, .f32⟩
  | 79 => ⟨S_, .f32⟩
  | 80 => ⟨S16x4096, .f32⟩
  | 81 => ⟨S16x4096x1, .f32⟩
  | 82 => ⟨S_, .f32⟩
  | 83 => ⟨S16x4096x1, .f32⟩
  | 84 => ⟨S16x4096x1, .f32⟩
  | 85 => ⟨S_, .f32⟩
  | 86 => ⟨S16x4096x1, .f32⟩
  | 87 => ⟨S16x4096x1, .f32⟩
  | 88 => ⟨S16x4096x1, .f32⟩
  | 89 => ⟨S16x4096x64, .f32⟩
  | 90 => ⟨S16x4096x64, .f32⟩
  | 91 => ⟨S1x1x64, .f32⟩
  | 92 => ⟨S16x4096x64, .f32⟩
  | 93 => ⟨S16x4096x64, .f32⟩
  | 94 => ⟨S1x1x64, .f32⟩
  | 95 => ⟨S16x4096x64, .f32⟩
  | 96 => ⟨S16x4096x64, .f32⟩
  | 97 => ⟨S_, .f32⟩
  | 98 => ⟨S16x4096x8, .f32⟩
  | 99 => ⟨S16x4096x8, .f32⟩
  | 100 => ⟨S16x4096x2x64, .f32⟩
  | 101 => ⟨S_, .f32⟩
  | 102 => ⟨S16x4096x2x1, .f32⟩
  | 103 => ⟨S16x4096x2x65, .f32⟩
  | 104 => ⟨S4096x16x512, .f32⟩
  | 105 => ⟨S4096x8192, .f32⟩
  | 106 => ⟨S4096x8192, .bf16⟩
  | 107 => ⟨S16x8x4096x64, .f32⟩
  | 108 => ⟨S_, .i32⟩
  | 109 => ⟨S_, .f32⟩
  | 110 => ⟨S16x8x4096x128, .f32⟩
  | 111 => ⟨S16x8x4096x128, .bf16⟩
  | 112 => ⟨S16x2x4096x64, .f32⟩
  | 113 => ⟨S_, .i32⟩
  | 114 => ⟨S_, .f32⟩
  | 115 => ⟨S16x2x4096x128, .f32⟩
  | 116 => ⟨S16x2x4096x128, .bf16⟩
  | 117 => ⟨S16x2x4096x65, .f32⟩
  | 118 => ⟨S_, .i32⟩
  | 119 => ⟨S_, .f32⟩
  | 120 => ⟨S16x2x4096x128, .f32⟩
  | 121 => ⟨S16x2x4096x128, .bf16⟩
  | 122 => ⟨S16x4096x8x64, .f32⟩
  | 123 => ⟨S16x8x4096x64, .f32⟩
  | 124 => ⟨S_, .i32⟩
  | 125 => ⟨S_, .f32⟩
  | 126 => ⟨S16x8x4096x128, .f32⟩
  | 127 => ⟨S16x8x4096x128, .bf16⟩
  | _ => ⟨S16x4096x1024, .f32⟩

abbrev hbmTy0_1 (i : Nat) : BufTy := match i % 128 with
  | 0 => ⟨S_, .i32⟩
  | 1 => ⟨S_, .f32⟩
  | 2 => ⟨S16x4096x128, .f32⟩
  | 3 => ⟨S65536x128, .f32⟩
  | 4 => ⟨S65536x128, .bf16⟩
  | 5 => ⟨S_, .i32⟩
  | 6 => ⟨S_, .f32⟩
  | 7 => ⟨S16x4096x128, .f32⟩
  | 8 => ⟨S65536x128, .f32⟩
  | 9 => ⟨S16x4096x1024, .f32⟩
  | 10 => ⟨S16x4096x1024, .f32⟩
  | 11 => ⟨S_, .f32⟩
  | 12 => ⟨S16x4096x1024, .f32⟩
  | 13 => ⟨S16x4096x1024, .f32⟩
  | 14 => ⟨S_, .f32⟩
  | 15 => ⟨S16x4096x1024, .f32⟩
  | 16 => ⟨S16x4096x1024, .f32⟩
  | 17 => ⟨S65536x1024, .f32⟩
  | 18 => ⟨S65536x1024, .bf16⟩
  | 19 => ⟨S16x4096x1024, .f32⟩
  | 20 => ⟨S16x4096x1024, .f32⟩
  | 21 => ⟨S_, .f32⟩
  | 22 => ⟨S16x4096x1024, .f32⟩
  | 23 => ⟨S16x4096x1024, .f32⟩
  | 24 => ⟨S_, .f32⟩
  | 25 => ⟨S16x4096x1024, .f32⟩
  | 26 => ⟨S16x4096x1024, .f32⟩
  | 27 => ⟨S65536x1024, .f32⟩
  | 28 => ⟨S65536x1024, .bf16⟩
  | 29 => ⟨S65536x128, .f32⟩
  | 30 => ⟨S65536x128, .f32⟩
  | 31 => ⟨S65536x64, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c : Ref sig .tc := ⟨.hbm, 108, rfl⟩
abbrev main_call0_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_16 : Ref sig .tc := ⟨.hbm, 113, rfl⟩
abbrev main_call1_v0 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_17 : Ref sig .tc := ⟨.hbm, 118, rfl⟩
abbrev main_call2_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_18 : Ref sig .tc := ⟨.hbm, 124, rfl⟩
abbrev main_call3_v0 : Ref sig .tc := ⟨.hbm, 125, rfl⟩
abbrev main_v94 : Ref sig .tc := ⟨.hbm, 126, rfl⟩
abbrev main_v95 : Ref sig .tc := ⟨.hbm, 127, rfl⟩
abbrev main_c_19 : Ref sig .tc := ⟨.hbm, 128, rfl⟩
abbrev main_call4_v0 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_call5_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_cst_24 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩

abbrev nD : Nat := 1
abbrev τ : Topo := Topo.v7x

variable {F : FTy → Type} [FloatOps F]
-- ==== Proof.Words.lean ====
/- The number of blocks of 128 ranks that the mixture's body walks, as the word arithmetic gives it: the loops over it have a
   meaning for every count, and for a count of at most 1024 it is the count over 128, rounded up. -/
module

public import proofs.«01_k».proof.Proof.Gen.Kernel2
public import proofs.«01_k».proof.Proof.Gen.Kernel2Ideal
public import Mathlib.Tactic.NormNum

@[expose] public section

noncomputable section

namespace Cert.Words

open Idealize.ShloMosaic

theorem divsi_one (x : BitVec 32) : Scalar.divsi x 1#32 = x := by
  have hc : ¬ IntOp.SDivCorner x 1#32 := by
    rintro (h | ⟨-, h⟩) <;> exact absurd h (by decide)
  show IntOp.divsi .scalar x 1#32 = x
  rw [IntOp.divsi, if_neg hc]
  exact BitVec.sdiv_one

theorem divsi_128_bounds (x : BitVec 32) :
    -16777216 ≤ (Scalar.divsi x 128#32).toInt ∧ (Scalar.divsi x 128#32).toInt ≤ 16777216 := by
  have hc : ¬ IntOp.SDivCorner x 128#32 := by
    rintro (h | ⟨-, h⟩) <;> exact absurd h (by decide)
  show _ ≤ (IntOp.divsi .scalar x 128#32).toInt ∧ (IntOp.divsi .scalar x 128#32).toInt ≤ _
  rw [IntOp.divsi, if_neg hc, BitVec.toInt_sdiv_of_ne_or_ne _ _ (.inr (by decide))]
  have h1 := BitVec.le_toInt x
  have h2 := BitVec.toInt_lt (x := x)
  have h128 : (128#32 : BitVec 32).toInt = 128 := by decide
  rw [h128]
  norm_num at h1 h2
  constructor
  · rcases le_or_gt 0 x.toInt with h | h
    · exact le_trans (by norm_num) (Int.tdiv_nonneg h (by norm_num))
    · have : x.toInt.tdiv 128 = -((-x.toInt).tdiv 128) := by rw [Int.neg_tdiv, neg_neg]
      rw [this, Int.tdiv_eq_ediv_of_nonneg (by omega)]; omega
  · rcases le_or_gt 0 x.toInt with h | h
    · rw [Int.tdiv_eq_ediv_of_nonneg h]; omega
    · have : x.toInt.tdiv 128 = -((-x.toInt).tdiv 128) := by rw [Int.neg_tdiv, neg_neg]
      rw [this, Int.tdiv_eq_ediv_of_nonneg (by omega)]; omega

/-- Whichever way the rounding goes, the quotient stays far from the ends of the word. -/
theorem quot_bounds (c : BitVec 1) (x : BitVec 32) :
    -16777217 ≤ (Scalar.select c (Scalar.subi (Scalar.divsi x 128#32) 1#32) (Scalar.divsi x 128#32)).toInt
    ∧ (Scalar.select c (Scalar.subi (Scalar.divsi x 128#32) 1#32) (Scalar.divsi x 128#32)).toInt ≤ 16777216 := by
  have h := divsi_128_bounds x
  have hs : (Scalar.subi (Scalar.divsi x 128#32) 1#32).toInt = (Scalar.divsi x 128#32).toInt - 1 := by
    show (Scalar.divsi x 128#32 - 1#32).toInt = _
    rw [BitVec.toInt_sub]
    have : (1#32 : BitVec 32).toInt = 1 := by decide
    rw [this]
    exact Int.bmod_eq_of_le (by norm_num; omega) (by norm_num; omega)
  show _ ≤ (if c = 1#1 then _ else _ : BitVec 32).toInt ∧ (if c = 1#1 then _ else _ : BitVec 32).toInt ≤ _
  split
  · rw [hs]; omega
  · omega

/-- A loop by ones from zero to a word in that range has a meaning. -/
theorem ok_from_zero (u : BitVec 32) (h : u.toInt ≤ 16777216) : Scf.OK 0#32 u 1#32 := by
  have h0 : (0#32 : BitVec 32).toInt = 0 := by decide
  have h1 : (1#32 : BitVec 32).toInt = 1 := by decide
  refine ⟨by decide, ?_⟩
  simp only [Scf.trips, h0, h1]
  norm_num
  omega

/-- The loop over the rest, from a bound to itself, has no trip. -/
theorem trips_self (u : BitVec 32) : Scf.trips u u 1#32 = 0 := by
  have h1 : (1#32 : BitVec 32).toInt = 1 := by decide
  simp [Scf.trips, h1]

theorem ok_self (u : BitVec 32) : Scf.OK u u 1#32 := by
  refine ⟨by decide, ?_⟩
  rw [trips_self]
  have := BitVec.toInt_lt (x := u)
  push_cast
  omega

theorem ub_main (u : BitVec 32) :
    Scalar.addi 0#32 (Scalar.muli (Scalar.divsi (Scalar.subi u 0#32) 1#32) 1#32) = u := by
  rw [divsi_one]
  show 0#32 + (u - 0#32) * 1#32 = u
  simp

theorem ub_rest (u : BitVec 32) : Scalar.addi 0#32 (Scalar.subi u 0#32) = u := by
  show 0#32 + (u - 0#32) = u
  simp

end Cert.Words

namespace Cert.Kernel2

open Idealize.ShloMosaic Cert.Words

theorem chk (w : BitVec 32) : k0_chk1 w := by
  refine ⟨?_, ?_⟩
  · show Scf.OK _ (Scalar.addi 0#32 (Scalar.muli (Scalar.divsi (Scalar.subi _ 0#32) 1#32) 1#32)) 1#32
    rw [ub_main]
    exact ok_from_zero _ (quot_bounds _ _).2
  · show Scf.OK (Scalar.addi 0#32 (Scalar.muli (Scalar.divsi (Scalar.subi _ 0#32) 1#32) 1#32)) (Scalar.addi 0#32 (Scalar.subi _ 0#32)) 1#32
    rw [ub_main, ub_rest]
    exact ok_self _

end Cert.Kernel2

namespace Cert.Kernel2Ideal

open Idealize.ShloMosaic Cert.Words

theorem chk (w : BitVec 32) : k0_chk1 w := Cert.Kernel2.chk w

/-- The second loop never runs. -/
theorem rest_trips (w : BitVec 32) : (k0_t2_loop w).trips = 0 := by
  show Scf.trips (Scalar.addi 0#32 (Scalar.muli (Scalar.divsi (Scalar.subi _ 0#32) 1#32) 1#32)) (Scalar.addi 0#32 (Scalar.subi _ 0#32)) 1#32 = 0
  rw [ub_main, ub_rest]
  exact trips_self _

theorem main_trips_fin : ∀ n : Fin 1025, (k0_t1_loop (BitVec.ofNat 32 n.val)).trips = (n.val + 127) / 128 := by
  decide +kernel

/-- For a count of at most 1024, the first loop makes one trip for each block of 128 ranks. -/
theorem main_trips (w : BitVec 32) (h : w.toNat ≤ 1024) : (k0_t1_loop w).trips = (w.toNat + 127) / 128 := by
  have := main_trips_fin ⟨w.toNat, by omega⟩
  rwa [BitVec.ofNat_toNat, BitVec.setWidth_eq] at this

end Cert.Kernel2Ideal

end
-- ==== Proof.MoeTrip.lean ====
module

public import proofs.«01_k».proof.Proof.Gen.Kernel2Ideal.Frame
public import proofs.«01_k».proof.Proof.Words
public import Idealize.ShloMosaic.Lib.Pipeline.ValueKit
public import Idealize.ShloMosaic.Lib.VecWindow

@[expose] public section

set_option maxRecDepth 16384

noncomputable section

namespace Cert.Kernel2Ideal.Gen

open Idealize.ShloMosaic Cert.Kernel2Ideal

/-- The tile of outputs after block `k` of ranks, from the tile before it. -/
def tripVal (v6 : BitVec 32) (v27 v29 : FVec Ideal S1x1024 .f32) (x3 : Vec Ideal S1024x1024 .bf16) (x7 x8 x9 : Vec Ideal S1x1024x1024 .bf16) (x10 x11 x12 : Vec Ideal S1x1x1024 .f32) (k : Fin (k0_t1_loop v6).trips) (y : Vec Ideal S1024x1024 .f32) :
    Vec Ideal S1024x1024 .f32 :=
  k0_pay1 v27 (k0_pay3 v6 v29 k0_pay17 0#32 1#32 k) (k0_pay4 v6 v29 k0_pay17 0#32 1#32 k)
    (k0_pay6 v6 v29 k0_pay17 0#32 1#32 k x3 x7 x10) (k0_pay7 v6 v29 k0_pay17 0#32 1#32 k x3 x8 x11) k0_pay8 x9 x12 y

/-- The tile of outputs after the first `n` blocks of ranks. -/
def accs (v6 : BitVec 32) (v27 v29 : FVec Ideal S1x1024 .f32) (x3 : Vec Ideal S1024x1024 .bf16) (x7 x8 x9 : Vec Ideal S1x1024x1024 .bf16) (x10 x11 x12 : Vec Ideal S1x1x1024 .f32) (y : Vec Ideal S1024x1024 .f32) : ℕ → Vec Ideal S1024x1024 .f32
  | 0 => y
  | n + 1 => if h : n < (k0_t1_loop v6).trips then tripVal v6 v27 v29 x3 x7 x8 x9 x10 x11 x12 ⟨n, h⟩ (accs v6 v27 v29 x3 x7 x8 x9 x10 x11 x12 y n) else accs v6 v27 v29 x3 x7 x8 x9 x10 x11 x12 y n

theorem tripL_eq (𝒱 : Variants) (c : Dev nD) (bd : Option 𝒱.V) (i : grid0.Coords) (arg2 : Memref sig .tc .smem S2048 .i32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x1024 .f32) (harg13 : arg13.IsWhole) (v6 : Elt Ideal .i32) (k0_hw1 : k0_chk1 v6) (v27 : FVec Ideal S1x1024 .f32) (v29 : FVec Ideal S1x1024 .f32)  (x3 : Vec Ideal S1024x1024 .bf16) (x7 : Vec Ideal S1x1024x1024 .bf16) (x8 : Vec Ideal S1x1024x1024 .bf16) (x9 : Vec Ideal S1x1024x1024 .bf16) (x10 : Vec Ideal S1x1x1024 .f32) (x11 : Vec Ideal S1x1x1024 .f32) (x12 : Vec Ideal S1x1x1024 .f32) (k : Fin (k0_t1_loop v6).trips)   (f) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v27 v29 k0_pay17 0#32 (harg3.unread x3) (harg7.unread x7) (harg8.unread x8) (harg9.unread x9) (harg10.unread x10) (harg11.unread x11) (harg12.unread x12) k f
      = [⟨Rect.unit ![0, 0] S1024x1024.size inb_S1024x1024_S1024x1024_0_0, tripVal v6 v27 v29 x3 x7 x8 x9 x10 x11 x12 k (arg13.view.read (Elt Ideal) f)⟩] := by
  unfold tripL_k0_t1 trip_k0_t1
  dsimp only
  sl_unfold_words
  simp only [View.readAt_eq_ld, Memref.IsWhole.read_unread]
  have e0 : ∀ a, (![0, 0] : Fin 2 → ℕ) a = 0 := by decide
  have e1 : ∀ a, (![0, 0, 0] : Fin 3 → ℕ) a = 0 := by decide
  refine congrArg (fun p => [(⟨_, p⟩ : View.Piece (Elt Ideal) S1024x1024 .f32)]) ?_
  unfold tripVal
  congr 1
  · congr 1
    · exact View.ld_unit_lit (S := S1024x1024) _ x3 e0
    · exact View.ld_unit_lit (S := S1x1024x1024) _ x7 e1
    · exact View.ld_unit_lit (S := S1x1x1024) _ x10 e1
  · congr 1
    · exact View.ld_unit_lit (S := S1024x1024) _ x3 e0
    · exact View.ld_unit_lit (S := S1x1024x1024) _ x8 e1
    · exact View.ld_unit_lit (S := S1x1x1024) _ x11 e1
  · exact View.ld_unit_lit (S := S1x1024x1024) _ x9 e1
  · exact View.ld_unit_lit (S := S1x1x1024) _ x12 e1
  · exact View.ld_unit_lit (S := S1024x1024) _ _ e0

/-- The stores of the first `n` trips read, under any later view, as the tile after them. -/
theorem pb_read (𝒱 : Variants) (c : Dev nD) (bd : Option 𝒱.V) (i : grid0.Coords) (arg2 : Memref sig .tc .smem S2048 .i32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x1024 .f32) (harg13 : arg13.IsWhole) (v6 : Elt Ideal .i32) (k0_hw1 : k0_chk1 v6) (v27 : FVec Ideal S1x1024 .f32) (v29 : FVec Ideal S1x1024 .f32)  (x3 : Vec Ideal S1024x1024 .bf16) (x7 : Vec Ideal S1x1024x1024 .bf16) (x8 : Vec Ideal S1x1024x1024 .bf16) (x9 : Vec Ideal S1x1024x1024 .bf16) (x10 : Vec Ideal S1x1x1024 .f32) (x11 : Vec Ideal S1x1x1024 .f32) (x12 : Vec Ideal S1x1x1024 .f32)  (G : BufTy.Contents (Elt Ideal) arg13.view.ty) (n : ℕ) (hn : n ≤ (k0_t1_loop v6).trips) :
    (∀ (v : View sig .tc .vmem S1024x1024 .f32) (f : BufTy.Contents (Elt Ideal) v.ty) (L : List (View.Piece (Elt Ideal) S1024x1024 .f32)),
      v.read (Elt Ideal) (v.writes (Elt Ideal) f L) = arg13.view.read (Elt Ideal) G →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v27 v29 k0_pay17 0#32 (harg3.unread x3) (harg7.unread x7) (harg8.unread x8) (harg9.unread x9) (harg10.unread x10) (harg11.unread x11) (harg12.unread x12) G n ++ L)) = accs v6 v27 v29 x3 x7 x8 x9 x10 x11 x12 (arg13.view.read (Elt Ideal) G) n) := by
  induction n with
  | zero => intro v f L h; exact h
  | succ n ih =>
    intro v f L h
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v27 v29 k0_pay17 0#32 (harg3.unread x3) (harg7.unread x7) (harg8.unread x8) (harg9.unread x9) (harg10.unread x10) (harg11.unread x11) (harg12.unread x12) G ⟨n, hn⟩
    rw [hs, tripL_eq]
    have hprev := ih (by omega) arg13.view G [] rfl
    rw [List.append_nil] at hprev
    rw [List.singleton_append, List.cons_append, View.read_writes_full, hprev]
    rw [accs, dif_pos (show n < (k0_t1_loop v6).trips from hn)]

theorem pb2_nil (𝒱 : Variants) (c : Dev nD) (bd : Option 𝒱.V) (i : grid0.Coords) (arg2 : Memref sig .tc .smem S2048 .i32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x1024 .f32) (harg13 : arg13.IsWhole) (v6 : Elt Ideal .i32) (k0_hw1 : k0_chk1 v6) (v27 : FVec Ideal S1x1024 .f32) (v29 : FVec Ideal S1x1024 .f32) (v31 : FVec Ideal S128x1024 .f32) (v36 : BitVec 32) (X_arg3 : BufTy.Contents (Elt Ideal) arg3.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (G_arg13 : BufTy.Contents (Elt Ideal) arg13.view.ty) (n : ℕ) (hn : n = 0) :
    pb_k0_t2 (F := Ideal) 𝒱 c bd i arg2 harg2 arg3 harg3 arg4 harg4 arg5 harg5 arg6 harg6 arg7 harg7 arg8 harg8 arg9 harg9 arg10 harg10 arg11 harg11 arg12 harg12 arg13 harg13 v6 k0_hw1 v27 v29 v31 v36 X_arg3 X_arg7 X_arg8 X_arg9 X_arg10 X_arg11 X_arg12 G_arg13 n = [] := by
  subst hn; rfl

theorem outB_eq (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x1024 .f32) (harg13 : arg13.IsWhole) (hc0 : ¬cond0_0 i)
    (x0 : Vec Ideal S1024x1024 .bf16) (x1 : Vec Ideal S1024x1024 .f32) (x2 : Vec Ideal S1x1x1024 .f32) (x3 : Vec Ideal S1x1x1024 .f32) (x4 : Vec Ideal S1x1024x1024 .bf16) (x5 : Vec Ideal S1x1024x1024 .bf16) (x6 : Vec Ideal S1x1024x1024 .bf16) (x7 : Vec Ideal S1x1x1024 .f32) (x8 : Vec Ideal S1x1x1024 .f32) (x9 : Vec Ideal S1x1x1024 .f32) (xt0 : TbBuf0 (F := Ideal) c tbM0_0) (xo10 : Vec Ideal S1024x1024 .f32) (k0_hw1 : k0_chk1 (tbM0_0.view.readAt (Elt Ideal) (Rect.unit (s := S2048) (k0_off1 i) S1.size (k0_off1_inb i)).toLoadRect xt0 (Shape.Idx.first (numel1_S1.symm ▸ Nat.one_pos)))) :
    out0_B_10 c i arg3 harg3 arg4 harg4 arg5 harg5 arg6 harg6 arg7 harg7 arg8 harg8 arg9 harg9 arg10 harg10 arg11 harg11 arg12 harg12 arg13 harg13 hc0 x0 x1 x2 x3 x4 x5 x6 x7 x8 x9 xt0 xo10 k0_hw1
      = accs (tbM0_0.view.readAt (Elt Ideal) (Rect.unit (s := S2048) (k0_off1 i) S1.size (k0_off1_inb i)).toLoadRect xt0 (Shape.Idx.first (numel1_S1.symm ▸ Nat.one_pos))) (k0_pay15 x2) (k0_pay16 x3) x0 x4 x5 x6 x7 x8 x9 xo10
          (k0_t1_loop (tbM0_0.view.readAt (Elt Ideal) (Rect.unit (s := S2048) (k0_off1 i) S1.size (k0_off1_inb i)).toLoadRect xt0 (Shape.Idx.first (numel1_S1.symm ▸ Nat.one_pos)))).trips := by
  have e1 : ∀ a, (![0, 0, 0] : Fin 3 → ℕ) a = 0 := by decide
  unfold out0_B_10 kernelRun0_B
  dsimp only
  rw [pb2_nil (hn := rest_trips _), List.nil_append]
  have h := pb_read Variants.none c none i tbM0_0 htbM0_0 arg3 harg3 arg4 harg4 arg5 harg5 arg6 harg6 arg7 harg7 arg8
            harg8 arg9 harg9 arg10 harg10 arg11 harg11 arg12 harg12 arg13 harg13 (kernelRun0_B.sl.r c i xt0) k0_hw1
            (kernelRun0_B.sl.r_1 c arg5 harg5 x2) (kernelRun0_B.sl.r_2 c arg6 harg6 x3)
            x0 x4 x5 x6 x7 x8 x9 (harg13.unread xo10) _ le_rfl arg13.view (harg13.unread xo10) [] rfl
  rw [List.append_nil, harg13.read_unread] at h
  refine Eq.trans h ?_
  have h1 : kernelRun0_B.sl.r_1 (F := Ideal) c arg5 harg5 x2 = k0_pay15 x2 := by
    unfold kernelRun0_B.sl.r_1
    rw [View.readAt_eq_ld, harg5.read_unread]
    exact congrArg _ (View.ld_unit_lit (S := S1x1x1024) _ _ e1)
  have h2 : kernelRun0_B.sl.r_2 (F := Ideal) c arg6 harg6 x3 = k0_pay16 x3 := by
    unfold kernelRun0_B.sl.r_2
    rw [View.readAt_eq_ld, harg6.read_unread]
    exact congrArg _ (View.ld_unit_lit (S := S1x1x1024) _ _ e1)
  rw [h1, h2]
  rfl

theorem outA_eq (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x1024 .f32) (harg13 : arg13.IsWhole) (hc0 : cond0_0 i)
    (x0 : Vec Ideal S1024x1024 .bf16) (x1 : Vec Ideal S1024x1024 .f32) (x2 : Vec Ideal S1x1x1024 .f32) (x3 : Vec Ideal S1x1x1024 .f32) (x4 : Vec Ideal S1x1024x1024 .bf16) (x5 : Vec Ideal S1x1024x1024 .bf16) (x6 : Vec Ideal S1x1024x1024 .bf16) (x7 : Vec Ideal S1x1x1024 .f32) (x8 : Vec Ideal S1x1x1024 .f32) (x9 : Vec Ideal S1x1x1024 .f32) (xt0 : TbBuf0 (F := Ideal) c tbM0_0) (k0_hw1 : k0_chk1 (tbM0_0.view.readAt (Elt Ideal) (Rect.unit (s := S2048) (k0_off1 i) S1.size (k0_off1_inb i)).toLoadRect xt0 (Shape.Idx.first (numel1_S1.symm ▸ Nat.one_pos)))) :
    out0_A_10 c i arg3 harg3 arg4 harg4 arg5 harg5 arg6 harg6 arg7 harg7 arg8 harg8 arg9 harg9 arg10 harg10 arg11 harg11 arg12 harg12 arg13 harg13 hc0 x0 x1 x2 x3 x4 x5 x6 x7 x8 x9 xt0 k0_hw1
      = accs (tbM0_0.view.readAt (Elt Ideal) (Rect.unit (s := S2048) (k0_off1 i) S1.size (k0_off1_inb i)).toLoadRect xt0 (Shape.Idx.first (numel1_S1.symm ▸ Nat.one_pos))) (k0_pay15 x2) (k0_pay16 x3) x0 x4 x5 x6 x7 x8 x9 x1
          (k0_t1_loop (tbM0_0.view.readAt (Elt Ideal) (Rect.unit (s := S2048) (k0_off1 i) S1.size (k0_off1_inb i)).toLoadRect xt0 (Shape.Idx.first (numel1_S1.symm ▸ Nat.one_pos)))).trips := by
  have e1 : ∀ a, (![0, 0, 0] : Fin 3 → ℕ) a = 0 := by decide
  unfold out0_A_10 kernelRun0_A
  dsimp only
  rw [pb2_nil (hn := rest_trips _), List.nil_append]
  have e0 : ∀ a, (![0, 0] : Fin 2 → ℕ) a = 0 := by decide
  have hx : ∀ (v : View sig .tc .vmem S1024x1024 .f32) (f : BufTy.Contents (Elt Ideal) v.ty),
      v.read (Elt Ideal) (v.writes (Elt Ideal) f (kernelRun0_A.sl.H10_1 (F := Ideal) c arg4 harg4 x1)) = x1 := by
    intro v f
    unfold kernelRun0_A.sl.H10_1
    refine (View.read_writes_full v f (off := ![0, 0]) inb_S1024x1024_S1024x1024_0_0 _ []).trans ?_
    rw [View.readAt_eq_ld, harg4.read_unread]
    exact View.ld_unit_lit (S := S1024x1024) _ x1 e0
  have h := pb_read Variants.none c none i tbM0_0 htbM0_0 arg3 harg3 arg4 harg4 arg5 harg5 arg6 harg6 arg7 harg7 arg8
            harg8 arg9 harg9 arg10 harg10 arg11 harg11 arg12 harg12 arg13 harg13 (kernelRun0_A.sl.r c i xt0) k0_hw1
            (kernelRun0_A.sl.r_1 c arg5 harg5 x2) (kernelRun0_A.sl.r_2 c arg6 harg6 x3)
            x0 x4 x5 x6 x7 x8 x9 (arg13.view.writes (Elt Ideal) arg13.view.junk (kernelRun0_A.sl.H10_1 c arg4 harg4 x1)) _ le_rfl
            VO0_10 VO0_10.junk (kernelRun0_A.sl.H10_1 c arg4 harg4 x1) ((hx _ _).trans (hx _ _).symm)
  rw [hx] at h
  refine Eq.trans h ?_
  have h1 : kernelRun0_A.sl.r_1 (F := Ideal) c arg5 harg5 x2 = k0_pay15 x2 := by
    unfold kernelRun0_A.sl.r_1
    rw [View.readAt_eq_ld, harg5.read_unread]
    exact congrArg _ (View.ld_unit_lit (S := S1x1x1024) _ _ e1)
  have h2 : kernelRun0_A.sl.r_2 (F := Ideal) c arg6 harg6 x3 = k0_pay16 x3 := by
    unfold kernelRun0_A.sl.r_2
    rw [View.readAt_eq_ld, harg6.read_unread]
    exact congrArg _ (View.ld_unit_lit (S := S1x1x1024) _ _ e1)
  rw [h1, h2]
  rfl

end Cert.Kernel2Ideal.Gen

end
-- ==== Proof.MoeMath.lean ====
/- One expert of the mixture on one tile of tokens: what the blocks of 128 ranks add to a token's row is the expert's output on
   the token, weighted by its gate, when the ranks number the tokens that chose the expert. -/
module

public import Idealize.ShloMosaic.Lib.Pipeline.ValueKit
public import Mathlib.Algebra.BigOperators.Ring.Finset

@[expose] public section

noncomputable section

namespace Cert.Moe

open Idealize.ShloMosaic

abbrev Row := Fin 1024 → EReal
abbrev Mat := Fin 1024 → Fin 1024 → EReal

/-- The gated hidden row: `a · sigmoid(1.702 a) · (b + 1)` of the two clipped projections. -/
def hidden (a b : EReal) : EReal :=
  a * Ideal.logistic (Ideal.ofBits FTy.f32 1071242019#32 * a) * (b + 1)

def clipA (a : EReal) : EReal := min a (Ideal.ofBits FTy.f32 1088421888#32)
def clipB (b : EReal) : EReal := min (Ideal.ofBits FTy.f32 1088421888#32) (max (Ideal.ofBits FTy.f32 3235905536#32) b)

/-- An expert's output on a token's row `x`. -/
def expert (wg : Mat) (bg : Row) (wu : Mat) (bu : Row) (wd : Mat) (bd : Row) (x : Row) (d : Fin 1024) : EReal :=
  (∑ f, hidden (clipA (∑ c, x c * wg c f + bg f)) (clipB (∑ c, x c * wu c f + bu f)) * wd f d) + bd d

/-- `0` or `1` by a condition. -/
def ind (p : Prop) [Decidable p] : EReal := if p then 1 else 0

theorem block_add (out : Row → EReal) (H : Mat) (G : Row) (hit : Fin 128 → Fin 1024 → Prop) [∀ r t, Decidable (hit r t)]
    (h1 : ∀ r r' t, hit r t → hit r' t → r = r') (h2 : ∀ r s t, hit r s → hit r t → s = t)
    (t : Fin 1024) [Decidable (∃ r, hit r t)] :
    ∑ r, ind (hit r t) * (out (fun c => ∑ s, ind (hit r s) * H s c) * ∑ s, (if hit r s then G s else 0))
      = if ∃ r, hit r t then out (H t) * G t else 0 := by
  split
  · rename_i h
    obtain ⟨r, hr⟩ := h
    rw [Finset.sum_eq_single r]
    · have hH : (fun c => ∑ s, ind (hit r s) * H s c) = H t := by
        funext c
        rw [Finset.sum_eq_single t]
        · rw [ind, if_pos hr, one_mul]
        · intro s _ hs
          rw [ind, if_neg (fun h => hs (h2 r s t h hr)), zero_mul]
        · intro h; exact absurd (Finset.mem_univ _) h
      have hG : ∑ s, (if hit r s then G s else 0) = G t := by
        rw [Finset.sum_eq_single t]
        · rw [if_pos hr]
        · intro s _ hs
          rw [if_neg (fun h => hs (h2 r s t h hr))]
        · intro h; exact absurd (Finset.mem_univ _) h
      rw [hH, hG, ind, if_pos hr, one_mul]
    · intro r' _ hr'
      rw [ind, if_neg (fun h => hr' (h1 r' r t h hr)), zero_mul]
    · intro h; exact absurd (Finset.mem_univ _) h
  · rename_i h
    refine Finset.sum_eq_zero fun r _ => ?_
    rw [ind, if_neg (fun hr => h ⟨r, hr⟩), zero_mul]

/-- The ranks of one tile at one expert: a token's rank is negative, or an integer below `n`; no two tokens share one. -/
structure Ranks (R : Row) (n : ℕ) : Prop where
  val : ∀ t, R t < 0 ∨ ∃ q : ℕ, q < n ∧ R t = ((q : ℝ) : EReal)
  inj : ∀ s t, R s = R t → 0 ≤ R s → s = t

/-- Token `t` is the one that row `r` of block `k` gathers. -/
def Hit (R : Row) (k : ℕ) (r : Fin 128) (t : Fin 1024) : Prop := R t = (((r.val + 128 * k : ℕ) : ℝ) : EReal)

theorem nat_inj {a b : ℕ} (h : ((a : ℝ) : EReal) = ((b : ℝ) : EReal)) : a = b := by
  exact_mod_cast EReal.coe_injective h

theorem Hit.row {R : Row} {k : ℕ} (r r' : Fin 128) (t : Fin 1024) (h : Hit R k r t) (h' : Hit R k r' t) : r = r' := by
  have := nat_inj (h.symm.trans h')
  ext; omega

theorem Hit.block {R : Row} {k k' : ℕ} {r r' : Fin 128} {t : Fin 1024} (h : Hit R k r t) (h' : Hit R k' r' t) : k = k' := by
  have := nat_inj (h.symm.trans h')
  omega

theorem Hit.token {R : Row} {n : ℕ} (hR : Ranks R n) {k : ℕ} (r : Fin 128) (s t : Fin 1024) (h : Hit R k r s) (h' : Hit R k r t) : s = t := by
  refine hR.inj s t (h.trans h'.symm) ?_
  rw [h]
  exact_mod_cast Nat.zero_le _

open Classical in
/-- After `K` blocks a token's row has gained its expert's output iff one of them held its rank. -/
theorem blocks_add {n : ℕ} {R : Row} (hR : Ranks R n) (out : Row → EReal) (H : Mat) (G : Row) (t : Fin 1024)
    (y : ℕ → EReal) (K : ℕ)
    (hy : ∀ k < K, y (k + 1) = y k + ∑ r, ind (Hit R k r t) * (out (fun c => ∑ s, ind (Hit R k r s) * H s c) * ∑ s, (if Hit R k r s then G s else 0))) :
    y K = y 0 + if ∃ k < K, ∃ r, Hit R k r t then out (H t) * G t else 0 := by
  have main : ∀ k ≤ K, y k = y 0 + if ∃ k' < k, ∃ r, Hit R k' r t then out (H t) * G t else 0 := by
    intro k
    induction k with
    | zero => intro _; simp
    | succ k ih =>
      intro hk
      rw [hy k (by omega), block_add out H G (Hit R k) Hit.row (fun r s t => Hit.token hR r s t) t, ih (by omega), add_assoc]
      congr 1
      by_cases h : ∃ r, Hit R k r t
      · have hn : ¬ ∃ k' < k, ∃ r, Hit R k' r t := by
          rintro ⟨k', hk', r', hr'⟩
          obtain ⟨r, hr⟩ := h
          have := Hit.block hr hr'
          omega
        rw [if_neg hn, if_pos h, if_pos ⟨k, by omega, h⟩, zero_add]
      · rw [if_neg h, add_zero]
        by_cases h' : ∃ k' < k, ∃ r, Hit R k' r t
        · obtain ⟨k', hk', hr⟩ := h'
          rw [if_pos ⟨k', hk', hr⟩, if_pos ⟨k', by omega, hr⟩]
        · rw [if_neg h', if_neg]
          rintro ⟨k', hk', hr⟩
          rcases Nat.lt_succ_iff_lt_or_eq.1 hk' with h'' | rfl
          · exact h' ⟨k', h'', hr⟩
          · exact h hr
  exact main K le_rfl

open Classical in
/-- All the blocks together: a token's row gains its expert's output, weighted by the gate of a token that chose it. -/
theorem blocks_all {n : ℕ} {R : Row} (hR : Ranks R n) (out : Row → EReal) (H : Mat) (G : Row) (t : Fin 1024)
    (y : ℕ → EReal) (K : ℕ) (hK : n ≤ 128 * K)
    (hy : ∀ k < K, y (k + 1) = y k + ∑ r, ind (Hit R k r t) * (out (fun c => ∑ s, ind (Hit R k r s) * H s c) * ∑ s, (if Hit R k r s then G s else 0))) :
    y K = y 0 + out (H t) * (if 0 ≤ R t then G t else 0) := by
  rw [blocks_add hR out H G t y K hy]
  congr 1
  rcases hR.val t with h | ⟨q, hq, h⟩
  · rw [if_neg (not_le.2 h), mul_zero, if_neg]
    rintro ⟨k, -, r, hr⟩
    rw [hr] at h
    exact absurd h (not_lt.2 (by exact_mod_cast Nat.zero_le _))
  · have h0 : 0 ≤ R t := by rw [h]; exact_mod_cast Nat.zero_le _
    rw [if_pos h0, if_pos]
    refine ⟨q / 128, by omega, ⟨q % 128, Nat.mod_lt _ (by norm_num)⟩, ?_⟩
    show R t = _
    rw [h]
    congr 2
    have : q % 128 + 128 * (q / 128) = q := Nat.mod_add_div q 128
    rw [this]

end Cert.Moe

end
-- ==== Proof.MoePay.lean ====
/- What one block of 128 ranks adds to a tile of the mixture's outputs, point by point, and the whole of the blocks of an expert. -/
module

public import proofs.«01_k».proof.Proof.MoeTrip
public import proofs.«01_k».proof.Proof.MoeMath

@[expose] public section

set_option maxRecDepth 16384

noncomputable section

namespace Cert.Kernel2Ideal.Gen

open Idealize.ShloMosaic Cert.Kernel2Ideal Cert.Moe

theorem row_toInt : ∀ r : Fin 128, (BitVec.ofNat 32 r.val).toInt = (r.val : ℤ) := by decide +kernel

theorem block_toInt : ∀ k : Fin 8, (Scalar.muli (Scf.iv 0#32 1#32 k.val) 128#32).toInt = ((128 * k.val : ℕ) : ℤ) := by decide +kernel

theorem select_dec (p : Prop) [Decidable p] (a b : EReal) :
    Scalar.select (BitVec.ofBool (decide p)) a b = if p then a else b := by
  by_cases h : p <;> simp [h, Scalar.select]

section
variable (v6 : BitVec 32) (v29 : FVec Ideal S1x1024 .f32) (k : Fin (k0_t1_loop v6).trips)

open Classical in
/-- The row a one-hot entry stands for is the rank it is compared with. -/
theorem pay3_at (hk : k.val < 8) (r : Fin 128) (t : Fin 1024) :
    k0_pay3 (F := Ideal) v6 v29 k0_pay17 0#32 1#32 k (ix2 r t)
      = BitVec.ofBool (decide (Hit (fun s => v29 (ix2 0 s)) k.val r t)) := by
  pointwise [k0_pay3, k0_pay17]
  have e1 : (FloatOps.sitofp (F := Ideal) FTy.f32 (BitVec.ofNat 32 r.val) : EReal) = ((r.val : ℝ) : EReal) := by
    show (((BitVec.ofNat 32 r.val).toInt : ℝ) : EReal) = _
    rw [row_toInt r, Int.cast_natCast]
  have e2 : (Scalar.muli (Scf.iv 0#32 1#32 k.val) 128#32).toInt = ((128 * k.val : ℕ) : ℤ) := block_toInt ⟨k.val, hk⟩
  rw [e1, e2, Int.cast_natCast, ← EReal.coe_add, ← Nat.cast_add]
  exact congrArg BitVec.ofBool (decide_eq_decide.2 Iff.rfl)

open Classical in
theorem pay4_at (hk : k.val < 8) (r : Fin 128) (t : Fin 1024) :
    k0_pay4 (F := Ideal) v6 v29 k0_pay17 0#32 1#32 k (ix2 r t) = ind (Hit (fun s => v29 (ix2 0 s)) k.val r t) := by
  have h : k0_pay4 (F := Ideal) v6 v29 k0_pay17 0#32 1#32 k (ix2 r t)
      = Scalar.select (k0_pay3 (F := Ideal) v6 v29 k0_pay17 0#32 1#32 k (ix2 r t)) 1 0 := by
    pointwise [k0_pay4]
  rw [h, pay3_at v6 v29 k hk, select_dec]
  rfl

theorem pay5_at (x : Vec Ideal S1024x1024 .bf16) (r : Fin 128) (d : Fin 1024) :
    k0_pay5 (F := Ideal) v6 v29 k0_pay17 0#32 1#32 k x (ix2 r d)
      = ∑ s : Fin 1024, k0_pay4 (F := Ideal) v6 v29 k0_pay17 0#32 1#32 k (ix2 r s) * x (ix2 s d) := by
  pointwise [k0_pay5]

theorem pay6_at (x : Vec Ideal S1024x1024 .bf16) (w : Vec Ideal S1x1024x1024 .bf16) (y : Vec Ideal S1x1x1024 .f32) (r : Fin 128) (d : Fin 1024) :
    k0_pay6 (F := Ideal) v6 v29 k0_pay17 0#32 1#32 k x w y (ix2 r d)
      = clipA ((∑ c : Fin 1024, k0_pay5 (F := Ideal) v6 v29 k0_pay17 0#32 1#32 k x (ix2 r c) * w (ix3 0 c d)) + y (ix3 0 0 d)) := by
  pointwise [k0_pay6]
  rfl

theorem pay7_at (x : Vec Ideal S1024x1024 .bf16) (w : Vec Ideal S1x1024x1024 .bf16) (y : Vec Ideal S1x1x1024 .f32) (r : Fin 128) (d : Fin 1024) :
    k0_pay7 (F := Ideal) v6 v29 k0_pay17 0#32 1#32 k x w y (ix2 r d)
      = clipB ((∑ c : Fin 1024, k0_pay5 (F := Ideal) v6 v29 k0_pay17 0#32 1#32 k x (ix2 r c) * w (ix3 0 c d)) + y (ix3 0 0 d)) := by
  pointwise [k0_pay7]
  rfl
end

theorem pay8_at (j : S128x1024.Idx) : k0_pay8 (F := Ideal) j = Ideal.ofBits FTy.f32 1071242019#32 := by
  pointwise [k0_pay8]

theorem pay1_at (v27 v43 v47 v59 v70 v71 v79 v82 v95) (t d : Fin 1024) :
    k0_pay1 (F := Ideal) v27 v43 v47 v59 v70 v71 v79 v82 v95 (ix2 t d)
      = v95 (ix2 t d) + ∑ r : Fin 128, v47 (ix2 r t) * (((∑ f : Fin 1024, v59 (ix2 r f) * Ideal.logistic (v71 (ix2 r f) * v59 (ix2 r f)) * (v70 (ix2 r f) + 1) * v79 (ix3 0 f d)) + v82 (ix3 0 0 d))
          * ∑ s : Fin 1024, Scalar.select (v43 (ix2 r s)) (v27 (ix2 0 s)) 0) := by
  pointwise [k0_pay1]

/-- An expert's matrices and rows, out of the blocks of them that a point holds. -/
def blockExpert (x7 x8 x9 : Vec Ideal S1x1024x1024 .bf16) (x10 x11 x12 : Vec Ideal S1x1x1024 .f32) (x : Row) (d : Fin 1024) : EReal :=
  expert (fun c f => x7 (ix3 0 c f)) (fun f => x10 (ix3 0 0 f)) (fun c f => x8 (ix3 0 c f)) (fun f => x11 (ix3 0 0 f))
    (fun f e => x9 (ix3 0 f e)) (fun e => x12 (ix3 0 0 e)) x d

open Classical in
theorem tripVal_at (v6 : BitVec 32) (v27 v29 : FVec Ideal S1x1024 .f32) (x3 : Vec Ideal S1024x1024 .bf16) (x7 x8 x9 : Vec Ideal S1x1024x1024 .bf16)
    (x10 x11 x12 : Vec Ideal S1x1x1024 .f32) (k : Fin (k0_t1_loop v6).trips) (hk : k.val < 8) (y : Vec Ideal S1024x1024 .f32) (t d : Fin 1024) :
    tripVal v6 v27 v29 x3 x7 x8 x9 x10 x11 x12 k y (ix2 t d)
      = y (ix2 t d) + ∑ r, ind (Hit (fun s => v29 (ix2 0 s)) k.val r t)
          * (blockExpert x7 x8 x9 x10 x11 x12 (fun c => ∑ s, ind (Hit (fun s => v29 (ix2 0 s)) k.val r s) * x3 (ix2 s c)) d
            * ∑ s, (if Hit (fun s => v29 (ix2 0 s)) k.val r s then v27 (ix2 0 s) else 0)) := by
  unfold tripVal
  rw [pay1_at]
  simp only [pay3_at v6 v29 k hk, pay4_at v6 v29 k hk, pay6_at, pay7_at, pay5_at, pay8_at, select_dec]
  rfl

open Classical in
/-- A tile after all the blocks of an expert: each token has gained the expert's output on it, weighted by its gate if it chose the expert. -/
theorem accs_at (v6 : BitVec 32) (v27 v29 : FVec Ideal S1x1024 .f32) (x3 : Vec Ideal S1024x1024 .bf16) (x7 x8 x9 : Vec Ideal S1x1024x1024 .bf16)
    (x10 x11 x12 : Vec Ideal S1x1x1024 .f32) (y : Vec Ideal S1024x1024 .f32) (hn : v6.toNat ≤ 1024)
    (hR : Ranks (fun s => v29 (ix2 0 s)) v6.toNat) (t d : Fin 1024) :
    accs v6 v27 v29 x3 x7 x8 x9 x10 x11 x12 y (k0_t1_loop v6).trips (ix2 t d)
      = y (ix2 t d) + blockExpert x7 x8 x9 x10 x11 x12 (fun c => x3 (ix2 t c)) d * (if 0 ≤ v29 (ix2 0 t) then v27 (ix2 0 t) else 0) := by
  have hT := main_trips v6 hn
  refine blocks_all hR (fun x => blockExpert x7 x8 x9 x10 x11 x12 x d) (fun s c => x3 (ix2 s c)) (fun s => v27 (ix2 0 s)) t
    (fun n => accs v6 v27 v29 x3 x7 x8 x9 x10 x11 x12 y n (ix2 t d)) (k0_t1_loop v6).trips (by omega) fun k hk => ?_
  show accs v6 v27 v29 x3 x7 x8 x9 x10 x11 x12 y (k + 1) (ix2 t d) = _
  rw [accs, dif_pos hk]
  exact tripVal_at v6 v27 v29 x3 x7 x8 x9 x10 x11 x12 ⟨k, hk⟩ (show k < 8 by omega) _ t d

end Cert.Kernel2Ideal.Gen

end
-- ==== Proof.MoeIndex.lean ====
/- Which block of each array a grid point of the mixture takes. -/
module

public import proofs.«01_k».proof.Proof.Gen.Kernel2Ideal.Frame

@[expose] public section

set_option maxRecDepth 16384

namespace Cert.Kernel2Ideal.Gen

open Idealize.ShloMosaic Cert.Kernel2Ideal

/-- Point `t` works on tile `t / 32` for expert `t % 32`. -/
theorem index_at : ∀ t : Fin grid0.N,
    cc0_transform_0 (grid0.coords t) = ![t.val / 32, 0] ∧ cc0_transform_1 (grid0.coords t) = ![t.val / 32, 0]
      ∧ cc0_transform_2 (grid0.coords t) = ![t.val % 32, 0, t.val / 32] ∧ cc0_transform_3 (grid0.coords t) = ![t.val % 32, 0, t.val / 32]
      ∧ cc0_transform_4 (grid0.coords t) = ![t.val % 32, 0, 0] ∧ cc0_transform_5 (grid0.coords t) = ![t.val % 32, 0, 0]
      ∧ cc0_transform_6 (grid0.coords t) = ![t.val % 32, 0, 0] ∧ cc0_transform_7 (grid0.coords t) = ![t.val % 32, 0, 0]
      ∧ cc0_transform_8 (grid0.coords t) = ![t.val % 32, 0, 0] ∧ cc0_transform_9 (grid0.coords t) = ![t.val % 32, 0, 0]
      ∧ cc0_transform_10 (grid0.coords t) = ![t.val / 32, 0] := by
  decide +kernel

end Cert.Kernel2Ideal.Gen
-- ==== Proof.MoeBlocks.lean ====
/- The blocks that a grid point of the mixture reads, as entries of the program's arguments. -/
module

public import proofs.«01_k».proof.Proof.MoePay
public import proofs.«01_k».proof.Proof.MoeIndex
public import Idealize.ShloMosaic.Lib.Claim

@[expose] public section

set_option maxRecDepth 16384

noncomputable section

namespace Cert.Kernel2Ideal.Gen

open Idealize.ShloMosaic Idealize.ShloMosaic.TcCoe Cert.Kernel2Ideal Cert.Moe

variable (m : (ℓ : Loc nD τ sig) → Buf (Elt Ideal) ℓ)

theorem ok : Ok m := trivial
theorem hyps : Hyps m (ok m) := fun _ _ => chk _

/-- The array row of row `r` of tile `j`. -/
def rowOf (j : ℕ) (hj : j < 64) (r : Fin 1024) : Fin 65536 := ⟨j * 1024 + r.val, by omega⟩

theorem tile_lt (t : Fin grid0.N) : t.val / 32 < 64 := by
  have : t.val < 2048 := t.isLt
  omega

def expertOf (t : Fin grid0.N) : Fin 32 := ⟨t.val % 32, Nat.mod_lt _ (by decide)⟩

theorem emb0 (t : Fin grid0.N) (r d : Fin 1024) :
    (((cfgM m (ok m)).win 0).blk t).view.emb (ix2 r d) = (ix2 (rowOf (t.val / 32) (tile_lt t) r) d) := by
  have h : ((cfgM m (ok m)).win 0).index t = ![t.val / 32, 0] := (index_at t).1
  refine funext fun a => Fin.ext ?_
  refine (Pipeline.Window.rect_emb_val ((cfgM m (ok m)).win 0) t (ix2 r d) a rfl).trans ?_
  rw [h]
  match a with
  | ⟨0, _⟩ => exact rfl
  | ⟨1, _⟩ => exact Nat.zero_add _

theorem emb1 (t : Fin grid0.N) (r d : Fin 1024) :
    (((cfgM m (ok m)).win 1).blk t).view.emb (ix2 r d) = (ix2 (rowOf (t.val / 32) (tile_lt t) r) d) := by
  have h : ((cfgM m (ok m)).win 1).index t = ![t.val / 32, 0] := (index_at t).2.1
  refine funext fun a => Fin.ext ?_
  refine (Pipeline.Window.rect_emb_val ((cfgM m (ok m)).win 1) t (ix2 r d) a rfl).trans ?_
  rw [h]
  match a with
  | ⟨0, _⟩ => exact rfl
  | ⟨1, _⟩ => exact Nat.zero_add _

theorem emb2 (t : Fin grid0.N) (r : Fin 1024) :
    (((cfgM m (ok m)).win 2).blk t).view.emb (ix3 0 0 r) = (ix3 (expertOf t) 0 (rowOf (t.val / 32) (tile_lt t) r)) := by
  have h : ((cfgM m (ok m)).win 2).index t = ![t.val % 32, 0, t.val / 32] := (index_at t).2.2.1
  refine funext fun a => Fin.ext ?_
  refine (Pipeline.Window.rect_emb_val ((cfgM m (ok m)).win 2) t (ix3 0 0 r) a rfl).trans ?_
  rw [h]
  match a with
  | ⟨0, _⟩ => exact Nat.mul_one _
  | ⟨1, _⟩ => exact rfl
  | ⟨2, _⟩ => exact rfl

theorem emb3 (t : Fin grid0.N) (r : Fin 1024) :
    (((cfgM m (ok m)).win 3).blk t).view.emb (ix3 0 0 r) = (ix3 (expertOf t) 0 (rowOf (t.val / 32) (tile_lt t) r)) := by
  have h : ((cfgM m (ok m)).win 3).index t = ![t.val % 32, 0, t.val / 32] := (index_at t).2.2.2.1
  refine funext fun a => Fin.ext ?_
  refine (Pipeline.Window.rect_emb_val ((cfgM m (ok m)).win 3) t (ix3 0 0 r) a rfl).trans ?_
  rw [h]
  match a with
  | ⟨0, _⟩ => exact Nat.mul_one _
  | ⟨1, _⟩ => exact rfl
  | ⟨2, _⟩ => exact rfl

theorem emb4 (t : Fin grid0.N) (r d : Fin 1024) :
    (((cfgM m (ok m)).win 4).blk t).view.emb (ix3 0 r d) = (ix3 (expertOf t) r d) := by
  have h : ((cfgM m (ok m)).win 4).index t = ![t.val % 32, 0, 0] := (index_at t).2.2.2.2.1
  refine funext fun a => Fin.ext ?_
  refine (Pipeline.Window.rect_emb_val ((cfgM m (ok m)).win 4) t (ix3 0 r d) a rfl).trans ?_
  rw [h]
  match a with
  | ⟨0, _⟩ => exact Nat.mul_one _
  | ⟨1, _⟩ => exact Nat.zero_add _
  | ⟨2, _⟩ => exact Nat.zero_add _

theorem emb5 (t : Fin grid0.N) (r d : Fin 1024) :
    (((cfgM m (ok m)).win 5).blk t).view.emb (ix3 0 r d) = (ix3 (expertOf t) r d) := by
  have h : ((cfgM m (ok m)).win 5).index t = ![t.val % 32, 0, 0] := (index_at t).2.2.2.2.2.1
  refine funext fun a => Fin.ext ?_
  refine (Pipeline.Window.rect_emb_val ((cfgM m (ok m)).win 5) t (ix3 0 r d) a rfl).trans ?_
  rw [h]
  match a with
  | ⟨0, _⟩ => exact Nat.mul_one _
  | ⟨1, _⟩ => exact Nat.zero_add _
  | ⟨2, _⟩ => exact Nat.zero_add _

theorem emb6 (t : Fin grid0.N) (r d : Fin 1024) :
    (((cfgM m (ok m)).win 6).blk t).view.emb (ix3 0 r d) = (ix3 (expertOf t) r d) := by
  have h : ((cfgM m (ok m)).win 6).index t = ![t.val % 32, 0, 0] := (index_at t).2.2.2.2.2.2.1
  refine funext fun a => Fin.ext ?_
  refine (Pipeline.Window.rect_emb_val ((cfgM m (ok m)).win 6) t (ix3 0 r d) a rfl).trans ?_
  rw [h]
  match a with
  | ⟨0, _⟩ => exact Nat.mul_one _
  | ⟨1, _⟩ => exact Nat.zero_add _
  | ⟨2, _⟩ => exact Nat.zero_add _

theorem emb7 (t : Fin grid0.N) (d : Fin 1024) :
    (((cfgM m (ok m)).win 7).blk t).view.emb (ix3 0 0 d) = (ix3 (expertOf t) 0 d) := by
  have h : ((cfgM m (ok m)).win 7).index t = ![t.val % 32, 0, 0] := (index_at t).2.2.2.2.2.2.2.1
  refine funext fun a => Fin.ext ?_
  refine (Pipeline.Window.rect_emb_val ((cfgM m (ok m)).win 7) t (ix3 0 0 d) a rfl).trans ?_
  rw [h]
  match a with
  | ⟨0, _⟩ => exact Nat.mul_one _
  | ⟨1, _⟩ => exact rfl
  | ⟨2, _⟩ => exact Nat.zero_add _

theorem emb8 (t : Fin grid0.N) (d : Fin 1024) :
    (((cfgM m (ok m)).win 8).blk t).view.emb (ix3 0 0 d) = (ix3 (expertOf t) 0 d) := by
  have h : ((cfgM m (ok m)).win 8).index t = ![t.val % 32, 0, 0] := (index_at t).2.2.2.2.2.2.2.2.1
  refine funext fun a => Fin.ext ?_
  refine (Pipeline.Window.rect_emb_val ((cfgM m (ok m)).win 8) t (ix3 0 0 d) a rfl).trans ?_
  rw [h]
  match a with
  | ⟨0, _⟩ => exact Nat.mul_one _
  | ⟨1, _⟩ => exact rfl
  | ⟨2, _⟩ => exact Nat.zero_add _

theorem emb9 (t : Fin grid0.N) (d : Fin 1024) :
    (((cfgM m (ok m)).win 9).blk t).view.emb (ix3 0 0 d) = (ix3 (expertOf t) 0 d) := by
  have h : ((cfgM m (ok m)).win 9).index t = ![t.val % 32, 0, 0] := (index_at t).2.2.2.2.2.2.2.2.2.1
  refine funext fun a => Fin.ext ?_
  refine (Pipeline.Window.rect_emb_val ((cfgM m (ok m)).win 9) t (ix3 0 0 d) a rfl).trans ?_
  rw [h]
  match a with
  | ⟨0, _⟩ => exact Nat.mul_one _
  | ⟨1, _⟩ => exact rfl
  | ⟨2, _⟩ => exact Nat.zero_add _

theorem emb10 (t : Fin grid0.N) (r d : Fin 1024) :
    (((cfgM m (ok m)).win 10).blk t).view.emb (ix2 r d) = (ix2 (rowOf (t.val / 32) (tile_lt t) r) d) := by
  have h : ((cfgM m (ok m)).win 10).index t = ![t.val / 32, 0] := (index_at t).2.2.2.2.2.2.2.2.2.2
  refine funext fun a => Fin.ext ?_
  refine (Pipeline.Window.rect_emb_val ((cfgM m (ok m)).win 10) t (ix2 r d) a rfl).trans ?_
  rw [h]
  match a with
  | ⟨0, _⟩ => exact rfl
  | ⟨1, _⟩ => exact Nat.zero_add _

theorem blk0 (c : Dev nD) (t : Fin grid0.N) (r d : Fin 1024) :
    iblk m (ok m) c 0 t (ix2 r d) = m ((c : Thread nD τ).loc main_arg1) (ix2 (rowOf (t.val / 32) (tile_lt t) r) d) := by
  show V m c main_arg1 _ = _
  rw [V_main_arg1]
  exact congrArg _ (emb0 m t r d)

theorem blk1 (c : Dev nD) (t : Fin grid0.N) (r d : Fin 1024) :
    iblk m (ok m) c 1 t (ix2 r d) = m ((c : Thread nD τ).loc main_arg2) (ix2 (rowOf (t.val / 32) (tile_lt t) r) d) := by
  show V m c main_arg2 _ = _
  rw [V_main_arg2]
  exact congrArg _ (emb1 m t r d)

theorem blk2 (c : Dev nD) (t : Fin grid0.N) (r : Fin 1024) :
    iblk m (ok m) c 2 t (ix3 0 0 r) = m ((c : Thread nD τ).loc main_arg3) (ix2 (expertOf t) (rowOf (t.val / 32) (tile_lt t) r)) := by
  refine (congrArg (V m c main_v6) (emb2 m t r)).trans ?_
  entry_read
  pointwise

theorem blk3 (c : Dev nD) (t : Fin grid0.N) (r : Fin 1024) :
    iblk m (ok m) c 3 t (ix3 0 0 r) = m ((c : Thread nD τ).loc main_arg4) (ix2 (expertOf t) (rowOf (t.val / 32) (tile_lt t) r)) := by
  refine (congrArg (V m c main_v7) (emb3 m t r)).trans ?_
  entry_read
  pointwise

theorem blk4 (c : Dev nD) (t : Fin grid0.N) (r d : Fin 1024) :
    iblk m (ok m) c 4 t (ix3 0 r d) = m ((c : Thread nD τ).loc main_arg5) (ix3 (expertOf t) r d) := by
  refine (congrArg (V m c main_v0) (emb4 m t r d)).trans ?_
  entry_read
  pointwise

theorem blk5 (c : Dev nD) (t : Fin grid0.N) (r d : Fin 1024) :
    iblk m (ok m) c 5 t (ix3 0 r d) = m ((c : Thread nD τ).loc main_arg7) (ix3 (expertOf t) r d) := by
  refine (congrArg (V m c main_v1) (emb5 m t r d)).trans ?_
  entry_read
  pointwise

theorem blk6 (c : Dev nD) (t : Fin grid0.N) (r d : Fin 1024) :
    iblk m (ok m) c 6 t (ix3 0 r d) = m ((c : Thread nD τ).loc main_arg9) (ix3 (expertOf t) r d) := by
  refine (congrArg (V m c main_v2) (emb6 m t r d)).trans ?_
  entry_read
  pointwise

theorem blk7 (c : Dev nD) (t : Fin grid0.N) (d : Fin 1024) :
    iblk m (ok m) c 7 t (ix3 0 0 d) = m ((c : Thread nD τ).loc main_arg6) (ix2 (expertOf t) d) := by
  refine (congrArg (V m c main_v3) (emb7 m t d)).trans ?_
  entry_read
  pointwise

theorem blk8 (c : Dev nD) (t : Fin grid0.N) (d : Fin 1024) :
    iblk m (ok m) c 8 t (ix3 0 0 d) = m ((c : Thread nD τ).loc main_arg8) (ix2 (expertOf t) d) := by
  refine (congrArg (V m c main_v4) (emb8 m t d)).trans ?_
  entry_read
  pointwise

theorem blk9 (c : Dev nD) (t : Fin grid0.N) (d : Fin 1024) :
    iblk m (ok m) c 9 t (ix3 0 0 d) = m ((c : Thread nD τ).loc main_arg10) (ix2 (expertOf t) d) := by
  refine (congrArg (V m c main_v5) (emb9 m t d)).trans ?_
  entry_read
  pointwise

end Cert.Kernel2Ideal.Gen

end
-- ==== Proof.MoeFinal.lean ====
/- The mixture's result array after the run: each token's residual row plus the sum, over the experts, of the expert's output
   on the token weighted by its gate. -/
module

public import proofs.«01_k».proof.Proof.MoeBlocks

@[expose] public section

set_option maxRecDepth 16384

noncomputable section

namespace Cert.Kernel2Ideal.Gen

open Idealize.ShloMosaic Idealize.ShloMosaic.TcCoe Cert.Kernel2Ideal Cert.Moe

variable (m : (ℓ : Loc nD τ sig) → Buf (Elt Ideal) ℓ)

/-! The arguments by what they hold. -/

abbrev H2 (c : Dev nD) (n : Fin 65536) (d : Fin 1024) : EReal := m ((c : Thread nD τ).loc main_arg1) (ix2 n d)
abbrev X1 (c : Dev nD) (n : Fin 65536) (d : Fin 1024) : EReal := m ((c : Thread nD τ).loc main_arg2) (ix2 n d)
abbrev GT (c : Dev nD) (e : Fin 32) (n : Fin 65536) : EReal := m ((c : Thread nD τ).loc main_arg3) (ix2 e n)
abbrev RT (c : Dev nD) (e : Fin 32) (n : Fin 65536) : EReal := m ((c : Thread nD τ).loc main_arg4) (ix2 e n)
abbrev WG (c : Dev nD) (e : Fin 32) (q f : Fin 1024) : EReal := m ((c : Thread nD τ).loc main_arg5) (ix3 e q f)
abbrev BG (c : Dev nD) (e : Fin 32) (f : Fin 1024) : EReal := m ((c : Thread nD τ).loc main_arg6) (ix2 e f)
abbrev WU (c : Dev nD) (e : Fin 32) (q f : Fin 1024) : EReal := m ((c : Thread nD τ).loc main_arg7) (ix3 e q f)
abbrev BU (c : Dev nD) (e : Fin 32) (f : Fin 1024) : EReal := m ((c : Thread nD τ).loc main_arg8) (ix2 e f)
abbrev WD (c : Dev nD) (e : Fin 32) (q f : Fin 1024) : EReal := m ((c : Thread nD τ).loc main_arg9) (ix3 e q f)
abbrev BD (c : Dev nD) (e : Fin 32) (f : Fin 1024) : EReal := m ((c : Thread nD τ).loc main_arg10) (ix2 e f)

/-- The count of the tokens of tile `t / 32` that chose expert `t % 32`. -/
abbrev count (c : Dev nD) (t : Fin grid0.N) : BitVec 32 := m ((c : Thread nD τ).loc main_arg0) (ix1 ⟨t.val, t.isLt⟩)

/-- The ranks are consistent with the counts. -/
def Routed (c : Dev nD) : Prop := ∀ t : Fin grid0.N, (count m c t).toNat ≤ 1024
  ∧ Ranks (fun s => RT m c (expertOf t) (rowOf (t.val / 32) (tile_lt t) s)) (count m c t).toNat

/-- What expert `e` adds to the output row of token `n`. -/
def contrib (c : Dev nD) (e : Fin 32) (n : Fin 65536) (d : Fin 1024) : EReal :=
  expert (WG m c e) (BG m c e) (WU m c e) (BU m c e) (WD m c e) (BD m c e) (H2 m c n) d * (if 0 ≤ RT m c e n then GT m c e n else 0)

theorem off_at : ∀ t : Fin grid0.N, k0_off1 (grid0.coords t) = ![t.val] := by decide +kernel

theorem word_eq (c : Dev nD) (t : Fin grid0.N) :
    tbM0_0.view.readAt (Elt Ideal) (Rect.unit (s := S2048) (k0_off1 (grid0.coords t)) S1.size (k0_off1_inb (grid0.coords t))).toLoadRect (tbl m 0) (Shape.Idx.first (numel1_S1.symm ▸ Nat.one_pos))
      = count m c t := by
  obtain rfl : c = 0 := Subsingleton.elim _ _
  unfold count tbl
  show V m 0 main_arg0 _ = _
  rw [V_main_arg0]
  refine congrArg _ (funext fun a => Fin.ext ?_)
  match a with
  | ⟨0, _⟩ =>
    show k0_off1 (grid0.coords t) 0 + 1 * 0 = t.val
    rw [off_at t]; rfl

theorem pay15_at (x : Vec Ideal S1x1x1024 .f32) (s : Fin 1024) : k0_pay15 x (ix2 0 s) = x (ix3 0 0 s) := by
  pointwise [k0_pay15]

theorem pay16_at (x : Vec Ideal S1x1x1024 .f32) (s : Fin 1024) : k0_pay16 x (ix2 0 s) = x (ix3 0 0 s) := by
  pointwise [k0_pay16]

/-- A tile after a point: before it, and what the point's expert adds. -/
theorem step_at (c : Dev nD) (hR : Routed m c) (t : Fin grid0.N) (y : Vec Ideal S1024x1024 .f32) (r d : Fin 1024) (w : BitVec 32) (hw : w = count m c t)
    (x0 : Vec Ideal S1024x1024 .bf16) (x2 x3 : Vec Ideal S1x1x1024 .f32) (x4 x5 x6 : Vec Ideal S1x1024x1024 .bf16) (x7 x8 x9 : Vec Ideal S1x1x1024 .f32)
    (h0 : ∀ s q, x0 (ix2 s q) = H2 m c (rowOf (t.val / 32) (tile_lt t) s) q)
    (h2 : ∀ s, x2 (ix3 0 0 s) = GT m c (expertOf t) (rowOf (t.val / 32) (tile_lt t) s))
    (h3 : ∀ s, x3 (ix3 0 0 s) = RT m c (expertOf t) (rowOf (t.val / 32) (tile_lt t) s))
    (h4 : ∀ q f, x4 (ix3 0 q f) = WG m c (expertOf t) q f) (h5 : ∀ q f, x5 (ix3 0 q f) = WU m c (expertOf t) q f)
    (h6 : ∀ q f, x6 (ix3 0 q f) = WD m c (expertOf t) q f) (h7 : ∀ f, x7 (ix3 0 0 f) = BG m c (expertOf t) f)
    (h8 : ∀ f, x8 (ix3 0 0 f) = BU m c (expertOf t) f) (h9 : ∀ f, x9 (ix3 0 0 f) = BD m c (expertOf t) f) :
    accs w (k0_pay15 x2) (k0_pay16 x3) x0 x4 x5 x6 x7 x8 x9 y (k0_t1_loop w).trips (ix2 r d)
      = y (ix2 r d) + contrib m c (expertOf t) (rowOf (t.val / 32) (tile_lt t) r) d := by
  subst hw
  have e3 : (fun s => k0_pay16 x3 (ix2 0 s)) = fun s => RT m c (expertOf t) (rowOf (t.val / 32) (tile_lt t) s) :=
    funext fun s => (pay16_at _ s).trans (h3 s)
  rw [accs_at _ _ _ _ _ _ _ _ _ _ _ (hR t).1 (by rw [e3]; exact (hR t).2)]
  congr 1
  unfold contrib blockExpert
  rw [pay15_at, pay16_at, h2, h3]
  simp only [h0, h4, h5, h6, h7, h8, h9]

theorem tile_first (c : Dev nD) (hR : Routed m c) (t : Fin grid0.N) (h0 : t.val % 32 = 0) (r d : Fin 1024) :
    outsAt0 m (ok m) (hyps m) c t.val t.isLt (ix2 r d)
      = X1 m c (rowOf (t.val / 32) (tile_lt t) r) d + contrib m c (expertOf t) (rowOf (t.val / 32) (tile_lt t) r) d := by
  refine (congrFun ((outsAt0_A m (ok m) (hyps m) c t h0).trans (outA_eq _ _ _ _ _ _ _ _ _ _ _ _ _ _ _ _ _ _ _ _ _ _ _ _ _ _ _ _ _ _ _ _ _ _ _ _ _)) (ix2 r d)).trans ?_
  refine (step_at m c hR t _ r d _ (word_eq m c t) _ _ _ _ _ _ _ _ _ (blk0 m c t) (blk2 m c t) (blk3 m c t) (blk4 m c t) (blk5 m c t) (blk6 m c t) (blk7 m c t) (blk8 m c t) (blk9 m c t)).trans ?_
  exact congrArg (· + _) (blk1 m c t r d)

theorem tile_next (c : Dev nD) (hR : Routed m c) (t : Fin grid0.N) (h0 : ¬t.val % 32 = 0) (r d : Fin 1024) :
    outsAt0 m (ok m) (hyps m) c t.val t.isLt (ix2 r d)
      = outsAt0 m (ok m) (hyps m) c (t.val - 1) (Nat.lt_of_le_of_lt (Nat.sub_le _ _) t.isLt) (ix2 r d) + contrib m c (expertOf t) (rowOf (t.val / 32) (tile_lt t) r) d := by
  refine (congrFun ((outsAt0_B m (ok m) (hyps m) c t h0).trans (outB_eq _ _ _ _ _ _ _ _ _ _ _ _ _ _ _ _ _ _ _ _ _ _ _ _ _ _ _ _ _ _ _ _ _ _ _ _ _ _)) (ix2 r d)).trans ?_
  exact step_at m c hR t _ r d _ (word_eq m c t) _ _ _ _ _ _ _ _ _ (blk0 m c t) (blk2 m c t) (blk3 m c t) (blk4 m c t) (blk5 m c t) (blk6 m c t) (blk7 m c t) (blk8 m c t) (blk9 m c t)

theorem tile_after (c : Dev nD) (hR : Routed m c) (j : ℕ) (hj : j < 64) (r d : Fin 1024) : ∀ (k : ℕ) (hk : k < 32),
    outsAt0 m (ok m) (hyps m) c (32 * j + k) (show 32 * j + k < 2048 by omega) (ix2 r d)
      = X1 m c (rowOf j hj r) d
        + ∑ e : Fin (k + 1), contrib m c ⟨e.val, by omega⟩ (rowOf j hj r) d := by
  have hrow : ∀ (t : Fin grid0.N), t.val / 32 = j → rowOf (t.val / 32) (tile_lt t) r = rowOf j hj r := by
    intro t ht; subst ht; rfl
  intro k
  induction k with
  | zero =>
    intro hk
    have h := tile_first m c hR ⟨32 * j + 0, show 32 * j + 0 < 2048 by omega⟩ (by show (32 * j + 0) % 32 = 0; omega) r d
    rw [hrow ⟨32 * j + 0, show 32 * j + 0 < 2048 by omega⟩ (by show (32 * j + 0) / 32 = j; omega)] at h
    refine h.trans ?_
    congr 1
    refine Eq.trans ?_ (Fin.sum_univ_one _).symm
    congr 1
    exact Fin.ext (by show (32 * j + 0) % 32 = 0; omega)
  | succ k ih =>
    intro hk
    have h := tile_next m c hR ⟨32 * j + (k + 1), show 32 * j + (k + 1) < 2048 by omega⟩ (by show ¬(32 * j + (k + 1)) % 32 = 0; omega) r d
    rw [hrow ⟨32 * j + (k + 1), show 32 * j + (k + 1) < 2048 by omega⟩ (by show (32 * j + (k + 1)) / 32 = j; omega)] at h
    refine h.trans ?_
    have h' := ih (by omega)
    have hsum : ∀ (g : Fin (k + 1 + 1) → EReal) (x : EReal), x + ∑ e, g e = x + ∑ e : Fin (k + 1), g e.castSucc + g (Fin.last (k + 1)) := by
      intro g x
      rw [Fin.sum_univ_castSucc, ← add_assoc]
    refine Eq.trans ?_ (hsum (fun e => contrib m c ⟨e.val, by omega⟩ (rowOf j hj r) d) _).symm
    refine congrArg₂ (· + ·) h' (congrArg (fun e => contrib m c e (rowOf j hj r) d) ?_)
    exact Fin.ext (by show (32 * j + (k + 1)) % 32 = k + 1; omega)

/-- The mixture's result, as the run leaves it. -/
def result (c : Dev nD) : Buf (Elt Ideal) ((c : Thread nD τ).loc main_v8) := fun i =>
  X1 m c (i 0) (i 1) + ∑ e : Fin 32, contrib m c e (i 0) (i 1)

/-- Every entry of the result lies in the block that the last point of its tile writes back. -/
theorem cover (i : S65536x1024.Idx) :
    ∃ t : Fin (cfgM m (ok m)).N, ((cfgM m (ok m)).win 10).flush t = true ∧ i ∈ (((cfgM m (ok m)).win 10).blk t).view.set := by
  have h0 : (i 0).val < 65536 := (i 0).isLt
  have h1 : (i 1).val < 1024 := (i 1).isLt
  have hlt : 32 * ((i 0).val / 1024) + 31 < 2048 := by omega
  refine ⟨⟨32 * ((i 0).val / 1024) + 31, hlt⟩, (flush0_10 (adm m (ok m)) _).mpr (by show (32 * ((i 0).val / 1024) + 31) % 32 = 31; omega), ?_⟩
  have hi : i = (((cfgM m (ok m)).win 10).blk ⟨32 * ((i 0).val / 1024) + 31, hlt⟩).view.emb (ix2 ⟨(i 0).val % 1024, Nat.mod_lt _ (by decide)⟩ ⟨(i 1).val, h1⟩) := by
    refine Eq.trans ?_ (emb10 m ⟨32 * ((i 0).val / 1024) + 31, hlt⟩ _ _).symm
    funext a
    refine Fin.ext ?_
    match a with
    | ⟨0, _⟩ => show (i 0).val = (32 * ((i 0).val / 1024) + 31) / 32 * 1024 + (i 0).val % 1024; omega
    | ⟨1, _⟩ => rfl
  exact (congrArg (fun x => x ∈ (((cfgM m (ok m)).win 10).blk ⟨32 * ((i 0).val / 1024) + 31, hlt⟩).view.set) hi).mpr (View.emb_mem_set _ _)

theorem tile_last (c : Dev nD) (hR : Routed m c) (t : Fin (cfgM m (ok m)).N) (hf : ((cfgM m (ok m)).win 10).flush t = true) (y : S1024x1024.Idx) :
    outsAt0 m (ok m) (hyps m) c t.val t.isLt y = result m c ((((cfgM m (ok m)).win 10).blk t).view.emb y) := by
  have ht : t.val % 32 = 31 := (flush0_10 (adm m (ok m)) t).mp hf
  have hj := tile_lt t
  obtain ⟨r, d, rfl⟩ : ∃ (r d : Fin 1024), y = ix2 r d := ⟨y 0, y 1, by funext a; match a with | ⟨0, _⟩ => rfl | ⟨1, _⟩ => rfl⟩
  refine Eq.trans ?_ (congrArg (result m c) (emb10 m t r d)).symm
  refine Eq.trans ?_ (tile_after m c hR (t.val / 32) hj r d 31 (by omega))
  have e : ∀ n (hn : n < (cfgM m (ok m)).N), t.val = n → outsAt0 m (ok m) (hyps m) c t.val t.isLt = outsAt0 m (ok m) (hyps m) c n hn := by
    intro n hn h; subst h; rfl
  exact congrFun (e _ _ (by omega)) _

theorem final (c : Dev nD) (hR : Routed m c) :
    (dats m (ok m) (hyps m) 0 c).arrAt 10 (cfgM m (ok m)).N = result m c := by
  refine (dats m (ok m) (hyps m) 0 c).arrAt_eq_of_emb 10 _ (fun t hf y => ?_) fun i => ?_
  · exact tile_last m c hR t hf y
  · exact cover m i

end Cert.Kernel2Ideal.Gen

end
-- ==== Proof.MoeRoutes.lean ====
/- The stated precondition of the expert call says that the ranks are consistent with the counts. -/
module

public import proofs.«01_k».proof.Proof.MoeFinal
public import proofs.«01_k».proof.Proof.Gen.Pre_routed
public import Idealize.ShloMosaic.Lib.ReduceAll
public import Idealize.ShloMosaic.Lib.Pointwise

@[expose] public section

set_option maxRecDepth 16384

noncomputable section

namespace Cert.Pre_routed

open Idealize.ShloMosaic Cert.Pre_routed.Gen

instance : Subsingleton S_.Idx := ⟨fun a b => funext fun i => i.elim0⟩

theorem bit_of {p : Prop} [Decidable p] (h : BitVec.ofBool (decide p) = 1#1) : p := by
  by_contra hp
  rw [decide_eq_false hp] at h
  exact absurd h (by decide)

theorem bit_mk {p : Prop} [Decidable p] (h : p) : BitVec.ofBool (decide p) = 1#1 := by
  rw [decide_eq_true h]; rfl

theorem or_of {a b : BitVec 1} (h : IntOp.ori a b = 1#1) : a = 1#1 ∨ b = 1#1 := by
  revert a b; decide

theorem not_of {a : BitVec 1} (h : ~~~a = 1#1) : a = 0#1 := by
  revert a; decide

/-- An integral extended real that is not negative and lies below a natural number is a natural number. -/
theorem nat_of_floor (r : EReal) (n : ℕ) (h0 : r < 0 ∨ r = Ideal.liftRound Int.floor r) (hn : r < ((n : ℝ) : EReal)) :
    r < 0 ∨ ∃ q : ℕ, q < n ∧ r = ((q : ℝ) : EReal) := by
  rcases h0 with h | h
  · exact Or.inl h
  by_cases hneg : r < 0
  · exact Or.inl hneg
  right
  have hr0 : 0 ≤ r := not_lt.1 hneg
  induction r using EReal.rec with
  | bot => exact absurd hr0 (by decide)
  | top => exact absurd hn (not_lt.2 le_top)
  | coe x =>
    have hx : x = (⌊x⌋ : ℝ) := by
      have : (x : EReal) = ((⌊x⌋ : ℝ) : EReal) := h
      exact EReal.coe_injective this
    have hx0 : (0 : ℝ) ≤ x := by exact_mod_cast hr0
    have hxn : x < n := by exact_mod_cast hn
    have hf : 0 ≤ ⌊x⌋ := Int.floor_nonneg.2 hx0
    obtain ⟨q, hq⟩ := Int.eq_ofNat_of_zero_le hf
    have hxq : x = (q : ℝ) := by rw [hx, hq]; simp
    refine ⟨q, ?_, by rw [hxq]⟩
    rw [hxq] at hxn
    exact_mod_cast hxn

variable (cnt : IVec S2048 32) (x1 : FVec Ideal S65536x1024 .bf16) (x2 : FVec Ideal S65536x1024 .f32) (gt rt : FVec Ideal S32x65536 .f32)
  (x5 : FVec Ideal S32x1024x1024 .f32) (x6 : FVec Ideal S32x1024 .f32) (x7 : FVec Ideal S32x1024x1024 .f32) (x8 : FVec Ideal S32x1024 .f32)
  (x9 : FVec Ideal S32x1024x1024 .f32) (x10 : FVec Ideal S32x1024 .f32)

/-- What the predicate says, element by element: of the ranks `rt` and the counts `cnt`, tile by tile. -/
theorem facts_of (h : fn (F := Ideal) cnt x1 x2 gt rt x5 x6 x7 x8 x9 x10 = fun _ => 1#1) (e : Fin 32) (j : Fin 64) :
    (∀ s t : Fin 1024, rt (ix2 e ⟨j.val * 1024 + s.val, by omega⟩) = rt (ix2 e ⟨j.val * 1024 + t.val, by omega⟩) →
        (0 : EReal) ≤ rt (ix2 e ⟨j.val * 1024 + s.val, by omega⟩) → s = t)
    ∧ (∀ s : Fin 1024, (rt (ix2 e ⟨j.val * 1024 + s.val, by omega⟩) < (0 : EReal)
          ∨ rt (ix2 e ⟨j.val * 1024 + s.val, by omega⟩) = Ideal.liftRound Int.floor (rt (ix2 e ⟨j.val * 1024 + s.val, by omega⟩)))
        ∧ rt (ix2 e ⟨j.val * 1024 + s.val, by omega⟩) < (((cnt (ix1 ⟨j.val * 32 + e.val, by omega⟩)).toInt : ℝ) : EReal))
    ∧ 0 ≤ (cnt (ix1 ⟨j.val * 32 + e.val, by omega⟩)).toInt ∧ (cnt (ix1 ⟨j.val * 32 + e.val, by omega⟩)).toInt ≤ 1024 := by
  have h0 := congrFun h (Shape.Idx.first Facts.h_S_)
  obtain ⟨h0, hD⟩ := IntOp.andi_eq_one.1 h0
  obtain ⟨h0, hC⟩ := IntOp.andi_eq_one.1 h0
  obtain ⟨hA, hB⟩ := IntOp.andi_eq_one.1 h0
  refine ⟨fun s t hst hs => ?_, fun s => ⟨?_, ?_⟩, ?_⟩
  · have := Host.reduce_andi_all _ _ _ _ _ hA (ix4 e j s t)
    clear h h0 hA hB hC hD
    pointwise at this
    by_contra hne
    have h1 := not_of this
    rw [decide_eq_true hst, decide_eq_true hs] at h1
    have h2 : IntOp.cmpi .ne (BitVec.ofNat 32 s.val) (BitVec.ofNat 32 t.val) = 1#1 := by
      rw [IntOp.cmpi_ne]
      intro h3
      have h4 := congrArg BitVec.toNat h3
      rw [BitVec.toNat_ofNat, BitVec.toNat_ofNat] at h4
      exact hne (Fin.ext (by omega))
    rw [h2] at h1
    exact absurd h1 (by decide)
  · have := Host.reduce_andi_all _ _ _ _ _ hB (ix3 e j s)
    clear h h0 hA hB hC hD
    pointwise at this
    exact (or_of this).imp bit_of bit_of
  · have := Host.reduce_andi_all _ _ _ _ _ hC (ix3 e j s)
    clear h h0 hA hB hC hD
    pointwise at this
    exact bit_of this
  · have := Host.reduce_andi_all _ _ _ _ _ hD (ix2 j e)
    clear h h0 hA hB hC hD
    pointwise at this
    obtain ⟨h1, h2⟩ := IntOp.andi_eq_one.1 this
    exact ⟨IntOp.cmpi_sge.1 h1, IntOp.cmpi_sle.1 h2⟩

end Cert.Pre_routed

namespace Cert.Kernel2Ideal.Gen

open Idealize.ShloMosaic Idealize.ShloMosaic.TcCoe Cert.Kernel2Ideal Cert.Moe

theorem routed_of (m : (ℓ : Loc nD τ sig) → Buf (Elt Ideal) ℓ) (c : Dev nD)
    (h : Cert.Pre_routed.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      = fun _ => 1#1) : Routed m c := by
  intro t
  obtain ⟨hinj, hval, h0, h1⟩ := Cert.Pre_routed.facts_of _ _ _ _ _ _ _ _ _ _ _ h (expertOf t) ⟨t.val / 32, tile_lt t⟩
  have hc : (m ((c : Thread nD τ).loc main_arg0) (ix1 ⟨t.val / 32 * 32 + t.val % 32, by have : t.val < 2048 := t.isLt; omega⟩) : BitVec 32) = count m c t :=
    congrArg (fun i => m ((c : Thread nD τ).loc main_arg0) (ix1 i)) (Fin.ext (by show t.val / 32 * 32 + t.val % 32 = t.val; omega))
  have h0' : 0 ≤ (count m c t).toInt := hc ▸ h0
  have h1' : (count m c t).toInt ≤ 1024 := hc ▸ h1
  have hn : (count m c t).toInt = ((count m c t).toNat : ℤ) := by
    have := BitVec.toInt_eq_toNat_cond (count m c t)
    have hlt := (count m c t).isLt
    split at this <;> omega
  refine ⟨by omega, ⟨fun s => ?_, fun s t' hst hs => hinj s t' hst hs⟩⟩
  obtain ⟨ha, hb⟩ := hval s
  refine Cert.Pre_routed.nat_of_floor _ _ ha (hb.trans_eq ?_)
  refine (congrArg (fun w : BitVec 32 => ((w.toInt : ℝ) : EReal)) hc).trans ?_
  show (((count m c t).toInt : ℝ) : EReal) = _
  rw [hn]; rfl

end Cert.Kernel2Ideal.Gen
-- ==== Proof.MoeRef.lean ====
/- The reference's result, element by element: the token's residual row plus the sum over the experts. -/
module

public import proofs.«01_k».proof.Proof.MoeMath
public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.Read

open Idealize.ShloMosaic Cert.Reference2Ideal Cert.Reference2Ideal.Gen Cert.Moe

variable (x1 : FVec Ideal S65536x1024 .bf16) (x2 : FVec Ideal S65536x1024 .f32) (x3 x4 : FVec Ideal S32x65536 .f32)
  (x5 : FVec Ideal S32x1024x1024 .f32) (x6 : FVec Ideal S32x1024 .f32) (x7 : FVec Ideal S32x1024x1024 .f32) (x8 : FVec Ideal S32x1024 .f32)
  (x9 : FVec Ideal S32x1024x1024 .f32) (x10 : FVec Ideal S32x1024 .f32)

theorem gate_at (e : Fin 32) (n : Fin 65536) :
    val_main_v3 (F := Ideal) x3 x4 (ix2 e n) = if (0 : EReal) ≤ x4 (ix2 e n) then x3 (ix2 e n) else 0 := by
  pointwise [val_main_v3, val_main_v2, val_main_v1, val_main_cst, val_main_call0_v1, val_main_call0_v0, val_main_cst_0, id]

theorem gateProj_at (n : Fin 65536) (e : Fin 32) (f : Fin 1024) :
    val_main_v9 (F := Ideal) x1 x5 x6 (ix3 n e f) = clipA (∑ c, x1 (ix2 n c) * x5 (ix3 e c f) + x6 (ix2 e f)) := by
  pointwise [val_main_v9, val_main_v8, val_main_v7, val_main_v6, val_main_v5, val_main_v4, val_main_v0, val_main_cst_1, clipA]

theorem upProj_at (n : Fin 65536) (e : Fin 32) (f : Fin 1024) :
    val_main_v14 (F := Ideal) x1 x7 x8 (ix3 n e f) = clipB (∑ c, x1 (ix2 n c) * x7 (ix3 e c f) + x8 (ix2 e f)) := by
  pointwise [val_main_v14, val_main_call1_v4, val_main_call1_v3, val_main_cst_3, val_main_call1_v2, val_main_call1_v1, val_main_call1_v0, val_main_cst_2, val_main_v13, val_main_v12, val_main_v11, val_main_v10, val_main_v0, clipB, id]

theorem hidden_at (n : Fin 65536) (e : Fin 32) (f : Fin 1024) :
    val_main_v26 (F := Ideal) x1 x5 x6 x7 x8 (ix3 n e f)
      = Moe.hidden (val_main_v9 (F := Ideal) x1 x5 x6 (ix3 n e f)) (val_main_v14 (F := Ideal) x1 x7 x8 (ix3 n e f)) := by
  rw [val_main_v26_apply, val_main_v23_apply, val_main_v22_apply, val_main_v20_apply, val_main_v18_apply, val_main_v17_apply, val_main_v16_apply, val_main_v25_apply]
  generalize val_main_v9 (F := Ideal) x1 x5 x6 (ix3 n e f) = a
  generalize val_main_v14 (F := Ideal) x1 x7 x8 (ix3 n e f) = b
  pointwise [val_main_v15, val_main_cst_4, val_main_v19, val_main_cst_5, val_main_v21, val_main_cst_6, val_main_v24, val_main_cst_7]
  rfl

theorem out_at (e : Fin 32) (n : Fin 65536) (d : Fin 1024) :
    val_main_v33 (F := Ideal) x1 x3 x4 x5 x6 x7 x8 x9 x10 (ix3 e n d)
      = expert (fun c f => x5 (ix3 e c f)) (fun f => x6 (ix2 e f)) (fun c f => x7 (ix3 e c f)) (fun f => x8 (ix2 e f)) (fun f d => x9 (ix3 e f d)) (fun d => x10 (ix2 e d))
          (fun c => x1 (ix2 n c)) d * (if (0 : EReal) ≤ x4 (ix2 e n) then x3 (ix2 e n) else 0) := by
  have hs : val_main_v27 (F := Ideal) x1 x5 x6 x7 x8 x9 (ix3 e n d) = ∑ f : Fin 1024, val_main_v26 (F := Ideal) x1 x5 x6 x7 x8 (ix3 n e f) * x9 (ix3 e f d) := by
    pointwise [val_main_v27]
  have hb : val_main_v29 (F := Ideal) x10 (ix3 e n d) = x10 (ix2 e d) := by
    pointwise [val_main_v29, val_main_v28]
  have hg : val_main_v32 (F := Ideal) x3 x4 (ix3 e n d) = val_main_v3 (F := Ideal) x3 x4 (ix2 e n) := by
    pointwise [val_main_v32, val_main_v31]
  rw [val_main_v33_apply, val_main_v30_apply, hs, hb, hg, gate_at]
  simp only [hidden_at, gateProj_at, upProj_at]
  rfl

theorem result_at (n : Fin 65536) (d : Fin 1024) :
    val_main_v35 (F := Ideal) x1 x2 x3 x4 x5 x6 x7 x8 x9 x10 (ix2 n d)
      = x2 (ix2 n d) + ∑ e : Fin 32, expert (fun c f => x5 (ix3 e c f)) (fun f => x6 (ix2 e f)) (fun c f => x7 (ix3 e c f)) (fun f => x8 (ix2 e f)) (fun f d => x9 (ix3 e f d)) (fun d => x10 (ix2 e d))
          (fun c => x1 (ix2 n c)) d * (if (0 : EReal) ≤ x4 (ix2 e n) then x3 (ix2 e n) else 0) := by
  have hs : val_main_v34 (F := Ideal) x1 x3 x4 x5 x6 x7 x8 x9 x10 (ix2 n d) = ∑ e : Fin 32, val_main_v33 (F := Ideal) x1 x3 x4 x5 x6 x7 x8 x9 x10 (ix3 e n d) := by
    pointwise [val_main_v34, val_main_cst_8]
  rw [val_main_v35_apply, hs]
  simp only [out_at]
  rfl

end Cert.Reference2Ideal.Read
-- ==== Proof.MoeClaims.lean ====
/- The claims about the expert call: the three frames, and that its result is the reference's. -/
module

public import proofs.«01_k».proof.Defs
public import proofs.«01_k».proof.Proof.Words
public import proofs.«01_k».proof.Proof.MoeRoutes
public import proofs.«01_k».proof.Proof.MoeRef
public import proofs.«01_k».proof.Proof.Gen.Kernel2.Frame

@[expose] public section

set_option maxRecDepth 16384

noncomputable section

namespace Cert.Moe

open Idealize.ShloMosaic Idealize.ShloMosaic.TcCoe Idealize.SL.Sem

theorem frame_p : Cert.quiescent_Kernel2 (hKernel2 := Cert.Kernel2.Gen.facts) := fun m ρ _ =>
  Cert.Kernel2.Gen.frame m ρ trivial (fun _ _ => Cert.Kernel2.chk _)

theorem frame_pi : Cert.quiescent_Kernel2Ideal (hKernel2Ideal := Cert.Kernel2Ideal.Gen.facts) := fun m ρ _ =>
  Cert.Kernel2Ideal.Gen.frame m ρ (Cert.Kernel2Ideal.Gen.ok m) (Cert.Kernel2Ideal.Gen.hyps m)

theorem frame_pi_routed : Cert.quiescent_Kernel2Ideal_pre_routed (hKernel2Ideal := Cert.Kernel2Ideal.Gen.facts) (hPre_routed := Cert.Pre_routed.Gen.facts) :=
  fun m ρ _ => frame_pi m ρ trivial

theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri_routed : Cert.quiescent_Reference2Ideal_pre_routed (hReference2Ideal := Cert.Reference2Ideal.Gen.facts) (hPre_routed := Cert.Pre_routed.Gen.facts) :=
  fun m ρ _ => frame_ri m ρ trivial

theorem algebraic : Cert.algebraic_Kernel2Ideal_Reference2Ideal_pre_routed (hKernel2Ideal := Cert.Kernel2Ideal.Gen.facts)
    (hReference2Ideal := Cert.Reference2Ideal.Gen.facts) (hPre_routed := Cert.Pre_routed.Gen.facts) := by
  intro m g m' g' hpre hagree
  refine ⟨fun c => Cert.Kernel2Ideal.Gen.result m c, ?_, ?_⟩
  · have h := Cert.Kernel2Ideal.Gen.run_main m g (Cert.Kernel2Ideal.Gen.ok m) (Cert.Kernel2Ideal.Gen.hyps m)
    refine (θ_run _ _ _).mono (fun r hr => ?_) (θ_run_and h (Cert.Kernel2Ideal.Gen.unchanged m g (Cert.Kernel2Ideal.Gen.ok m) (Cert.Kernel2Ideal.Gen.hyps m)))
    exact fun c => ⟨((hr.1 c).1 10).trans (Cert.Kernel2Ideal.Gen.final m c (Cert.Kernel2Ideal.Gen.routed_of m c (hpre c))), hr.2 c⟩
  · refine (θ_run _ _ _).mono (fun r hr => ?_) (Cert.Reference2Ideal.Value.run (F := Ideal) m' g')
    refine fun c => ⟨(hr c).1.trans ?_, (hr c).2⟩
    obtain ⟨-, h1, h2, h3, h4, h5, h6, h7, h8, h9, h10⟩ := hagree c
    refine (Cert.Reference2Ideal.Read.val_main_v35_eq _ _ _ _ _ _ _ _ _ _).trans ?_
    rw [h1, h2, h3, h4, h5, h6, h7, h8, h9, h10]
    funext i
    obtain ⟨n, d, rfl⟩ : ∃ (n : Fin 65536) (d : Fin 1024), i = ix2 n d := ⟨i 0, i 1, by funext a; match a with | ⟨0, _⟩ => rfl | ⟨1, _⟩ => rfl⟩
    exact Cert.Reference2Ideal.Read.result_at _ _ _ _ _ _ _ _ _ _ n d

end Cert.Moe
-- ==== Proof.S5Math.lean ====
module

public import proofs.«01_k».proof.Proof.Gen.KernelIdeal
public import Idealize.ShloMosaic.Lib.VecWindow
public import Idealize.ShloMosaic.Lib.Pipeline.ValueKit

/-! The recurrence over the extended reals: one scalar pair per batch row and state column, and what a block of 512 rows of
the inputs looks like while the four strips of columns are replaced by the states. -/

@[expose] public section

set_option maxRecDepth 16384

noncomputable section

namespace Cert.S5

open Idealize.ShloMosaic Cert.KernelIdeal

/-- The complex recurrence `s ← a s + u` as pairs of reals: `(A, B)` is `a`, `u` and `w` the two parts of the inputs. -/
def lin (A B : EReal) (u w : ℕ → EReal) (r i : EReal) : ℕ → EReal × EReal
  | 0 => (r, i)
  | k + 1 => (A * (lin A B u w r i k).1 - B * (lin A B u w r i k).2 + u k, A * (lin A B u w r i k).2 + B * (lin A B u w r i k).1 + w k)

theorem lin_add (A B : EReal) (u w : ℕ → EReal) (r i : EReal) (n k : ℕ) :
    lin A B (fun j => u (n + j)) (fun j => w (n + j)) (lin A B u w r i n).1 (lin A B u w r i n).2 k = lin A B u w r i (n + k) := by
  induction k with
  | zero => rfl
  | succ k ih => rw [← Nat.add_assoc, lin, lin, ih]

theorem lin_congr {A B A' B' : EReal} {u w u' w' : ℕ → EReal} {r i r' i' : EReal} (n : ℕ) (hA : A = A') (hB : B = B')
    (hu : ∀ k < n, u k = u' k) (hw : ∀ k < n, w k = w' k) (hr : r = r') (hi : i = i') :
    lin A B u w r i n = lin A' B' u' w' r' i' n := by
  subst hA hB hr hi
  induction n with
  | zero => rfl
  | succ n ih =>
    have := ih (fun k hk => hu k (by omega)) (fun k hk => hw k (by omega))
    rw [lin, lin, this, hu n (by omega), hw n (by omega)]

/-- The state of batch row `b`, column `p` after `k` rows of 16 of one block: `A`, `B` by column, the inputs `bu` by row and
column of the block, `X` the state before. -/
def st (A B : ℕ → EReal) (bu X : ℕ → ℕ → EReal) (b p k : ℕ) : EReal × EReal :=
  lin (A p) (B p) (fun j => bu (16 * j + b) p) (fun j => bu (16 * j + b) (2048 + p)) (X b p) (X b (2048 + p)) k

/-- Either part, by the column among 4096. -/
def part (s : ℕ → EReal × EReal) (c : ℕ) : EReal := if c < 2048 then (s c).1 else (s (c - 2048)).2

/-- The block once all states are stored over the inputs. -/
def full (A B : ℕ → EReal) (bu X : ℕ → ℕ → EReal) (r c : ℕ) : EReal := part (fun p => st A B bu X (r % 16) p (r / 16 + 1)) c

/-- The block while strip `q` is at its `k`-th rows: the strips before are states, those after inputs. -/
def mid (A B : ℕ → EReal) (bu X : ℕ → ℕ → EReal) (q k r c : ℕ) : EReal :=
  if c % 2048 / 512 < q ∨ (c % 2048 / 512 = q ∧ r / 16 < k) then full A B bu X r c else bu r c

abbrev Carry (A B : ℕ → EReal) (bu X : ℕ → ℕ → EReal) (q k : ℕ) (acc : Vec Ideal S16x512 .f32 × Vec Ideal S16x512 .f32) : Prop :=
  ∀ (b : Fin 16) (j : Fin 512), acc.1 (ix2 b j) = (st A B bu X b (512 * q + j) k).1 ∧ acc.2 (ix2 b j) = (st A B bu X b (512 * q + j) k).2

abbrev Held (A B : ℕ → EReal) (bu X : ℕ → ℕ → EReal) (q k : ℕ) (C : Vec Ideal S512x4096 .f32) : Prop :=
  ∀ (r : Fin 512) (c : Fin 4096), C (ix2 r c) = mid A B bu X q k r c

theorem held_next {A B : ℕ → EReal} {bu X : ℕ → ℕ → EReal} {q : ℕ} {C : Vec Ideal S512x4096 .f32} (h : Held A B bu X q 32 C) :
    Held A B bu X (q + 1) 0 C := by
  intro r c
  rw [h r c]
  have hr := r.isLt
  unfold mid
  congr 1
  apply propext
  omega

theorem held_full {A B : ℕ → EReal} {bu X : ℕ → ℕ → EReal} {C : Vec Ideal S512x4096 .f32} (h : Held A B bu X 4 0 C)
    (r : Fin 512) (c : Fin 4096) : C (ix2 r c) = full A B bu X r c := by
  rw [h r c, mid, if_pos (Or.inl (by omega))]

/-- A window of a block, at an index. -/
theorem window_at (C : Vec Ideal S512x4096 .f32) (a o : ℕ) (inb) (b : Fin 16) (j : Fin 512) (ha : a + b < 512) (ho : o + j < 4096) :
    VecWindow.window C ![a, o] S16x512.size inb (ix2 b j) = C (ix2 ⟨a + b, ha⟩ ⟨o + j, ho⟩) := by
  refine congrArg C (funext fun x => Fin.ext ?_)
  match x with
  | ⟨0, _⟩ => show a + 1 * b.val = a + b.val; omega
  | ⟨1, _⟩ => show o + 1 * j.val = o + j.val; omega

/-- A block with a window put into it, at an index. -/
theorem put_at (C : Vec Ideal S512x4096 .f32) (a o : ℕ) (w : Vec Ideal S16x512 .f32) (r : Fin 512) (c : Fin 4096) :
    VecWindow.put C ![a, o] S16x512.size w (ix2 r c)
      = if h : (a ≤ r.val ∧ r.val < a + 16) ∧ (o ≤ c.val ∧ c.val < o + 512) then w (ix2 ⟨r.val - a, by omega⟩ ⟨c.val - o, by omega⟩)
        else C (ix2 r c) := by
  unfold VecWindow.put
  by_cases h : (a ≤ r.val ∧ r.val < a + 16) ∧ (o ≤ c.val ∧ c.val < o + 512)
  · rw [dif_pos h, dif_pos (Fin.forall_fin_two.mpr h)]
    refine congrArg w (funext fun x => Fin.ext ?_)
    match x with
    | ⟨0, _⟩ => rfl
    | ⟨1, _⟩ => rfl
  · rw [dif_neg h, dif_neg (fun h' => h ⟨h' 0, h' 1⟩)]

/-- One step of a strip keeps both invariants. -/
theorem strip_step {A B : ℕ → EReal} {bu X : ℕ → ℕ → EReal} {q k : ℕ} (hq : q < 4) (hk : k < 32) {C : Vec Ideal S512x4096 .f32}
    {acc : Vec Ideal S16x512 .f32 × Vec Ideal S16x512 .f32} (hC : Held A B bu X q k C) (ha : Carry A B bu X q k acc)
    {v w : Vec Ideal S1x512 .f32} (hv : ∀ j : Fin 512, v (ix2 0 j) = A (512 * q + j)) (hw : ∀ j : Fin 512, w (ix2 0 j) = B (512 * q + j))
    {o o' : ℕ} (ho : o = 512 * q) (ho' : o' = 2048 + 512 * q) (inb) (inb') {Y Z Y' Z' : Vec Ideal S16x512 .f32}
    (hY : ∀ b j, Y (ix2 b j) = v (ix2 0 j) * acc.1 (ix2 b j) - w (ix2 0 j) * acc.2 (ix2 b j) + VecWindow.window C ![16 * k, o] S16x512.size inb (ix2 b j))
    (hZ : ∀ b j, Z (ix2 b j) = v (ix2 0 j) * acc.2 (ix2 b j) + w (ix2 0 j) * acc.1 (ix2 b j) + VecWindow.window C ![16 * k, o'] S16x512.size inb' (ix2 b j))
    (hY' : ∀ b j, Y' (ix2 b j) = Y (ix2 b j)) (hZ' : ∀ b j, Z' (ix2 b j) = Z (ix2 b j)) :
    Carry A B bu X q (k + 1) (Y, Z)
      ∧ Held A B bu X q (k + 1) (VecWindow.put (VecWindow.put C ![16 * k, o] S16x512.size Y') ![16 * k, o'] S16x512.size Z') := by
  have hc : Carry A B bu X q (k + 1) (Y, Z) := by
    intro b j
    have hb := b.isLt
    have hj := j.isLt
    have e : VecWindow.window C ![16 * k, o] S16x512.size inb (ix2 b j) = bu (16 * k + b) (512 * q + j) := by
      rw [window_at C _ _ _ b j (by omega) (by omega), hC, mid, if_neg (by simp only; omega)]
      simp only [ho]
    have e' : VecWindow.window C ![16 * k, o'] S16x512.size inb' (ix2 b j) = bu (16 * k + b) (2048 + (512 * q + j)) := by
      rw [window_at C _ _ _ b j (by omega) (by omega), hC, mid, if_neg (by simp only; omega)]
      simp only [ho', Nat.add_assoc]
    refine ⟨?_, ?_⟩
    · show Y (ix2 b j) = _
      rw [hY, hv, hw, (ha b j).1, (ha b j).2, e]; rfl
    · show Z (ix2 b j) = _
      rw [hZ, hv, hw, (ha b j).1, (ha b j).2, e']; rfl
  refine ⟨hc, fun r c => ?_⟩
  have hr := r.isLt
  have hcl := c.isLt
  rw [put_at]
  split_ifs with h
  · refine ((hZ' _ _).trans (hc _ _).2).trans ?_
    rw [mid, if_pos (by omega), full, part, if_neg (by omega)]
    simp only
    have e1 : r.val - 16 * k = r.val % 16 := by omega
    have e2 : 512 * q + (c.val - o') = c.val - 2048 := by omega
    have e3 : k + 1 = r.val / 16 + 1 := by omega
    rw [e1, e2, e3]
  · rw [put_at]
    split_ifs with h'
    · refine ((hY' _ _).trans (hc _ _).1).trans ?_
      rw [mid, if_pos (by omega), full, part, if_pos (by omega)]
      simp only
      have e1 : r.val - 16 * k = r.val % 16 := by omega
      have e2 : 512 * q + (c.val - o) = c.val := by omega
      have e3 : k + 1 = r.val / 16 + 1 := by omega
      rw [e1, e2, e3]
    · rw [hC, mid, mid]
      congr 1
      apply propext
      omega

end Cert.S5

end
-- ==== Proof.S5Trip.lean ====
module

public import proofs.«01_k».proof.Proof.Gen.KernelIdeal.Loops
public import proofs.«01_k».proof.Proof.S5Math
public import Idealize.ShloMosaic.Lib.Pointwise

/-! The four counted loops of the recurrence call, one per strip of 512 columns: after `n` trips the carried pair is the
state of the strip after `n` rows, and the block holds the states of the rows before. -/

@[expose] public section

set_option maxRecDepth 16384

noncomputable section

namespace Cert.KernelIdeal.Gen

open Idealize.ShloMosaic Cert.KernelIdeal Cert.S5

theorem pay7_at (v w : Vec Ideal S1x512 .f32) (a b u : Vec Ideal S16x512 .f32) (r : Fin 16) (j : Fin 512) :
    k0_pay7 (F := Ideal) v w a b u (ix2 r j) = v (ix2 0 j) * a (ix2 r j) - w (ix2 0 j) * b (ix2 r j) + u (ix2 r j) := by
  unfold k0_pay7 k0_pay5 k0_pay6
  pointwise [mulf, subf, addf]

theorem pay8_at (v w : Vec Ideal S1x512 .f32) (a b u : Vec Ideal S16x512 .f32) (r : Fin 16) (j : Fin 512) :
    k0_pay8 (F := Ideal) v w a b u (ix2 r j) = v (ix2 0 j) * b (ix2 r j) + w (ix2 0 j) * a (ix2 r j) + u (ix2 r j) := by
  unfold k0_pay8 k0_pay5 k0_pay6
  pointwise [mulf, subf, addf]

theorem off1_in (k : Fin k0_t1_loop.trips) : ∀ a : Fin 2, (![16 * k.val, 0] : Fin 2 → ℕ) a + S16x512.size a ≤ S512x4096.size a := k0_off1_eq k ▸ k0_off1_inb k
theorem off2_in (k : Fin k0_t1_loop.trips) : ∀ a : Fin 2, (![16 * k.val, 2048] : Fin 2 → ℕ) a + S16x512.size a ≤ S512x4096.size a := k0_off2_eq k ▸ k0_off2_inb k

theorem trip1_yield (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v11 : Vec Ideal S1x512 .f32) (v15 : Vec Ideal S1x512 .f32) (k : Fin k0_t1_loop.trips) (acc : Vec Ideal S16x512 .f32 × Vec Ideal S16x512 .f32) (f : BufTy.Contents (Elt Ideal) arg13.view.ty) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 k acc f
      = (k0_pay7 v11 v15 acc.1 acc.2 (VecWindow.window (arg13.view.read (Elt Ideal) f) ![16 * k.val, 0] S16x512.size (off1_in k)),
         k0_pay8 v11 v15 acc.1 acc.2 (VecWindow.window (arg13.view.read (Elt Ideal) f) ![16 * k.val, 2048] S16x512.size (off2_in k))) := by
  unfold tripR_k0_t1 trip_k0_t1
  dsimp only
  rw [View.readAt_unit _ _ _ (k0_off1_eq k) (off1_in k), View.readAt_unit _ _ _ (k0_off2_eq k) (off2_in k)]

theorem trip1_held (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v11 : Vec Ideal S1x512 .f32) (v15 : Vec Ideal S1x512 .f32) (k : Fin k0_t1_loop.trips) (acc : Vec Ideal S16x512 .f32 × Vec Ideal S16x512 .f32) (f : BufTy.Contents (Elt Ideal) arg13.view.ty)
    (G : BufTy.Contents (Elt Ideal) arg13.view.ty) (L : List (View.Piece (Elt Ideal) S512x4096 .f32)) :
    arg13.view.read (Elt Ideal) (arg13.view.writes (Elt Ideal) G (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 k acc f ++ L))
      = VecWindow.put (VecWindow.put (arg13.view.read (Elt Ideal) (arg13.view.writes (Elt Ideal) G L)) ![16 * k.val, 0] S16x512.size
          (k0_pay9 v11 v15 acc.1 acc.2 (VecWindow.window (arg13.view.read (Elt Ideal) f) ![16 * k.val, 0] S16x512.size (off1_in k))))
          ![16 * k.val, 2048] S16x512.size
          (k0_pay10 v11 v15 acc.1 acc.2 (VecWindow.window (arg13.view.read (Elt Ideal) f) ![16 * k.val, 2048] S16x512.size (off2_in k))) := by
  unfold tripL_k0_t1 trip_k0_t1
  dsimp only
  rw [View.readAt_unit _ _ _ (k0_off2_eq k) (off2_in k), View.readAt_unit _ _ _ (k0_off1_eq k) (off1_in k)]
  simp only [List.cons_append, List.nil_append]
  rw [View.read_writes_cons_put _ _ _ _ _ (k0_off2_eq k), View.read_writes_cons_put _ _ _ _ _ (k0_off1_eq k)]

theorem strip1 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v11 : Vec Ideal S1x512 .f32) (v15 : Vec Ideal S1x512 .f32) (G_arg13 : BufTy.Contents (Elt Ideal) arg13.view.ty) (init : Vec Ideal S16x512 .f32 × Vec Ideal S16x512 .f32) (A B : ℕ → EReal) (bu X : ℕ → ℕ → EReal)
    (hv : ∀ j : Fin 512, v11 (ix2 0 j) = A (512 * 0 + j)) (hw : ∀ j : Fin 512, v15 (ix2 0 j) = B (512 * 0 + j))
    (hC : Held A B bu X 0 0 (arg13.view.read (Elt Ideal) G_arg13)) (ha : Carry A B bu X 0 0 init) (n : ℕ) (hn : n ≤ 32) :
    Carry A B bu X 0 n (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 G_arg13 init n).1
      ∧ Held A B bu X 0 n (arg13.view.read (Elt Ideal) (arg13.view.writes (Elt Ideal) G_arg13 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 G_arg13 init n).2)) := by
  induction n with
  | zero => exact ⟨ha, hC⟩
  | succ n ih =>
    obtain ⟨h1, h2⟩ := ih (by omega)
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 G_arg13 init ⟨n, hn⟩
    simp only at hs
    rw [hs]
    simp only
    rw [trip1_yield, trip1_held]
    exact strip_step (by omega) hn h2 h1 hv hw rfl rfl (off1_in ⟨n, hn⟩) (off2_in ⟨n, hn⟩)
      (fun b j => pay7_at _ _ _ _ _ b j) (fun b j => pay8_at _ _ _ _ _ b j)
      (fun b j => by unfold k0_pay9; pointwise []) (fun b j => by unfold k0_pay10; pointwise [])

theorem pay15_at (v w : Vec Ideal S1x512 .f32) (a b u : Vec Ideal S16x512 .f32) (r : Fin 16) (j : Fin 512) :
    k0_pay15 (F := Ideal) v w a b u (ix2 r j) = v (ix2 0 j) * a (ix2 r j) - w (ix2 0 j) * b (ix2 r j) + u (ix2 r j) := by
  unfold k0_pay15 k0_pay13 k0_pay14
  pointwise [mulf, subf, addf]

theorem pay16_at (v w : Vec Ideal S1x512 .f32) (a b u : Vec Ideal S16x512 .f32) (r : Fin 16) (j : Fin 512) :
    k0_pay16 (F := Ideal) v w a b u (ix2 r j) = v (ix2 0 j) * b (ix2 r j) + w (ix2 0 j) * a (ix2 r j) + u (ix2 r j) := by
  unfold k0_pay16 k0_pay13 k0_pay14
  pointwise [mulf, subf, addf]

theorem off3_in (k : Fin k0_t2_loop.trips) : ∀ a : Fin 2, (![16 * k.val, 512] : Fin 2 → ℕ) a + S16x512.size a ≤ S512x4096.size a := k0_off3_eq k ▸ k0_off3_inb k
theorem off4_in (k : Fin k0_t2_loop.trips) : ∀ a : Fin 2, (![16 * k.val, 2560] : Fin 2 → ℕ) a + S16x512.size a ≤ S512x4096.size a := k0_off4_eq k ▸ k0_off4_inb k

theorem trip2_yield (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v29 : Vec Ideal S1x512 .f32) (v33 : Vec Ideal S1x512 .f32) (k : Fin k0_t2_loop.trips) (acc : Vec Ideal S16x512 .f32 × Vec Ideal S16x512 .f32) (f : BufTy.Contents (Elt Ideal) arg13.view.ty) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 k acc f
      = (k0_pay15 v29 v33 acc.1 acc.2 (VecWindow.window (arg13.view.read (Elt Ideal) f) ![16 * k.val, 512] S16x512.size (off3_in k)),
         k0_pay16 v29 v33 acc.1 acc.2 (VecWindow.window (arg13.view.read (Elt Ideal) f) ![16 * k.val, 2560] S16x512.size (off4_in k))) := by
  unfold tripR_k0_t2 trip_k0_t2
  dsimp only
  rw [View.readAt_unit _ _ _ (k0_off3_eq k) (off3_in k), View.readAt_unit _ _ _ (k0_off4_eq k) (off4_in k)]

theorem trip2_held (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v29 : Vec Ideal S1x512 .f32) (v33 : Vec Ideal S1x512 .f32) (k : Fin k0_t2_loop.trips) (acc : Vec Ideal S16x512 .f32 × Vec Ideal S16x512 .f32) (f : BufTy.Contents (Elt Ideal) arg13.view.ty)
    (G : BufTy.Contents (Elt Ideal) arg13.view.ty) (L : List (View.Piece (Elt Ideal) S512x4096 .f32)) :
    arg13.view.read (Elt Ideal) (arg13.view.writes (Elt Ideal) G (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 k acc f ++ L))
      = VecWindow.put (VecWindow.put (arg13.view.read (Elt Ideal) (arg13.view.writes (Elt Ideal) G L)) ![16 * k.val, 512] S16x512.size
          (k0_pay17 v29 v33 acc.1 acc.2 (VecWindow.window (arg13.view.read (Elt Ideal) f) ![16 * k.val, 512] S16x512.size (off3_in k))))
          ![16 * k.val, 2560] S16x512.size
          (k0_pay18 v29 v33 acc.1 acc.2 (VecWindow.window (arg13.view.read (Elt Ideal) f) ![16 * k.val, 2560] S16x512.size (off4_in k))) := by
  unfold tripL_k0_t2 trip_k0_t2
  dsimp only
  rw [View.readAt_unit _ _ _ (k0_off4_eq k) (off4_in k), View.readAt_unit _ _ _ (k0_off3_eq k) (off3_in k)]
  simp only [List.cons_append, List.nil_append]
  rw [View.read_writes_cons_put _ _ _ _ _ (k0_off4_eq k), View.read_writes_cons_put _ _ _ _ _ (k0_off3_eq k)]

theorem strip2 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v29 : Vec Ideal S1x512 .f32) (v33 : Vec Ideal S1x512 .f32) (G_arg13 : BufTy.Contents (Elt Ideal) arg13.view.ty) (init : Vec Ideal S16x512 .f32 × Vec Ideal S16x512 .f32) (A B : ℕ → EReal) (bu X : ℕ → ℕ → EReal)
    (hv : ∀ j : Fin 512, v29 (ix2 0 j) = A (512 * 1 + j)) (hw : ∀ j : Fin 512, v33 (ix2 0 j) = B (512 * 1 + j))
    (hC : Held A B bu X 1 0 (arg13.view.read (Elt Ideal) G_arg13)) (ha : Carry A B bu X 1 0 init) (n : ℕ) (hn : n ≤ 32) :
    Carry A B bu X 1 n (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 G_arg13 init n).1
      ∧ Held A B bu X 1 n (arg13.view.read (Elt Ideal) (arg13.view.writes (Elt Ideal) G_arg13 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 G_arg13 init n).2)) := by
  induction n with
  | zero => exact ⟨ha, hC⟩
  | succ n ih =>
    obtain ⟨h1, h2⟩ := ih (by omega)
    have hs := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 G_arg13 init ⟨n, hn⟩
    simp only at hs
    rw [hs]
    simp only
    rw [trip2_yield, trip2_held]
    exact strip_step (by omega) hn h2 h1 hv hw rfl rfl (off3_in ⟨n, hn⟩) (off4_in ⟨n, hn⟩)
      (fun b j => pay15_at _ _ _ _ _ b j) (fun b j => pay16_at _ _ _ _ _ b j)
      (fun b j => by unfold k0_pay17; pointwise []) (fun b j => by unfold k0_pay18; pointwise [])

theorem pay23_at (v w : Vec Ideal S1x512 .f32) (a b u : Vec Ideal S16x512 .f32) (r : Fin 16) (j : Fin 512) :
    k0_pay23 (F := Ideal) v w a b u (ix2 r j) = v (ix2 0 j) * a (ix2 r j) - w (ix2 0 j) * b (ix2 r j) + u (ix2 r j) := by
  unfold k0_pay23 k0_pay21 k0_pay22
  pointwise [mulf, subf, addf]

theorem pay24_at (v w : Vec Ideal S1x512 .f32) (a b u : Vec Ideal S16x512 .f32) (r : Fin 16) (j : Fin 512) :
    k0_pay24 (F := Ideal) v w a b u (ix2 r j) = v (ix2 0 j) * b (ix2 r j) + w (ix2 0 j) * a (ix2 r j) + u (ix2 r j) := by
  unfold k0_pay24 k0_pay21 k0_pay22
  pointwise [mulf, subf, addf]

theorem off5_in (k : Fin k0_t3_loop.trips) : ∀ a : Fin 2, (![16 * k.val, 1024] : Fin 2 → ℕ) a + S16x512.size a ≤ S512x4096.size a := k0_off5_eq k ▸ k0_off5_inb k
theorem off6_in (k : Fin k0_t3_loop.trips) : ∀ a : Fin 2, (![16 * k.val, 3072] : Fin 2 → ℕ) a + S16x512.size a ≤ S512x4096.size a := k0_off6_eq k ▸ k0_off6_inb k

theorem trip3_yield (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v47 : Vec Ideal S1x512 .f32) (v51 : Vec Ideal S1x512 .f32) (k : Fin k0_t3_loop.trips) (acc : Vec Ideal S16x512 .f32 × Vec Ideal S16x512 .f32) (f : BufTy.Contents (Elt Ideal) arg13.view.ty) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 k acc f
      = (k0_pay23 v47 v51 acc.1 acc.2 (VecWindow.window (arg13.view.read (Elt Ideal) f) ![16 * k.val, 1024] S16x512.size (off5_in k)),
         k0_pay24 v47 v51 acc.1 acc.2 (VecWindow.window (arg13.view.read (Elt Ideal) f) ![16 * k.val, 3072] S16x512.size (off6_in k))) := by
  unfold tripR_k0_t3 trip_k0_t3
  dsimp only
  rw [View.readAt_unit _ _ _ (k0_off5_eq k) (off5_in k), View.readAt_unit _ _ _ (k0_off6_eq k) (off6_in k)]

theorem trip3_held (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v47 : Vec Ideal S1x512 .f32) (v51 : Vec Ideal S1x512 .f32) (k : Fin k0_t3_loop.trips) (acc : Vec Ideal S16x512 .f32 × Vec Ideal S16x512 .f32) (f : BufTy.Contents (Elt Ideal) arg13.view.ty)
    (G : BufTy.Contents (Elt Ideal) arg13.view.ty) (L : List (View.Piece (Elt Ideal) S512x4096 .f32)) :
    arg13.view.read (Elt Ideal) (arg13.view.writes (Elt Ideal) G (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 k acc f ++ L))
      = VecWindow.put (VecWindow.put (arg13.view.read (Elt Ideal) (arg13.view.writes (Elt Ideal) G L)) ![16 * k.val, 1024] S16x512.size
          (k0_pay25 v47 v51 acc.1 acc.2 (VecWindow.window (arg13.view.read (Elt Ideal) f) ![16 * k.val, 1024] S16x512.size (off5_in k))))
          ![16 * k.val, 3072] S16x512.size
          (k0_pay26 v47 v51 acc.1 acc.2 (VecWindow.window (arg13.view.read (Elt Ideal) f) ![16 * k.val, 3072] S16x512.size (off6_in k))) := by
  unfold tripL_k0_t3 trip_k0_t3
  dsimp only
  rw [View.readAt_unit _ _ _ (k0_off6_eq k) (off6_in k), View.readAt_unit _ _ _ (k0_off5_eq k) (off5_in k)]
  simp only [List.cons_append, List.nil_append]
  rw [View.read_writes_cons_put _ _ _ _ _ (k0_off6_eq k), View.read_writes_cons_put _ _ _ _ _ (k0_off5_eq k)]

theorem strip3 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v47 : Vec Ideal S1x512 .f32) (v51 : Vec Ideal S1x512 .f32) (G_arg13 : BufTy.Contents (Elt Ideal) arg13.view.ty) (init : Vec Ideal S16x512 .f32 × Vec Ideal S16x512 .f32) (A B : ℕ → EReal) (bu X : ℕ → ℕ → EReal)
    (hv : ∀ j : Fin 512, v47 (ix2 0 j) = A (512 * 2 + j)) (hw : ∀ j : Fin 512, v51 (ix2 0 j) = B (512 * 2 + j))
    (hC : Held A B bu X 2 0 (arg13.view.read (Elt Ideal) G_arg13)) (ha : Carry A B bu X 2 0 init) (n : ℕ) (hn : n ≤ 32) :
    Carry A B bu X 2 n (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 G_arg13 init n).1
      ∧ Held A B bu X 2 n (arg13.view.read (Elt Ideal) (arg13.view.writes (Elt Ideal) G_arg13 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 G_arg13 init n).2)) := by
  induction n with
  | zero => exact ⟨ha, hC⟩
  | succ n ih =>
    obtain ⟨h1, h2⟩ := ih (by omega)
    have hs := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 G_arg13 init ⟨n, hn⟩
    simp only at hs
    rw [hs]
    simp only
    rw [trip3_yield, trip3_held]
    exact strip_step (by omega) hn h2 h1 hv hw rfl rfl (off5_in ⟨n, hn⟩) (off6_in ⟨n, hn⟩)
      (fun b j => pay23_at _ _ _ _ _ b j) (fun b j => pay24_at _ _ _ _ _ b j)
      (fun b j => by unfold k0_pay25; pointwise []) (fun b j => by unfold k0_pay26; pointwise [])

theorem pay31_at (v w : Vec Ideal S1x512 .f32) (a b u : Vec Ideal S16x512 .f32) (r : Fin 16) (j : Fin 512) :
    k0_pay31 (F := Ideal) v w a b u (ix2 r j) = v (ix2 0 j) * a (ix2 r j) - w (ix2 0 j) * b (ix2 r j) + u (ix2 r j) := by
  unfold k0_pay31 k0_pay29 k0_pay30
  pointwise [mulf, subf, addf]

theorem pay32_at (v w : Vec Ideal S1x512 .f32) (a b u : Vec Ideal S16x512 .f32) (r : Fin 16) (j : Fin 512) :
    k0_pay32 (F := Ideal) v w a b u (ix2 r j) = v (ix2 0 j) * b (ix2 r j) + w (ix2 0 j) * a (ix2 r j) + u (ix2 r j) := by
  unfold k0_pay32 k0_pay29 k0_pay30
  pointwise [mulf, subf, addf]

theorem off7_in (k : Fin k0_t4_loop.trips) : ∀ a : Fin 2, (![16 * k.val, 1536] : Fin 2 → ℕ) a + S16x512.size a ≤ S512x4096.size a := k0_off7_eq k ▸ k0_off7_inb k
theorem off8_in (k : Fin k0_t4_loop.trips) : ∀ a : Fin 2, (![16 * k.val, 3584] : Fin 2 → ℕ) a + S16x512.size a ≤ S512x4096.size a := k0_off8_eq k ▸ k0_off8_inb k

theorem trip4_yield (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v58_0 : Vec Ideal S16x512 .f32) (v58_1 : Vec Ideal S16x512 .f32) (v65 : Vec Ideal S1x512 .f32) (v69 : Vec Ideal S1x512 .f32) (k : Fin k0_t4_loop.trips) (acc : Vec Ideal S16x512 .f32 × Vec Ideal S16x512 .f32) (f : BufTy.Contents (Elt Ideal) arg13.view.ty) :
    tripR_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 k acc f
      = (k0_pay31 v65 v69 acc.1 acc.2 (VecWindow.window (arg13.view.read (Elt Ideal) f) ![16 * k.val, 1536] S16x512.size (off7_in k)),
         k0_pay32 v65 v69 acc.1 acc.2 (VecWindow.window (arg13.view.read (Elt Ideal) f) ![16 * k.val, 3584] S16x512.size (off8_in k))) := by
  unfold tripR_k0_t4 trip_k0_t4
  dsimp only
  rw [View.readAt_unit _ _ _ (k0_off7_eq k) (off7_in k), View.readAt_unit _ _ _ (k0_off8_eq k) (off8_in k)]

theorem trip4_held (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v58_0 : Vec Ideal S16x512 .f32) (v58_1 : Vec Ideal S16x512 .f32) (v65 : Vec Ideal S1x512 .f32) (v69 : Vec Ideal S1x512 .f32) (k : Fin k0_t4_loop.trips) (acc : Vec Ideal S16x512 .f32 × Vec Ideal S16x512 .f32) (f : BufTy.Contents (Elt Ideal) arg13.view.ty)
    (G : BufTy.Contents (Elt Ideal) arg13.view.ty) (L : List (View.Piece (Elt Ideal) S512x4096 .f32)) :
    arg13.view.read (Elt Ideal) (arg13.view.writes (Elt Ideal) G (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 k acc f ++ L))
      = VecWindow.put (VecWindow.put (arg13.view.read (Elt Ideal) (arg13.view.writes (Elt Ideal) G L)) ![16 * k.val, 1536] S16x512.size
          (k0_pay33 v65 v69 acc.1 acc.2 (VecWindow.window (arg13.view.read (Elt Ideal) f) ![16 * k.val, 1536] S16x512.size (off7_in k))))
          ![16 * k.val, 3584] S16x512.size
          (k0_pay34 v65 v69 acc.1 acc.2 (VecWindow.window (arg13.view.read (Elt Ideal) f) ![16 * k.val, 3584] S16x512.size (off8_in k))) := by
  unfold tripL_k0_t4 trip_k0_t4
  dsimp only
  rw [View.readAt_unit _ _ _ (k0_off8_eq k) (off8_in k), View.readAt_unit _ _ _ (k0_off7_eq k) (off7_in k)]
  simp only [List.cons_append, List.nil_append]
  rw [View.read_writes_cons_put _ _ _ _ _ (k0_off8_eq k), View.read_writes_cons_put _ _ _ _ _ (k0_off7_eq k)]

theorem strip4 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v58_0 : Vec Ideal S16x512 .f32) (v58_1 : Vec Ideal S16x512 .f32) (v65 : Vec Ideal S1x512 .f32) (v69 : Vec Ideal S1x512 .f32) (G_arg13 : BufTy.Contents (Elt Ideal) arg13.view.ty) (init : Vec Ideal S16x512 .f32 × Vec Ideal S16x512 .f32) (A B : ℕ → EReal) (bu X : ℕ → ℕ → EReal)
    (hv : ∀ j : Fin 512, v65 (ix2 0 j) = A (512 * 3 + j)) (hw : ∀ j : Fin 512, v69 (ix2 0 j) = B (512 * 3 + j))
    (hC : Held A B bu X 3 0 (arg13.view.read (Elt Ideal) G_arg13)) (ha : Carry A B bu X 3 0 init) (n : ℕ) (hn : n ≤ 32) :
    Carry A B bu X 3 n (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 G_arg13 init n).1
      ∧ Held A B bu X 3 n (arg13.view.read (Elt Ideal) (arg13.view.writes (Elt Ideal) G_arg13 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 G_arg13 init n).2)) := by
  induction n with
  | zero => exact ⟨ha, hC⟩
  | succ n ih =>
    obtain ⟨h1, h2⟩ := ih (by omega)
    have hs := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 G_arg13 init ⟨n, hn⟩
    simp only at hs
    rw [hs]
    simp only
    rw [trip4_yield, trip4_held]
    exact strip_step (by omega) hn h2 h1 hv hw rfl rfl (off7_in ⟨n, hn⟩) (off8_in ⟨n, hn⟩)
      (fun b j => pay31_at _ _ _ _ _ b j) (fun b j => pay32_at _ _ _ _ _ b j)
      (fun b j => by unfold k0_pay33; pointwise []) (fun b j => by unfold k0_pay34; pointwise [])

end Cert.KernelIdeal.Gen

end
-- ==== Proof.S5Points.lean ====
module

public import proofs.«01_k».proof.Proof.Gen.KernelIdeal
public import Idealize.ShloMosaic.Lib.Pipeline.Kit

/-! The 128 grid points of the recurrence call: what each window covers at each point. -/

@[expose] public section

noncomputable section

namespace Cert.KernelIdeal.Gen

open Idealize.ShloMosaic Idealize.ShloMosaic.TcCoe
open Idealize.SL Idealize.SL.Sem

variable {F : FTy → Type} [FloatOps F]

theorem fetch0_0 : ∀ t : Fin cfg0.N, (cfg0.win 0).fetch t = true :=
  (fun t => (Pipeline.Window.fetch_reads win0_0 rfl 0 (by decide) (by decide) (Pipeline.Window.sep_of_coord cc0_transform_0 0 0 (fun _ => rfl) (by decide)) (P := 1) (by decide) t).mpr (Nat.mod_one _) : ∀ t : Fin grid0.N, win0_0.fetch t = true)
theorem fetch0_1 : ∀ t : Fin cfg0.N, (cfg0.win 1).fetch t = true ↔ t.val % 128 = 0 :=
  (fun t => Pipeline.Window.fetch_const win0_1 rfl (fun _ _ => rfl) (n := 128) (by decide) t : ∀ t : Fin grid0.N, win0_1.fetch t = true ↔ t.val % 128 = 0)
theorem fetch0_2 : ∀ t : Fin cfg0.N, (cfg0.win 2).fetch t = true ↔ t.val % 128 = 0 :=
  (fun t => Pipeline.Window.fetch_const win0_2 rfl (fun _ _ => rfl) (n := 128) (by decide) t : ∀ t : Fin grid0.N, win0_2.fetch t = true ↔ t.val % 128 = 0)
theorem fetch0_3 : ∀ t : Fin cfg0.N, (cfg0.win 3).fetch t = true ↔ t.val % 128 = 0 :=
  (fun t => Pipeline.Window.fetch_const win0_3 rfl (fun _ _ => rfl) (n := 128) (by decide) t : ∀ t : Fin grid0.N, win0_3.fetch t = true ↔ t.val % 128 = 0)
theorem fetch0_4 : ∀ t : Fin cfg0.N, (cfg0.win 4).fetch t = true ↔ t.val % 128 = 0 :=
  (fun t => Pipeline.Window.fetch_const win0_4 rfl (fun _ _ => rfl) (n := 128) (by decide) t : ∀ t : Fin grid0.N, win0_4.fetch t = true ↔ t.val % 128 = 0)
theorem fetch0_5 : ∀ t : Fin cfg0.N, (cfg0.win 5).fetch t = true ↔ t.val % 128 = 0 :=
  (fun t => Pipeline.Window.fetch_const win0_5 rfl (fun _ _ => rfl) (n := 128) (by decide) t : ∀ t : Fin grid0.N, win0_5.fetch t = true ↔ t.val % 128 = 0)
theorem fetch0_6 : ∀ t : Fin cfg0.N, (cfg0.win 6).fetch t = true ↔ t.val % 128 = 0 :=
  (fun t => Pipeline.Window.fetch_const win0_6 rfl (fun _ _ => rfl) (n := 128) (by decide) t : ∀ t : Fin grid0.N, win0_6.fetch t = true ↔ t.val % 128 = 0)
theorem fetch0_7 : ∀ t : Fin cfg0.N, (cfg0.win 7).fetch t = true ↔ t.val % 128 = 0 :=
  (fun t => Pipeline.Window.fetch_const win0_7 rfl (fun _ _ => rfl) (n := 128) (by decide) t : ∀ t : Fin grid0.N, win0_7.fetch t = true ↔ t.val % 128 = 0)
theorem fetch0_8 : ∀ t : Fin cfg0.N, (cfg0.win 8).fetch t = true ↔ t.val % 128 = 0 :=
  (fun t => Pipeline.Window.fetch_const win0_8 rfl (fun _ _ => rfl) (n := 128) (by decide) t : ∀ t : Fin grid0.N, win0_8.fetch t = true ↔ t.val % 128 = 0)
theorem flush0_9 : ∀ t : Fin cfg0.N, (cfg0.win 9).flush t = true :=
  (fun t => (Pipeline.Window.flush_reads win0_9 rfl 0 (by decide) (by decide) (Pipeline.Window.sep_of_coord cc0_transform_9 0 0 (fun _ => rfl) (by decide)) (P := 1) (m := 0) (by decide) rfl t).mpr (Nat.mod_one _) : ∀ t : Fin grid0.N, win0_9.flush t = true)
theorem flush0_10 : ∀ t : Fin cfg0.N, (cfg0.win 10).flush t = true ↔ t.val % 128 = 127 :=
  (fun t => Pipeline.Window.flush_const win0_10 rfl (fun _ _ => rfl) (n := 128) (by decide) rfl t : ∀ t : Fin grid0.N, win0_10.flush t = true ↔ t.val % 128 = 127)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)

abbrev bodyAt0 (t : Fin cfg0.N) : Prog (TpuEff nD τ sig (Elt F) Λ₀ .tc) PUnit :=
  cc0_s5 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)

end Cert.KernelIdeal.Gen

end
-- ==== Proof.S5Runs.lean ====
module

public import proofs.«01_k».proof.Proof.Gen.KernelIdeal.Launch
public import proofs.«01_k».proof.Proof.Gen.KernelIdeal.Skeleton
public import proofs.«01_k».proof.Proof.S5Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

/-! The recurrence call as the launch finds it: the arrays before it, the blocks its windows hold, and which conditions hold at which point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

abbrev cond0_1 (i : grid0.Coords) : Prop := k0_cond2 i = 1#1
theorem hcond0_1 : ∀ t : Fin cfg0.N, cond0_1 (grid0.coords t) ↔ t.val % 128 = 127 :=
  (fun t => by
    have ht : t.val < 128 := Nat.lt_of_lt_of_eq t.isLt N_0
    have e0 : (grid0.coords t 0).val = t.val / 1 % 128 := Pipeline.Grid.coords_val t 0 (by decide) rfl
    simp only [cond0_1, k0_cond2, e0]
    word_cmp
   : ∀ t : Fin grid0.N, cond0_1 (grid0.coords t) ↔ t.val % 128 = 127)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
theorem liveAt0_10_C : ∀ t : Fin cfg0.N, ¬cond0_0 (grid0.coords t) → cond0_1 (grid0.coords t) → cfg0.idle 10 (grid0.coords t) = false := by decide +kernel

abbrev VO0_9 : View sig .tc .vmem S512x1024 .bf16 := (Memref.whole cc0_stg9_0 : Memref sig .tc .vmem S512x1024 .bf16).view
abbrev VO0_10 : View sig .tc .vmem S16x4096 .f32 := (Memref.whole cc0_stg10_0 : Memref sig .tc .vmem S16x4096 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x4096 .f32 := win0_10.stage (cfg0.slots t 10)
abbrev hs0_10 (t : Fin cfg0.N) : (ms0_10 t).IsWhole := hstage0_10 ((cfg0.slots t 10).cast nbuf0_10)
abbrev scM0_0 : Memref sig .tc .vmem S16x4096 .f32 := Memref.whole cc0_scratch0
abbrev scM0_1 : Memref sig .tc .vmem S512x4096 .f32 := Memref.whole cc0_scratch1
abbrev VS0_0 : View sig .tc .vmem S16x4096 .f32 := scM0_0.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.S5RunA.lean ====
module

public import proofs.«01_k».proof.Proof.S5Runs

/-! One run of the body at the first point, where the state is loaded. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) :
    Σ' (L9 : List (View.Piece (Elt F) S512x1024 .bf16)), Σ' (L10 : List (View.Piece (Elt F) S16x4096 .f32)), Σ' (LS0 : List (View.Piece (Elt F) S16x4096 .f32)), { LT1 : List (View.Piece (Elt F) S512x4096 .f32) //
      ∀ (xi10 : Vec F S16x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, fun xi10 E K => ?run⟩
  case run =>
    simp only [cc0_s5_eq_skeleton]; unfold cc0_s5_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [HS0]; · iexists _; iexact HS0
    iexists _; iexact HS1

end Cert.KernelIdeal.Gen

end
-- ==== Proof.S5RunB.lean ====
module

public import proofs.«01_k».proof.Proof.S5Runs

/-! One run of the body at a middle point, from the state `xs0` the point before left. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) :
    Σ' (L9 : List (View.Piece (Elt F) S512x1024 .bf16)), Σ' (L10 : List (View.Piece (Elt F) S16x4096 .f32)), Σ' (LS0 : List (View.Piece (Elt F) S16x4096 .f32)), { LT1 : List (View.Piece (Elt F) S512x4096 .f32) //
      ∀ (xi10 : Vec F S16x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, fun xi10 E K => ?run⟩
  case run =>
    simp only [cc0_s5_eq_skeleton]; unfold cc0_s5_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [HS0]; · iexists _; iexact HS0
    iexists _; iexact HS1

end Cert.KernelIdeal.Gen

end
-- ==== Proof.S5RunC.lean ====
module

public import proofs.«01_k».proof.Proof.S5Runs

/-! One run of the body at the last point, where the state is stored out. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) :
    Σ' (L9 : List (View.Piece (Elt F) S512x1024 .bf16)), Σ' (L10 : List (View.Piece (Elt F) S16x4096 .f32)), Σ' (LS0 : List (View.Piece (Elt F) S16x4096 .f32)), { LT1 : List (View.Piece (Elt F) S512x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_s5_eq_skeleton]; unfold cc0_s5_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

end Cert.KernelIdeal.Gen

end
-- ==== Proof.S5Frame.lean ====
module

public import proofs.«01_k».proof.Proof.S5RunA
public import proofs.«01_k».proof.Proof.S5RunB
public import proofs.«01_k».proof.Proof.S5RunC
public import Idealize.ShloMosaic.Lib.Claim

/-! The frame of the recurrence call: what each point leaves in the outputs and in the state, and the run of the whole launch. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_9 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S512x1024.size (by sl_kernel_rfl) y

def out0_A_9 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) : Vec F S512x1024 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

def out0_A_10 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) : Vec F S16x4096 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

theorem scover0_A_0 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (y : S16x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 (by sl_whole_mem) y

def sout0_A_0 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) : Vec F S16x4096 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)

theorem cover0_B_9 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S512x1024.size (by sl_kernel_rfl) y

def out0_B_9 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) : Vec F S512x1024 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

def out0_B_10 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) : Vec F S16x4096 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

theorem scover0_B_0 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) (y : S16x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 S16x512.size (by sl_kernel_rfl) y

def sout0_B_0 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) : Vec F S16x4096 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1)

theorem cover0_C_9 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 S512x1024.size (by sl_kernel_rfl) y

def out0_C_9 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) : Vec F S512x1024 .bf16 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1)

theorem cover0_C_10 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) (y : S16x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 S16x4096.size (by sl_kernel_rfl) y

def out0_C_10 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) : Vec F S16x4096 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1)

theorem scover0_C_0 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) (y : S16x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 S16x512.size (by sl_kernel_rfl) y

def sout0_C_0 (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec F S512x512 .bf16) (x1 : Vec F S16x4096 .f32) (x2 : Vec F S512x4096 .bf16) (x3 : Vec F S1x2048 .f32) (x4 : Vec F S1x2048 .f32) (x5 : Vec F S4096x512 .bf16) (x6 : Vec F S1x512 .f32) (x7 : Vec F S512x1024 .bf16) (x8 : Vec F S512x1024 .bf16) (xs0 : Vec F S16x4096 .f32) : Vec F S16x4096 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1)

def outsAt0 (c : Dev nD) : (n : ℕ) → n < cfg0.N → Vec F S512x1024 .bf16 × Vec F S16x4096 .f32 × Vec F S16x4096 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 128 = 0 then
      if h1 : (n + 1) % 128 = 127 then
        False.elim (by have hN : n + 1 < 128 := lt_of_lt_of_eq hn (show cfg0.N = 128 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 128 = 127 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2)

theorem outsAt0_A (c : Dev nD) (t : Fin cfg0.N) (h0 : t.val % 128 = 0) (h1 : ¬t.val % 128 = 127) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 128 = 0) (h1 : ¬t.val % 128 = 127) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 128 = 0) (h1 : t.val % 128 = 127) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases h1 : t.val % 128 = 127
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_9 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        iintro ⟨H0, H1, H2, H3, H4, H5, H6, H7, H8, ⟨%e9, H9⟩, H10, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _)
        iexists _; iexact H10
      · exfalso; have hN : t.val < 128 := lt_of_lt_of_eq t.isLt (show cfg0.N = 128 from N_0); omega
  · by_cases h1 : t.val % 128 = 127
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        unfold out0_C_9 out0_C_10 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold out0_B_9 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        iintro ⟨H0, H1, H2, H3, H4, H5, H6, H7, H8, ⟨%e9, H9⟩, H10, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _)
        iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.S5State.lean ====
module

public import proofs.«01_k».proof.Proof.S5Trip
public import proofs.«01_k».proof.Proof.S5Frame

/-! What one grid point leaves: the state after its 32 rows of 16, and the output block of the states it went through. -/

@[expose] public section

set_option maxRecDepth 16384

noncomputable section

namespace Cert.KernelIdeal.Gen

open Idealize.ShloMosaic Idealize.ShloMosaic.TcCoe Cert.KernelIdeal Cert.S5

/-- A row of 2048, the block of 512 rows and the state, by number. -/
def rowN (x : Vec Ideal S1x2048 .f32) (p : ℕ) : EReal := if h : p < 2048 then x (ix2 0 ⟨p, h⟩) else 0
def blkN (x : Vec Ideal S512x4096 .f32) (r c : ℕ) : EReal := if h : r < 512 ∧ c < 4096 then x (ix2 ⟨r, h.1⟩ ⟨c, h.2⟩) else 0
def staN (x : Vec Ideal S16x4096 .f32) (b c : ℕ) : EReal := if h : b < 16 ∧ c < 4096 then x (ix2 ⟨b, h.1⟩ ⟨c, h.2⟩) else 0

/-- The state after a point and the block of states of the point. -/
def stVec (A B : ℕ → EReal) (bu X : ℕ → ℕ → EReal) : Vec Ideal S16x4096 .f32 := fun i => part (fun p => st A B bu X (i 0).val p 32) (i 1).val
def hVec (A B : ℕ → EReal) (bu X : ℕ → ℕ → EReal) : Vec Ideal S512x4096 .f32 := fun i => full A B bu X (i 0).val (i 1).val

theorem row_load {arg : Memref sig .tc .vmem S1x2048 .f32} (harg : arg.IsWhole) (x : Vec Ideal S1x2048 .f32) (o q : ℕ) (ho : o = 512 * q) (hq : q < 4)
    (inb : ∀ a, (![0, o] : Fin 2 → ℕ) a + (![1, 512] : Fin 2 → ℕ) a ≤ S1x2048.size a) (j : Fin 512) :
    (View.readAt (Elt Ideal) arg.view (Rect.unit (s := S1x2048) ![0, o] ![1, 512] inb).toLoadRect (harg.unread x) : Vec Ideal S1x512 .f32) (ix2 0 j)
      = rowN x (512 * q + j) := by
  have hj := j.isLt
  rw [View.readAt_eq_ld, harg.read_unread, rowN, dif_pos (show 512 * q + j.val < 2048 by omega)]
  refine congrArg x (funext fun a => Fin.ext ?_)
  match a with
  | ⟨0, _⟩ => rfl
  | ⟨1, _⟩ => show o + 1 * j.val = 512 * q + j.val; omega

abbrev Mid16 (A B : ℕ → EReal) (bu X Y : ℕ → ℕ → EReal) (q : ℕ) (C : Vec Ideal S16x4096 .f32) : Prop :=
  ∀ (b : Fin 16) (c : Fin 4096), C (ix2 b c) = if c.val % 2048 / 512 < q then part (fun p => st A B bu X b p 32) c else Y b c

theorem put16_at (C : Vec Ideal S16x4096 .f32) (o : ℕ) (w : Vec Ideal S16x512 .f32) (b : Fin 16) (c : Fin 4096) :
    VecWindow.put C ![0, o] S16x512.size w (ix2 b c)
      = if h : o ≤ c.val ∧ c.val < o + 512 then w (ix2 b ⟨c.val - o, by omega⟩) else C (ix2 b c) := by
  have hb := b.isLt
  unfold VecWindow.put
  by_cases h : o ≤ c.val ∧ c.val < o + 512
  · rw [dif_pos h, dif_pos (Fin.forall_fin_two.mpr ⟨⟨Nat.zero_le _, show b.val < 0 + 16 by omega⟩, h⟩)]
    refine congrArg w (funext fun x => Fin.ext ?_)
    match x with
    | ⟨0, _⟩ => rfl
    | ⟨1, _⟩ => rfl
  · rw [dif_neg h, dif_neg (fun h' => h (h' 1))]

theorem mid16_step {A B : ℕ → EReal} {bu X Y : ℕ → ℕ → EReal} {q : ℕ} (hq : q < 4) {C : Vec Ideal S16x4096 .f32} (hC : Mid16 A B bu X Y q C)
    {acc : Vec Ideal S16x512 .f32 × Vec Ideal S16x512 .f32} (ha : Carry A B bu X q 32 acc) {o o' : ℕ} (ho : o = 512 * q) (ho' : o' = 2048 + 512 * q)
    {v w : Vec Ideal S16x512 .f32} (hv : v = acc.1) (hw : w = acc.2) :
    Mid16 A B bu X Y (q + 1) (VecWindow.put (VecWindow.put C ![0, o] S16x512.size v) ![0, o'] S16x512.size w) := by
  subst hv hw
  intro b c
  have hc := c.isLt
  rw [put16_at]
  split_ifs with h1 h2 h2
  · rw [(ha _ _).2, part, if_neg (by omega)]
    simp only
    have e : 512 * q + (c.val - o') = c.val - 2048 := by omega
    rw [e]
  · omega
  · rw [put16_at]
    split_ifs with h3
    · rw [(ha _ _).1, part, if_pos (by omega)]
      simp only
      have e : 512 * q + (c.val - o) = c.val := by omega
      rw [e]
    · rw [hC, if_pos (by omega)]
  · rw [put16_at, dif_neg (by omega), hC, if_neg (by omega)]

theorem mid16_stVec {A B : ℕ → EReal} {bu X Y : ℕ → ℕ → EReal} {C : Vec Ideal S16x4096 .f32} (hC : Mid16 A B bu X Y 4 C) : C = stVec A B bu X := by
  funext i
  obtain ⟨b, c, rfl⟩ : ∃ (b : Fin 16) (c : Fin 4096), i = ix2 b c := ⟨i 0, i 1, eq_ix2 i⟩
  have hc := c.isLt
  rw [hC, if_pos (by omega)]
  rfl

theorem held_hVec {A B : ℕ → EReal} {bu X : ℕ → ℕ → EReal} {C : Vec Ideal S512x4096 .f32} (hC : Held A B bu X 4 0 C) : C = hVec A B bu X := by
  funext i
  obtain ⟨b, c, rfl⟩ : ∃ (b : Fin 512) (c : Fin 4096), i = ix2 b c := ⟨i 0, i 1, eq_ix2 i⟩
  exact held_full hC b c

/-- A strip's carried pair at loop entry: two windows of the state, which still holds `X` there. -/
theorem carry_init {A B : ℕ → EReal} {bu X : ℕ → ℕ → EReal} {q : ℕ} (hq : q < 4) {C : Vec Ideal S16x4096 .f32} (hC : ∀ (b : Fin 16) (c : Fin 4096), ¬ c.val % 2048 / 512 < q → C (ix2 b c) = X b c)
    {o o' : ℕ} (ho : o = 512 * q) (ho' : o' = 2048 + 512 * q) {inb inb'} {v w : Vec Ideal S16x512 .f32}
    (hv : v = VecWindow.window C ![0, o] S16x512.size inb) (hw : w = VecWindow.window C ![0, o'] S16x512.size inb') :
    Carry A B bu X q 0 (v, w) := by
  subst hv hw
  intro b j
  have hb := b.isLt
  have hj := j.isLt
  refine ⟨?_, ?_⟩
  · have e : VecWindow.window C ![0, o] S16x512.size inb (ix2 b j) = C (ix2 b ⟨o + j, by omega⟩) := by
      refine congrArg C (funext fun x => Fin.ext ?_)
      match x with
      | ⟨0, _⟩ => show 0 + 1 * b.val = b.val; omega
      | ⟨1, _⟩ => show o + 1 * j.val = o + j.val; omega
    refine (e.trans (hC _ _ (by simp only; omega))).trans ?_
    rw [st, lin]
    simp only [ho]
  · have e : VecWindow.window C ![0, o'] S16x512.size inb' (ix2 b j) = C (ix2 b ⟨o' + j, by omega⟩) := by
      refine congrArg C (funext fun x => Fin.ext ?_)
      match x with
      | ⟨0, _⟩ => show 0 + 1 * b.val = b.val; omega
      | ⟨1, _⟩ => show o' + 1 * j.val = o' + j.val; omega
    refine (e.trans (hC _ _ (by simp only; omega))).trans ?_
    rw [st, lin]
    simp only [ho', Nat.add_assoc]

theorem mid16_zero {A B : ℕ → EReal} {bu X : ℕ → ℕ → EReal} (x : Vec Ideal S16x4096 .f32) : Mid16 A B bu X (staN x) 0 x := by
  intro b c
  rw [if_neg (by omega), staN, dif_pos ⟨b.isLt, c.isLt⟩]

theorem held_zero {A B : ℕ → EReal} {X : ℕ → ℕ → EReal} (x : Vec Ideal S512x4096 .f32) : Held A B (blkN x) X 0 0 x := by
  intro r c
  rw [mid, if_neg (by omega), blkN, dif_pos ⟨r.isLt, c.isLt⟩]

theorem point1 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v11 : Vec Ideal S1x512 .f32) (v15 : Vec Ideal S1x512 .f32) (P : List (View.Piece (Elt Ideal) S512x4096 .f32)) (init : Vec Ideal S16x512 .f32 × Vec Ideal S16x512 .f32) (n : ℕ) (hn : n = 32)
    {A B : ℕ → EReal} {bu X : ℕ → ℕ → EReal} (hv : ∀ j : Fin 512, v11 (ix2 0 j) = A (512 * 0 + j)) (hw : ∀ j : Fin 512, v15 (ix2 0 j) = B (512 * 0 + j))
    (hC : Held A B bu X 0 0 (arg13.view.read (Elt Ideal) (arg13.view.writes (Elt Ideal) arg13.view.junk P))) (ha : Carry A B bu X 0 0 init) :
    Carry A B bu X 0 32 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 (arg13.view.writes (Elt Ideal) arg13.view.junk P) init n).1
      ∧ Held A B bu X 1 0 (arg13.view.read (Elt Ideal) (arg13.view.writes (Elt Ideal) arg13.view.junk
          ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v11 v15 (arg13.view.writes (Elt Ideal) arg13.view.junk P) init n).2 ++ P))) := by
  subst hn
  have h := strip1 𝒱 c bd i arg1 harg1 arg2 harg2 arg3 harg3 arg4 harg4 arg5 harg5 arg6 harg6 arg7 harg7 arg8 harg8 arg9 harg9 arg10 harg10 arg11 harg11 arg12 harg12 arg13 harg13 v11 v15 (arg13.view.writes (Elt Ideal) arg13.view.junk P) init A B bu X hv hw hC ha 32 le_rfl
  refine ⟨h.1, ?_⟩
  rw [View.writes_append]
  exact held_next h.2

theorem point2 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v29 : Vec Ideal S1x512 .f32) (v33 : Vec Ideal S1x512 .f32) (P : List (View.Piece (Elt Ideal) S512x4096 .f32)) (init : Vec Ideal S16x512 .f32 × Vec Ideal S16x512 .f32) (n : ℕ) (hn : n = 32)
    {A B : ℕ → EReal} {bu X : ℕ → ℕ → EReal} (hv : ∀ j : Fin 512, v29 (ix2 0 j) = A (512 * 1 + j)) (hw : ∀ j : Fin 512, v33 (ix2 0 j) = B (512 * 1 + j))
    (hC : Held A B bu X 1 0 (arg13.view.read (Elt Ideal) (arg13.view.writes (Elt Ideal) arg13.view.junk P))) (ha : Carry A B bu X 1 0 init) :
    Carry A B bu X 1 32 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 (arg13.view.writes (Elt Ideal) arg13.view.junk P) init n).1
      ∧ Held A B bu X 2 0 (arg13.view.read (Elt Ideal) (arg13.view.writes (Elt Ideal) arg13.view.junk
          ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v29 v33 (arg13.view.writes (Elt Ideal) arg13.view.junk P) init n).2 ++ P))) := by
  subst hn
  have h := strip2 𝒱 c bd i arg1 harg1 arg2 harg2 arg3 harg3 arg4 harg4 arg5 harg5 arg6 harg6 arg7 harg7 arg8 harg8 arg9 harg9 arg10 harg10 arg11 harg11 arg12 harg12 arg13 harg13 v29 v33 (arg13.view.writes (Elt Ideal) arg13.view.junk P) init A B bu X hv hw hC ha 32 le_rfl
  refine ⟨h.1, ?_⟩
  rw [View.writes_append]
  exact held_next h.2

theorem point3 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v47 : Vec Ideal S1x512 .f32) (v51 : Vec Ideal S1x512 .f32) (P : List (View.Piece (Elt Ideal) S512x4096 .f32)) (init : Vec Ideal S16x512 .f32 × Vec Ideal S16x512 .f32) (n : ℕ) (hn : n = 32)
    {A B : ℕ → EReal} {bu X : ℕ → ℕ → EReal} (hv : ∀ j : Fin 512, v47 (ix2 0 j) = A (512 * 2 + j)) (hw : ∀ j : Fin 512, v51 (ix2 0 j) = B (512 * 2 + j))
    (hC : Held A B bu X 2 0 (arg13.view.read (Elt Ideal) (arg13.view.writes (Elt Ideal) arg13.view.junk P))) (ha : Carry A B bu X 2 0 init) :
    Carry A B bu X 2 32 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 (arg13.view.writes (Elt Ideal) arg13.view.junk P) init n).1
      ∧ Held A B bu X 3 0 (arg13.view.read (Elt Ideal) (arg13.view.writes (Elt Ideal) arg13.view.junk
          ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v51 (arg13.view.writes (Elt Ideal) arg13.view.junk P) init n).2 ++ P))) := by
  subst hn
  have h := strip3 𝒱 c bd i arg1 harg1 arg2 harg2 arg3 harg3 arg4 harg4 arg5 harg5 arg6 harg6 arg7 harg7 arg8 harg8 arg9 harg9 arg10 harg10 arg11 harg11 arg12 harg12 arg13 harg13 v47 v51 (arg13.view.writes (Elt Ideal) arg13.view.junk P) init A B bu X hv hw hC ha 32 le_rfl
  refine ⟨h.1, ?_⟩
  rw [View.writes_append]
  exact held_next h.2

theorem point4 (𝒱 : Variants) (c : Dev nD) (bd : Option 𝒱.V) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (v58_0 : Vec Ideal S16x512 .f32) (v58_1 : Vec Ideal S16x512 .f32) (v65 : Vec Ideal S1x512 .f32) (v69 : Vec Ideal S1x512 .f32) (P : List (View.Piece (Elt Ideal) S512x4096 .f32)) (init : Vec Ideal S16x512 .f32 × Vec Ideal S16x512 .f32) (n : ℕ) (hn : n = 32)
    {A B : ℕ → EReal} {bu X : ℕ → ℕ → EReal} (hv : ∀ j : Fin 512, v65 (ix2 0 j) = A (512 * 3 + j)) (hw : ∀ j : Fin 512, v69 (ix2 0 j) = B (512 * 3 + j))
    (hC : Held A B bu X 3 0 (arg13.view.read (Elt Ideal) (arg13.view.writes (Elt Ideal) arg13.view.junk P))) (ha : Carry A B bu X 3 0 init) :
    Carry A B bu X 3 32 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 (arg13.view.writes (Elt Ideal) arg13.view.junk P) init n).1
      ∧ Held A B bu X 4 0 (arg13.view.read (Elt Ideal) (arg13.view.writes (Elt Ideal) arg13.view.junk
          ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 (arg13.view.writes (Elt Ideal) arg13.view.junk P) init n).2 ++ P))) := by
  subst hn
  have h := strip4 𝒱 c bd i arg1 harg1 arg2 harg2 arg3 harg3 arg4 harg4 arg5 harg5 arg6 harg6 arg7 harg7 arg8 harg8 arg9 harg9 arg10 harg10 arg11 harg11 arg12 harg12 arg13 harg13 v58_0 v58_1 v65 v69 (arg13.view.writes (Elt Ideal) arg13.view.junk P) init A B bu X hv hw hC ha 32 le_rfl
  refine ⟨h.1, ?_⟩
  rw [View.writes_append]
  exact held_next h.2

end Cert.KernelIdeal.Gen

end
-- ==== Proof.S5Cases.lean ====
module

public import proofs.«01_k».proof.Proof.S5State

/-! The three kinds of grid points: the first takes the state from its window, the others go on from the state the point
before left, and the last also stores the state. -/

@[expose] public section

set_option maxRecDepth 16384

noncomputable section

namespace Cert.KernelIdeal.Gen

open Idealize.ShloMosaic Idealize.ShloMosaic.TcCoe Cert.KernelIdeal Cert.S5

theorem whole_load {arg : Memref sig .tc .vmem S512x512 .bf16} (harg : arg.IsWhole) (x : Vec Ideal S512x512 .bf16) (inb) :
    (View.readAt (Elt Ideal) arg.view (Rect.unit (s := S512x512) ![0, 0] S512x512.size inb).toLoadRect (harg.unread x)) = x := by
  rw [View.readAt_eq_ld, harg.read_unread]
  exact View.ld_unit_lit _ x (by decide)

theorem whole_load_b {arg : Memref sig .tc .vmem S512x4096 .bf16} (harg : arg.IsWhole) (x : Vec Ideal S512x4096 .bf16) (inb) :
    (View.readAt (Elt Ideal) arg.view (Rect.unit (s := S512x4096) ![0, 0] S512x4096.size inb).toLoadRect (harg.unread x)) = x := by
  rw [View.readAt_eq_ld, harg.read_unread]
  exact View.ld_unit_lit _ x (by decide)

theorem whole_load_c {arg : Memref sig .tc .vmem S4096x512 .bf16} (harg : arg.IsWhole) (x : Vec Ideal S4096x512 .bf16) (inb) :
    (View.readAt (Elt Ideal) arg.view (Rect.unit (s := S4096x512) ![0, 0] S4096x512.size inb).toLoadRect (harg.unread x)) = x := by
  rw [View.readAt_eq_ld, harg.read_unread]
  exact View.ld_unit_lit _ x (by decide)

theorem whole_load_d {arg : Memref sig .tc .vmem S1x512 .f32} (harg : arg.IsWhole) (x : Vec Ideal S1x512 .f32) (inb) :
    (View.readAt (Elt Ideal) arg.view (Rect.unit (s := S1x512) ![0, 0] S1x512.size inb).toLoadRect (harg.unread x)) = x := by
  rw [View.readAt_eq_ld, harg.read_unread]
  exact View.ld_unit_lit _ x (by decide)

theorem whole_load_w {arg : Memref sig .tc .vmem S512x1024 .bf16} (harg : arg.IsWhole) (x : Vec Ideal S512x1024 .bf16) (inb) :
    (View.readAt (Elt Ideal) arg.view (Rect.unit (s := S512x1024) ![0, 0] S512x1024.size inb).toLoadRect (harg.unread x)) = x := by
  rw [View.readAt_eq_ld, harg.read_unread]
  exact View.ld_unit_lit _ x (by decide)

theorem whole_load_h {arg : Memref sig .tc .vmem S16x4096 .f32} (harg : arg.IsWhole) (x : Vec Ideal S16x4096 .f32) (inb) :
    (View.readAt (Elt Ideal) arg.view (Rect.unit (s := S16x4096) ![0, 0] S16x4096.size inb).toLoadRect (harg.unread x)) = x := by
  rw [View.readAt_eq_ld, harg.read_unread]
  exact View.ld_unit_lit _ x (by decide)

theorem pay11_eq (v : Vec Ideal S16x512 .f32) : k0_pay11 (F := Ideal) v = v := by
  funext i
  obtain ⟨b, j, rfl⟩ : ∃ (b : Fin 16) (j : Fin 512), i = ix2 b j := ⟨i 0, i 1, eq_ix2 i⟩
  unfold k0_pay11
  pointwise []

theorem pay12_eq (v : Vec Ideal S16x512 .f32) : k0_pay12 (F := Ideal) v = v := by
  funext i
  obtain ⟨b, j, rfl⟩ : ∃ (b : Fin 16) (j : Fin 512), i = ix2 b j := ⟨i 0, i 1, eq_ix2 i⟩
  unfold k0_pay12
  pointwise []

theorem pay19_eq (v : Vec Ideal S16x512 .f32) : k0_pay19 (F := Ideal) v = v := by
  funext i
  obtain ⟨b, j, rfl⟩ : ∃ (b : Fin 16) (j : Fin 512), i = ix2 b j := ⟨i 0, i 1, eq_ix2 i⟩
  unfold k0_pay19
  pointwise []

theorem pay20_eq (v : Vec Ideal S16x512 .f32) : k0_pay20 (F := Ideal) v = v := by
  funext i
  obtain ⟨b, j, rfl⟩ : ∃ (b : Fin 16) (j : Fin 512), i = ix2 b j := ⟨i 0, i 1, eq_ix2 i⟩
  unfold k0_pay20
  pointwise []

theorem pay27_eq (v : Vec Ideal S16x512 .f32) : k0_pay27 (F := Ideal) v = v := by
  funext i
  obtain ⟨b, j, rfl⟩ : ∃ (b : Fin 16) (j : Fin 512), i = ix2 b j := ⟨i 0, i 1, eq_ix2 i⟩
  unfold k0_pay27
  pointwise []

theorem pay28_eq (v : Vec Ideal S16x512 .f32) : k0_pay28 (F := Ideal) v = v := by
  funext i
  obtain ⟨b, j, rfl⟩ : ∃ (b : Fin 16) (j : Fin 512), i = ix2 b j := ⟨i 0, i 1, eq_ix2 i⟩
  unfold k0_pay28
  pointwise []

theorem pay35_eq (v : Vec Ideal S16x512 .f32) : k0_pay35 (F := Ideal) v = v := by
  funext i
  obtain ⟨b, j, rfl⟩ : ∃ (b : Fin 16) (j : Fin 512), i = ix2 b j := ⟨i 0, i 1, eq_ix2 i⟩
  unfold k0_pay35
  pointwise []

theorem pay36_eq (v : Vec Ideal S16x512 .f32) : k0_pay36 (F := Ideal) v = v := by
  funext i
  obtain ⟨b, j, rfl⟩ : ∃ (b : Fin 16) (j : Fin 512), i = ix2 b j := ⟨i 0, i 1, eq_ix2 i⟩
  unfold k0_pay36
  pointwise []

theorem pay2_eq (v : Vec Ideal S16x4096 .f32) : k0_pay2 (F := Ideal) v = v := by
  funext i
  obtain ⟨b, j, rfl⟩ : ∃ (b : Fin 16) (j : Fin 4096), i = ix2 b j := ⟨i 0, i 1, eq_ix2 i⟩
  unfold k0_pay2
  pointwise []

theorem caseA (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : cond0_0 i) (hc1 : ¬cond0_1 i)
    (x0 : Vec Ideal S512x512 .bf16) (x1 : Vec Ideal S16x4096 .f32) (x2 : Vec Ideal S512x4096 .bf16) (x3 : Vec Ideal S1x2048 .f32) (x4 : Vec Ideal S1x2048 .f32) (x5 : Vec Ideal S4096x512 .bf16) (x6 : Vec Ideal S1x512 .f32) (x7 : Vec Ideal S512x1024 .bf16) (x8 : Vec Ideal S512x1024 .bf16) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = stVec (rowN x3) (rowN x4) (blkN (k0_pay4 (F := Ideal) x0 x2)) (staN x1)
      ∧ out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay1 (k0_pay3 x0) (k0_pay37 (hVec (rowN x3) (rowN x4) (blkN (k0_pay4 (F := Ideal) x0 x2)) (staN x1)) x5) x6 x7 x8 := by
  have g0 : Held (rowN x3) (rowN x4) (blkN (k0_pay4 (F := Ideal) x0 x2)) (staN x1) 0 0 (arg13.view.read (Elt Ideal) (arg13.view.writes (Elt Ideal) arg13.view.junk (kernelRun0_A.sl.HS1_1 (F := Ideal) c arg1 harg1 arg3 harg3 x0 x2))) := by
    have e : arg13.view.read (Elt Ideal) (arg13.view.writes (Elt Ideal) arg13.view.junk (kernelRun0_A.sl.HS1_1 (F := Ideal) c arg1 harg1 arg3 harg3 x0 x2)) = k0_pay4 x0 x2 := by
      unfold kernelRun0_A.sl.HS1_1
      rw [View.read_writes_full, whole_load, whole_load_b]
    rw [e]
    exact held_zero _
  have m0 : ∀ (v : View sig .tc .vmem S16x4096 .f32) (f : BufTy.Contents (Elt Ideal) v.ty),
      Mid16 (rowN x3) (rowN x4) (blkN (k0_pay4 (F := Ideal) x0 x2)) (staN x1) (staN x1) 0 (v.read (Elt Ideal) (v.writes (Elt Ideal) f (kernelRun0_A.sl.HS0_1 c arg2 harg2 x1))) := by
    intro v f
    unfold kernelRun0_A.sl.HS0_1
    rw [View.read_writes_full, whole_load_h, pay2_eq]
    exact mid16_zero _
  have s1 := point1 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 0] ![1, 512] inb_S1x2048_S1x512_0_0).toLoadRect (harg4.unread x3)) (View.readAt (Elt Ideal) arg5.view (Rect.unit (s := S1x2048) ![0, 0] ![1, 512] inb_S1x2048_S1x512_0_0).toLoadRect (harg5.unread x4))
    (kernelRun0_A.sl.HS1_1 (F := Ideal) c arg1 harg1 arg3 harg3 x0 x2) (kernelRun0_A.sl.v19 c arg2 harg2 arg12 x1, kernelRun0_A.sl.v20 c arg2 harg2 arg12 x1) (Scf.trips (0#32) (Scalar.addi 0#32 32#32) 1#32) (by decide) (row_load harg4 x3 0 0 rfl (by omega) _) (row_load harg5 x4 0 0 rfl (by omega) _) g0
    (carry_init (by omega) (fun b c h => ((m0 arg12.view arg12.view.junk) b c).trans (if_neg h)) rfl rfl (inb := inb_S16x4096_S16x512_0_0) (inb' := inb_S16x4096_S16x512_0_2048) rfl rfl)
  have m1 : ∀ (v : View sig .tc .vmem S16x4096 .f32) (f : BufTy.Contents (Elt Ideal) v.ty),
      Mid16 (rowN x3) (rowN x4) (blkN (k0_pay4 (F := Ideal) x0 x2)) (staN x1) (staN x1) 1 (v.read (Elt Ideal) (v.writes (Elt Ideal) f (kernelRun0_A.sl.HS0_3 c i arg1 harg1 arg2 harg2 arg3 harg3 arg4 harg4 arg5 harg5 arg6 harg6 arg7 harg7 arg8 harg8 arg9 harg9 arg10 harg10 arg11 harg11 arg12 harg12 arg13 harg13 x0 x1 x2 x3 x4))) := by
    intro v f
    unfold kernelRun0_A.sl.HS0_3
    rw [View.read_writes_cons_put _ _ _ _ _ rfl, View.read_writes_cons_put _ _ _ _ _ rfl]
    exact mid16_step (by omega) (m0 v f) s1.1 rfl rfl (pay11_eq _) (pay12_eq _)
  have s2 := point2 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 512] ![1, 512] inb_S1x2048_S1x512_0_512).toLoadRect (harg4.unread x3)) (View.readAt (Elt Ideal) arg5.view (Rect.unit (s := S1x2048) ![0, 512] ![1, 512] inb_S1x2048_S1x512_0_512).toLoadRect (harg5.unread x4))
    _ (kernelRun0_A.sl.v37 c i arg1 harg1 arg2 harg2 arg3 harg3 arg4 harg4 arg5 harg5 arg6 harg6 arg7 harg7 arg8 harg8 arg9 harg9 arg10 harg10 arg11 harg11 arg12 harg12 arg13 harg13 x0 x1 x2 x3 x4, kernelRun0_A.sl.v38 c i arg1 harg1 arg2 harg2 arg3 harg3 arg4 harg4 arg5 harg5 arg6 harg6 arg7 harg7 arg8 harg8 arg9 harg9 arg10 harg10 arg11 harg11 arg12 harg12 arg13 harg13 x0 x1 x2 x3 x4) (Scf.trips (0#32) (Scalar.addi 0#32 32#32) 1#32) (by decide) (row_load harg4 x3 512 1 rfl (by omega) _) (row_load harg5 x4 512 1 rfl (by omega) _) s1.2
    (carry_init (by omega) (fun b c h => ((m1 arg12.view arg12.view.junk) b c).trans (if_neg h)) rfl rfl (inb := inb_S16x4096_S16x512_0_512) (inb' := inb_S16x4096_S16x512_0_2560) rfl rfl)
  have m2 : ∀ (v : View sig .tc .vmem S16x4096 .f32) (f : BufTy.Contents (Elt Ideal) v.ty),
      Mid16 (rowN x3) (rowN x4) (blkN (k0_pay4 (F := Ideal) x0 x2)) (staN x1) (staN x1) 2 (v.read (Elt Ideal) (v.writes (Elt Ideal) f (kernelRun0_A.sl.HS0_5 c i arg1 harg1 arg2 harg2 arg3 harg3 arg4 harg4 arg5 harg5 arg6 harg6 arg7 harg7 arg8 harg8 arg9 harg9 arg10 harg10 arg11 harg11 arg12 harg12 arg13 harg13 x0 x1 x2 x3 x4))) := by
    intro v f
    unfold kernelRun0_A.sl.HS0_5
    rw [View.read_writes_cons_put _ _ _ _ _ rfl, View.read_writes_cons_put _ _ _ _ _ rfl]
    exact mid16_step (by omega) (m1 v f) s2.1 rfl rfl (pay19_eq _) (pay20_eq _)
  have s3 := point3 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 1024] ![1, 512] inb_S1x2048_S1x512_0_1024).toLoadRect (harg4.unread x3)) (View.readAt (Elt Ideal) arg5.view (Rect.unit (s := S1x2048) ![0, 1024] ![1, 512] inb_S1x2048_S1x512_0_1024).toLoadRect (harg5.unread x4))
    _ (kernelRun0_A.sl.v55 c i arg1 harg1 arg2 harg2 arg3 harg3 arg4 harg4 arg5 harg5 arg6 harg6 arg7 harg7 arg8 harg8 arg9 harg9 arg10 harg10 arg11 harg11 arg12 harg12 arg13 harg13 x0 x1 x2 x3 x4, kernelRun0_A.sl.v56 c i arg1 harg1 arg2 harg2 arg3 harg3 arg4 harg4 arg5 harg5 arg6 harg6 arg7 harg7 arg8 harg8 arg9 harg9 arg10 harg10 arg11 harg11 arg12 harg12 arg13 harg13 x0 x1 x2 x3 x4) (Scf.trips (0#32) (Scalar.addi 0#32 32#32) 1#32) (by decide) (row_load harg4 x3 1024 2 rfl (by omega) _) (row_load harg5 x4 1024 2 rfl (by omega) _) s2.2
    (carry_init (by omega) (fun b c h => ((m2 arg12.view arg12.view.junk) b c).trans (if_neg h)) rfl rfl (inb := inb_S16x4096_S16x512_0_1024) (inb' := inb_S16x4096_S16x512_0_3072) rfl rfl)
  have m3 : ∀ (v : View sig .tc .vmem S16x4096 .f32) (f : BufTy.Contents (Elt Ideal) v.ty),
      Mid16 (rowN x3) (rowN x4) (blkN (k0_pay4 (F := Ideal) x0 x2)) (staN x1) (staN x1) 3 (v.read (Elt Ideal) (v.writes (Elt Ideal) f (kernelRun0_A.sl.HS0_7 c i arg1 harg1 arg2 harg2 arg3 harg3 arg4 harg4 arg5 harg5 arg6 harg6 arg7 harg7 arg8 harg8 arg9 harg9 arg10 harg10 arg11 harg11 arg12 harg12 arg13 harg13 x0 x1 x2 x3 x4))) := by
    intro v f
    unfold kernelRun0_A.sl.HS0_7
    rw [View.read_writes_cons_put _ _ _ _ _ rfl, View.read_writes_cons_put _ _ _ _ _ rfl]
    exact mid16_step (by omega) (m2 v f) s3.1 rfl rfl (pay27_eq _) (pay28_eq _)
  have s4 := point4 Variants.none c none i arg1 harg1 arg2 harg2 arg3 harg3 arg4 harg4 arg5 harg5 arg6 harg6 arg7 harg7 arg8 harg8 arg9 harg9 arg10 harg10 arg11 harg11 arg12 harg12 arg13 harg13 (kernelRun0_A.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3 x4) (kernelRun0_A.sl.r_2 c i arg1 harg1 arg2 harg2 arg3 harg3 arg4 harg4 arg5 harg5 arg6 harg6 arg7 harg7 arg8 harg8 arg9 harg9 arg10 harg10 arg11 harg11 arg12 harg12 arg13 harg13 x0 x1 x2 x3 x4) (View.readAt (Elt Ideal) arg4.view (Rect.unit (s := S1x2048) ![0, 1536] ![1, 512] inb_S1x2048_S1x512_0_1536).toLoadRect (harg4.unread x3)) (View.readAt (Elt Ideal) arg5.view (Rect.unit (s := S1x2048) ![0, 1536] ![1, 512] inb_S1x2048_S1x512_0_1536).toLoadRect (harg5.unread x4))
    _ (kernelRun0_A.sl.v73 c i arg1 harg1 arg2 harg2 arg3 harg3 arg4 harg4 arg5 harg5 arg6 harg6 arg7 harg7 arg8 harg8 arg9 harg9 arg10 harg10 arg11 harg11 arg12 harg12 arg13 harg13 x0 x1 x2 x3 x4, kernelRun0_A.sl.v74 c i arg1 harg1 arg2 harg2 arg3 harg3 arg4 harg4 arg5 harg5 arg6 harg6 arg7 harg7 arg8 harg8 arg9 harg9 arg10 harg10 arg11 harg11 arg12 harg12 arg13 harg13 x0 x1 x2 x3 x4) (Scf.trips (0#32) (Scalar.addi 0#32 32#32) 1#32) (by decide) (row_load harg4 x3 1536 3 rfl (by omega) _) (row_load harg5 x4 1536 3 rfl (by omega) _) s3.2
    (carry_init (by omega) (fun b c h => ((m3 arg12.view arg12.view.junk) b c).trans (if_neg h)) rfl rfl (inb := inb_S16x4096_S16x512_0_1536) (inb' := inb_S16x4096_S16x512_0_3584) rfl rfl)
  refine ⟨?_, ?_⟩
  · unfold sout0_A_0 kernelRun0_A
    dsimp only
    rw [View.read_writes_cons_put _ _ _ _ _ rfl, View.read_writes_cons_put _ _ _ _ _ rfl]
    exact mid16_stVec (mid16_step (by omega) (m3 _ _) s4.1 rfl rfl (pay35_eq _) (pay36_eq _))
  · have e : kernelRun0_A.sl.v83 c i arg1 harg1 arg2 harg2 arg3 harg3 arg4 harg4 arg5 harg5 arg6 harg6 arg7 harg7 arg8 harg8 arg9 harg9 arg10 harg10 arg11 harg11 arg12 harg12 arg13 harg13 x0 x1 x2 x3 x4 = hVec (rowN x3) (rowN x4) (blkN (k0_pay4 (F := Ideal) x0 x2)) (staN x1) := held_hVec (C := kernelRun0_A.sl.v83 c i arg1 harg1 arg2 harg2 arg3 harg3 arg4 harg4 arg5 harg5 arg6 harg6 arg7 harg7 arg8 harg8 arg9 harg9 arg10 harg10 arg11 harg11 arg12 harg12 arg13 harg13 x0 x1 x2 x3 x4) (by
      have h := s4.2
      unfold kernelRun0_A.sl.v83
      first | rw [View.readAt_full] | (unfold View.readCov; rw [View.readAt_full])
      exact h)
    unfold out0_A_9 kernelRun0_A
    dsimp only
    rw [View.read_writes_full, whole_load_w, whole_load_w]
    unfold kernelRun0_A.sl.r kernelRun0_A.sl.r_3 kernelRun0_A.sl.r_4
    rw [e, whole_load, whole_load_c, whole_load_d]

theorem caseB (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : ¬cond0_1 i)
    (x0 : Vec Ideal S512x512 .bf16) (x1 : Vec Ideal S16x4096 .f32) (x2 : Vec Ideal S512x4096 .bf16) (x3 : Vec Ideal S1x2048 .f32) (x4 : Vec Ideal S1x2048 .f32) (x5 : Vec Ideal S4096x512 .bf16) (x6 : Vec Ideal S1x512 .f32) (x7 : Vec Ideal S512x1024 .bf16) (x8 : Vec Ideal S512x1024 .bf16) (xs0 : Vec Ideal S16x4096 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = stVec (rowN x3) (rowN x4) (blkN (k0_pay4 (F := Ideal) x0 x2)) (staN xs0)
      ∧ out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay1 (k0_pay3 x0) (k0_pay37 (hVec (rowN x3) (rowN x4) (blkN (k0_pay4 (F := Ideal) x0 x2)) (staN xs0)) x5) x6 x7 x8 := by
  have g0 : Held (rowN x3) (rowN x4) (blkN (k0_pay4 (F := Ideal) x0 x2)) (staN xs0) 0 0 (arg13.view.read (Elt Ideal) (arg13.view.writes (Elt Ideal) arg13.view.junk (kernelRun0_B.sl.HS1_1 (F := Ideal) c arg1 harg1 arg3 harg3 x0 x2))) := by
    have e : arg13.view.read (Elt Ideal) (arg13.view.writes (Elt Ideal) arg13.view.junk (kernelRun0_B.sl.HS1_1 (F := Ideal) c arg1 harg1 arg3 harg3 x0 x2)) = k0_pay4 x0 x2 := by
      unfold kernelRun0_B.sl.HS1_1
      rw [View.read_writes_full, whole_load, whole_load_b]
    rw [e]
    exact held_zero _
  have m0 : Mid16 (rowN x3) (rowN x4) (blkN (k0_pay4 (F := Ideal) x0 x2)) (staN xs0) (staN xs0) 0 (arg12.view.read (Elt Ideal) (harg12.unread xs0)) := by
    rw [harg12.read_unread]
    exact mid16_zero _
  have s1 := point1 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 0] ![1, 512] inb_S1x2048_S1x512_0_0).toLoadRect (harg4.unread x3)) (View.readAt (Elt Ideal) arg5.view (Rect.unit (s := S1x2048) ![0, 0] ![1, 512] inb_S1x2048_S1x512_0_0).toLoadRect (harg5.unread x4))
    (kernelRun0_B.sl.HS1_1 (F := Ideal) c arg1 harg1 arg3 harg3 x0 x2) ((View.readAt (Elt Ideal) arg12.view (Rect.unit (s := S16x4096) ![0, 0] S16x512.size inb_S16x4096_S16x512_0_0).toLoadRect (harg12.unread xs0)), (View.readAt (Elt Ideal) arg12.view (Rect.unit (s := S16x4096) ![0, 2048] S16x512.size inb_S16x4096_S16x512_0_2048).toLoadRect (harg12.unread xs0))) (Scf.trips (0#32) (Scalar.addi 0#32 32#32) 1#32) (by decide) (row_load harg4 x3 0 0 rfl (by omega) _) (row_load harg5 x4 0 0 rfl (by omega) _) g0
    (carry_init (by omega) (fun b c _ => (m0 b c).trans (if_neg (by omega))) rfl rfl (inb := inb_S16x4096_S16x512_0_0) (inb' := inb_S16x4096_S16x512_0_2048) rfl rfl)
  have s2 := point2 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 512] ![1, 512] inb_S1x2048_S1x512_0_512).toLoadRect (harg4.unread x3)) (View.readAt (Elt Ideal) arg5.view (Rect.unit (s := S1x2048) ![0, 512] ![1, 512] inb_S1x2048_S1x512_0_512).toLoadRect (harg5.unread x4))
    _ ((View.readAt (Elt Ideal) arg12.view (Rect.unit (s := S16x4096) ![0, 512] S16x512.size inb_S16x4096_S16x512_0_512).toLoadRect (harg12.unread xs0)), (View.readAt (Elt Ideal) arg12.view (Rect.unit (s := S16x4096) ![0, 2560] S16x512.size inb_S16x4096_S16x512_0_2560).toLoadRect (harg12.unread xs0))) (Scf.trips (0#32) (Scalar.addi 0#32 32#32) 1#32) (by decide) (row_load harg4 x3 512 1 rfl (by omega) _) (row_load harg5 x4 512 1 rfl (by omega) _) s1.2
    (carry_init (by omega) (fun b c _ => (m0 b c).trans (if_neg (by omega))) rfl rfl (inb := inb_S16x4096_S16x512_0_512) (inb' := inb_S16x4096_S16x512_0_2560) rfl rfl)
  have s3 := point3 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 1024] ![1, 512] inb_S1x2048_S1x512_0_1024).toLoadRect (harg4.unread x3)) (View.readAt (Elt Ideal) arg5.view (Rect.unit (s := S1x2048) ![0, 1024] ![1, 512] inb_S1x2048_S1x512_0_1024).toLoadRect (harg5.unread x4))
    _ ((View.readAt (Elt Ideal) arg12.view (Rect.unit (s := S16x4096) ![0, 1024] S16x512.size inb_S16x4096_S16x512_0_1024).toLoadRect (harg12.unread xs0)), (View.readAt (Elt Ideal) arg12.view (Rect.unit (s := S16x4096) ![0, 3072] S16x512.size inb_S16x4096_S16x512_0_3072).toLoadRect (harg12.unread xs0))) (Scf.trips (0#32) (Scalar.addi 0#32 32#32) 1#32) (by decide) (row_load harg4 x3 1024 2 rfl (by omega) _) (row_load harg5 x4 1024 2 rfl (by omega) _) s2.2
    (carry_init (by omega) (fun b c _ => (m0 b c).trans (if_neg (by omega))) rfl rfl (inb := inb_S16x4096_S16x512_0_1024) (inb' := inb_S16x4096_S16x512_0_3072) rfl rfl)
  have s4 := point4 Variants.none c none i arg1 harg1 arg2 harg2 arg3 harg3 arg4 harg4 arg5 harg5 arg6 harg6 arg7 harg7 arg8 harg8 arg9 harg9 arg10 harg10 arg11 harg11 arg12 harg12 arg13 harg13 (kernelRun0_B.sl.r_1 c i arg1 harg1 arg2 harg2 arg3 harg3 arg4 harg4 arg5 harg5 arg6 harg6 arg7 harg7 arg8 harg8 arg9 harg9 arg10 harg10 arg11 harg11 arg12 harg12 arg13 harg13 x0 x2 x3 x4 xs0) (kernelRun0_B.sl.r_2 c i arg1 harg1 arg2 harg2 arg3 harg3 arg4 harg4 arg5 harg5 arg6 harg6 arg7 harg7 arg8 harg8 arg9 harg9 arg10 harg10 arg11 harg11 arg12 harg12 arg13 harg13 x0 x2 x3 x4 xs0) (View.readAt (Elt Ideal) arg4.view (Rect.unit (s := S1x2048) ![0, 1536] ![1, 512] inb_S1x2048_S1x512_0_1536).toLoadRect (harg4.unread x3)) (View.readAt (Elt Ideal) arg5.view (Rect.unit (s := S1x2048) ![0, 1536] ![1, 512] inb_S1x2048_S1x512_0_1536).toLoadRect (harg5.unread x4))
    _ ((View.readAt (Elt Ideal) arg12.view (Rect.unit (s := S16x4096) ![0, 1536] S16x512.size inb_S16x4096_S16x512_0_1536).toLoadRect (harg12.unread xs0)), (View.readAt (Elt Ideal) arg12.view (Rect.unit (s := S16x4096) ![0, 3584] S16x512.size inb_S16x4096_S16x512_0_3584).toLoadRect (harg12.unread xs0))) (Scf.trips (0#32) (Scalar.addi 0#32 32#32) 1#32) (by decide) (row_load harg4 x3 1536 3 rfl (by omega) _) (row_load harg5 x4 1536 3 rfl (by omega) _) s3.2
    (carry_init (by omega) (fun b c _ => (m0 b c).trans (if_neg (by omega))) rfl rfl (inb := inb_S16x4096_S16x512_0_1536) (inb' := inb_S16x4096_S16x512_0_3584) rfl rfl)
  refine ⟨?_, ?_⟩
  · unfold sout0_B_0 kernelRun0_B
    dsimp only
    iterate 8 rw [View.read_writes_cons_put _ _ _ _ _ rfl]
    exact mid16_stVec (mid16_step (by omega) (mid16_step (by omega) (mid16_step (by omega) (mid16_step (by omega) (mid16_zero _) s1.1 rfl rfl (pay11_eq _) (pay12_eq _)) s2.1 rfl rfl (pay19_eq _) (pay20_eq _)) s3.1 rfl rfl (pay27_eq _) (pay28_eq _)) s4.1 rfl rfl (pay35_eq _) (pay36_eq _))
  · have e : kernelRun0_B.sl.v83 c i arg1 harg1 arg2 harg2 arg3 harg3 arg4 harg4 arg5 harg5 arg6 harg6 arg7 harg7 arg8 harg8 arg9 harg9 arg10 harg10 arg11 harg11 arg12 harg12 arg13 harg13 x0 x2 x3 x4 xs0 = hVec (rowN x3) (rowN x4) (blkN (k0_pay4 (F := Ideal) x0 x2)) (staN xs0) := held_hVec (C := kernelRun0_B.sl.v83 c i arg1 harg1 arg2 harg2 arg3 harg3 arg4 harg4 arg5 harg5 arg6 harg6 arg7 harg7 arg8 harg8 arg9 harg9 arg10 harg10 arg11 harg11 arg12 harg12 arg13 harg13 x0 x2 x3 x4 xs0) (by
      have h := s4.2
      unfold kernelRun0_B.sl.v83
      first | rw [View.readAt_full] | (unfold View.readCov; rw [View.readAt_full])
      exact h)
    unfold out0_B_9 kernelRun0_B
    dsimp only
    rw [View.read_writes_full, whole_load_w, whole_load_w]
    unfold kernelRun0_B.sl.r kernelRun0_B.sl.r_3 kernelRun0_B.sl.r_4
    rw [e, whole_load, whole_load_c, whole_load_d]

theorem caseC (c : Dev nD) (i : grid0.Coords) (arg1 : Memref sig .tc .vmem S512x512 .bf16) (harg1 : arg1.IsWhole) (arg2 : Memref sig .tc .vmem S16x4096 .f32) (harg2 : arg2.IsWhole) (arg3 : Memref sig .tc .vmem S512x4096 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S16x4096 .f32) (harg11 : arg11.IsWhole) (arg12 : Memref sig .tc .vmem S16x4096 .f32) (harg12 : arg12.IsWhole) (arg13 : Memref sig .tc .vmem S512x4096 .f32) (harg13 : arg13.IsWhole) (hc0 : ¬cond0_0 i) (hc1 : cond0_1 i)
    (x0 : Vec Ideal S512x512 .bf16) (x1 : Vec Ideal S16x4096 .f32) (x2 : Vec Ideal S512x4096 .bf16) (x3 : Vec Ideal S1x2048 .f32) (x4 : Vec Ideal S1x2048 .f32) (x5 : Vec Ideal S4096x512 .bf16) (x6 : Vec Ideal S1x512 .f32) (x7 : Vec Ideal S512x1024 .bf16) (x8 : Vec Ideal S512x1024 .bf16) (xs0 : Vec Ideal S16x4096 .f32) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = stVec (rowN x3) (rowN x4) (blkN (k0_pay4 (F := Ideal) x0 x2)) (staN xs0)
      ∧ out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay1 (k0_pay3 x0) (k0_pay37 (hVec (rowN x3) (rowN x4) (blkN (k0_pay4 (F := Ideal) x0 x2)) (staN xs0)) x5) x6 x7 x8
      ∧ out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = stVec (rowN x3) (rowN x4) (blkN (k0_pay4 (F := Ideal) x0 x2)) (staN xs0) := by
  have g0 : Held (rowN x3) (rowN x4) (blkN (k0_pay4 (F := Ideal) x0 x2)) (staN xs0) 0 0 (arg13.view.read (Elt Ideal) (arg13.view.writes (Elt Ideal) arg13.view.junk (kernelRun0_C.sl.HS1_1 (F := Ideal) c arg1 harg1 arg3 harg3 x0 x2))) := by
    have e : arg13.view.read (Elt Ideal) (arg13.view.writes (Elt Ideal) arg13.view.junk (kernelRun0_C.sl.HS1_1 (F := Ideal) c arg1 harg1 arg3 harg3 x0 x2)) = k0_pay4 x0 x2 := by
      unfold kernelRun0_C.sl.HS1_1
      rw [View.read_writes_full, whole_load, whole_load_b]
    rw [e]
    exact held_zero _
  have m0 : Mid16 (rowN x3) (rowN x4) (blkN (k0_pay4 (F := Ideal) x0 x2)) (staN xs0) (staN xs0) 0 (arg12.view.read (Elt Ideal) (harg12.unread xs0)) := by
    rw [harg12.read_unread]
    exact mid16_zero _
  have s1 := point1 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 0] ![1, 512] inb_S1x2048_S1x512_0_0).toLoadRect (harg4.unread x3)) (View.readAt (Elt Ideal) arg5.view (Rect.unit (s := S1x2048) ![0, 0] ![1, 512] inb_S1x2048_S1x512_0_0).toLoadRect (harg5.unread x4))
    (kernelRun0_C.sl.HS1_1 (F := Ideal) c arg1 harg1 arg3 harg3 x0 x2) ((View.readAt (Elt Ideal) arg12.view (Rect.unit (s := S16x4096) ![0, 0] S16x512.size inb_S16x4096_S16x512_0_0).toLoadRect (harg12.unread xs0)), (View.readAt (Elt Ideal) arg12.view (Rect.unit (s := S16x4096) ![0, 2048] S16x512.size inb_S16x4096_S16x512_0_2048).toLoadRect (harg12.unread xs0))) (Scf.trips (0#32) (Scalar.addi 0#32 32#32) 1#32) (by decide) (row_load harg4 x3 0 0 rfl (by omega) _) (row_load harg5 x4 0 0 rfl (by omega) _) g0
    (carry_init (by omega) (fun b c _ => (m0 b c).trans (if_neg (by omega))) rfl rfl (inb := inb_S16x4096_S16x512_0_0) (inb' := inb_S16x4096_S16x512_0_2048) rfl rfl)
  have s2 := point2 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 512] ![1, 512] inb_S1x2048_S1x512_0_512).toLoadRect (harg4.unread x3)) (View.readAt (Elt Ideal) arg5.view (Rect.unit (s := S1x2048) ![0, 512] ![1, 512] inb_S1x2048_S1x512_0_512).toLoadRect (harg5.unread x4))
    _ ((View.readAt (Elt Ideal) arg12.view (Rect.unit (s := S16x4096) ![0, 512] S16x512.size inb_S16x4096_S16x512_0_512).toLoadRect (harg12.unread xs0)), (View.readAt (Elt Ideal) arg12.view (Rect.unit (s := S16x4096) ![0, 2560] S16x512.size inb_S16x4096_S16x512_0_2560).toLoadRect (harg12.unread xs0))) (Scf.trips (0#32) (Scalar.addi 0#32 32#32) 1#32) (by decide) (row_load harg4 x3 512 1 rfl (by omega) _) (row_load harg5 x4 512 1 rfl (by omega) _) s1.2
    (carry_init (by omega) (fun b c _ => (m0 b c).trans (if_neg (by omega))) rfl rfl (inb := inb_S16x4096_S16x512_0_512) (inb' := inb_S16x4096_S16x512_0_2560) rfl rfl)
  have s3 := point3 Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S1x2048) ![0, 1024] ![1, 512] inb_S1x2048_S1x512_0_1024).toLoadRect (harg4.unread x3)) (View.readAt (Elt Ideal) arg5.view (Rect.unit (s := S1x2048) ![0, 1024] ![1, 512] inb_S1x2048_S1x512_0_1024).toLoadRect (harg5.unread x4))
    _ ((View.readAt (Elt Ideal) arg12.view (Rect.unit (s := S16x4096) ![0, 1024] S16x512.size inb_S16x4096_S16x512_0_1024).toLoadRect (harg12.unread xs0)), (View.readAt (Elt Ideal) arg12.view (Rect.unit (s := S16x4096) ![0, 3072] S16x512.size inb_S16x4096_S16x512_0_3072).toLoadRect (harg12.unread xs0))) (Scf.trips (0#32) (Scalar.addi 0#32 32#32) 1#32) (by decide) (row_load harg4 x3 1024 2 rfl (by omega) _) (row_load harg5 x4 1024 2 rfl (by omega) _) s2.2
    (carry_init (by omega) (fun b c _ => (m0 b c).trans (if_neg (by omega))) rfl rfl (inb := inb_S16x4096_S16x512_0_1024) (inb' := inb_S16x4096_S16x512_0_3072) rfl rfl)
  have s4 := point4 Variants.none c none i arg1 harg1 arg2 harg2 arg3 harg3 arg4 harg4 arg5 harg5 arg6 harg6 arg7 harg7 arg8 harg8 arg9 harg9 arg10 harg10 arg11 harg11 arg12 harg12 arg13 harg13 (kernelRun0_C.sl.r_1 c i arg1 harg1 arg2 harg2 arg3 harg3 arg4 harg4 arg5 harg5 arg6 harg6 arg7 harg7 arg8 harg8 arg9 harg9 arg10 harg10 arg11 harg11 arg12 harg12 arg13 harg13 x0 x2 x3 x4 xs0) (kernelRun0_C.sl.r_2 c i arg1 harg1 arg2 harg2 arg3 harg3 arg4 harg4 arg5 harg5 arg6 harg6 arg7 harg7 arg8 harg8 arg9 harg9 arg10 harg10 arg11 harg11 arg12 harg12 arg13 harg13 x0 x2 x3 x4 xs0) (View.readAt (Elt Ideal) arg4.view (Rect.unit (s := S1x2048) ![0, 1536] ![1, 512] inb_S1x2048_S1x512_0_1536).toLoadRect (harg4.unread x3)) (View.readAt (Elt Ideal) arg5.view (Rect.unit (s := S1x2048) ![0, 1536] ![1, 512] inb_S1x2048_S1x512_0_1536).toLoadRect (harg5.unread x4))
    _ ((View.readAt (Elt Ideal) arg12.view (Rect.unit (s := S16x4096) ![0, 1536] S16x512.size inb_S16x4096_S16x512_0_1536).toLoadRect (harg12.unread xs0)), (View.readAt (Elt Ideal) arg12.view (Rect.unit (s := S16x4096) ![0, 3584] S16x512.size inb_S16x4096_S16x512_0_3584).toLoadRect (harg12.unread xs0))) (Scf.trips (0#32) (Scalar.addi 0#32 32#32) 1#32) (by decide) (row_load harg4 x3 1536 3 rfl (by omega) _) (row_load harg5 x4 1536 3 rfl (by omega) _) s3.2
    (carry_init (by omega) (fun b c _ => (m0 b c).trans (if_neg (by omega))) rfl rfl (inb := inb_S16x4096_S16x512_0_1536) (inb' := inb_S16x4096_S16x512_0_3584) rfl rfl)
  refine ⟨?_, ?_, ?_⟩
  · unfold sout0_C_0 kernelRun0_C
    dsimp only
    unfold kernelRun0_C.sl.HS0_8
    iterate 8 rw [View.read_writes_cons_put _ _ _ _ _ rfl]
    exact mid16_stVec (mid16_step (by omega) (mid16_step (by omega) (mid16_step (by omega) (mid16_step (by omega) (mid16_zero _) s1.1 rfl rfl (pay11_eq _) (pay12_eq _)) s2.1 rfl rfl (pay19_eq _) (pay20_eq _)) s3.1 rfl rfl (pay27_eq _) (pay28_eq _)) s4.1 rfl rfl (pay35_eq _) (pay36_eq _))
  · have e : kernelRun0_C.sl.v83 c i arg1 harg1 arg2 harg2 arg3 harg3 arg4 harg4 arg5 harg5 arg6 harg6 arg7 harg7 arg8 harg8 arg9 harg9 arg10 harg10 arg11 harg11 arg12 harg12 arg13 harg13 x0 x2 x3 x4 xs0 = hVec (rowN x3) (rowN x4) (blkN (k0_pay4 (F := Ideal) x0 x2)) (staN xs0) := held_hVec (C := kernelRun0_C.sl.v83 c i arg1 harg1 arg2 harg2 arg3 harg3 arg4 harg4 arg5 harg5 arg6 harg6 arg7 harg7 arg8 harg8 arg9 harg9 arg10 harg10 arg11 harg11 arg12 harg12 arg13 harg13 x0 x2 x3 x4 xs0) (by
      have h := s4.2
      unfold kernelRun0_C.sl.v83
      first | rw [View.readAt_full] | (unfold View.readCov; rw [View.readAt_full])
      exact h)
    unfold out0_C_9 kernelRun0_C
    dsimp only
    rw [View.read_writes_full, whole_load_w, whole_load_w]
    unfold kernelRun0_C.sl.r kernelRun0_C.sl.r_3 kernelRun0_C.sl.r_4
    rw [e, whole_load, whole_load_c, whole_load_d]
  · unfold out0_C_10 kernelRun0_C
    dsimp only
    rw [View.read_writes_full]
    unfold kernelRun0_C.sl.v121 View.readCov kernelRun0_C.sl.HS0_8
    rw [View.readAt_full]
    iterate 8 rw [View.read_writes_cons_put _ _ _ _ _ rfl]
    exact mid16_stVec (mid16_step (by omega) (mid16_step (by omega) (mid16_step (by omega) (mid16_step (by omega) (mid16_zero _) s1.1 rfl rfl (pay11_eq _) (pay12_eq _)) s2.1 rfl rfl (pay19_eq _) (pay20_eq _)) s3.1 rfl rfl (pay27_eq _) (pay28_eq _)) s4.1 rfl rfl (pay35_eq _) (pay36_eq _))

end Cert.KernelIdeal.Gen

end
-- ==== Proof.S5Blocks.lean ====
module

public import proofs.«01_k».proof.Proof.S5Cases
public import Idealize.ShloMosaic.Lib.Claim

/-! The whole run of the recurrence call: after `t + 1` grid points the state is the recurrence after `32 (t + 1)` steps, from
the arrays that the launch finds. -/

@[expose] public section

set_option maxRecDepth 16384

noncomputable section

namespace Cert.KernelIdeal.Gen

open Idealize.ShloMosaic Idealize.ShloMosaic.TcCoe Cert.KernelIdeal Cert.S5

variable (m : (ℓ : Loc nD τ sig) → Buf (Elt Ideal) ℓ)

theorem idx_at (t : Fin grid0.N) : (cfg0.win 0).index t = ![t.val, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] ∧ (cfg0.win 6).index t = ![0, 0]
    ∧ (cfg0.win 7).index t = ![0, 0] ∧ (cfg0.win 8).index t = ![0, 0] ∧ (cfg0.win 9).index t = ![t.val, 0] ∧ (cfg0.win 10).index t = ![0, 0] := by
  revert t
  decide +kernel

theorem blk0 (c : Dev nD) (t : Fin cfg0.N) (r d : Fin 512) :
    iblk m c 0 t (ix2 r d) = V m c main_v87 (ix2 ⟨t.val * 512 + r.val, by have : t.val < 128 := t.isLt; omega⟩ d) := by
  refine congrArg (V m c main_v87) (funext fun a => Fin.ext ?_)
  refine (Pipeline.Window.rect_emb_val (cfg0.win 0) t (ix2 r d) a rfl).trans ?_
  rw [(idx_at t).1]
  match a with
  | ⟨0, _⟩ => exact rfl
  | ⟨1, _⟩ => exact Nat.zero_add _

theorem blk1 (c : Dev nD) (t : Fin cfg0.N) : iblk m c 1 t = V m c main_v86 := by
  funext i
  refine congrArg (V m c main_v86) (funext fun a => Fin.ext ?_)
  refine (Pipeline.Window.rect_emb_val (cfg0.win 1) t i a rfl).trans ?_
  rw [(idx_at t).2.1]
  match a with
  | ⟨0, _⟩ => exact (congrArg (· + _) (Nat.zero_mul _)).trans (Nat.zero_add _)
  | ⟨1, _⟩ => exact (congrArg (· + _) (Nat.zero_mul _)).trans (Nat.zero_add _)

theorem blk2 (c : Dev nD) (t : Fin cfg0.N) : iblk m c 2 t = V m c main_v75 := by
  funext i
  refine congrArg (V m c main_v75) (funext fun a => Fin.ext ?_)
  refine (Pipeline.Window.rect_emb_val (cfg0.win 2) t i a rfl).trans ?_
  rw [(idx_at t).2.2.1]
  match a with
  | ⟨0, _⟩ => exact (congrArg (· + _) (Nat.zero_mul _)).trans (Nat.zero_add _)
  | ⟨1, _⟩ => exact (congrArg (· + _) (Nat.zero_mul _)).trans (Nat.zero_add _)

theorem blk3 (c : Dev nD) (t : Fin cfg0.N) : iblk m c 3 t = V m c main_v79 := by
  funext i
  refine congrArg (V m c main_v79) (funext fun a => Fin.ext ?_)
  refine (Pipeline.Window.rect_emb_val (cfg0.win 3) t i a rfl).trans ?_
  rw [(idx_at t).2.2.2.1]
  match a with
  | ⟨0, _⟩ => exact (congrArg (· + _) (Nat.zero_mul _)).trans (Nat.zero_add _)
  | ⟨1, _⟩ => exact (congrArg (· + _) (Nat.zero_mul _)).trans (Nat.zero_add _)

theorem blk4 (c : Dev nD) (t : Fin cfg0.N) : iblk m c 4 t = V m c main_v80 := by
  funext i
  refine congrArg (V m c main_v80) (funext fun a => Fin.ext ?_)
  refine (Pipeline.Window.rect_emb_val (cfg0.win 4) t i a rfl).trans ?_
  rw [(idx_at t).2.2.2.2.1]
  match a with
  | ⟨0, _⟩ => exact (congrArg (· + _) (Nat.zero_mul _)).trans (Nat.zero_add _)
  | ⟨1, _⟩ => exact (congrArg (· + _) (Nat.zero_mul _)).trans (Nat.zero_add _)

theorem blk5 (c : Dev nD) (t : Fin cfg0.N) : iblk m c 5 t = V m c main_v78 := by
  funext i
  refine congrArg (V m c main_v78) (funext fun a => Fin.ext ?_)
  refine (Pipeline.Window.rect_emb_val (cfg0.win 5) t i a rfl).trans ?_
  rw [(idx_at t).2.2.2.2.2.1]
  match a with
  | ⟨0, _⟩ => exact (congrArg (· + _) (Nat.zero_mul _)).trans (Nat.zero_add _)
  | ⟨1, _⟩ => exact (congrArg (· + _) (Nat.zero_mul _)).trans (Nat.zero_add _)

theorem blk6 (c : Dev nD) (t : Fin cfg0.N) : iblk m c 6 t = V m c main_v81 := by
  funext i
  refine congrArg (V m c main_v81) (funext fun a => Fin.ext ?_)
  refine (Pipeline.Window.rect_emb_val (cfg0.win 6) t i a rfl).trans ?_
  rw [(idx_at t).2.2.2.2.2.2.1]
  match a with
  | ⟨0, _⟩ => exact (congrArg (· + _) (Nat.zero_mul _)).trans (Nat.zero_add _)
  | ⟨1, _⟩ => exact (congrArg (· + _) (Nat.zero_mul _)).trans (Nat.zero_add _)

theorem blk7 (c : Dev nD) (t : Fin cfg0.N) : iblk m c 7 t = V m c main_v82 := by
  funext i
  refine congrArg (V m c main_v82) (funext fun a => Fin.ext ?_)
  refine (Pipeline.Window.rect_emb_val (cfg0.win 7) t i a rfl).trans ?_
  rw [(idx_at t).2.2.2.2.2.2.2.1]
  match a with
  | ⟨0, _⟩ => exact (congrArg (· + _) (Nat.zero_mul _)).trans (Nat.zero_add _)
  | ⟨1, _⟩ => exact (congrArg (· + _) (Nat.zero_mul _)).trans (Nat.zero_add _)

theorem blk8 (c : Dev nD) (t : Fin cfg0.N) : iblk m c 8 t = V m c main_v83 := by
  funext i
  refine congrArg (V m c main_v83) (funext fun a => Fin.ext ?_)
  refine (Pipeline.Window.rect_emb_val (cfg0.win 8) t i a rfl).trans ?_
  rw [(idx_at t).2.2.2.2.2.2.2.2.1]
  match a with
  | ⟨0, _⟩ => exact (congrArg (· + _) (Nat.zero_mul _)).trans (Nat.zero_add _)
  | ⟨1, _⟩ => exact (congrArg (· + _) (Nat.zero_mul _)).trans (Nat.zero_add _)

abbrev UA (c : Dev nD) : Vec Ideal S65536x512 .bf16 := V m c main_v87
abbrev HA (c : Dev nD) : Vec Ideal S16x4096 .f32 := V m c main_v86
abbrev BM (c : Dev nD) : Vec Ideal S512x4096 .bf16 := V m c main_v75
abbrev AR (c : Dev nD) : Vec Ideal S1x2048 .f32 := V m c main_v79
abbrev AI (c : Dev nD) : Vec Ideal S1x2048 .f32 := V m c main_v80
abbrev CM (c : Dev nD) : Vec Ideal S4096x512 .bf16 := V m c main_v78
abbrev DV (c : Dev nD) : Vec Ideal S1x512 .f32 := V m c main_v81
abbrev WA (c : Dev nD) : Vec Ideal S512x1024 .bf16 := V m c main_v82
abbrev WB (c : Dev nD) : Vec Ideal S512x1024 .bf16 := V m c main_v83

/-- The inputs of the recurrence, by row of time and batch and by column of state. -/
def GB (c : Dev nD) (R p : ℕ) : EReal := if h : R < 65536 ∧ p < 4096 then ∑ d : Fin 512, UA m c (ix2 ⟨R, h.1⟩ d) * BM m c (ix2 d ⟨p, h.2⟩) else 0

/-- The state of batch row `b`, column `p` after `n` steps. -/
def gs (c : Dev nD) (b p n : ℕ) : EReal × EReal :=
  lin (rowN (AR m c) p) (rowN (AI m c) p) (fun j => GB m c (16 * j + b) p) (fun j => GB m c (16 * j + b) (2048 + p))
    (staN (HA m c) b p) (staN (HA m c) b (2048 + p)) n

def gsVec (c : Dev nD) (n : ℕ) : Vec Ideal S16x4096 .f32 := fun i => part (fun p => gs m c (i 0).val p n) (i 1).val

/-- The block of states of point `t`. -/
def ghVec (c : Dev nD) (t : ℕ) : Vec Ideal S512x4096 .f32 :=
  fun i => part (fun p => gs m c ((i 0).val % 16) p (32 * t + ((i 0).val / 16 + 1))) (i 1).val

theorem pay4_at (x : Vec Ideal S512x512 .bf16) (y : Vec Ideal S512x4096 .bf16) (r : Fin 512) (p : Fin 4096) :
    k0_pay4 (F := Ideal) x y (ix2 r p) = ∑ d : Fin 512, x (ix2 r d) * y (ix2 d p) := by
  unfold k0_pay4 k0_pay3
  pointwise []

theorem bu_at (c : Dev nD) (t : Fin cfg0.N) (r p : ℕ) (hr : r < 512) (hp : p < 4096) :
    blkN (k0_pay4 (F := Ideal) (iblk m c 0 t) (iblk m c 2 t)) r p = GB m c (t.val * 512 + r) p := by
  have ht : t.val < 128 := t.isLt
  rw [blkN, dif_pos ⟨hr, hp⟩, GB, dif_pos ⟨by omega, hp⟩, blk2]
  refine (pay4_at _ _ _ _).trans (Finset.sum_congr rfl fun d _ => ?_)
  exact congrArg (· * _) (blk0 m c t ⟨r, hr⟩ d)

theorem part_congr {s s' : ℕ → EReal × EReal} {c : ℕ} (hc : c < 4096) (h : ∀ p < 2048, s p = s' p) : part s c = part s' c := by
  unfold part
  split_ifs with h'
  · rw [h _ h']
  · rw [h _ (by omega)]

/-- A point's own recurrence is the next stretch of the whole one. -/
theorem st_at (c : Dev nD) (t : Fin cfg0.N) (X : ℕ → ℕ → EReal) (b p k : ℕ) (hb : b < 16) (hp : p < 2048) (hk : k ≤ 32)
    (hX : ∀ q < 4096, X b q = part (fun p => gs m c b p (32 * t.val)) q) :
    st (rowN (iblk m c 3 t)) (rowN (iblk m c 4 t)) (blkN (k0_pay4 (F := Ideal) (iblk m c 0 t) (iblk m c 2 t))) X b p k = gs m c b p (32 * t.val + k) := by
  unfold gs
  rw [← lin_add]
  unfold st
  refine lin_congr k (by rw [blk3]) (by rw [blk4]) (fun j hj => ?_) (fun j hj => ?_) ?_ ?_
  · rw [bu_at m c t _ _ (by omega) (by omega)]
    congr 1; omega
  · rw [bu_at m c t _ _ (by omega) (by omega)]
    congr 1; omega
  · rw [hX p (by omega), part, if_pos hp]; rfl
  · rw [hX _ (by omega), part, if_neg (by omega), Nat.add_sub_cancel_left]; rfl

theorem stVec_at (c : Dev nD) (t : Fin cfg0.N) (X : ℕ → ℕ → EReal)
    (hX : ∀ b < 16, ∀ q < 4096, X b q = part (fun p => gs m c b p (32 * t.val)) q) :
    stVec (rowN (iblk m c 3 t)) (rowN (iblk m c 4 t)) (blkN (k0_pay4 (F := Ideal) (iblk m c 0 t) (iblk m c 2 t))) X = gsVec m c (32 * t.val + 32) := by
  funext i
  exact part_congr (i 1).isLt fun p hp => st_at m c t X _ p 32 (i 0).isLt hp le_rfl (hX _ (i 0).isLt)

theorem hVec_at (c : Dev nD) (t : Fin cfg0.N) (X : ℕ → ℕ → EReal)
    (hX : ∀ b < 16, ∀ q < 4096, X b q = part (fun p => gs m c b p (32 * t.val)) q) :
    hVec (rowN (iblk m c 3 t)) (rowN (iblk m c 4 t)) (blkN (k0_pay4 (F := Ideal) (iblk m c 0 t) (iblk m c 2 t))) X = ghVec m c t.val := by
  funext i
  have h0 : (i 0).val < 512 := (i 0).isLt
  exact part_congr (i 1).isLt fun p hp => st_at m c t X _ p _ (by omega) hp (by omega) (hX _ (by omega))

theorem start_at (c : Dev nD) (t : Fin cfg0.N) (h0 : t.val = 0) (b : ℕ) (q : ℕ) (hq : q < 4096) :
    staN (iblk m c 1 t) b q = part (fun p => gs m c b p (32 * t.val)) q := by
  rw [blk1, h0]
  unfold part gs
  split_ifs with h
  · rfl
  · show _ = staN _ b (2048 + (q - 2048))
    congr 1; omega

theorem next_at (c : Dev nD) (n : ℕ) (b : ℕ) (hb : b < 16) (q : ℕ) (hq : q < 4096) :
    staN (gsVec m c n) b q = part (fun p => gs m c b p n) q := by
  rw [staN, dif_pos ⟨hb, hq⟩]
  rfl

/-- What a point stores of its block, and the state it leaves. -/
def blockOut (c : Dev nD) (t : Fin cfg0.N) : Vec Ideal S512x1024 .bf16 :=
  k0_pay1 (k0_pay3 (iblk m c 0 t)) (k0_pay37 (ghVec m c t.val) (iblk m c 5 t)) (iblk m c 6 t) (iblk m c 7 t) (iblk m c 8 t)

theorem pick {α β γ : Type} {o : α × β × γ} {a a' : α} {b : β} {s s' : γ} (h : o = (a, b, s)) (ha : a = a') (hs : s = s') : o.2.2 = s' ∧ o.1 = a' := by
  subst h; exact ⟨hs, ha⟩

theorem pick' {α β γ : Type} {o : α × β × γ} {a a' : α} {b b' : β} {s s' : γ} (h : o = (a, b, s)) (ha : a = a') (hb : b = b') (hs : s = s') :
    o.2.2 = s' ∧ o.1 = a' ∧ o.2.1 = b' := by
  subst h; exact ⟨hs, ha, hb⟩

theorem block_congr (c : Dev nD) (t : Fin cfg0.N) {H : Vec Ideal S512x4096 .f32} (h : H = ghVec m c t.val) :
    k0_pay1 (F := Ideal) (k0_pay3 (iblk m c 0 t)) (k0_pay37 H (iblk m c 5 t)) (iblk m c 6 t) (iblk m c 7 t) (iblk m c 8 t) = blockOut m c t := by
  subst h; rfl

theorem outA (c : Dev nD) (t : Fin cfg0.N) (h0 : t.val % 128 = 0) (h1 : ¬t.val % 128 = 127)
    (hX : ∀ b < 16, ∀ q < 4096, staN (iblk m c 1 t) b q = part (fun p => gs m c b p (32 * t.val)) q) :
    (outsAt0 m c t.val t.isLt).2.2 = gsVec m c (32 * t.val + 32) ∧ (outsAt0 m c t.val t.isLt).1 = blockOut m c t := by
  have hc := caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  exact pick (outsAt0_A m c t h0 h1) (hc.2.trans (block_congr m c t (hVec_at m c t _ hX))) (hc.1.trans (stVec_at m c t _ hX))

theorem outB (c : Dev nD) (t : Fin cfg0.N) (h0 : ¬t.val % 128 = 0) (h1 : ¬t.val % 128 = 127)
    (hX : ∀ b < 16, ∀ q < 4096, staN (outsAt0 m c (t.val - 1) (Nat.lt_of_le_of_lt (Nat.sub_le _ _) t.isLt)).2.2 b q = part (fun p => gs m c b p (32 * t.val)) q) :
    (outsAt0 m c t.val t.isLt).2.2 = gsVec m c (32 * t.val + 32) ∧ (outsAt0 m c t.val t.isLt).1 = blockOut m c t := by
  have hc := caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2
  exact pick (outsAt0_B m c t h0 h1) (hc.2.trans (block_congr m c t (hVec_at m c t _ hX))) (hc.1.trans (stVec_at m c t _ hX))

theorem outC (c : Dev nD) (t : Fin cfg0.N) (h0 : ¬t.val % 128 = 0) (h1 : t.val % 128 = 127)
    (hX : ∀ b < 16, ∀ q < 4096, staN (outsAt0 m c (t.val - 1) (Nat.lt_of_le_of_lt (Nat.sub_le _ _) t.isLt)).2.2 b q = part (fun p => gs m c b p (32 * t.val)) q) :
    (outsAt0 m c t.val t.isLt).2.2 = gsVec m c (32 * t.val + 32) ∧ (outsAt0 m c t.val t.isLt).1 = blockOut m c t ∧ (outsAt0 m c t.val t.isLt).2.1 = gsVec m c (32 * t.val + 32) := by
  have hc := caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2
  exact pick' (outsAt0_C m c t h0 h1) (hc.2.1.trans (block_congr m c t (hVec_at m c t _ hX))) (hc.2.2.trans (stVec_at m c t _ hX)) (hc.1.trans (stVec_at m c t _ hX))

theorem outs_at (c : Dev nD) : ∀ (n : ℕ) (hn : n < cfg0.N),
    (outsAt0 m c n hn).2.2 = gsVec m c (32 * n + 32) ∧ (outsAt0 m c n hn).1 = blockOut m c ⟨n, hn⟩
      ∧ (n = 127 → (outsAt0 m c n hn).2.1 = gsVec m c (32 * n + 32))
  | 0, hn => by
    have h := outA m c ⟨0, hn⟩ (Nat.zero_mod _) (by rw [Nat.zero_mod]; decide) fun b _ q hq => start_at m c ⟨0, hn⟩ rfl b q hq
    exact ⟨h.1, h.2, fun h0 => absurd h0 (by decide)⟩
  | n + 1, hn => by
    have hN : n + 1 < 128 := hn
    obtain ⟨hprev, -, -⟩ := outs_at c n (Nat.lt_of_succ_lt hn)
    have hX : ∀ b < 16, ∀ q < 4096, staN (outsAt0 m c n (Nat.lt_of_succ_lt hn)).2.2 b q = part (fun p => gs m c b p (32 * (n + 1))) q := by
      intro b hb q hq
      rw [hprev]
      exact next_at m c (32 * n + 32) b hb q hq
    by_cases hl : n + 1 = 127
    · have h := outC m c ⟨n + 1, hn⟩ (show ¬(n + 1) % 128 = 0 by omega) (show (n + 1) % 128 = 127 by omega) hX
      exact ⟨h.1, h.2.1, fun _ => h.2.2⟩
    · have h := outB m c ⟨n + 1, hn⟩ (show ¬(n + 1) % 128 = 0 by omega) (show ¬(n + 1) % 128 = 127 by omega) hX
      exact ⟨h.1, h.2, fun h0 => absurd h0 hl⟩

end Cert.KernelIdeal.Gen

end
-- ==== Proof.S5Ref.lean ====
module

public import proofs.«01_k».proof.Proof.S5Math
public import proofs.«01_k».proof.Proof.Gen.ReferenceIdeal
public import proofs.«01_k».proof.Proof.Gen.ReferenceIdeal.Step
public import Idealize.ShloMosaic.Lib.Claim
public import Idealize.ShloMosaic.Lib.Pipeline.ValueKit

/-! The reference's loop: after `n` trips its two carried arrays hold the recurrence after `n` steps, and its two stacked
arrays hold the states of the first `n` steps. -/

@[expose] public section

set_option maxRecDepth 16384

noncomputable section

namespace Cert.ReferenceIdeal.Step

open Idealize.ShloMosaic Cert.ReferenceIdeal Cert.ReferenceIdeal.Gen Cert.S5

/-- The starts of trip `j`: the trip's own number in time and nought elsewhere. -/
structure At (j : ℕ) (f : Fin 4 → Int) : Prop where
  t : f 0 = j
  b : f 1 = 0
  g : f 2 = 0
  p : f 3 = 0

theorem start_at (j : ℕ) (hj : j < 4096) : (BitVec.ofNat 32 j).toInt = j := by
  rw [BitVec.toInt_eq_toNat_of_lt (by rw [BitVec.toNat_ofNat]; omega), BitVec.toNat_ofNat]
  omega

theorem clamp_at (ht : S1x16x32x64.rank = S4096x16x32x64.rank) (j : ℕ) (hj : j < 4096) (f : Fin 4 → Int) (h : At j f) :
    Host.clampedStart S4096x16x32x64 S1x16x32x64 ht f 0 = j ∧ Host.clampedStart S4096x16x32x64 S1x16x32x64 ht f 1 = 0
      ∧ Host.clampedStart S4096x16x32x64 S1x16x32x64 ht f 2 = 0 ∧ Host.clampedStart S4096x16x32x64 S1x16x32x64 ht f 3 = 0 :=
  ⟨Host.clampedStart_of_le ht f 0 j h.t (show j + 1 ≤ 4096 by omega), Host.clampedStart_of_le ht f 1 0 h.b (show 0 + 16 ≤ 16 by omega),
    Host.clampedStart_of_le ht f 2 0 h.g (show 0 + 32 ≤ 32 by omega), Host.clampedStart_of_le ht f 3 0 h.p (show 0 + 64 ≤ 64 by omega)⟩

theorem slice_at (x : Vec Ideal S4096x16x32x64 .f32) (f : Fin 4 → Int) (hs : S4096x16x32x64.Slices (fun _ => 0) S1x16x32x64) (j : ℕ) (hj : j < 4096) (h : At j f)
    (b : Fin 16) (g : Fin 32) (p : Fin 64) : Host.dynamicSlice S1x16x32x64 x f hs (ix4 0 b g p) = x (ix4 ⟨j, hj⟩ b g p) := by
  obtain ⟨h0, h1, h2, h3⟩ := clamp_at hs.1 j hj f h
  refine congrArg x (funext fun a => Fin.ext ?_)
  match a with
  | ⟨0, _⟩ => exact (congrArg (· + 0) h0)
  | ⟨1, _⟩ => exact (congrArg (· + b.val) h1).trans (Nat.zero_add _)
  | ⟨2, _⟩ => exact (congrArg (· + g.val) h2).trans (Nat.zero_add _)
  | ⟨3, _⟩ => exact (congrArg (· + p.val) h3).trans (Nat.zero_add _)

theorem update_at (x : Vec Ideal S4096x16x32x64 .f32) (y : Vec Ideal S1x16x32x64 .f32) (f : Fin 4 → Int) (hs : S4096x16x32x64.Slices (fun _ => 0) S1x16x32x64)
    (j : ℕ) (hj : j < 4096) (h : At j f) (t : Fin 4096) (b : Fin 16) (g : Fin 32) (p : Fin 64) :
    Host.dynamicUpdateSlice x y f hs (ix4 t b g p) = if t.val = j then y (ix4 0 b g p) else x (ix4 t b g p) := by
  obtain ⟨h0, h1, h2, h3⟩ := clamp_at hs.1 j hj f h
  rw [Host.dynamicUpdateSlice_apply]
  by_cases e : t.val = j
  · rw [if_pos e, dif_pos ?_]
    · refine congrArg y (funext fun a => Fin.ext ?_)
      match a with
      | ⟨0, _⟩ => exact (congrArg (t.val - ·) h0).trans (by rw [e]; exact Nat.sub_self _)
      | ⟨1, _⟩ => exact (congrArg (b.val - ·) h1)
      | ⟨2, _⟩ => exact (congrArg (g.val - ·) h2)
      | ⟨3, _⟩ => exact (congrArg (p.val - ·) h3)
    · intro a
      match a with
      | ⟨0, _⟩ => exact ⟨h0.le.trans e.ge, lt_of_eq_of_lt e (lt_of_lt_of_eq (Nat.lt_succ_self j) (congrArg (· + 1) h0.symm))⟩
      | ⟨1, _⟩ => exact ⟨h1.le.trans (Nat.zero_le _), lt_of_lt_of_eq b.isLt ((Nat.zero_add 16).symm.trans (congrArg (· + 16) h1.symm))⟩
      | ⟨2, _⟩ => exact ⟨h2.le.trans (Nat.zero_le _), lt_of_lt_of_eq g.isLt ((Nat.zero_add 32).symm.trans (congrArg (· + 32) h2.symm))⟩
      | ⟨3, _⟩ => exact ⟨h3.le.trans (Nat.zero_le _), lt_of_lt_of_eq p.isLt ((Nat.zero_add 64).symm.trans (congrArg (· + 64) h3.symm))⟩
  · rw [if_neg e, dif_neg ?_]
    intro hin
    have h' := hin 0
    have ha : j ≤ t.val := h0.symm.le.trans h'.1
    have hb : t.val < j + 1 := lt_of_lt_of_eq h'.2 (congrArg (· + 1) h0)
    omega

theorem b4_at (j : ℕ) (hj : j < 4096) (s : State Ideal) (b : Fin 16) (g : Fin 32) (p : Fin 64) :
    b4 j s (ix3 b g p) = s.main_v50_0 (ix4 ⟨j, hj⟩ b g p) := by
  have e : b4 j s (ix3 b g p) = b3 j s (ix4 0 b g p) := by
    unfold b4
    pointwise []
  refine e.trans ?_
  unfold b3
  exact slice_at _ _ _ j hj ⟨start_at j hj, rfl, rfl, rfl⟩ b g p

theorem b9_at (j : ℕ) (hj : j < 4096) (s : State Ideal) (b : Fin 16) (g : Fin 32) (p : Fin 64) :
    b9 j s (ix3 b g p) = s.main_v50_1 (ix4 ⟨j, hj⟩ b g p) := by
  have e : b9 j s (ix3 b g p) = b8 j s (ix4 0 b g p) := by
    unfold b9
    pointwise []
  refine e.trans ?_
  unfold b8
  exact slice_at _ _ _ j hj ⟨start_at j hj, rfl, rfl, rfl⟩ b g p

theorem b17_at (j : ℕ) (hj : j < 4096) (s : State Ideal) (b : Fin 16) (g : Fin 32) (p : Fin 64) :
    b17 j s (ix3 b g p) = s.main_v50_2 (ix2 g p) * s.main_v50_5 (ix3 b g p) - s.main_v50_3 (ix2 g p) * s.main_v50_6 (ix3 b g p)
      + s.main_v50_0 (ix4 ⟨j, hj⟩ b g p) := by
  rw [← b4_at j hj s b g p]
  pointwise [b17, b16, b15, b14, b13, b12, b11, b10]

theorem b25_at (j : ℕ) (hj : j < 4096) (s : State Ideal) (b : Fin 16) (g : Fin 32) (p : Fin 64) :
    b25 j s (ix3 b g p) = s.main_v50_2 (ix2 g p) * s.main_v50_6 (ix3 b g p) + s.main_v50_3 (ix2 g p) * s.main_v50_5 (ix3 b g p)
      + s.main_v50_1 (ix4 ⟨j, hj⟩ b g p) := by
  rw [← b9_at j hj s b g p]
  pointwise [b25, b24, b23, b22, b21, b20, b19, b18]

theorem b30_at (j : ℕ) (hj : j < 4096) (s : State Ideal) (t : Fin 4096) (b : Fin 16) (g : Fin 32) (p : Fin 64) :
    b30 j s (ix4 t b g p) = if t.val = j then b17 j s (ix3 b g p) else s.main_v50_7 (ix4 t b g p) := by
  unfold b30
  refine (update_at _ _ _ _ j hj ⟨start_at j hj, rfl, rfl, rfl⟩ t b g p).trans ?_
  refine if_congr Iff.rfl ?_ rfl
  unfold b26
  pointwise []

theorem b35_at (j : ℕ) (hj : j < 4096) (s : State Ideal) (t : Fin 4096) (b : Fin 16) (g : Fin 32) (p : Fin 64) :
    b35 j s (ix4 t b g p) = if t.val = j then b25 j s (ix3 b g p) else s.main_v50_8 (ix4 t b g p) := by
  unfold b35
  refine (update_at _ _ _ _ j hj ⟨start_at j hj, rfl, rfl, rfl⟩ t b g p).trans ?_
  refine if_congr Iff.rfl ?_ rfl
  unfold b31
  pointwise []

/-- An array over time, at a step. -/
def row (x : Vec Ideal S4096x16x32x64 .f32) (b : Fin 16) (g : Fin 32) (p : Fin 64) (n : ℕ) : EReal :=
  if h : n < 4096 then x (ix4 ⟨n, h⟩ b g p) else 0

theorem row_lt (x : Vec Ideal S4096x16x32x64 .f32) (b : Fin 16) (g : Fin 32) (p : Fin 64) {n : ℕ} (h : n < 4096) :
    row x b g p n = x (ix4 ⟨n, h⟩ b g p) := dif_pos h

/-- The recurrence from the loop's first state. -/
def rs (s : State Ideal) (b : Fin 16) (g : Fin 32) (p : Fin 64) (n : ℕ) : EReal × EReal :=
  lin (s.main_v50_2 (ix2 g p)) (s.main_v50_3 (ix2 g p)) (row s.main_v50_0 b g p) (row s.main_v50_1 b g p)
    (s.main_v50_5 (ix3 b g p)) (s.main_v50_6 (ix3 b g p)) n

def iter (s : State Ideal) : ℕ → State Ideal
  | 0 => s
  | n + 1 => step n (iter s n)

theorem iter_const (s : State Ideal) : ∀ n, (iter s n).main_v50_0 = s.main_v50_0 ∧ (iter s n).main_v50_1 = s.main_v50_1
    ∧ (iter s n).main_v50_2 = s.main_v50_2 ∧ (iter s n).main_v50_3 = s.main_v50_3
  | 0 => ⟨rfl, rfl, rfl, rfl⟩
  | n + 1 => iter_const s n

theorem iter_at (s : State Ideal) (b : Fin 16) (g : Fin 32) (p : Fin 64) : ∀ n ≤ 4096,
    (iter s n).main_v50_5 (ix3 b g p) = (rs s b g p n).1 ∧ (iter s n).main_v50_6 (ix3 b g p) = (rs s b g p n).2
      ∧ (∀ t : Fin 4096, t.val < n → (iter s n).main_v50_7 (ix4 t b g p) = (rs s b g p (t.val + 1)).1)
      ∧ (∀ t : Fin 4096, t.val < n → (iter s n).main_v50_8 (ix4 t b g p) = (rs s b g p (t.val + 1)).2)
  | 0, _ => ⟨rfl, rfl, fun t ht => absurd ht (Nat.not_lt_zero _), fun t ht => absurd ht (Nat.not_lt_zero _)⟩
  | n + 1, hn => by
    obtain ⟨h5, h6, h7, h8⟩ := iter_at s b g p n (by omega)
    obtain ⟨e0, e1, e2, e3⟩ := iter_const s n
    have hj : n < 4096 := hn
    have a5 : b17 n (iter s n) (ix3 b g p) = (rs s b g p (n + 1)).1 := by
      rw [b17_at n hj, h5, h6, e0, e2, e3]
      rw [← row_lt s.main_v50_0 b g p hj]
      rfl
    have a6 : b25 n (iter s n) (ix3 b g p) = (rs s b g p (n + 1)).2 := by
      rw [b25_at n hj, h5, h6, e1, e2, e3]
      rw [← row_lt s.main_v50_1 b g p hj]
      rfl
    refine ⟨a5, a6, fun t ht => ?_, fun t ht => ?_⟩
    · refine (b30_at n hj _ t b g p).trans ?_
      split_ifs with h
      · rw [h]; exact a5
      · exact h7 t (by omega)
    · refine (b35_at n hj _ t b g p).trans ?_
      split_ifs with h
      · rw [h]; exact a6
      · exact h8 t (by omega)

end Cert.ReferenceIdeal.Step

end
-- ==== Proof.S5Host.lean ====
module

public import proofs.«01_k».proof.Proof.S5Blocks
public import proofs.«01_k».proof.Proof.S5Ref

/-! The arrays that the launch finds, as functions of the arguments. -/

@[expose] public section

set_option maxRecDepth 16384

noncomputable section

namespace Cert.KernelIdeal.Gen

open Idealize.ShloMosaic Idealize.ShloMosaic.TcCoe Cert.KernelIdeal Cert.S5

def eye32 : Vec Ideal S32x32 .f32 :=
  uitofp (F := Ideal) .f32 (cmpi .eq (addi (iotaInDim S32x32 32 0) (broadcastInDim S32x32 ![] bcast_S_S32x32 (constantI S_ 32 0#32))) (iotaInDim S32x32 32 1))

theorem eye_word : ∀ g h : Fin 32, IntOp.cmpi CmpIPredicate.eq (IntOp.addi (BitVec.ofNat 32 g.val) 0#32) (BitVec.ofNat 32 h.val) = if g = h then 1#1 else 0#1 := by
  decide +kernel

theorem eye_at (g h : Fin 32) : eye32 (ix2 g h) = if g = h then 1 else 0 := by
  pointwise [eye32, id]
  rw [eye_word g h]
  by_cases e : g = h
  · rw [if_pos e, if_pos e]
    show (((1#1).toNat : ℝ) : EReal) = 1
    simp
  · rw [if_neg e, if_neg e]
    show (((0#1).toNat : ℝ) : EReal) = 0
    simp

def bHalf (x : Vec Ideal S32x64x16 .f32) : Vec Ideal S512x2048 .f32 :=
  shapeCast S512x2048 (mulf (F := Ideal) (φ := .f32) (broadcastInDim S32x16x32x64 ![0, 1, 2, 3] bcast_S32x16x1x64_S32x16x32x64_0_1_2_3 (broadcastInDim S32x16x1x64 ![0, 1, 3] bcast_S32x16x64_S32x16x1x64_0_1_3 (transpose S32x16x64 [0, 2, 1] x transposes_S32x64x16_S32x16x64_0_2_1)))
    (broadcastInDim S32x16x32x64 ![0, 1, 2, 3] bcast_S32x1x32x1_S32x16x32x64_0_1_2_3 (broadcastInDim S32x1x32x1 ![0, 2] bcast_S32x32_S32x1x32x1_0_2 eye32))) shapeCasts_S32x16x32x64_S512x2048

def cHalf (x : Vec Ideal S32x16x64 .f32) : Vec Ideal S2048x512 .f32 :=
  shapeCast S2048x512 (mulf (F := Ideal) (φ := .f32) (broadcastInDim S32x64x32x16 ![0, 1, 2, 3] bcast_S32x64x1x16_S32x64x32x16_0_1_2_3 (broadcastInDim S32x64x1x16 ![0, 1, 3] bcast_S32x64x16_S32x64x1x16_0_1_3 (transpose S32x64x16 [0, 2, 1] x transposes_S32x16x64_S32x64x16_0_2_1)))
    (broadcastInDim S32x64x32x16 ![0, 1, 2, 3] bcast_S32x1x32x1_S32x64x32x16_0_1_2_3 (broadcastInDim S32x1x32x1 ![0, 2] bcast_S32x32_S32x1x32x1_0_2 eye32))) shapeCasts_S32x64x32x16_S2048x512

def bMat (x y : Vec Ideal S32x64x16 .f32) : Vec Ideal S512x4096 .bf16 :=
  truncf (F := Ideal) .bf16 (concatenate S512x4096 1 [⟨S512x2048, bHalf x⟩, ⟨S512x2048, bHalf y⟩] concatenates_S512x2048_S512x2048_S512x4096_d1) bitsLt_bf16_f32

def cMat (x y : Vec Ideal S32x16x64 .f32) : Vec Ideal S4096x512 .bf16 :=
  truncf (F := Ideal) .bf16 (concatenate S4096x512 0 [⟨S2048x512, cHalf x⟩, ⟨S2048x512, Host.negf (F := Ideal) (cHalf y)⟩] concatenates_S2048x512_S2048x512_S4096x512_d0) bitsLt_bf16_f32

theorem bHalf_at (x : Vec Ideal S32x64x16 .f32) (d : Fin 512) (p : Fin 2048) :
    bHalf x (ix2 d p) = x (ix3 ⟨d.val / 16, by omega⟩ ⟨p.val % 64, by omega⟩ ⟨d.val % 16, by omega⟩) * eye32 (ix2 ⟨d.val / 16, by omega⟩ ⟨p.val / 64, by omega⟩) := by
  pointwise [bHalf]

theorem cHalf_at (x : Vec Ideal S32x16x64 .f32) (q : Fin 2048) (d : Fin 512) :
    cHalf x (ix2 q d) = x (ix3 ⟨q.val / 64, by omega⟩ ⟨d.val % 16, by omega⟩ ⟨q.val % 64, by omega⟩) * eye32 (ix2 ⟨q.val / 64, by omega⟩ ⟨d.val / 16, by omega⟩) := by
  pointwise [cHalf]

theorem bMat_at (x y : Vec Ideal S32x64x16 .f32) (d : Fin 512) (p : Fin 4096) :
    bMat x y (ix2 d p) = if h : p.val < 2048 then bHalf x (ix2 d ⟨p.val, h⟩) else bHalf y (ix2 d ⟨p.val - 2048, by omega⟩) := by
  pointwise [bMat]

theorem cMat_at (x y : Vec Ideal S32x16x64 .f32) (q : Fin 4096) (d : Fin 512) :
    cMat x y (ix2 q d) = if h : q.val < 2048 then cHalf x (ix2 ⟨q.val, h⟩ d) else - cHalf y (ix2 ⟨q.val - 2048, by omega⟩ d) := by
  pointwise [cMat]

variable (m : (ℓ : Loc nD τ sig) → Buf (Elt Ideal) ℓ)

abbrev arg0 (c : Dev nD) : Vec Ideal S4096x8192 .bf16 := m ((c.tc : Thread nD τ).loc main_arg0)
abbrev arg1 (c : Dev nD) : Vec Ideal S16x32x64 .f32 := m ((c.tc : Thread nD τ).loc main_arg1)
abbrev arg2 (c : Dev nD) : Vec Ideal S16x32x64 .f32 := m ((c.tc : Thread nD τ).loc main_arg2)
abbrev arg3 (c : Dev nD) : Vec Ideal S32x64 .f32 := m ((c.tc : Thread nD τ).loc main_arg3)
abbrev arg4 (c : Dev nD) : Vec Ideal S32x64 .f32 := m ((c.tc : Thread nD τ).loc main_arg4)
abbrev arg5 (c : Dev nD) : Vec Ideal S32 .f32 := m ((c.tc : Thread nD τ).loc main_arg5)
abbrev arg6 (c : Dev nD) : Vec Ideal S32x64x16 .f32 := m ((c.tc : Thread nD τ).loc main_arg6)
abbrev arg7 (c : Dev nD) : Vec Ideal S32x64x16 .f32 := m ((c.tc : Thread nD τ).loc main_arg7)
abbrev arg8 (c : Dev nD) : Vec Ideal S32x16x64 .f32 := m ((c.tc : Thread nD τ).loc main_arg8)
abbrev arg9 (c : Dev nD) : Vec Ideal S32x16x64 .f32 := m ((c.tc : Thread nD τ).loc main_arg9)
abbrev arg10 (c : Dev nD) : Vec Ideal S512 .f32 := m ((c.tc : Thread nD τ).loc main_arg10)
abbrev arg11 (c : Dev nD) : Vec Ideal S512x1024 .f32 := m ((c.tc : Thread nD τ).loc main_arg11)
abbrev arg12 (c : Dev nD) : Vec Ideal S512x1024 .f32 := m ((c.tc : Thread nD τ).loc main_arg12)

abbrev aRe (c : Dev nD) : Vec Ideal S32x64 .f32 := Cert.ReferenceIdeal.Step.A_main_v8 (F := Ideal) (arg0 m c) (arg3 m c) (arg4 m c) (arg5 m c) (arg6 m c) (arg7 m c)
abbrev aIm (c : Dev nD) : Vec Ideal S32x64 .f32 := Cert.ReferenceIdeal.Step.A_main_v12 (F := Ideal) (arg0 m c) (arg3 m c) (arg4 m c) (arg5 m c) (arg6 m c) (arg7 m c)
abbrev bRe (c : Dev nD) : Vec Ideal S32x64x16 .f32 := Cert.ReferenceIdeal.Step.A_main_v34 (F := Ideal) (arg0 m c) (arg3 m c) (arg4 m c) (arg5 m c) (arg6 m c) (arg7 m c)
abbrev bIm (c : Dev nD) : Vec Ideal S32x64x16 .f32 := Cert.ReferenceIdeal.Step.A_main_v41 (F := Ideal) (arg0 m c) (arg3 m c) (arg4 m c) (arg5 m c) (arg6 m c) (arg7 m c)

theorem AR_eq (c : Dev nD) : AR m c = shapeCast S1x2048 (aRe m c) shapeCasts_S32x64_S1x2048 := by
  unfold AR
  entry_read
  rfl

theorem AI_eq (c : Dev nD) : AI m c = shapeCast S1x2048 (aIm m c) shapeCasts_S32x64_S1x2048 := by
  unfold AI
  entry_read
  rfl

theorem BM_eq (c : Dev nD) : BM m c = bMat (bRe m c) (bIm m c) := by
  unfold BM
  entry_read
  rfl

theorem CM_eq (c : Dev nD) : CM m c = cMat (arg8 m c) (arg9 m c) := by
  unfold CM
  entry_read
  rfl

theorem HA_eq (c : Dev nD) : HA m c = concatenate S16x4096 1 [⟨S16x2048, shapeCast S16x2048 (arg1 m c) shapeCasts_S16x32x64_S16x2048⟩, ⟨S16x2048, shapeCast S16x2048 (arg2 m c) shapeCasts_S16x32x64_S16x2048⟩] concatenates_S16x2048_S16x2048_S16x4096_d1 := by
  unfold HA
  entry_read
  rfl

theorem UA_eq (c : Dev nD) : UA m c = shapeCast S65536x512 (arg0 m c) shapeCasts_S4096x8192_S65536x512 := by
  unfold UA
  entry_read
  rfl

theorem DV_eq (c : Dev nD) : DV m c = shapeCast S1x512 (arg10 m c) shapeCasts_S512_S1x512 := by
  unfold DV
  entry_read
  rfl

theorem WA_eq (c : Dev nD) : WA m c = truncf (F := Ideal) .bf16 (arg11 m c) bitsLt_bf16_f32 := by
  unfold WA
  entry_read
  rfl

theorem WB_eq (c : Dev nD) : WB m c = truncf (F := Ideal) .bf16 (arg12 m c) bitsLt_bf16_f32 := by
  unfold WB
  entry_read
  rfl

end Cert.KernelIdeal.Gen

end
-- ==== Proof.S5Sums.lean ====
module

public import proofs.«01_k».proof.Proof.S5Host

/-! The kernel's products with its block-diagonal matrices are the reference's products group by group, and so its recurrence is
the reference's. -/

@[expose] public section

set_option maxRecDepth 16384

noncomputable section

namespace Cert.KernelIdeal.Gen

open Idealize.ShloMosaic Idealize.ShloMosaic.TcCoe Cert.KernelIdeal Cert.S5

/-- A sum of which only the tile `g` is not nought. -/
theorem sum_tile (J T : ℕ) {N : ℕ} (hN : N = J * T) (f : Fin N → EReal) (g : Fin J) (x : Fin T → EReal)
    (h1 : ∀ (k : Fin N) (j : Fin T), k.val = g.val * T + j.val → f k = x j) (h0 : ∀ k : Fin N, k.val / T ≠ g.val → f k = 0) :
    ∑ k, f k = ∑ j, x j := by
  subst hN
  rw [Fin.sum_univ_tiles J T rfl f, Finset.sum_eq_single g]
  · exact Finset.sum_congr rfl fun j _ => h1 _ j rfl
  · intro k _ hk
    refine Finset.sum_eq_zero fun j _ => h0 _ fun e => hk (Fin.ext ?_)
    have ht : 0 < T := lt_of_le_of_lt (Nat.zero_le _) j.isLt
    refine Eq.trans ?_ e
    show k.val = (k.val * T + j.val) / T
    rw [Nat.mul_comm, Nat.mul_add_div ht, Nat.div_eq_of_lt j.isLt, Nat.add_zero]
  · exact fun h => absurd (Finset.mem_univ g) h

theorem ix_div (g : Fin 32) (a T : ℕ) (h : a / T = g.val) {hh : a / T < 32} : (⟨a / T, hh⟩ : Fin 32) = g := Fin.ext h

theorem bHalf_on (x : Vec Ideal S32x64x16 .f32) (g : Fin 32) (n : Fin 64) (j : Fin 16) (d : Fin 512) (p : Fin 2048) (hd : d.val = g.val * 16 + j.val)
    (hp : p.val = 64 * g.val + n.val) : bHalf x (ix2 d p) = x (ix3 g n j) := by
  rw [bHalf_at, eye_at, if_pos (Fin.ext (by simp only; omega)), mul_one]
  congr 1
  exact congr (congr (congrArg ix3 (Fin.ext (by simp only; omega))) (Fin.ext (by simp only; omega))) (Fin.ext (by simp only; omega))

theorem bHalf_off (x : Vec Ideal S32x64x16 .f32) (g : Fin 32) (n : Fin 64) (d : Fin 512) (p : Fin 2048) (hd : d.val / 16 ≠ g.val)
    (hp : p.val = 64 * g.val + n.val) : bHalf x (ix2 d p) = 0 := by
  rw [bHalf_at, eye_at, if_neg (fun e => hd ?_), mul_zero]
  have := congrArg Fin.val e
  simp only at this
  omega

theorem cHalf_on (x : Vec Ideal S32x16x64 .f32) (g : Fin 32) (n : Fin 64) (j : Fin 16) (d : Fin 512) (p : Fin 2048) (hd : d.val = 16 * g.val + j.val)
    (hp : p.val = g.val * 64 + n.val) : cHalf x (ix2 p d) = x (ix3 g j n) := by
  rw [cHalf_at, eye_at, if_pos (Fin.ext (by simp only; omega)), mul_one]
  congr 1
  exact congr (congr (congrArg ix3 (Fin.ext (by simp only; omega))) (Fin.ext (by simp only; omega))) (Fin.ext (by simp only; omega))

theorem cHalf_off (x : Vec Ideal S32x16x64 .f32) (g : Fin 32) (j : Fin 16) (d : Fin 512) (p : Fin 2048) (hd : d.val = 16 * g.val + j.val)
    (hp : p.val / 64 ≠ g.val) : cHalf x (ix2 p d) = 0 := by
  rw [cHalf_at, eye_at, if_neg (fun e => hp ?_), mul_zero]
  have := congrArg Fin.val e
  simp only at this
  omega

variable (m : (ℓ : Loc nD τ sig) → Buf (Elt Ideal) ℓ)

theorem GB_re (c : Dev nD) (R : Fin 65536) (g : Fin 32) (n : Fin 64) :
    GB m c R.val (64 * g.val + n.val) = ∑ j : Fin 16, UA m c (ix2 R ⟨16 * g.val + j.val, by omega⟩) * bRe m c (ix3 g n j) := by
  rw [GB, dif_pos ⟨R.isLt, by omega⟩, BM_eq]
  refine sum_tile 32 16 rfl _ g _ (fun k j h => ?_) (fun k h => ?_)
  · rw [bMat_at, dif_pos (by simp only; omega), bHalf_on _ g n j k _ h rfl]
    congr 3
    exact Fin.ext (by simp only; omega)
  · rw [bMat_at, dif_pos (by simp only; omega), bHalf_off _ g n k _ h rfl, mul_zero]

theorem GB_im (c : Dev nD) (R : Fin 65536) (g : Fin 32) (n : Fin 64) :
    GB m c R.val (2048 + (64 * g.val + n.val)) = ∑ j : Fin 16, UA m c (ix2 R ⟨16 * g.val + j.val, by omega⟩) * bIm m c (ix3 g n j) := by
  rw [GB, dif_pos ⟨R.isLt, by omega⟩, BM_eq]
  refine sum_tile 32 16 rfl _ g _ (fun k j h => ?_) (fun k h => ?_)
  · rw [bMat_at, dif_neg (by simp only; omega), bHalf_on _ g n j k _ h (by simp only; omega)]
    congr 3
    exact Fin.ext (by simp only; omega)
  · rw [bMat_at, dif_neg (by simp only; omega), bHalf_off _ g n k _ h (by simp only; omega), mul_zero]

theorem u_at (x : Vec Ideal S4096x8192 .bf16) (R : Fin 65536) (d : Fin 512) :
    shapeCast S65536x512 x shapeCasts_S4096x8192_S65536x512 (ix2 R d) = x (ix2 ⟨R.val / 16, by omega⟩ ⟨R.val % 16 * 512 + d.val, by omega⟩) := by
  pointwise []

section
open Cert.ReferenceIdeal.Step

theorem buRe_at (x0 : Vec Ideal S4096x8192 .bf16) (x3 x4 : Vec Ideal S32x64 .f32) (x5 : Vec Ideal S32 .f32) (x6 x7 : Vec Ideal S32x64x16 .f32)
    (t : Fin 4096) (b : Fin 16) (g : Fin 32) (n : Fin 64) :
    A_main_v45 (F := Ideal) x0 x3 x4 x5 x6 x7 (ix4 t b g n)
      = ∑ j : Fin 16, A_main_v34 (F := Ideal) x0 x3 x4 x5 x6 x7 (ix3 g n j) * x0 (ix2 t ⟨b.val * 512 + g.val * 16 + j.val, by omega⟩) := by
  pointwise [A_main_v45, A_main_v44, A_main_v43, A_main_v42]

theorem buIm_at (x0 : Vec Ideal S4096x8192 .bf16) (x3 x4 : Vec Ideal S32x64 .f32) (x5 : Vec Ideal S32 .f32) (x6 x7 : Vec Ideal S32x64x16 .f32)
    (t : Fin 4096) (b : Fin 16) (g : Fin 32) (n : Fin 64) :
    A_main_v47 (F := Ideal) x0 x3 x4 x5 x6 x7 (ix4 t b g n)
      = ∑ j : Fin 16, A_main_v41 (F := Ideal) x0 x3 x4 x5 x6 x7 (ix3 g n j) * x0 (ix2 t ⟨b.val * 512 + g.val * 16 + j.val, by omega⟩) := by
  pointwise [A_main_v47, A_main_v46, A_main_v43, A_main_v42]

end

/-- The first state of the reference's loop, from this program's arguments. -/
def s0 (c : Dev nD) : Cert.ReferenceIdeal.Step.State Ideal :=
  Cert.ReferenceIdeal.Step.init (F := Ideal) (arg1 m c) (arg2 m c) (arg0 m c) (arg3 m c) (arg4 m c) (arg5 m c) (arg6 m c) (arg7 m c)

theorem bu_re (c : Dev nD) (b : Fin 16) (g : Fin 32) (n : Fin 64) (t : ℕ) (ht : t < 4096) :
    GB m c (16 * t + b.val) (64 * g.val + n.val) = Cert.ReferenceIdeal.Step.row (s0 m c).main_v50_0 b g n t := by
  refine (GB_re m c ⟨16 * t + b.val, by omega⟩ g n).trans ?_
  refine Eq.trans ?_ (Cert.ReferenceIdeal.Step.row_lt _ b g n ht).symm
  refine Eq.trans ?_ (buRe_at (arg0 m c) (arg3 m c) (arg4 m c) (arg5 m c) (arg6 m c) (arg7 m c) ⟨t, ht⟩ b g n).symm
  refine Finset.sum_congr rfl fun j _ => ?_
  rw [mul_comm, UA_eq, u_at]
  congr 3
  · exact Fin.ext (by simp only; omega)
  · exact Fin.ext (by simp only; omega)

theorem bu_im (c : Dev nD) (b : Fin 16) (g : Fin 32) (n : Fin 64) (t : ℕ) (ht : t < 4096) :
    GB m c (16 * t + b.val) (2048 + (64 * g.val + n.val)) = Cert.ReferenceIdeal.Step.row (s0 m c).main_v50_1 b g n t := by
  refine (GB_im m c ⟨16 * t + b.val, by omega⟩ g n).trans ?_
  refine Eq.trans ?_ (Cert.ReferenceIdeal.Step.row_lt _ b g n ht).symm
  refine Eq.trans ?_ (buIm_at (arg0 m c) (arg3 m c) (arg4 m c) (arg5 m c) (arg6 m c) (arg7 m c) ⟨t, ht⟩ b g n).symm
  refine Finset.sum_congr rfl fun j _ => ?_
  rw [mul_comm, UA_eq, u_at]
  congr 3
  · exact Fin.ext (by simp only; omega)
  · exact Fin.ext (by simp only; omega)

theorem row_at (x : Vec Ideal S32x64 .f32) (g : Fin 32) (n : Fin 64) :
    rowN (shapeCast S1x2048 x shapeCasts_S32x64_S1x2048) (64 * g.val + n.val) = x (ix2 g n) := by
  rw [rowN, dif_pos (by omega)]
  pointwise []

theorem h_at (x y : Vec Ideal S16x32x64 .f32) (b : Fin 16) (q : Fin 4096) :
    concatenate S16x4096 1 [⟨S16x2048, shapeCast S16x2048 x shapeCasts_S16x32x64_S16x2048⟩, ⟨S16x2048, shapeCast S16x2048 y shapeCasts_S16x32x64_S16x2048⟩] concatenates_S16x2048_S16x2048_S16x4096_d1 (ix2 b q)
      = if h : q.val < 2048 then x (ix3 b ⟨q.val / 64, by omega⟩ ⟨q.val % 64, by omega⟩) else y (ix3 b ⟨(q.val - 2048) / 64, by omega⟩ ⟨(q.val - 2048) % 64, by omega⟩) := by
  pointwise []

theorem h_re (c : Dev nD) (b : Fin 16) (g : Fin 32) (n : Fin 64) : staN (HA m c) b.val (64 * g.val + n.val) = arg1 m c (ix3 b g n) := by
  rw [staN, dif_pos ⟨b.isLt, by omega⟩, HA_eq]
  refine (h_at _ _ _ _).trans ?_
  rw [dif_pos (by simp only; omega)]
  congr 2
  · exact Fin.ext (by simp only; omega)
  · exact Fin.ext (by simp only; omega)

theorem h_im (c : Dev nD) (b : Fin 16) (g : Fin 32) (n : Fin 64) : staN (HA m c) b.val (2048 + (64 * g.val + n.val)) = arg2 m c (ix3 b g n) := by
  rw [staN, dif_pos ⟨b.isLt, by omega⟩, HA_eq]
  refine (h_at _ _ _ _).trans ?_
  rw [dif_neg (by simp only; omega)]
  congr 2
  · exact Fin.ext (by simp only; omega)
  · exact Fin.ext (by simp only; omega)

/-- The kernel's recurrence is the reference's. -/
theorem gs_eq (c : Dev nD) (b : Fin 16) (g : Fin 32) (n : Fin 64) (k : ℕ) (hk : k ≤ 4096) :
    gs m c b.val (64 * g.val + n.val) k = Cert.ReferenceIdeal.Step.rs (s0 m c) b g n k := by
  unfold gs Cert.ReferenceIdeal.Step.rs
  refine lin_congr k ?_ ?_ (fun j hj => bu_re m c b g n j (by omega)) (fun j hj => bu_im m c b g n j (by omega)) (h_re m c b g n) (h_im m c b g n)
  · rw [AR_eq, row_at]; rfl
  · rw [AI_eq, row_at]; rfl

end Cert.KernelIdeal.Gen

end
-- ==== Proof.S5Out.lean ====
module

public import proofs.«01_k».proof.Proof.S5Sums

/-! The two results of the recurrence call are the reference's. -/

@[expose] public section

set_option maxRecDepth 16384

noncomputable section

namespace Cert.KernelIdeal.Gen

open Idealize.ShloMosaic Idealize.ShloMosaic.TcCoe Cert.KernelIdeal Cert.S5

variable (m : (ℓ : Loc nD τ sig) → Buf (Elt Ideal) ℓ)

/-- The last state of the reference's loop. -/
abbrev sN (c : Dev nD) : Cert.ReferenceIdeal.Step.State Ideal := Cert.ReferenceIdeal.Step.iter (s0 m c) 4096

theorem last_at (s : Cert.ReferenceIdeal.Step.State Ideal) (b : Fin 16) (q : Fin 4096) :
    Cert.ReferenceIdeal.Step.R_main_v88 (F := Ideal) s (ix2 b q)
      = if h : q.val < 2048 then s.main_v50_5 (ix3 b ⟨q.val / 64, by omega⟩ ⟨q.val % 64, by omega⟩) else s.main_v50_6 (ix3 b ⟨(q.val - 2048) / 64, by omega⟩ ⟨(q.val - 2048) % 64, by omega⟩) := by
  pointwise [Cert.ReferenceIdeal.Step.R_main_v88]

theorem ext2 {a b : ℕ} {α : Type} {f g : (⟨2, ![a, b]⟩ : Shape).Idx → α} (h : ∀ x y, f (ix2 x y) = g (ix2 x y)) : f = g := by
  funext i
  rw [eq_ix2 i]
  exact h _ _

theorem gh_re (c : Dev nD) (t : ℕ) (r : Fin 512) (q : Fin 4096) (p : ℕ) (hp : p < 2048) (hq : q.val = p) :
    ghVec m c t (ix2 r q) = (gs m c (r.val % 16) p (32 * t + (r.val / 16 + 1))).1 := by
  subst hq
  exact if_pos hp

theorem gh_im (c : Dev nD) (t : ℕ) (r : Fin 512) (q : Fin 4096) (p : ℕ) (hp : p < 2048) (hq : q.val = 2048 + p) :
    ghVec m c t (ix2 r q) = (gs m c (r.val % 16) p (32 * t + (r.val / 16 + 1))).2 := by
  have e : q.val - 2048 = p := by omega
  subst e
  exact if_neg (show ¬q.val < 2048 by omega)

theorem gs_congr (c : Dev nD) {b b' p p' n n' : ℕ} (hb : b = b') (hp : p = p') (hn : n = n') : gs m c b p n = gs m c b' p' n' := by
  subst hb hp hn; rfl

theorem last_eq (c : Dev nD) : gsVec m c 4096 = Cert.ReferenceIdeal.Step.R_main_v88 (F := Ideal) (sN m c) := by
  refine ext2 fun b q => ?_
  refine Eq.trans ?_ (last_at _ b q).symm
  show part (fun p => gs m c b.val p 4096) q.val = _
  unfold part
  split_ifs with h
  · refine Eq.trans ?_ (Cert.ReferenceIdeal.Step.iter_at (s0 m c) b ⟨q.val / 64, by omega⟩ ⟨q.val % 64, by omega⟩ 4096 le_rfl).1.symm
    rw [← gs_eq m c b ⟨q.val / 64, by omega⟩ ⟨q.val % 64, by omega⟩ 4096 le_rfl]
    congr 2
    simp only; omega
  · refine Eq.trans ?_ (Cert.ReferenceIdeal.Step.iter_at (s0 m c) b ⟨(q.val - 2048) / 64, by omega⟩ ⟨(q.val - 2048) % 64, by omega⟩ 4096 le_rfl).2.1.symm
    rw [← gs_eq m c b ⟨(q.val - 2048) / 64, by omega⟩ ⟨(q.val - 2048) % 64, by omega⟩ 4096 le_rfl]
    congr 2
    simp only; omega

theorem pay37_at (H : Vec Ideal S512x4096 .f32) (C : Vec Ideal S4096x512 .bf16) (r d : Fin 512) :
    k0_pay37 (F := Ideal) H C (ix2 r d) = ∑ q : Fin 4096, H (ix2 r q) * C (ix2 q d) := by
  pointwise [k0_pay37]

theorem out_sum (x y : Vec Ideal S32x16x64 .f32) (H : Fin 4096 → EReal) (g : Fin 32) (j : Fin 16) (d : Fin 512) (hd : d.val = 16 * g.val + j.val) :
    ∑ q : Fin 4096, H q * cMat x y (ix2 q d)
      = (∑ n : Fin 64, H ⟨64 * g.val + n.val, by omega⟩ * x (ix3 g j n)) + ∑ n : Fin 64, H ⟨2048 + (64 * g.val + n.val), by omega⟩ * -y (ix3 g j n) := by
  rw [Fin.sum_univ_two_halves 2048 2048 rfl]
  congr 1
  · refine sum_tile 32 64 rfl _ g _ (fun k n h => ?_) (fun k h => ?_)
    · rw [cMat_at, dif_pos (by simp only; omega)]
      rw [cHalf_on x g n j d _ hd h]
      congr 2
      exact Fin.ext (by simp only; omega)
    · rw [cMat_at, dif_pos (by simp only; omega)]
      rw [cHalf_off x g j d _ hd h, mul_zero]
  · refine sum_tile 32 64 rfl _ g _ (fun k n h => ?_) (fun k h => ?_)
    · rw [cMat_at, dif_neg (by simp only; omega)]
      rw [cHalf_on y g n j d _ hd (by simp only; omega)]
      congr 2
      exact Fin.ext (by simp only; omega)
    · rw [cMat_at, dif_neg (by simp only; omega)]
      rw [cHalf_off y g j d _ hd (by simp only; omega), neg_zero, mul_zero]

/-- The reference's product of its states with its output matrices. -/
def yRef (s : Cert.ReferenceIdeal.Step.State Ideal) (x8 x9 : Vec Ideal S32x16x64 .f32) (R : Fin 65536) (d : Fin 512) : EReal :=
  (∑ n : Fin 64, x8 (ix3 ⟨d.val / 16, by omega⟩ ⟨d.val % 16, by omega⟩ n) * s.main_v50_7 (ix4 ⟨R.val / 16, by omega⟩ ⟨R.val % 16, by omega⟩ ⟨d.val / 16, by omega⟩ n))
    + ∑ n : Fin 64, -x9 (ix3 ⟨d.val / 16, by omega⟩ ⟨d.val % 16, by omega⟩ n) * s.main_v50_8 (ix4 ⟨R.val / 16, by omega⟩ ⟨R.val % 16, by omega⟩ ⟨d.val / 16, by omega⟩ n)

theorem y_at (c : Dev nD) (t : Fin cfg0.N) (r d : Fin 512) :
    k0_pay37 (F := Ideal) (ghVec m c t.val) (CM m c) (ix2 r d)
      = yRef (sN m c) (arg8 m c) (arg9 m c) ⟨t.val * 512 + r.val, by have : t.val < 128 := t.isLt; omega⟩ d := by
  have ht : t.val < 128 := t.isLt
  rw [pay37_at, CM_eq]
  refine (out_sum (arg8 m c) (arg9 m c) (fun q => ghVec m c t.val (ix2 r q)) ⟨d.val / 16, by omega⟩ ⟨d.val % 16, by omega⟩ d (by simp only; omega)).trans ?_
  unfold yRef
  congr 1
  · refine Finset.sum_congr rfl fun n _ => (mul_comm _ _).trans (congrArg (fun z : EReal => _ * z) ?_)
    refine (gh_re m c t.val r _ (64 * (d.val / 16) + n.val) (by omega) rfl).trans ?_
    refine Eq.trans ?_ ((Cert.ReferenceIdeal.Step.iter_at (s0 m c) _ _ n 4096 le_rfl).2.2.1 _ (by simp only; omega)).symm
    rw [← gs_eq m c _ _ _ _ (by simp only; omega)]
    exact congrArg Prod.fst (gs_congr m c (by simp only; omega) rfl (by simp only; omega))
  · refine Finset.sum_congr rfl fun n _ => (mul_comm _ _).trans (congrArg (fun z : EReal => -arg9 m c (ix3 ⟨d.val / 16, by omega⟩ ⟨d.val % 16, by omega⟩ n) * z) ?_)
    refine (gh_im m c t.val r _ (64 * (d.val / 16) + n.val) (by omega) rfl).trans ?_
    refine Eq.trans ?_ ((Cert.ReferenceIdeal.Step.iter_at (s0 m c) _ _ n 4096 le_rfl).2.2.2 _ (by simp only; omega)).symm
    rw [← gs_eq m c _ _ _ _ (by simp only; omega)]
    exact congrArg Prod.snd (gs_congr m c (by simp only; omega) rfl (by simp only; omega))

/-- The activation between the recurrence and the gate. -/
def act (z : EReal) : EReal :=
  z * (Ideal.ofBits .f32 0x3F000000#32 * (1 + Ideal.tanh (Ideal.ofBits .f32 0x3F4C422A#32 * (z + Ideal.ofBits .f32 0x3D372713#32 * (z * z * z)))))

theorem pay1_at (u Y : Vec Ideal S512x512 .f32) (D : Vec Ideal S1x512 .f32) (A B : Vec Ideal S512x1024 .bf16) (r : Fin 512) (e : Fin 1024) :
    k0_pay1 (F := Ideal) u Y D A B (ix2 r e)
      = (∑ d : Fin 512, act (Y (ix2 r d) + D (ix2 0 d) * u (ix2 r d)) * A (ix2 d e)) * Ideal.logistic (∑ d : Fin 512, act (Y (ix2 r d) + D (ix2 0 d) * u (ix2 r d)) * B (ix2 d e)) := by
  pointwise [k0_pay1]
  have h (z w : EReal) : Ideal.ofBits .f32 0x3F000000#32 * z * (1 + Ideal.tanh (Ideal.ofBits .f32 0x3F4C422A#32 * (z + Ideal.ofBits .f32 0x3D372713#32 * (z * z * z)))) * w = act z * w := by
    unfold act
    rw [mul_comm (Ideal.ofBits .f32 0x3F000000#32) z, mul_assoc z]
  refine congr (congrArg _ (Finset.sum_congr rfl fun d _ => h _ _)) (congrArg _ (Finset.sum_congr rfl fun d _ => h _ _))

theorem ref_at (s : Cert.ReferenceIdeal.Step.State Ideal) (x0 : Vec Ideal S4096x8192 .bf16) (x8 x9 : Vec Ideal S32x16x64 .f32) (x10 : Vec Ideal S512 .f32)
    (x11 x12 : Vec Ideal S512x1024 .f32) (R : Fin 65536) (e : Fin 1024) :
    Cert.ReferenceIdeal.Step.R_main_v89 (F := Ideal) s x0 x8 x9 x10 x11 x12 (ix2 R e)
      = (∑ d : Fin 512, act (yRef s x8 x9 R d + x10 (ix1 d) * x0 (ix2 ⟨R.val / 16, by omega⟩ ⟨R.val % 16 * 512 + d.val, by omega⟩)) * x11 (ix2 d e))
        * Ideal.div 1 (1 + Ideal.exp (-∑ d : Fin 512, act (yRef s x8 x9 R d + x10 (ix1 d) * x0 (ix2 ⟨R.val / 16, by omega⟩ ⟨R.val % 16 * 512 + d.val, by omega⟩)) * x12 (ix2 d e))) := by
  pointwise [Cert.ReferenceIdeal.Step.R_main_v89]
  rfl

theorem pay3_at (x : Vec Ideal S512x512 .bf16) : k0_pay3 (F := Ideal) x = x := by
  funext i
  pointwise [k0_pay3]

theorem d_at (x : Vec Ideal S512 .f32) (d : Fin 512) : shapeCast S1x512 x shapeCasts_S512_S1x512 (ix2 0 d) = x (ix1 d) := by
  pointwise []

abbrev ublk (c : Dev nD) (t : Fin cfg0.N) : Vec Ideal S512x512 .bf16 := iblk m c 0 t

theorem block_at (c : Dev nD) (t : Fin cfg0.N) (r : Fin 512) (e : Fin 1024) :
    blockOut m c t (ix2 r e) = Cert.ReferenceIdeal.Step.R_main_v89 (F := Ideal) (sN m c) (arg0 m c) (arg8 m c) (arg9 m c) (arg10 m c) (arg11 m c) (arg12 m c)
      (ix2 ⟨t.val * 512 + r.val, by have : t.val < 128 := t.isLt; omega⟩ e) := by
  have ht : t.val < 128 := t.isLt
  refine Eq.trans ?_ (ref_at _ _ _ _ _ _ _ _ _).symm
  have hb : blockOut m c t = k0_pay1 (F := Ideal) (k0_pay3 (ublk m c t)) (k0_pay37 (ghVec m c t.val) (CM m c)) (DV m c) (WA m c) (WB m c) := by
    unfold blockOut
    rw [blk5, blk6, blk7, blk8]
  rw [hb]
  refine (pay1_at _ _ _ _ _ r e).trans ?_
  have hz (d : Fin 512) : k0_pay37 (F := Ideal) (ghVec m c t.val) (CM m c) (ix2 r d) + DV m c (ix2 0 d) * k0_pay3 (F := Ideal) (ublk m c t) (ix2 r d)
      = yRef (sN m c) (arg8 m c) (arg9 m c) ⟨t.val * 512 + r.val, by omega⟩ d
        + arg10 m c (ix1 d) * arg0 m c (ix2 ⟨(t.val * 512 + r.val) / 16, by omega⟩ ⟨(t.val * 512 + r.val) % 16 * 512 + d.val, by omega⟩) := by
    have h1 := y_at m c t r d
    have h2 := (congrFun (DV_eq m c) (ix2 0 d)).trans (d_at _ _)
    have h3 : k0_pay3 (F := Ideal) (ublk m c t) (ix2 r d) = arg0 m c (ix2 ⟨(t.val * 512 + r.val) / 16, by omega⟩ ⟨(t.val * 512 + r.val) % 16 * 512 + d.val, by omega⟩) := by
      rw [pay3_at]
      exact (blk0 m c t r d).trans ((congrFun (UA_eq m c) _).trans (u_at _ _ _))
    rw [h1, h2, h3]
  have hA (d : Fin 512) : WA m c (ix2 d e) = arg11 m c (ix2 d e) := congrFun (WA_eq m c) _
  have hB (d : Fin 512) : WB m c (ix2 d e) = arg12 m c (ix2 d e) := congrFun (WB_eq m c) _
  refine congr (congrArg _ (Finset.sum_congr rfl fun d _ => ?_)) (congrArg Ideal.logistic (Finset.sum_congr rfl fun d _ => ?_))
  · exact congr (congrArg _ (congrArg act (hz d))) (hA d)
  · exact congr (congrArg _ (congrArg act (hz d))) (hB d)

end Cert.KernelIdeal.Gen

end
-- ==== Proof.S5Final.lean ====
module

public import proofs.«01_k».proof.Proof.S5Out

/-! The two result arrays after the run. -/

@[expose] public section

set_option maxRecDepth 16384

noncomputable section

namespace Cert.KernelIdeal.Gen

open Idealize.ShloMosaic Idealize.ShloMosaic.TcCoe Cert.KernelIdeal Cert.S5

variable (m : (ℓ : Loc nD τ sig) → Buf (Elt Ideal) ℓ)

/-- The gated output rows, as the run leaves them. -/
def result0 (c : Dev nD) : Buf (Elt Ideal) ((c : Thread nD τ).loc main_v88_0) :=
  Cert.ReferenceIdeal.Step.R_main_v89 (F := Ideal) (sN m c) (arg0 m c) (arg8 m c) (arg9 m c) (arg10 m c) (arg11 m c) (arg12 m c)

/-- The last state, as the run leaves it. -/
def result1 (c : Dev nD) : Buf (Elt Ideal) ((c : Thread nD τ).loc main_v88_1) :=
  Cert.ReferenceIdeal.Step.R_main_v88 (F := Ideal) (sN m c)

theorem emb9 (t : Fin cfg0.N) (r : Fin 512) (d : Fin 1024) :
    ((cfg0.win 9).blk t).view.emb (ix2 r d) = (ix2 ⟨t.val * 512 + r.val, by have : t.val < 128 := t.isLt; omega⟩ d : S65536x1024.Idx) := by
  refine funext fun a => Fin.ext ?_
  refine (Pipeline.Window.rect_emb_val (cfg0.win 9) t (ix2 r d) a rfl).trans ?_
  rw [(idx_at t).2.2.2.2.2.2.2.2.2.1]
  match a with
  | ⟨0, _⟩ => exact rfl
  | ⟨1, _⟩ => exact Nat.zero_add _

theorem emb10 (t : Fin cfg0.N) (r : Fin 16) (d : Fin 4096) :
    ((cfg0.win 10).blk t).view.emb (ix2 r d) = (ix2 r d : S16x4096.Idx) := by
  refine funext fun a => Fin.ext ?_
  refine (Pipeline.Window.rect_emb_val (cfg0.win 10) t (ix2 r d) a rfl).trans ?_
  rw [(idx_at t).2.2.2.2.2.2.2.2.2.2]
  match a with
  | ⟨0, _⟩ => exact Nat.zero_add _
  | ⟨1, _⟩ => exact Nat.zero_add _

theorem cover9 (i : S65536x1024.Idx) : ∃ t : Fin cfg0.N, (cfg0.win 9).flush t = true ∧ i ∈ ((cfg0.win 9).blk t).view.set := by
  have h0 : (i 0).val < 65536 := (i 0).isLt
  have h1 : (i 1).val < 1024 := (i 1).isLt
  have hlt : (i 0).val / 512 < 128 := by omega
  refine ⟨⟨(i 0).val / 512, hlt⟩, flush0_9 _, ?_⟩
  have hi : i = ((cfg0.win 9).blk ⟨(i 0).val / 512, hlt⟩).view.emb (ix2 ⟨(i 0).val % 512, Nat.mod_lt _ (by decide)⟩ ⟨(i 1).val, h1⟩) := by
    refine Eq.trans ?_ (emb9 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 9).blk ⟨(i 0).val / 512, hlt⟩).view.set) hi).mpr (View.emb_mem_set _ _)

theorem cover10 (i : S16x4096.Idx) : ∃ t : Fin cfg0.N, (cfg0.win 10).flush t = true ∧ i ∈ ((cfg0.win 10).blk t).view.set := by
  have hlt : 127 < 128 := by decide
  refine ⟨⟨127, hlt⟩, (flush0_10 _).mpr rfl, ?_⟩
  have hi : i = ((cfg0.win 10).blk ⟨127, hlt⟩).view.emb (ix2 ⟨(i 0).val, (i 0).isLt⟩ ⟨(i 1).val, (i 1).isLt⟩) := by
    refine Eq.trans ?_ (emb10 ⟨127, hlt⟩ _ _).symm
    funext a
    match a with
    | ⟨0, _⟩ => rfl
    | ⟨1, _⟩ => rfl
  exact (congrArg (fun x => x ∈ ((cfg0.win 10).blk ⟨127, hlt⟩).view.set) hi).mpr (View.emb_mem_set _ _)

theorem final0 (c : Dev nD) : (dats m 0 c).arrAt 9 cfg0.N = result0 m c := by
  refine (dats m 0 c).arrAt_eq_of_emb 9 _ (fun t hf y => ?_) fun i => cover9 i
  refine (congrFun ((after0_9 m c t).trans (outs_at m c t.val t.isLt).2.1) y).trans ?_
  obtain ⟨r, d, rfl⟩ : ∃ (r : Fin 512) (d : Fin 1024), y = ix2 r d := ⟨y 0, y 1, by funext a; match a with | ⟨0, _⟩ => rfl | ⟨1, _⟩ => rfl⟩
  exact (block_at m c t r d).trans (congrArg (result0 m c) (emb9 t r d)).symm

theorem final1 (c : Dev nD) : (dats m 0 c).arrAt 10 cfg0.N = result1 m c := by
  refine (dats m 0 c).arrAt_eq_of_emb 10 _ (fun t hf y => ?_) fun i => cover10 i
  have ht : t.val = 127 := by
    have h := (flush0_10 t).mp hf
    have hN : t.val < 128 := t.isLt
    omega
  refine (congrFun ((after0_10 m c t).trans ((outs_at m c t.val t.isLt).2.2 ht)) y).trans ?_
  rw [ht]
  obtain ⟨r, d, rfl⟩ : ∃ (r : Fin 16) (d : Fin 4096), y = ix2 r d := ⟨y 0, y 1, by funext a; match a with | ⟨0, _⟩ => rfl | ⟨1, _⟩ => rfl⟩
  exact (congrFun (last_eq m c) (ix2 r d)).trans (congrArg (result1 m c) (emb10 t r d)).symm

end Cert.KernelIdeal.Gen

end
-- ==== Proof.S5Printed.lean ====
module

public import proofs.«01_k».proof.Defs
public import proofs.«01_k».proof.Proof.Gen.Kernel
public import proofs.«01_k».proof.Proof.S5Frame

/-! The recurrence call as printed: its program is the idealized one's, so its run ends the same way. -/

@[expose] public section

set_option maxRecDepth 65536
set_option maxHeartbeats 8000000

namespace Cert.S5

open Idealize.ShloMosaic Idealize.ShloMosaic.TcCoe Idealize.SL.Sem

theorem bodies_eq {F : FTy → Type} [FloatOps F] : (Cert.Kernel.defs₀ (F := F)) = Cert.KernelIdeal.defs₀ (F := F) := by
  refine congrArg Defs.onTc (funext fun k => funext fun a => ?_)
  match k, a with
  | 0, (t, s) => rfl

theorem defs_eq {F : FTy → Type} [FloatOps F] : (Cert.Kernel.defs (F := F)) = Cert.KernelIdeal.defs (F := F) :=
  congrArg (Pipeline.defs Cert.Kernel.pcfgs) bodies_eq

theorem main_eq {F : FTy → Type} [FloatOps F] : (Cert.Kernel.main (F := F)) = Cert.KernelIdeal.main (F := F) := rfl

theorem frame_p : Cert.quiescent_Kernel (hKernel := Cert.Kernel.Gen.facts) := by
  intro m ρ _
  rw [defs_eq, main_eq]
  exact Cert.KernelIdeal.Gen.frame (F := Bits) m ρ

end Cert.S5

end
-- ==== Proof.S5Scan.lean ====
/- The reference's run over the states of its recurrence: the values at the loop's buffers after each trip, and the results
   read from the last state. -/
module

public import proofs.«01_k».proof.Proof.Gen.ReferenceIdeal.Run
public import proofs.«01_k».proof.Proof.Gen.ReferenceIdeal.Step

@[expose] public section

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v50_5) = s.main_v50_5
  f_6 : V0 (Proc.devRef .tc main_v50_6) = s.main_v50_6
  f_7 : V0 (Proc.devRef .tc main_v50_7) = s.main_v50_7
  f_8 : V0 (Proc.devRef .tc main_v50_8) = s.main_v50_8
  f_0 : V0 (Proc.devRef .tc main_v50_0) = s.main_v50_0
  f_1 : V0 (Proc.devRef .tc main_v50_1) = s.main_v50_1
  f_2 : V0 (Proc.devRef .tc main_v50_2) = s.main_v50_2
  f_3 : V0 (Proc.devRef .tc main_v50_3) = s.main_v50_3
  n_4 : V0 (Proc.devRef .tc main_v50_4) = constantI S_ 32 (BitVec.ofNat 32 j)

variable {V0 s j}

/-- The new real part. -/
theorem re_eq (h : Holds V0 s j) : res_main_while0b_v99 V0 = Step.b17 j s := by
  unfold res_main_while0b_v99
  rw [h.n_4, h.f_0, h.f_2, h.f_3, h.f_5, h.f_6]
  rfl

/-- The new imaginary part. -/
theorem im_eq (h : Holds V0 s j) : res_main_while0b_v107 V0 = Step.b25 j s := by
  unfold res_main_while0b_v107
  rw [h.n_4, h.f_1, h.f_2, h.f_3, h.f_5, h.f_6]
  rfl

theorem step_5 (h : Holds V0 s j) : step_main_v50_5 V0 = (step j s).main_v50_5 := re_eq h

theorem step_6 (h : Holds V0 s j) : step_main_v50_6 V0 = (step j s).main_v50_6 := im_eq h

theorem step_7 (h : Holds V0 s j) : step_main_v50_7 V0 = (step j s).main_v50_7 := by
  unfold step_main_v50_7
  rw [re_eq h, h.f_7, h.n_4]
  rfl

theorem step_8 (h : Holds V0 s j) : step_main_v50_8 V0 = (step j s).main_v50_8 := by
  unfold step_main_v50_8
  rw [im_eq h, h.f_8, h.n_4]
  rfl

theorem step_4 (h : Holds V0 s j) : step_main_v50_4 V0 = constantI S_ 32 (BitVec.ofNat 32 (j + 1)) := by
  unfold step_main_v50_4
  rw [h.n_4]
  funext i
  show BitVec.ofNat 32 j + 1#32 = BitVec.ofNat 32 (j + 1)
  simp only [BitVec.ofNat_add]

set_option maxRecDepth 8192 in
theorem out_main_v89_holds (h : Holds V0 s j) {x_main_arg0 : (⟨S4096x8192, .bf16⟩ : BufTy).Contents (Elt F)} (h_main_arg0 : V0 (Proc.devRef .tc main_arg0) = x_main_arg0) {x_main_arg8 : (⟨S32x16x64, .f32⟩ : BufTy).Contents (Elt F)} (h_main_arg8 : V0 (Proc.devRef .tc main_arg8) = x_main_arg8) {x_main_arg9 : (⟨S32x16x64, .f32⟩ : BufTy).Contents (Elt F)} (h_main_arg9 : V0 (Proc.devRef .tc main_arg9) = x_main_arg9) {x_main_arg10 : (⟨S512, .f32⟩ : BufTy).Contents (Elt F)} (h_main_arg10 : V0 (Proc.devRef .tc main_arg10) = x_main_arg10) {x_main_arg11 : (⟨S512x1024, .f32⟩ : BufTy).Contents (Elt F)} (h_main_arg11 : V0 (Proc.devRef .tc main_arg11) = x_main_arg11) {x_main_arg12 : (⟨S512x1024, .f32⟩ : BufTy).Contents (Elt F)} (h_main_arg12 : V0 (Proc.devRef .tc main_arg12) = x_main_arg12) : out_main_v89 V0 = Cert.ReferenceIdeal.Step.R_main_v89 s x_main_arg0 x_main_arg8 x_main_arg9 x_main_arg10 x_main_arg11 x_main_arg12 := by
  unfold out_main_v89 Cert.ReferenceIdeal.Step.R_main_v89
  rw [h.f_7, h.f_8, h_main_arg0, h_main_arg8, h_main_arg9, h_main_arg10, h_main_arg11, h_main_arg12]
  try rfl

set_option maxRecDepth 8192 in
theorem out_main_v88_holds (h : Holds V0 s j) : out_main_v88 V0 = Cert.ReferenceIdeal.Step.R_main_v88 s := by
  unfold out_main_v88 Cert.ReferenceIdeal.Step.R_main_v88
  rw [h.f_5, h.f_6]
  try rfl

/-- One trip keeps the valuation holding: the state steps, the constants stay, the number goes up by one. -/
theorem holds_step (h : Holds V0 s j) : Holds (STEP V0) (step j s) (j + 1) where
  f_5 := (STEP_main_v50_5 V0).trans (step_5 h)
  f_6 := (STEP_main_v50_6 V0).trans (step_6 h)
  f_7 := (STEP_main_v50_7 V0).trans (step_7 h)
  f_8 := (STEP_main_v50_8 V0).trans (step_8 h)
  n_4 := (STEP_main_v50_4 V0).trans (step_4 h)
  f_0 := (STEP_main_v50_0 V0).trans h.f_0
  f_1 := (STEP_main_v50_1 V0).trans h.f_1
  f_2 := (STEP_main_v50_2 V0).trans h.f_2
  f_3 := (STEP_main_v50_3 V0).trans h.f_3

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results of a run, of state number 4096 of any sequence of states that starts at `initState` and goes on by `step`; the
    arguments are unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v89) = Cert.ReferenceIdeal.Step.R_main_v89 (it c 4096) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v88) = Cert.ReferenceIdeal.Step.R_main_v88 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have hk := holds_iter m c (it c) (h0 c) (hs c) 4096
    ⟨(h c).1.trans (out_main_v89_holds hk (iter_main_arg0 m c 4096) (iter_main_arg8 m c 4096) (iter_main_arg9 m c 4096) (iter_main_arg10 m c 4096) (iter_main_arg11 m c 4096) (iter_main_arg12 m c 4096)), (h c).2.1.trans (out_main_v88_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.ReferenceIdeal.Trip

end
-- ==== Proof.S5Claims.lean ====
/- The claims about the recurrence call: the three frames, and that its two results are the reference's. -/
module

public import proofs.«01_k».proof.Defs
public import proofs.«01_k».proof.Proof.S5Final
public import proofs.«01_k».proof.Proof.S5Printed
public import proofs.«01_k».proof.Proof.S5Scan

@[expose] public section

set_option maxRecDepth 16384

noncomputable section

namespace Cert.S5

open Idealize.ShloMosaic Idealize.ShloMosaic.TcCoe Idealize.SL.Sem

theorem frame_pi : Cert.quiescent_KernelIdeal (hKernelIdeal := Cert.KernelIdeal.Gen.facts) := fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Trip.run_iter (F := Ideal) m ρ (fun c => Cert.ReferenceIdeal.Step.iter (Cert.ReferenceIdeal.Trip.initState m c))
      (fun _ => rfl) (fun _ _ => rfl))

theorem algebraic : Cert.algebraic_KernelIdeal_ReferenceIdeal (hKernelIdeal := Cert.KernelIdeal.Gen.facts)
    (hReferenceIdeal := Cert.ReferenceIdeal.Gen.facts) := by
  intro m g m' g' hpre hagree
  refine ⟨fun c => Cert.KernelIdeal.Gen.result0 m c, fun c => Cert.KernelIdeal.Gen.result1 m c, ?_, ?_⟩
  · refine (θ_run _ _ _).mono (fun r hr => ?_) (θ_run_and (Cert.KernelIdeal.Gen.run_main m g) (Cert.KernelIdeal.Gen.unchanged m g))
    exact fun c => ⟨((hr.1 c).1 9).trans (Cert.KernelIdeal.Gen.final0 m c), ((hr.1 c).1 10).trans (Cert.KernelIdeal.Gen.final1 m c), hr.2 c⟩
  · refine (θ_run _ _ _).mono (fun r hr => ?_) (Cert.ReferenceIdeal.Trip.run_iter (F := Ideal) m' g'
      (fun c => Cert.ReferenceIdeal.Step.iter (Cert.ReferenceIdeal.Trip.initState m' c)) (fun _ => rfl) (fun _ _ => rfl))
    refine fun c => ⟨(hr c).1.trans ?_, (hr c).2.1.trans ?_, (hr c).2.2⟩
    · obtain ⟨h0, h1, h2, h3, h4, h5, h6, h7, h8, h9, h10, h11, h12⟩ := hagree c
      unfold Cert.ReferenceIdeal.Trip.initState
      rw [h0, h1, h2, h3, h4, h5, h6, h7, h8, h9, h10, h11, h12]
      rfl
    · obtain ⟨h0, h1, h2, h3, h4, h5, h6, h7, h8, h9, h10, h11, h12⟩ := hagree c
      unfold Cert.ReferenceIdeal.Trip.initState
      rw [h0, h1, h2, h3, h4, h5, h6, h7]
      rfl

end Cert.S5

end
-- ==== Proof.ProjFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The frame of the idealized projection call: what a point leaves in each output, the body against it, and the run of the whole launch. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The device's buffers once the host has prepared the launch. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) b

theorem hostOps0_fresh : (hostOps0 : List (HloOp τ sig (Elt F))).Forall fun op => op.fresh = ∅ := by simp only [List.Forall]; repeat' constructor
theorem hostOps0_1_fresh : (hostOps0_1 : List (HloOp τ sig (Elt F))).Forall fun op => op.fresh = ∅ := by simp only [List.Forall]; repeat' constructor
theorem hostOps0_2_fresh : (hostOps0_2 : List (HloOp τ sig (Elt F))).Forall fun op => op.fresh = ∅ := by simp only [List.Forall]; repeat' constructor
theorem hostOps0_3_fresh : (hostOps0_3 : List (HloOp τ sig (Elt F))).Forall fun op => op.fresh = ∅ := by simp only [List.Forall]; repeat' constructor
theorem hostOps0_4_fresh : (hostOps0_4 : List (HloOp τ sig (Elt F))).Forall fun op => op.fresh = ∅ := by simp only [List.Forall]; repeat' constructor
theorem hostOps0_5_fresh : (hostOps0_5 : List (HloOp τ sig (Elt F))).Forall fun op => op.fresh = ∅ := by simp only [List.Forall]; repeat' constructor
theorem hostOps0_6_fresh : (hostOps0_6 : List (HloOp τ sig (Elt F))).Forall fun op => op.fresh = ∅ := by simp only [List.Forall]; repeat' constructor
theorem hostOps0_7_fresh : (hostOps0_7 : List (HloOp τ sig (Elt F))).Forall fun op => op.fresh = ∅ := by simp only [List.Forall]; repeat' constructor
theorem hostOps0_8_fresh : (hostOps0_8 : List (HloOp τ sig (Elt F))).Forall fun op => op.fresh = ∅ := by simp only [List.Forall]; repeat' constructor
theorem hostOps0_9_fresh : (hostOps0_9 : List (HloOp τ sig (Elt F))).Forall fun op => op.fresh = ∅ := by simp only [List.Forall]; repeat' constructor
theorem hostOps0_10_fresh : (hostOps0_10 : List (HloOp τ sig (Elt F))).Forall fun op => op.fresh = ∅ := by simp only [List.Forall]; repeat' constructor
theorem hostOps0_11_fresh : (hostOps0_11 : List (HloOp τ sig (Elt F))).Forall fun op => op.fresh = ∅ := by simp only [List.Forall]; repeat' constructor
theorem hostOps0_12_fresh : (hostOps0_12 : List (HloOp τ sig (Elt F))).Forall fun op => op.fresh = ∅ := by simp only [List.Forall]; repeat' constructor
theorem hostOps0_13_fresh : (hostOps0_13 : List (HloOp τ sig (Elt F))).Forall fun op => op.fresh = ∅ := by simp only [List.Forall]; repeat' constructor
theorem hostOps0_14_fresh : (hostOps0_14 : List (HloOp τ sig (Elt F))).Forall fun op => op.fresh = ∅ := by simp only [List.Forall]; repeat' constructor
theorem hostOps0_15_fresh : (hostOps0_15 : List (HloOp τ sig (Elt F))).Forall fun op => op.fresh = ∅ := by simp only [List.Forall]; repeat' constructor
theorem hostOps0_16_fresh : (hostOps0_16 : List (HloOp τ sig (Elt F))).Forall fun op => op.fresh = ∅ := by simp only [List.Forall]; repeat' constructor
theorem hostOps0_17_fresh : (hostOps0_17 : List (HloOp τ sig (Elt F))).Forall fun op => op.fresh = ∅ := by simp only [List.Forall]; repeat' constructor
theorem hostOps0_18_fresh : (hostOps0_18 : List (HloOp τ sig (Elt F))).Forall fun op => op.fresh = ∅ := by simp only [List.Forall]; repeat' constructor
theorem hostOps0_19_fresh : (hostOps0_19 : List (HloOp τ sig (Elt F))).Forall fun op => op.fresh = ∅ := by simp only [List.Forall]; repeat' constructor
theorem hostOps0_20_fresh : (hostOps0_20 : List (HloOp τ sig (Elt F))).Forall fun op => op.fresh = ∅ := by simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The host writes none of the arguments. -/
theorem V_args (c : Dev nD) : V m c main_arg0 = m ((c : Thread nD τ).loc main_arg0) ∧ V m c main_arg1 = m ((c : Thread nD τ).loc main_arg1) ∧ V m c main_arg2 = m ((c : Thread nD τ).loc main_arg2) ∧ V m c main_arg3 = m ((c : Thread nD τ).loc main_arg3) ∧ V m c main_arg4 = m ((c : Thread nD τ).loc main_arg4) ∧ V m c main_arg5 = m ((c : Thread nD τ).loc main_arg5) ∧ V m c main_arg6 = m ((c : Thread nD τ).loc main_arg6) := by
  refine ⟨?_, ?_, ?_, ?_, ?_, ?_, ?_⟩ <;>
  exact StableHlo.after_of_forall_not_mem (b := Proc.devRef .tc _) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- What a window shows at a point, of its array as the host left it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S128x128 := Rect.unit (s := S128x128) ![0, 0] S128x128.size inb_S128x128_S128x128_0_0
abbrev r0_3 : Rect S1024x512 := Rect.unit (s := S1024x512) ![0, 0] S1024x512.size inb_S1024x512_S1024x512_0_0
abbrev r0_4 : Rect S512x512 := Rect.unit (s := S512x512) ![0, 0] S512x512.size inb_S512x512_S512x512_0_0
abbrev r0_5 : Rect S1024x1024 := Rect.unit (s := S1024x1024) ![0, 0] S1024x1024.size inb_S1024x1024_S1024x1024_0_0
abbrev r0_6 : Rect S1x128 := Rect.unit (s := S1x128) ![0, 0] S1x128.size inb_S1x128_S1x128_0_0
abbrev r0_7 : Rect S1x8x512x128 := Rect.unit (s := S1x8x512x128) ![0, 0, 0, 0] S1x1x512x128.size inb_S1x8x512x128_S1x1x512x128_0_0_0_0
abbrev r0_8 : Rect S1x8x512x128 := Rect.unit (s := S1x8x512x128) ![0, 1, 0, 0] S1x1x512x128.size inb_S1x8x512x128_S1x1x512x128_0_1_0_0
abbrev r0_9 : Rect S1x8x512x128 := Rect.unit (s := S1x8x512x128) ![0, 2, 0, 0] S1x1x512x128.size inb_S1x8x512x128_S1x1x512x128_0_2_0_0
abbrev r0_10 : Rect S1x8x512x128 := Rect.unit (s := S1x8x512x128) ![0, 3, 0, 0] S1x1x512x128.size inb_S1x8x512x128_S1x1x512x128_0_3_0_0
abbrev r0_11 : Rect S1x8x512x128 := Rect.unit (s := S1x8x512x128) ![0, 4, 0, 0] S1x1x512x128.size inb_S1x8x512x128_S1x1x512x128_0_4_0_0
abbrev r0_12 : Rect S1x8x512x128 := Rect.unit (s := S1x8x512x128) ![0, 5, 0, 0] S1x1x512x128.size inb_S1x8x512x128_S1x1x512x128_0_5_0_0
abbrev r0_13 : Rect S1x8x512x128 := Rect.unit (s := S1x8x512x128) ![0, 6, 0, 0] S1x1x512x128.size inb_S1x8x512x128_S1x1x512x128_0_6_0_0
abbrev r0_14 : Rect S1x8x512x128 := Rect.unit (s := S1x8x512x128) ![0, 7, 0, 0] S1x1x512x128.size inb_S1x8x512x128_S1x1x512x128_0_7_0_0
abbrev r0_15 : Rect S1024x256 := Rect.unit (s := S1024x256) ![0, 0] S1024x256.size inb_S1024x256_S1024x256_0_0
abbrev r0_16 : Rect S1x2x512x128 := Rect.unit (s := S1x2x512x128) ![0, 0, 0, 0] S1x1x512x128.size inb_S1x2x512x128_S1x1x512x128_0_0_0_0
abbrev r0_17 : Rect S1x2x512x128 := Rect.unit (s := S1x2x512x128) ![0, 1, 0, 0] S1x1x512x128.size inb_S1x2x512x128_S1x1x512x128_0_1_0_0
abbrev r0_18 : Rect S1024x128 := Rect.unit (s := S1024x128) ![0, 0] S1024x128.size inb_S1024x128_S1024x128_0_0
abbrev r0_19 : Rect S512x128 := Rect.unit (s := S512x128) ![0, 0] S512x128.size inb_S512x128_S512x128_0_0
abbrev r0_20 : Rect S512x64 := Rect.unit (s := S512x64) ![0, 0] S512x64.size inb_S512x64_S512x64_0_0

section
variable (x0 : Vec F S512x1024 .f32) (x1 : Vec F S1x1024 .f32) (x2 : Vec F S1024x512 .bf16) (x3 : Vec F S1024x1024 .bf16) (x4 : Vec F S1024x256 .bf16) (x5 : Vec F S1024x256 .bf16) (x6 : Vec F S1024x1024 .bf16) (x7 : Vec F S1024x128 .bf16) (x8 : Vec F S1024x128 .bf16) (x9 : Vec F S1024x1024 .bf16) (x10 : Vec F S1024x1024 .bf16) (x11 : Vec F S1024x128 .bf16) (x12 : Vec F S1024x128 .bf16) (x13 : Vec F S1x128 .f32) (x14 : Vec F S1x128 .f32) (x15 : Vec F S1x128 .f32) (x16 : Vec F S1x128 .f32) (x17 : Vec F S1x128 .f32) (x18 : Vec F S128x128 .bf16) (x19 : Vec F S128x128 .bf16)

def k0_pay58 : IVec S512x128 32 :=
  iota .tc S512x128 32 [1] iota_S512x128_d1_w32
def k0_pay59 : FVec F S512x1024 .bf16 :=
  k0_pay1 (View.ld x0 r0_0) (View.ld x1 r0_1)
def k0_pay60 : FVec F S128x128 .bf16 :=
  k0_pay2 (View.ld x18 r0_2)
def k0_pay61 : FVec F S512x1024 .f32 :=
  k0_pay4 (View.ld x0 r0_0) (View.ld x1 r0_1) (View.ld x3 r0_5)
def k0_pay62 : FVec F S512x1024 .f32 :=
  k0_pay35 (k0_pay59 x0 x1) (View.ld x6 r0_5)
def k0_pay63 : FVec F S512x128 .f32 :=
  constant S512x128 .f32 0x00000000#32
def k0_pay64 : FVec F S512x128 .f32 :=
  k0_pay45 (k0_pay59 x0 x1) (k0_pay60 x18) (k0_pay58) (View.ld x7 r0_18)
def k0_pay65 : FVec F S512x128 .bf16 :=
  k0_pay47 (k0_pay59 x0 x1) (k0_pay60 x18) (k0_pay58) (View.ld x7 r0_18)
def k0_pay66 : FVec F S512x128 .bf16 :=
  k0_pay48 (k0_pay59 x0 x1) (k0_pay60 x18) (k0_pay58) (View.ld x7 r0_18)

def out0_20 : Vec F S512x512 .bf16 :=
  View.canon [⟨r0_4, k0_pay3 (View.ld x0 r0_0) (View.ld x1 r0_1) (View.ld x2 r0_3)⟩]
def out0_21 : Vec F S1x8x512x128 .bf16 :=
  View.canon [⟨r0_14, k0_pay24 (k0_pay22 (k0_pay61 x0 x1 x3)) (k0_pay23 (k0_pay60 x18) (k0_pay61 x0 x1 x3)) (View.ld x13 r0_6)⟩,
    ⟨r0_13, k0_pay21 (k0_pay60 x18) (k0_pay61 x0 x1 x3) (View.ld x13 r0_6)⟩,
    ⟨r0_12, k0_pay20 (k0_pay17 (k0_pay60 x18) (k0_pay61 x0 x1 x3)) (k0_pay18 (View.ld x13 r0_6)) (k0_pay19 (F := F))⟩,
    ⟨r0_11, k0_pay16 (k0_pay60 x18) (k0_pay61 x0 x1 x3) (View.ld x13 r0_6)⟩,
    ⟨r0_10, k0_pay15 (k0_pay14 (k0_pay60 x18) (k0_pay61 x0 x1 x3) (View.ld x13 r0_6))⟩,
    ⟨r0_9, k0_pay13 (k0_pay60 x18) (k0_pay9 (k0_pay61 x0 x1 x3)) (k0_pay10 (k0_pay61 x0 x1 x3)) (k0_pay11 (k0_pay61 x0 x1 x3)) (k0_pay12 (k0_pay61 x0 x1 x3)) (View.ld x13 r0_6)⟩,
    ⟨r0_8, k0_pay8 (k0_pay60 x18) (k0_pay61 x0 x1 x3) (View.ld x13 r0_6)⟩,
    ⟨r0_7, k0_pay7 (k0_pay5 (View.ld x0 r0_0) (View.ld x1 r0_1) (View.ld x3 r0_5)) (k0_pay6 (View.ld x0 r0_0) (View.ld x1 r0_1) (View.ld x18 r0_2) (View.ld x3 r0_5)) (Scalar.ofBits .f32 0x358637BD#32) (View.ld x13 r0_6)⟩]
def out0_22 : Vec F S1x2x512x128 .bf16 :=
  View.canon [⟨r0_17, k0_pay30 (k0_pay60 x18) (k0_pay27 (k0_pay59 x0 x1) (View.ld x4 r0_15)) (k0_pay28 (k0_pay59 x0 x1) (View.ld x4 r0_15)) (k0_pay29 (k0_pay59 x0 x1) (View.ld x4 r0_15)) (View.ld x14 r0_6)⟩,
    ⟨r0_16, k0_pay26 (k0_pay59 x0 x1) (k0_pay60 x18) (View.ld x4 r0_15) (View.ld x14 r0_6)⟩]
def out0_23 : Vec F S1x2x512x128 .bf16 :=
  View.canon [⟨r0_17, k0_pay34 (k0_pay33 (k0_pay59 x0 x1) (k0_pay58) (View.ld x5 r0_15))⟩,
    ⟨r0_16, k0_pay32 (k0_pay59 x0 x1) (k0_pay58) (View.ld x5 r0_15)⟩]
def out0_24 : Vec F S1x8x512x128 .bf16 :=
  View.canon [⟨r0_14, k0_pay44 (k0_pay62 x0 x1 x6)⟩,
    ⟨r0_13, k0_pay43 (k0_pay62 x0 x1 x6)⟩,
    ⟨r0_12, k0_pay42 (k0_pay62 x0 x1 x6)⟩,
    ⟨r0_11, k0_pay41 (k0_pay40 (k0_pay59 x0 x1) (View.ld x6 r0_5))⟩,
    ⟨r0_10, k0_pay39 (k0_pay59 x0 x1) (View.ld x6 r0_5)⟩,
    ⟨r0_9, k0_pay38 (k0_pay59 x0 x1) (View.ld x6 r0_5)⟩,
    ⟨r0_8, k0_pay37 (k0_pay59 x0 x1) (View.ld x6 r0_5)⟩,
    ⟨r0_7, k0_pay36 (k0_pay59 x0 x1) (View.ld x6 r0_5)⟩]
def out0_25 : Vec F S512x128 .bf16 :=
  View.canon [⟨r0_19, k0_pay50 (k0_pay60 x18) (k0_pay64 x0 x1 x7 x18) (k0_pay65 x0 x1 x7 x18) (k0_pay66 x0 x1 x7 x18) (k0_pay63) (View.ld x16 r0_6) (View.ld x17 r0_6)⟩]
def out0_26 : Vec F S512x128 .f32 :=
  View.canon [⟨r0_19, k0_pay52 (k0_pay59 x0 x1) (View.ld x8 r0_18)⟩]
def out0_27 : Vec F S512x1024 .bf16 :=
  View.canon [⟨r0_0, k0_pay53 (k0_pay59 x0 x1) (View.ld x9 r0_5)⟩]
def out0_28 : Vec F S512x1024 .bf16 :=
  View.canon [⟨r0_0, k0_pay55 (k0_pay59 x0 x1) (k0_pay54 (View.ld x10 r0_5))⟩]
def out0_29 : Vec F S512x128 .f32 :=
  View.canon [⟨r0_19, k0_pay56 (k0_pay59 x0 x1) (View.ld x11 r0_18) (View.ld x19 r0_2) (View.ld x15 r0_6)⟩]
def out0_30 : Vec F S512x128 .f32 :=
  View.canon [⟨r0_19, k0_pay57 (k0_pay59 x0 x1) (View.ld x12 r0_18)⟩]
def out0_31 : Vec F S512x64 .f32 :=
  View.canon [⟨r0_20, k0_pay51 (k0_pay60 x18) (k0_pay64 x0 x1 x7 x18) (k0_pay65 x0 x1 x7 x18) (k0_pay66 x0 x1 x7 x18) (k0_pay63) (View.ld x16 r0_6) (View.ld x17 r0_6)⟩]

end

theorem cover0_20 (p0 : Vec F S512x512 .bf16) (y : S512x512.Idx) :
    ∃ pc ∈ ([⟨r0_4, p0⟩] : List (View.Piece (Elt F) S512x512 .bf16)), y ∈ pc.1.set :=
  View.cover_of_tiled [⟨r0_4, p0⟩] S512x512.size (by rfl) y
theorem cover0_21 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x8x512x128 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x1x512x128.size (by rfl) y
theorem cover0_22 (p0 : Vec F S1x1x512x128 .bf16) (p1 : Vec F S1x1x512x128 .bf16) (y : S1x2x512x128.Idx) :
    ∃ pc ∈ ([⟨r0_17, p0⟩, ⟨r0_16, p1⟩] : List (View.Piece (Elt F) S1x2x512x128 .bf16)), y ∈ pc.1.set :=
  View.cover_of_tiled [⟨r0_17, p0⟩, ⟨r0_16, p1⟩] S1x1x512x128.size (by rfl) y
theorem cover0_23 (p0 : Vec F S1x1x512x128 .bf16) (p1 : Vec F S1x1x512x128 .bf16) (y : S1x2x512x128.Idx) :
    ∃ pc ∈ ([⟨r0_17, p0⟩, ⟨r0_16, p1⟩] : List (View.Piece (Elt F) S1x2x512x128 .bf16)), y ∈ pc.1.set :=
  View.cover_of_tiled [⟨r0_17, p0⟩, ⟨r0_16, p1⟩] S1x1x512x128.size (by rfl) y
theorem cover0_24 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x8x512x128 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x1x512x128.size (by rfl) y
theorem cover0_25 (p0 : Vec F S512x128 .bf16) (y : S512x128.Idx) :
    ∃ pc ∈ ([⟨r0_19, p0⟩] : List (View.Piece (Elt F) S512x128 .bf16)), y ∈ pc.1.set :=
  View.cover_of_tiled [⟨r0_19, p0⟩] S512x128.size (by rfl) y
theorem cover0_26 (p0 : Vec F S512x128 .f32) (y : S512x128.Idx) :
    ∃ pc ∈ ([⟨r0_19, p0⟩] : List (View.Piece (Elt F) S512x128 .f32)), y ∈ pc.1.set :=
  View.cover_of_tiled [⟨r0_19, p0⟩] S512x128.size (by rfl) y
theorem cover0_27 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
theorem cover0_28 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
theorem cover0_29 (p0 : Vec F S512x128 .f32) (y : S512x128.Idx) :
    ∃ pc ∈ ([⟨r0_19, p0⟩] : List (View.Piece (Elt F) S512x128 .f32)), y ∈ pc.1.set :=
  View.cover_of_tiled [⟨r0_19, p0⟩] S512x128.size (by rfl) y
theorem cover0_30 (p0 : Vec F S512x128 .f32) (y : S512x128.Idx) :
    ∃ pc ∈ ([⟨r0_19, p0⟩] : List (View.Piece (Elt F) S512x128 .f32)), y ∈ pc.1.set :=
  View.cover_of_tiled [⟨r0_19, p0⟩] S512x128.size (by rfl) y
theorem cover0_31 (p0 : Vec F S512x64 .f32) (y : S512x64.Idx) :
    ∃ pc ∈ ([⟨r0_20, p0⟩] : List (View.Piece (Elt F) S512x64 .f32)), y ∈ pc.1.set :=
  View.cover_of_tiled [⟨r0_20, p0⟩] S512x64.size (by rfl) y

set_option maxHeartbeats 8000000 in
/-- The body leaves the inputs as they are and each output at what is stated of it. -/
theorem sound_kernel (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x1024 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x128 .bf16) (harg20 : arg20.IsWhole) (arg21 : Memref sig .tc .vmem S128x128 .bf16) (harg21 : arg21.IsWhole) (arg22 : Memref sig .tc .vmem S512x512 .bf16) (harg22 : arg22.IsWhole) (arg23 : Memref sig .tc .vmem S1x8x512x128 .bf16) (harg23 : arg23.IsWhole) (arg24 : Memref sig .tc .vmem S1x2x512x128 .bf16) (harg24 : arg24.IsWhole) (arg25 : Memref sig .tc .vmem S1x2x512x128 .bf16) (harg25 : arg25.IsWhole) (arg26 : Memref sig .tc .vmem S1x8x512x128 .bf16) (harg26 : arg26.IsWhole) (arg27 : Memref sig .tc .vmem S512x128 .bf16) (harg27 : arg27.IsWhole) (arg28 : Memref sig .tc .vmem S512x128 .f32) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S512x128 .f32) (harg31 : arg31.IsWhole) (arg32 : Memref sig .tc .vmem S512x128 .f32) (harg32 : arg32.IsWhole) (arg33 : Memref sig .tc .vmem S512x64 .f32) (harg33 : arg33.IsWhole)
    (x0 : Vec F S512x1024 .f32) (x1 : Vec F S1x1024 .f32) (x2 : Vec F S1024x512 .bf16) (x3 : Vec F S1024x1024 .bf16) (x4 : Vec F S1024x256 .bf16) (x5 : Vec F S1024x256 .bf16) (x6 : Vec F S1024x1024 .bf16) (x7 : Vec F S1024x128 .bf16) (x8 : Vec F S1024x128 .bf16) (x9 : Vec F S1024x1024 .bf16) (x10 : Vec F S1024x1024 .bf16) (x11 : Vec F S1024x128 .bf16) (x12 : Vec F S1024x128 .bf16) (x13 : Vec F S1x128 .f32) (x14 : Vec F S1x128 .f32) (x15 : Vec F S1x128 .f32) (x16 : Vec F S1x128 .f32) (x17 : Vec F S1x128 .f32) (x18 : Vec F S128x128 .bf16) (x19 : Vec F S128x128 .bf16) (K : PUnit → sProp (MT nD τ sig Unit (Elt F) ℕ (UR sig nD τ) ℕ)) :
    iprop(owns ↑c arg2 fullShare x0 ∗ owns ↑c arg3 fullShare x1 ∗ owns ↑c arg4 fullShare x2 ∗ owns ↑c arg5 fullShare x3 ∗ owns ↑c arg6 fullShare x4 ∗ owns ↑c arg7 fullShare x5 ∗ owns ↑c arg8 fullShare x6 ∗ owns ↑c arg9 fullShare x7 ∗ owns ↑c arg10 fullShare x8 ∗ owns ↑c arg11 fullShare x9 ∗ owns ↑c arg12 fullShare x10 ∗ owns ↑c arg13 fullShare x11 ∗ owns ↑c arg14 fullShare x12 ∗ owns ↑c arg15 fullShare x13 ∗ owns ↑c arg16 fullShare x14 ∗ owns ↑c arg17 fullShare x15 ∗ owns ↑c arg18 fullShare x16 ∗ owns ↑c arg19 fullShare x17 ∗ owns ↑c arg20 fullShare x18 ∗ owns ↑c arg21 fullShare x19 ∗ (∃ d, owns ↑c arg22 fullShare d) ∗ (∃ d, owns ↑c arg23 fullShare d) ∗ (∃ d, owns ↑c arg24 fullShare d) ∗ (∃ d, owns ↑c arg25 fullShare d) ∗ (∃ d, owns ↑c arg26 fullShare d) ∗ (∃ d, owns ↑c arg27 fullShare d) ∗ (∃ d, owns ↑c arg28 fullShare d) ∗ (∃ d, owns ↑c arg29 fullShare d) ∗ (∃ d, owns ↑c arg30 fullShare d) ∗ (∃ d, owns ↑c arg31 fullShare d) ∗ (∃ d, owns ↑c arg32 fullShare d) ∗ (∃ d, owns ↑c arg33 fullShare d)
        ∗ (iprop(owns ↑c arg2 fullShare x0 ∗ owns ↑c arg3 fullShare x1 ∗ owns ↑c arg4 fullShare x2 ∗ owns ↑c arg5 fullShare x3 ∗ owns ↑c arg6 fullShare x4 ∗ owns ↑c arg7 fullShare x5 ∗ owns ↑c arg8 fullShare x6 ∗ owns ↑c arg9 fullShare x7 ∗ owns ↑c arg10 fullShare x8 ∗ owns ↑c arg11 fullShare x9 ∗ owns ↑c arg12 fullShare x10 ∗ owns ↑c arg13 fullShare x11 ∗ owns ↑c arg14 fullShare x12 ∗ owns ↑c arg15 fullShare x13 ∗ owns ↑c arg16 fullShare x14 ∗ owns ↑c arg17 fullShare x15 ∗ owns ↑c arg18 fullShare x16 ∗ owns ↑c arg19 fullShare x17 ∗ owns ↑c arg20 fullShare x18 ∗ owns ↑c arg21 fullShare x19 ∗ owns ↑c arg22 fullShare (out0_20 x0 x1 x2) ∗ owns ↑c arg23 fullShare (out0_21 x0 x1 x3 x13 x18) ∗ owns ↑c arg24 fullShare (out0_22 x0 x1 x4 x14 x18) ∗ owns ↑c arg25 fullShare (out0_23 x0 x1 x5) ∗ owns ↑c arg26 fullShare (out0_24 x0 x1 x6) ∗ owns ↑c arg27 fullShare (out0_25 x0 x1 x7 x16 x17 x18) ∗ owns ↑c arg28 fullShare (out0_26 x0 x1 x8) ∗ owns ↑c arg29 fullShare (out0_27 x0 x1 x9) ∗ owns ↑c arg30 fullShare (out0_28 x0 x1 x10) ∗ owns ↑c arg31 fullShare (out0_29 x0 x1 x11 x15 x19) ∗ owns ↑c arg32 fullShare (out0_30 x0 x1 x12) ∗ owns ↑c arg33 fullShare (out0_31 x0 x1 x7 x16 x17 x18)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_proj_eq_skeleton]; unfold cc0_proj_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _ _)).trans ?_
    rfl
  isplitl [H24]
  · iexists _; isplitr
    swap; · iexact H24
    ipureintro
    refine (View.read_writes_eq_canon _ _ _ (cover0_24 _ _ _ _ _ _ _ _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-- The launch's data: the arrays as the host left them, and what the body leaves in every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t)
    | ⟨21, _⟩ => out0_21 (iblk m c 0 t) (iblk m c 1 t) (iblk m c 3 t) (iblk m c 13 t) (iblk m c 18 t)
    | ⟨22, _⟩ => out0_22 (iblk m c 0 t) (iblk m c 1 t) (iblk m c 4 t) (iblk m c 14 t) (iblk m c 18 t)
    | ⟨23, _⟩ => out0_23 (iblk m c 0 t) (iblk m c 1 t) (iblk m c 5 t)
    | ⟨24, _⟩ => out0_24 (iblk m c 0 t) (iblk m c 1 t) (iblk m c 6 t)
    | ⟨25, _⟩ => out0_25 (iblk m c 0 t) (iblk m c 1 t) (iblk m c 7 t) (iblk m c 16 t) (iblk m c 17 t) (iblk m c 18 t)
    | ⟨26, _⟩ => out0_26 (iblk m c 0 t) (iblk m c 1 t) (iblk m c 8 t)
    | ⟨27, _⟩ => out0_27 (iblk m c 0 t) (iblk m c 1 t) (iblk m c 9 t)
    | ⟨28, _⟩ => out0_28 (iblk m c 0 t) (iblk m c 1 t) (iblk m c 10 t)
    | ⟨29, _⟩ => out0_29 (iblk m c 0 t) (iblk m c 1 t) (iblk m c 11 t) (iblk m c 15 t) (iblk m c 19 t)
    | ⟨30, _⟩ => out0_30 (iblk m c 0 t) (iblk m c 1 t) (iblk m c 12 t)
    | ⟨31, _⟩ => out0_31 (iblk m c 0 t) (iblk m c 1 t) (iblk m c 7 t) (iblk m c 16 t) (iblk m c 17 t) (iblk m c 18 t)
    | ⟨_ + 32, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

section
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = out0_20 (iblk m c 0 t) (iblk m c 1 t) (iblk m c 2 t) := by dsimp only [dats]
theorem after0_21 : (dats m 0 c).after 21 t = out0_21 (iblk m c 0 t) (iblk m c 1 t) (iblk m c 3 t) (iblk m c 13 t) (iblk m c 18 t) := by dsimp only [dats]
theorem after0_22 : (dats m 0 c).after 22 t = out0_22 (iblk m c 0 t) (iblk m c 1 t) (iblk m c 4 t) (iblk m c 14 t) (iblk m c 18 t) := by dsimp only [dats]
theorem after0_23 : (dats m 0 c).after 23 t = out0_23 (iblk m c 0 t) (iblk m c 1 t) (iblk m c 5 t) := by dsimp only [dats]
theorem after0_24 : (dats m 0 c).after 24 t = out0_24 (iblk m c 0 t) (iblk m c 1 t) (iblk m c 6 t) := by dsimp only [dats]
theorem after0_25 : (dats m 0 c).after 25 t = out0_25 (iblk m c 0 t) (iblk m c 1 t) (iblk m c 7 t) (iblk m c 16 t) (iblk m c 17 t) (iblk m c 18 t) := by dsimp only [dats]
theorem after0_26 : (dats m 0 c).after 26 t = out0_26 (iblk m c 0 t) (iblk m c 1 t) (iblk m c 8 t) := by dsimp only [dats]
theorem after0_27 : (dats m 0 c).after 27 t = out0_27 (iblk m c 0 t) (iblk m c 1 t) (iblk m c 9 t) := by dsimp only [dats]
theorem after0_28 : (dats m 0 c).after 28 t = out0_28 (iblk m c 0 t) (iblk m c 1 t) (iblk m c 10 t) := by dsimp only [dats]
theorem after0_29 : (dats m 0 c).after 29 t = out0_29 (iblk m c 0 t) (iblk m c 1 t) (iblk m c 11 t) (iblk m c 15 t) (iblk m c 19 t) := by dsimp only [dats]
theorem after0_30 : (dats m 0 c).after 30 t = out0_30 (iblk m c 0 t) (iblk m c 1 t) (iblk m c 12 t) := by dsimp only [dats]
theorem after0_31 : (dats m 0 c).after 31 t = out0_31 (iblk m c 0 t) (iblk m c 1 t) (iblk m c 7 t) (iblk m c 16 t) (iblk m c 17 t) (iblk m c 18 t) := by dsimp only [dats]
theorem before0_0 (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
end

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns ↑c (st0_0 t) fullShare ((dats m 0 c).before 0 t d))
    ∗ (∃ d, owns ↑c (st0_1 t) fullShare ((dats m 0 c).before 1 t d))
    ∗ (∃ d, owns ↑c (st0_2 t) fullShare ((dats m 0 c).before 2 t d))
    ∗ (∃ d, owns ↑c (st0_3 t) fullShare ((dats m 0 c).before 3 t d))
    ∗ (∃ d, owns ↑c (st0_4 t) fullShare ((dats m 0 c).before 4 t d))
    ∗ (∃ d, owns ↑c (st0_5 t) fullShare ((dats m 0 c).before 5 t d))
    ∗ (∃ d, owns ↑c (st0_6 t) fullShare ((dats m 0 c).before 6 t d))
    ∗ (∃ d, owns ↑c (st0_7 t) fullShare ((dats m 0 c).before 7 t d))
    ∗ (∃ d, owns ↑c (st0_8 t) fullShare ((dats m 0 c).before 8 t d))
    ∗ (∃ d, owns ↑c (st0_9 t) fullShare ((dats m 0 c).before 9 t d))
    ∗ (∃ d, owns ↑c (st0_10 t) fullShare ((dats m 0 c).before 10 t d))
    ∗ (∃ d, owns ↑c (st0_11 t) fullShare ((dats m 0 c).before 11 t d))
    ∗ (∃ d, owns ↑c (st0_12 t) fullShare ((dats m 0 c).before 12 t d))
    ∗ (∃ d, owns ↑c (st0_13 t) fullShare ((dats m 0 c).before 13 t d))
    ∗ (∃ d, owns ↑c (st0_14 t) fullShare ((dats m 0 c).before 14 t d))
    ∗ (∃ d, owns ↑c (st0_15 t) fullShare ((dats m 0 c).before 15 t d))
    ∗ (∃ d, owns ↑c (st0_16 t) fullShare ((dats m 0 c).before 16 t d))
    ∗ (∃ d, owns ↑c (st0_17 t) fullShare ((dats m 0 c).before 17 t d))
    ∗ (∃ d, owns ↑c (st0_18 t) fullShare ((dats m 0 c).before 18 t d))
    ∗ (∃ d, owns ↑c (st0_19 t) fullShare ((dats m 0 c).before 19 t d))
    ∗ (∃ d, owns ↑c (st0_20 t) fullShare ((dats m 0 c).before 20 t d))
    ∗ (∃ d, owns ↑c (st0_21 t) fullShare ((dats m 0 c).before 21 t d))
    ∗ (∃ d, owns ↑c (st0_22 t) fullShare ((dats m 0 c).before 22 t d))
    ∗ (∃ d, owns ↑c (st0_23 t) fullShare ((dats m 0 c).before 23 t d))
    ∗ (∃ d, owns ↑c (st0_24 t) fullShare ((dats m 0 c).before 24 t d))
    ∗ (∃ d, owns ↑c (st0_25 t) fullShare ((dats m 0 c).before 25 t d))
    ∗ (∃ d, owns ↑c (st0_26 t) fullShare ((dats m 0 c).before 26 t d))
    ∗ (∃ d, owns ↑c (st0_27 t) fullShare ((dats m 0 c).before 27 t d))
    ∗ (∃ d, owns ↑c (st0_28 t) fullShare ((dats m 0 c).before 28 t d))
    ∗ (∃ d, owns ↑c (st0_29 t) fullShare ((dats m 0 c).before 29 t d))
    ∗ (∃ d, owns ↑c (st0_30 t) fullShare ((dats m 0 c).before 30 t d))
    ∗ (∃ d, owns ↑c (st0_31 t) fullShare ((dats m 0 c).before 31 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns ↑c (st0_0 t) fullShare ((dats m 0 c).after 0 t)
    ∗ owns ↑c (st0_1 t) fullShare ((dats m 0 c).after 1 t)
    ∗ owns ↑c (st0_2 t) fullShare ((dats m 0 c).after 2 t)
    ∗ owns ↑c (st0_3 t) fullShare ((dats m 0 c).after 3 t)
    ∗ owns ↑c (st0_4 t) fullShare ((dats m 0 c).after 4 t)
    ∗ owns ↑c (st0_5 t) fullShare ((dats m 0 c).after 5 t)
    ∗ owns ↑c (st0_6 t) fullShare ((dats m 0 c).after 6 t)
    ∗ owns ↑c (st0_7 t) fullShare ((dats m 0 c).after 7 t)
    ∗ owns ↑c (st0_8 t) fullShare ((dats m 0 c).after 8 t)
    ∗ owns ↑c (st0_9 t) fullShare ((dats m 0 c).after 9 t)
    ∗ owns ↑c (st0_10 t) fullShare ((dats m 0 c).after 10 t)
    ∗ owns ↑c (st0_11 t) fullShare ((dats m 0 c).after 11 t)
    ∗ owns ↑c (st0_12 t) fullShare ((dats m 0 c).after 12 t)
    ∗ owns ↑c (st0_13 t) fullShare ((dats m 0 c).after 13 t)
    ∗ owns ↑c (st0_14 t) fullShare ((dats m 0 c).after 14 t)
    ∗ owns ↑c (st0_15 t) fullShare ((dats m 0 c).after 15 t)
    ∗ owns ↑c (st0_16 t) fullShare ((dats m 0 c).after 16 t)
    ∗ owns ↑c (st0_17 t) fullShare ((dats m 0 c).after 17 t)
    ∗ owns ↑c (st0_18 t) fullShare ((dats m 0 c).after 18 t)
    ∗ owns ↑c (st0_19 t) fullShare ((dats m 0 c).after 19 t)
    ∗ owns ↑c (st0_20 t) fullShare ((dats m 0 c).after 20 t)
    ∗ owns ↑c (st0_21 t) fullShare ((dats m 0 c).after 21 t)
    ∗ owns ↑c (st0_22 t) fullShare ((dats m 0 c).after 22 t)
    ∗ owns ↑c (st0_23 t) fullShare ((dats m 0 c).after 23 t)
    ∗ owns ↑c (st0_24 t) fullShare ((dats m 0 c).after 24 t)
    ∗ owns ↑c (st0_25 t) fullShare ((dats m 0 c).after 25 t)
    ∗ owns ↑c (st0_26 t) fullShare ((dats m 0 c).after 26 t)
    ∗ owns ↑c (st0_27 t) fullShare ((dats m 0 c).after 27 t)
    ∗ owns ↑c (st0_28 t) fullShare ((dats m 0 c).after 28 t)
    ∗ owns ↑c (st0_29 t) fullShare ((dats m 0 c).after 29 t)
    ∗ owns ↑c (st0_30 t) fullShare ((dats m 0 c).after 30 t)
    ∗ owns ↑c (st0_31 t) fullShare ((dats m 0 c).after 31 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the launch, with every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 8000000 in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨v0, v1, v2, v3, v4, v5, v6⟩ := V_args m c
    exact ⟨((h c).2 main_arg0 (Pipeline.mem_restRefs_of main_arg0 (by decide) (by decide))).trans v0, ((h c).2 main_arg1 (Pipeline.mem_restRefs_of main_arg1 (by decide) (by decide))).trans v1, ((h c).2 main_arg2 (Pipeline.mem_restRefs_of main_arg2 (by decide) (by decide))).trans v2, ((h c).2 main_arg3 (Pipeline.mem_restRefs_of main_arg3 (by decide) (by decide))).trans v3, ((h c).2 main_arg4 (Pipeline.mem_restRefs_of main_arg4 (by decide) (by decide))).trans v4, ((h c).2 main_arg5 (Pipeline.mem_restRefs_of main_arg5 (by decide) (by decide))).trans v5, ((h c).2 main_arg6 (Pipeline.mem_restRefs_of main_arg6 (by decide) (by decide))).trans v6⟩) (run_main m ρ)

/-- Every fair run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen

end
-- ==== Proof.ProjMath.lean ====
/- The mathematics of the projection call: finite numbers through the norms, and a mean taken as two sums against a table
   of reciprocals. -/
module

public import Idealize.ShloMosaic.PureOps.Ideal
public import Idealize.ShloMosaic.Lib.IdealHost
public import Mathlib.Tactic.NormNum
public import Mathlib.Algebra.BigOperators.Fin

@[expose] public section

noncomputable section

namespace Cert.Proj

open Idealize.ShloMosaic

/-- Neither infinity. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.mul {x y : EReal} : Fin' x → Fin' y → Fin' (x * y)
  | ⟨a, ha⟩, ⟨b, hb⟩ => ⟨a * b, by rw [ha, hb, EReal.coe_mul]⟩
theorem Fin'.add {x y : EReal} : Fin' x → Fin' y → Fin' (x + y)
  | ⟨a, ha⟩, ⟨b, hb⟩ => ⟨a + b, by rw [ha, hb, EReal.coe_add]⟩
theorem Fin'.sub {x y : EReal} : Fin' x → Fin' y → Fin' (x - y)
  | ⟨a, ha⟩, ⟨b, hb⟩ => ⟨a - b, by rw [ha, hb, EReal.coe_sub]⟩
theorem Fin'.sum {ι : Type} (s : Finset ι) {f : ι → EReal} (h : ∀ i, Fin' (f i)) : Fin' (∑ i ∈ s, f i) := by
  classical
  induction s using Finset.induction_on with
  | empty => exact Fin'.zero
  | insert a s ha ih => rw [Finset.sum_insert ha]; exact (h a).add ih
theorem Fin'.sub_self {x : EReal} : Fin' x → x - x = 0
  | ⟨a, ha⟩ => by rw [ha, ← EReal.coe_sub, _root_.sub_self]; rfl

theorem sq_nonneg {x : EReal} : Fin' x → 0 ≤ x * x
  | ⟨a, ha⟩ => by rw [ha, ← EReal.coe_mul]; exact_mod_cast mul_self_nonneg a

def eps : EReal := Ideal.ofBits FTy.f32 897988541#32
def k64 : EReal := Ideal.ofBits FTy.f32 1115684864#32
def k1024 : EReal := Ideal.ofBits FTy.f32 1149239296#32
def rec64 : EReal := Ideal.ofBits FTy.bf16 15488#16

theorem eps_pos : ∃ r : ℝ, 0 < r ∧ eps = (r : EReal) := by
  refine ⟨8796093 * 2 ^ (-43 : ℤ), by positivity, ?_⟩
  unfold eps
  simp [Ideal.ofBits, Ideal.ieee, -EReal.coe_mul]
theorem k64_eq : k64 = ((64 : ℝ) : EReal) := by
  unfold k64
  simp [Ideal.ofBits, Ideal.ieee, -EReal.coe_mul]; norm_num
theorem k1024_eq : k1024 = ((1024 : ℝ) : EReal) := by
  unfold k1024
  simp [Ideal.ofBits, Ideal.ieee, -EReal.coe_mul]; norm_num
theorem rec64_eq : rec64 = ((1 / 64 : ℝ) : EReal) := by
  unfold rec64
  simp [Ideal.ofBits, Ideal.ieee, -EReal.coe_mul]; norm_num
theorem bf16_zero : Ideal.ofBits FTy.bf16 0#16 = 0 := by
  simp [Ideal.ofBits, Ideal.ieee, -EReal.coe_mul]

/-- The reciprocal root of a finite number that is not negative, `eps` added, is finite. -/
theorem rsqrt_fin {s : EReal} (h : Fin' s) (h0 : 0 ≤ s) : Fin' (Ideal.rsqrt (s + eps)) := by
  obtain ⟨a, rfl⟩ := h
  obtain ⟨e, he, hE⟩ := eps_pos
  have ha : (0 : ℝ) ≤ a := by exact_mod_cast h0
  rw [hE, ← EReal.coe_add, Ideal.rsqrt_coe, if_neg (by linarith), if_neg (by linarith)]
  exact Fin'.coe _

theorem div_k {k : EReal} {y : ℝ} (hk : k = (y : EReal)) (hy : 0 < y) (x : EReal) : Ideal.div x k = x * ((1 / y : ℝ) : EReal) := by
  rw [hk, Ideal.div_coe hy.ne']

theorem div64 (x : EReal) : Ideal.div x k64 = x * rec64 := by
  rw [div_k k64_eq (by norm_num), rec64_eq]

theorem rec64_nonneg : 0 ≤ rec64 := by rw [rec64_eq]; exact_mod_cast (by norm_num : (0 : ℝ) ≤ 1 / 64)

/-- A row scaled by the reciprocal root of its mean square, then by the gains. -/
def hrow (x g : Fin 1024 → EReal) (d : Fin 1024) : EReal :=
  x d * Ideal.rsqrt (Ideal.div (∑ i, x i * x i) k1024 + eps) * g d

/-- An infinite entry makes the mean square infinite, its reciprocal root zero, and with it the row. -/
theorem root_top {x : Fin 1024 → EReal} {i : Fin 1024} (hi : x i * x i = ⊤) : Ideal.rsqrt (Ideal.div (∑ i, x i * x i) k1024 + eps) = 0 := by
  have hn : ∀ j ∈ (Finset.univ : Finset (Fin 1024)), 0 ≤ x j * x j := fun j _ => by
    rcases le_total 0 (x j) with h | h
    · exact mul_nonneg h h
    · rw [← neg_mul_neg]
      exact mul_nonneg (EReal.neg_nonneg.2 h) (EReal.neg_nonneg.2 h)
  have hs : ∑ i, x i * x i = ⊤ := top_le_iff.1 (hi ▸ Finset.single_le_sum hn (Finset.mem_univ i))
  obtain ⟨e, he, hE⟩ := eps_pos
  rw [hs, div_k k1024_eq (by norm_num), EReal.top_mul_coe_of_pos (by norm_num), hE, EReal.top_add_coe]
  rfl

theorem hrow_fin {x g : Fin 1024 → EReal} (hg : ∀ i, Fin' (g i)) (d : Fin 1024) : Fin' (hrow x g d) := by
  unfold hrow
  by_cases h : ∃ i, x i * x i = ⊤
  · obtain ⟨i, hi⟩ := h
    rw [root_top hi, mul_zero, zero_mul]
    exact Fin'.zero
  have hx : ∀ i, Fin' (x i) := fun i => by
    have hi : x i * x i ≠ ⊤ := fun e => h ⟨i, e⟩
    generalize x i = y at hi
    induction y using EReal.rec with
    | bot => exact absurd rfl hi
    | top => exact absurd rfl hi
    | coe r => exact ⟨r, rfl⟩
  refine ((hx d).mul (rsqrt_fin ?_ ?_)).mul (hg d)
  · rw [div_k k1024_eq (by norm_num)]
    exact (Fin'.sum _ fun i => (hx i).mul (hx i)).mul (Fin'.coe _)
  · rw [div_k k1024_eq (by norm_num)]
    refine mul_nonneg (Finset.sum_nonneg fun i _ => sq_nonneg (hx i)) ?_
    exact_mod_cast (by norm_num : (0 : ℝ) ≤ 1 / 1024)

/-- An entry of the projection. -/
def zrow (x g : Fin 1024 → EReal) (w : Fin 1024 → EReal) : EReal := ∑ d, hrow x g d * w d

theorem zrow_fin {x g w : Fin 1024 → EReal} (hg : ∀ i, Fin' (g i)) (hw : ∀ i, Fin' (w i)) : Fin' (zrow x g w) :=
  Fin'.sum _ fun i => (hrow_fin hg i).mul (hw i)

/-- The low part of a finite number is zero: the second sum adds nothing. -/
theorem split_sum {n : ℕ} {a c : Fin n → EReal} (ha : ∀ j, Fin' (a j)) : ∑ j, a j * c j + ∑ j, (a j - a j) * c j = ∑ j, a j * c j := by
  have h : ∑ j, (a j - a j) * c j = 0 := Finset.sum_eq_zero fun j _ => by rw [(ha j).sub_self, zero_mul]
  rw [h, add_zero]

/-- A sum over 128 lanes of which the last 64 are zero. -/
theorem sum_lanes (a : Fin 128 → EReal) (h : ∀ j : Fin 128, 64 ≤ j.val → a j = 0) : ∑ j, a j = ∑ j : Fin 64, a ⟨j.val, by omega⟩ := by
  rw [show ∑ j : Fin 128, a j = ∑ j : Fin (64 + 64), a ⟨j.val, j.isLt⟩ from rfl, Fin.sum_univ_add]
  rw [Finset.sum_eq_zero (s := Finset.univ) (f := fun j : Fin 64 => a ⟨(Fin.natAdd 64 j).val, (Fin.natAdd 64 j).isLt⟩)
    fun j _ => h _ (by show 64 ≤ 64 + j.val; omega), add_zero]
  rfl

/-- A sum over 128 lanes of which the first 64 are zero. -/
theorem sum_lanes_hi (a : Fin 128 → EReal) (h : ∀ j : Fin 128, j.val < 64 → a j = 0) : ∑ j, a j = ∑ j : Fin 64, a ⟨64 + j.val, by omega⟩ := by
  rw [show ∑ j : Fin 128, a j = ∑ j : Fin (64 + 64), a ⟨j.val, j.isLt⟩ from rfl, Fin.sum_univ_add]
  rw [Finset.sum_eq_zero (s := Finset.univ) (f := fun j : Fin 64 => a ⟨(Fin.castAdd 64 j).val, (Fin.castAdd 64 j).isLt⟩)
    fun j _ => h _ (by show j.val < 64; omega), zero_add]
  rfl

theorem coe_sum {ι : Type} (s : Finset ι) (r : ι → ℝ) : ∑ j ∈ s, (r j : EReal) = ((∑ j ∈ s, r j : ℝ) : EReal) := by
  classical
  induction s using Finset.induction_on with
  | empty => rfl
  | insert a s ha ih => rw [Finset.sum_insert ha, Finset.sum_insert ha, ih, EReal.coe_add]

theorem sum_rec {n : ℕ} {a : Fin n → EReal} (ha : ∀ j, Fin' (a j)) : ∑ j, a j * rec64 = Ideal.div (∑ j, a j) k64 := by
  rw [div64, rec64_eq]
  choose r hr using ha
  simp only [hr]
  rw [coe_sum, ← EReal.coe_mul, Finset.sum_mul, ← coe_sum]
  exact Finset.sum_congr rfl fun j _ => (EReal.coe_mul _ _).symm

/-- The mean of the first 64 lanes, as the body takes it: two sums over 128 lanes against a table of reciprocals. -/
theorem mean_lanes {a c : Fin 128 → EReal} (ha : ∀ j, Fin' (a j)) (h0 : ∀ j : Fin 128, 64 ≤ j.val → a j = 0)
    (hc : ∀ j : Fin 128, j.val < 64 → c j = rec64) :
    ∑ j, a j * c j + ∑ j, (a j - a j) * c j = Ideal.div (∑ j : Fin 64, a ⟨j.val, by omega⟩) k64 := by
  rw [split_sum ha, sum_lanes _ fun j h => by rw [h0 j h, zero_mul], ← sum_rec fun j => ha _]
  exact Finset.sum_congr rfl fun j _ => by rw [hc _ j.isLt]

/-- The mean over the block of 64 lanes that a lane lies in. -/
theorem mean_block {a c : Fin 128 → EReal} (ha : ∀ j, Fin' (a j)) (b : Fin 2)
    (hc : ∀ j : Fin 128, c j = if j.val / 64 = b.val then rec64 else 0) :
    ∑ j, a j * c j + ∑ j, (a j - a j) * c j = Ideal.div (∑ j : Fin 64, a ⟨b.val * 64 + j.val, by omega⟩) k64 := by
  rw [split_sum ha]
  obtain ⟨b, hb⟩ := b
  obtain rfl | rfl : b = 0 ∨ b = 1 := by omega
  · rw [sum_lanes _ fun j h => by rw [hc, if_neg (by show ¬ j.val / 64 = 0; omega), mul_zero], ← sum_rec fun j => ha _]
    refine Finset.sum_congr rfl fun j _ => ?_
    rw [hc, if_pos (by show j.val / 64 = 0; omega)]
    exact congrArg (fun i => a i * rec64) (Fin.ext (by show j.val = 0 * 64 + j.val; omega))
  · rw [sum_lanes_hi _ fun j h => by rw [hc, if_neg (by show ¬ j.val / 64 = 1; omega), mul_zero], ← sum_rec fun j => ha _]
    refine Finset.sum_congr rfl fun j _ => ?_
    rw [hc, if_pos (by show (64 + j.val) / 64 = 1; omega)]
    rfl

/-- Entry `l` of a head's 64, normalized. -/
def nrm (q : Fin 64 → EReal) (l : Fin 64) : EReal := q l * Ideal.rsqrt (Ideal.div (∑ j, q j * q j) k64 + eps)

/-- Entry `l` of 64, centred. -/
def cen (q : Fin 64 → EReal) (l : Fin 64) : EReal := q l - Ideal.div (∑ j, q j) k64

theorem cen_fin {q : Fin 64 → EReal} (hq : ∀ j, Fin' (q j)) (l : Fin 64) : Fin' (cen q l) := by
  unfold cen
  rw [div64, rec64_eq]
  exact (hq l).sub ((Fin'.sum _ hq).mul (Fin'.coe _))

/-- A row of 128 lanes normalized by its root mean square, the mean being a product with `v`: of the squares' high part and of what it leaves. -/
def laneNrm (a : Fin 128 → EReal) (v : Fin 128 → Fin 128 → EReal) (l : Fin 128) : EReal :=
  a l * Ideal.rsqrt ((∑ j, a j * a j * v j l) + (∑ j, (a j * a j - a j * a j) * v j l) + eps)

/-- A row of 128 lanes less its mean, taken the same way. -/
def laneCen (a : Fin 128 → EReal) (v : Fin 128 → Fin 128 → EReal) (l : Fin 128) : EReal :=
  a l - ((∑ j, a j * v j l) + ∑ j, (a j - a j) * v j l)

/-! What the call returns, entry by entry: of the tokens' rows `x`, the norm's gains `g` and the projection's weights `w`. -/

section
variable (x : Fin 16 → Fin 4096 → Fin 1024 → EReal) (g : Fin 1024 → EReal) (w : Fin 1024 → Fin 3912 → EReal)

def Z (b : Fin 16) (s : Fin 4096) (e : Fin 3912) : EReal := zrow (x b s) g fun d => w d e

def resU (s : Fin 4096) (l : Fin 8192) : EReal := Z x g w ⟨l.val / 512, by omega⟩ s ⟨l.val % 512, by omega⟩

def resQ (gq : Fin 64 → EReal) (b : Fin 16) (h : Fin 8) (s : Fin 4096) (l : Fin 128) : EReal :=
  if hl : l.val < 64 then nrm (fun j => Z x g w b s ⟨512 + (h.val * 64 + j.val), by omega⟩) ⟨l.val, hl⟩ * gq ⟨l.val, hl⟩ * Ideal.ofBits FTy.f32 1040187392#32 else 0

def key (gk : Fin 64 → EReal) (b : Fin 16) (h : Fin 2) (s : Fin 4096) (l : Fin 64) : EReal :=
  nrm (fun j => Z x g w b s ⟨1024 + (h.val * 64 + j.val), by omega⟩) l * gk l

def resK (gk : Fin 64 → EReal) (b : Fin 16) (h : Fin 2) (s : Fin 4096) (l : Fin 128) : EReal :=
  if hl : l.val < 64 then key x g w gk b h s ⟨l.val, hl⟩ else 0

def resV (b : Fin 16) (h : Fin 2) (s : Fin 4096) (l : Fin 128) : EReal :=
  if hl : l.val < 64 then Z x g w b s ⟨1152 + (h.val * 64 + l.val), by omega⟩ else if l.val = 64 then 1 else 0

def resQI (b : Fin 16) (h : Fin 8) (s : Fin 4096) (l : Fin 128) : EReal :=
  if hl : l.val < 64 then Z x g w b s ⟨1280 + (h.val * 64 + l.val), by omega⟩ else 0

def ikey (gi bi : Fin 64 → EReal) (b : Fin 16) (s : Fin 4096) (l : Fin 64) : EReal :=
  nrm (cen fun j => Z x g w b s ⟨1792 + j.val, by omega⟩) l * gi l + bi l

def resKI (gi bi : Fin 64 → EReal) (b : Fin 16) (s : Fin 4096) (l : Fin 128) : EReal :=
  if hl : l.val < 64 then ikey x g w gi bi b s ⟨l.val, hl⟩ else 0

def resW (b : Fin 16) (s : Fin 4096) (l : Fin 128) : EReal :=
  if hl : l.val < 8 then Z x g w b s ⟨1856 + l.val, by omega⟩ * Ideal.ofBits FTy.f32 1026884851#32 else 0

def resA (b : Fin 16) (s : Fin 4096) (d : Fin 1024) : EReal := Ideal.logistic (Z x g w b s ⟨1864 + d.val, by omega⟩)
def resB (b : Fin 16) (s : Fin 4096) (d : Fin 1024) : EReal := Ideal.logistic (Z x g w b s ⟨2888 + d.val, by omega⟩)

def resKC (gk : Fin 64 → EReal) (b : Fin 16) (s : Fin 4096) (l : Fin 128) : EReal :=
  key x g w gk b ⟨l.val / 64, by omega⟩ s ⟨l.val % 64, by omega⟩
def resVC (b : Fin 16) (s : Fin 4096) (l : Fin 128) : EReal := Z x g w b s ⟨1152 + l.val, by omega⟩

end

end Cert.Proj

end
-- ==== Proof.ProjTable.lean ====
module

public import proofs.«01_k».proof.Proof.Gen.Kernel3Ideal

/-! The table of the two heads' averaging matrix. -/

@[expose] public section

set_option maxRecDepth 16384

namespace Cert.Kernel3Ideal.Gen

open Idealize.ShloMosaic Cert.Kernel3Ideal

theorem lit0_at (j l : Fin 128) : lit0 ⟨j.val * 128 + l.val, by omega⟩ = if j.val / 64 = l.val / 64 then 15488#16 else 0#16 := by
  revert j l
  decide +kernel

end Cert.Kernel3Ideal.Gen

end
-- ==== Proof.ProjHost.lean ====
module

public import proofs.«01_k».proof.Proof.ProjFrame
public import proofs.«01_k».proof.Proof.ProjMath
public import proofs.«01_k».proof.Proof.ProjTable
public import Idealize.ShloMosaic.Lib.Pointwise
public import Idealize.ShloMosaic.Lib.Tactic

/-! The arrays that the launch finds, as functions of the arguments. -/

@[expose] public section

set_option maxRecDepth 16384

noncomputable section

namespace Cert.Kernel3Ideal.Gen

open Idealize.ShloMosaic Idealize.ShloMosaic.TcCoe Cert.Kernel3Ideal Cert.Proj

variable (m : (ℓ : Loc nD τ sig) → Buf (Elt Ideal) ℓ)

abbrev arg0 (c : Dev nD) : Vec Ideal S16x4096x1024 .f32 := m ((c.tc : Thread nD τ).loc main_arg0)
abbrev arg1 (c : Dev nD) : Vec Ideal S1024 .f32 := m ((c.tc : Thread nD τ).loc main_arg1)
abbrev arg2 (c : Dev nD) : Vec Ideal S1024x3912 .f32 := m ((c.tc : Thread nD τ).loc main_arg2)
abbrev arg3 (c : Dev nD) : Vec Ideal S64 .f32 := m ((c.tc : Thread nD τ).loc main_arg3)
abbrev arg4 (c : Dev nD) : Vec Ideal S64 .f32 := m ((c.tc : Thread nD τ).loc main_arg4)
abbrev arg5 (c : Dev nD) : Vec Ideal S64 .f32 := m ((c.tc : Thread nD τ).loc main_arg5)
abbrev arg6 (c : Dev nD) : Vec Ideal S64 .f32 := m ((c.tc : Thread nD τ).loc main_arg6)

theorem table_at (j l : Fin 128) : Ideal.ofBits FTy.bf16 (lit0 (S128x128.rowMajor (ix2 j l))) = if j.val / 64 = l.val / 64 then rec64 else 0 := by
  have e : S128x128.rowMajor (ix2 j l) = (⟨j.val * 128 + l.val, by omega⟩ : Fin 16384) := Fin.ext (Shape.rowMajor_val_two (ix2 j l : S128x128.Idx))
  refine (congrArg (fun i : Fin 16384 => Ideal.ofBits FTy.bf16 (lit0 i)) e).trans ((congrArg (Ideal.ofBits FTy.bf16) (lit0_at j l)).trans ?_)
  by_cases h : j.val / 64 = l.val / 64
  · rw [if_pos h, if_pos h]; rfl
  · rw [if_neg h, if_neg h, bf16_zero]

theorem pad_zero : (FloatOps.sitofp FTy.f32 (0#32 : BitVec 32) : Ideal .f32) = 0 := by
  show (((0#32 : BitVec 32).toInt : ℝ) : EReal) = 0
  simp

theorem a0_at (c : Dev nD) (n : Fin 65536) (d : Fin 1024) :
    (V m c main_v52 : Vec Ideal S65536x1024 .f32) (ix2 n d) = arg0 m c (ix3 ⟨n.val / 4096, by omega⟩ ⟨n.val % 4096, by omega⟩ d) := by
  have h : V m c main_v52 = shapeCast S65536x1024 (arg0 m c) shapeCasts_S16x4096x1024_S65536x1024 := by
    unfold V
    entry_read
    rfl
  rw [h]
  pointwise [id]
  done

theorem a1_at (c : Dev nD) (d : Fin 1024) :
    (V m c main_v9 : Vec Ideal S1x1024 .f32) (ix2 0 d) = arg1 m c (ix1 d) := by
  have h : V m c main_v9 = shapeCast S1x1024 (arg1 m c) shapeCasts_S1024_S1x1024 := by
    unfold V
    entry_read
    rfl
  rw [h]
  pointwise [id]
  done

theorem a2_at (c : Dev nD) (d : Fin 1024) (e : Fin 512) :
    (V m c main_v10 : Vec Ideal S1024x512 .bf16) (ix2 d e) = arg2 m c (ix2 d ⟨e.val, by omega⟩) := by
  have h : V m c main_v10 = truncf (F := Ideal) (φ := .f32) .bf16 (extractStridedSlice S1024x512 ![0, 0] (arg2 m c) slices_S1024x3912_S1024x512_0_0) bitsLt_bf16_f32 := by
    unfold V
    entry_read
    rfl
  rw [h]
  pointwise [id]
  done

theorem a3_at (c : Dev nD) (d : Fin 1024) (e : Fin 1024) :
    (V m c main_v14 : Vec Ideal S1024x1024 .bf16) (ix2 d e) = if h : e.val % 128 < 64 then arg2 m c (ix2 d ⟨512 + (e.val / 128 * 64 + e.val % 128), by omega⟩) else 0 := by
  have h : V m c main_v14 = truncf (F := Ideal) (φ := .f32) .bf16 (shapeCast S1024x1024 (pad S1024x8x128 ![0, 0, 0] ![0, 0, 64] ![0, 0, 0] (shapeCast S1024x8x64 (extractStridedSlice S1024x512 ![0, 512] (arg2 m c) slices_S1024x3912_S1024x512_0_512) shapeCasts_S1024x512_S1024x8x64) (sitofp (F := Ideal) .f32 (constantI S_ 32 0#32)) pads_S1024x8x64_S1024x8x128_000_000_0640 h_S_) shapeCasts_S1024x8x128_S1024x1024) bitsLt_bf16_f32 := by
    unfold V
    entry_read
    rfl
  rw [h]
  pointwise [id]
  by_cases h1 : e.val % 128 < 64
  · simp only [h1, show e.val / 128 < 8 by omega, and_self, dite_true]
  · simp only [h1, and_false, dite_false, pad_zero]

theorem a4_at (c : Dev nD) (d : Fin 1024) (e : Fin 256) :
    (V m c main_v18 : Vec Ideal S1024x256 .bf16) (ix2 d e) = if h : e.val % 128 < 64 then arg2 m c (ix2 d ⟨1024 + (e.val / 128 * 64 + e.val % 128), by omega⟩) else 0 := by
  have h : V m c main_v18 = truncf (F := Ideal) (φ := .f32) .bf16 (shapeCast S1024x256 (pad S1024x2x128 ![0, 0, 0] ![0, 0, 64] ![0, 0, 0] (shapeCast S1024x2x64 (extractStridedSlice S1024x128 ![0, 1024] (arg2 m c) slices_S1024x3912_S1024x128_0_1024) shapeCasts_S1024x128_S1024x2x64) (sitofp (F := Ideal) .f32 (constantI S_ 32 0#32)) pads_S1024x2x64_S1024x2x128_000_000_0640 h_S_) shapeCasts_S1024x2x128_S1024x256) bitsLt_bf16_f32 := by
    unfold V
    entry_read
    rfl
  rw [h]
  pointwise [id]
  by_cases h1 : e.val % 128 < 64
  · simp only [h1, show e.val / 128 < 2 by omega, and_self, dite_true]
  · simp only [h1, and_false, dite_false, pad_zero]

theorem a5_at (c : Dev nD) (d : Fin 1024) (e : Fin 256) :
    (V m c main_v22 : Vec Ideal S1024x256 .bf16) (ix2 d e) = if h : e.val % 128 < 64 then arg2 m c (ix2 d ⟨1152 + (e.val / 128 * 64 + e.val % 128), by omega⟩) else 0 := by
  have h : V m c main_v22 = truncf (F := Ideal) (φ := .f32) .bf16 (shapeCast S1024x256 (pad S1024x2x128 ![0, 0, 0] ![0, 0, 64] ![0, 0, 0] (shapeCast S1024x2x64 (extractStridedSlice S1024x128 ![0, 1152] (arg2 m c) slices_S1024x3912_S1024x128_0_1152) shapeCasts_S1024x128_S1024x2x64) (sitofp (F := Ideal) .f32 (constantI S_ 32 0#32)) pads_S1024x2x64_S1024x2x128_000_000_0640 h_S_) shapeCasts_S1024x2x128_S1024x256) bitsLt_bf16_f32 := by
    unfold V
    entry_read
    rfl
  rw [h]
  pointwise [id]
  by_cases h1 : e.val % 128 < 64
  · simp only [h1, show e.val / 128 < 2 by omega, and_self, dite_true]
  · simp only [h1, and_false, dite_false, pad_zero]

theorem a6_at (c : Dev nD) (d : Fin 1024) (e : Fin 1024) :
    (V m c main_v26 : Vec Ideal S1024x1024 .bf16) (ix2 d e) = if h : e.val % 128 < 64 then arg2 m c (ix2 d ⟨1280 + (e.val / 128 * 64 + e.val % 128), by omega⟩) else 0 := by
  have h : V m c main_v26 = truncf (F := Ideal) (φ := .f32) .bf16 (shapeCast S1024x1024 (pad S1024x8x128 ![0, 0, 0] ![0, 0, 64] ![0, 0, 0] (shapeCast S1024x8x64 (extractStridedSlice S1024x512 ![0, 1280] (arg2 m c) slices_S1024x3912_S1024x512_0_1280) shapeCasts_S1024x512_S1024x8x64) (sitofp (F := Ideal) .f32 (constantI S_ 32 0#32)) pads_S1024x8x64_S1024x8x128_000_000_0640 h_S_) shapeCasts_S1024x8x128_S1024x1024) bitsLt_bf16_f32 := by
    unfold V
    entry_read
    rfl
  rw [h]
  pointwise [id]
  by_cases h1 : e.val % 128 < 64
  · simp only [h1, show e.val / 128 < 8 by omega, and_self, dite_true]
  · simp only [h1, and_false, dite_false, pad_zero]

theorem a7_at (c : Dev nD) (d : Fin 1024) (e : Fin 128) :
    (V m c main_v30 : Vec Ideal S1024x128 .bf16) (ix2 d e) = if h : e.val < 64 then arg2 m c (ix2 d ⟨1792 + e.val, by omega⟩) else 0 := by
  have h : V m c main_v30 = truncf (F := Ideal) (φ := .f32) .bf16 (shapeCast S1024x128 (pad S1024x1x128 ![0, 0, 0] ![0, 0, 64] ![0, 0, 0] (shapeCast S1024x1x64 (extractStridedSlice S1024x64 ![0, 1792] (arg2 m c) slices_S1024x3912_S1024x64_0_1792) shapeCasts_S1024x64_S1024x1x64) (sitofp (F := Ideal) .f32 (constantI S_ 32 0#32)) pads_S1024x1x64_S1024x1x128_000_000_0640 h_S_) shapeCasts_S1024x1x128_S1024x128) bitsLt_bf16_f32 := by
    unfold V
    entry_read
    rfl
  rw [h]
  pointwise [id]
  simp only [pad_zero]

theorem a8_at (c : Dev nD) (d : Fin 1024) (e : Fin 128) :
    (V m c main_v34 : Vec Ideal S1024x128 .bf16) (ix2 d e) = if h : e.val < 8 then arg2 m c (ix2 d ⟨1856 + e.val, by omega⟩) else 0 := by
  have h : V m c main_v34 = truncf (F := Ideal) (φ := .f32) .bf16 (shapeCast S1024x128 (pad S1024x1x128 ![0, 0, 0] ![0, 0, 120] ![0, 0, 0] (shapeCast S1024x1x8 (extractStridedSlice S1024x8 ![0, 1856] (arg2 m c) slices_S1024x3912_S1024x8_0_1856) shapeCasts_S1024x8_S1024x1x8) (sitofp (F := Ideal) .f32 (constantI S_ 32 0#32)) pads_S1024x1x8_S1024x1x128_000_000_01200 h_S_) shapeCasts_S1024x1x128_S1024x128) bitsLt_bf16_f32 := by
    unfold V
    entry_read
    rfl
  rw [h]
  pointwise [id]
  simp only [pad_zero]

theorem a9_at (c : Dev nD) (d : Fin 1024) (e : Fin 1024) :
    (V m c main_v35 : Vec Ideal S1024x1024 .bf16) (ix2 d e) = arg2 m c (ix2 d ⟨1864 + e.val, by omega⟩) := by
  have h : V m c main_v35 = truncf (F := Ideal) (φ := .f32) .bf16 (extractStridedSlice S1024x1024 ![0, 1864] (arg2 m c) slices_S1024x3912_S1024x1024_0_1864) bitsLt_bf16_f32 := by
    unfold V
    entry_read
    rfl
  rw [h]
  pointwise [id]
  done

theorem a10_at (c : Dev nD) (d : Fin 1024) (e : Fin 1024) :
    (V m c main_v36 : Vec Ideal S1024x1024 .bf16) (ix2 d e) = arg2 m c (ix2 d ⟨2888 + e.val, by omega⟩) := by
  have h : V m c main_v36 = truncf (F := Ideal) (φ := .f32) .bf16 (extractStridedSlice S1024x1024 ![0, 2888] (arg2 m c) slices_S1024x3912_S1024x1024_0_2888) bitsLt_bf16_f32 := by
    unfold V
    entry_read
    rfl
  rw [h]
  pointwise [id]
  done

theorem a11_at (c : Dev nD) (d : Fin 1024) (e : Fin 128) :
    (V m c main_v37 : Vec Ideal S1024x128 .bf16) (ix2 d e) = arg2 m c (ix2 d ⟨1024 + e.val, by omega⟩) := by
  have h : V m c main_v37 = truncf (F := Ideal) (φ := .f32) .bf16 (extractStridedSlice S1024x128 ![0, 1024] (arg2 m c) slices_S1024x3912_S1024x128_0_1024) bitsLt_bf16_f32 := by
    unfold V
    entry_read
    rfl
  rw [h]
  pointwise [id]
  done

theorem a12_at (c : Dev nD) (d : Fin 1024) (e : Fin 128) :
    (V m c main_v38 : Vec Ideal S1024x128 .bf16) (ix2 d e) = arg2 m c (ix2 d ⟨1152 + e.val, by omega⟩) := by
  have h : V m c main_v38 = truncf (F := Ideal) (φ := .f32) .bf16 (extractStridedSlice S1024x128 ![0, 1152] (arg2 m c) slices_S1024x3912_S1024x128_0_1152) bitsLt_bf16_f32 := by
    unfold V
    entry_read
    rfl
  rw [h]
  pointwise [id]
  done

theorem a13_at (c : Dev nD) (l : Fin 128) :
    (V m c main_v40 : Vec Ideal S1x128 .f32) (ix2 0 l) = if h : l.val < 64 then arg3 m c (ix1 ⟨l.val, h⟩) else 0 := by
  have h : V m c main_v40 = pad S1x128 ![0, 0] ![0, 64] ![0, 0] (shapeCast S1x64 (arg3 m c) shapeCasts_S64_S1x64) (sitofp (F := Ideal) .f32 (constantI S_ 32 0#32)) pads_S1x64_S1x128_000_0640 h_S_ := by
    unfold V
    entry_read
    rfl
  rw [h]
  pointwise [id]
  simp only [pad_zero]

theorem a14_at (c : Dev nD) (l : Fin 128) :
    (V m c main_v42 : Vec Ideal S1x128 .f32) (ix2 0 l) = if h : l.val < 64 then arg4 m c (ix1 ⟨l.val, h⟩) else 0 := by
  have h : V m c main_v42 = pad S1x128 ![0, 0] ![0, 64] ![0, 0] (shapeCast S1x64 (arg4 m c) shapeCasts_S64_S1x64) (sitofp (F := Ideal) .f32 (constantI S_ 32 0#32)) pads_S1x64_S1x128_000_0640 h_S_ := by
    unfold V
    entry_read
    rfl
  rw [h]
  pointwise [id]
  simp only [pad_zero]

theorem a15_at (c : Dev nD) (l : Fin 128) :
    (V m c main_v46 : Vec Ideal S1x128 .f32) (ix2 0 l) = arg4 m c (ix1 ⟨l.val % 64, by omega⟩) := by
  have h : V m c main_v46 = shapeCast S1x128 (shapeCast S128 (broadcastInDim S2x64 ![0, 1] bcast_S1x64_S2x64_0_1 (shapeCast S1x64 (arg4 m c) shapeCasts_S64_S1x64)) shapeCasts_S2x64_S128) shapeCasts_S128_S1x128 := by
    unfold V
    entry_read
    rfl
  rw [h]
  pointwise [id]
  done

theorem a16_at (c : Dev nD) (l : Fin 128) :
    (V m c main_v48 : Vec Ideal S1x128 .f32) (ix2 0 l) = if h : l.val < 64 then arg5 m c (ix1 ⟨l.val, h⟩) else 0 := by
  have h : V m c main_v48 = pad S1x128 ![0, 0] ![0, 64] ![0, 0] (shapeCast S1x64 (arg5 m c) shapeCasts_S64_S1x64) (sitofp (F := Ideal) .f32 (constantI S_ 32 0#32)) pads_S1x64_S1x128_000_0640 h_S_ := by
    unfold V
    entry_read
    rfl
  rw [h]
  pointwise [id]
  simp only [pad_zero]

theorem a17_at (c : Dev nD) (l : Fin 128) :
    (V m c main_v50 : Vec Ideal S1x128 .f32) (ix2 0 l) = if h : l.val < 64 then arg6 m c (ix1 ⟨l.val, h⟩) else 0 := by
  have h : V m c main_v50 = pad S1x128 ![0, 0] ![0, 64] ![0, 0] (shapeCast S1x64 (arg6 m c) shapeCasts_S64_S1x64) (sitofp (F := Ideal) .f32 (constantI S_ 32 0#32)) pads_S1x64_S1x128_000_0640 h_S_ := by
    unfold V
    entry_read
    rfl
  rw [h]
  pointwise [id]
  simp only [pad_zero]

theorem a18_at (c : Dev nD) (j l : Fin 128) :
    (V m c main_v51 : Vec Ideal S128x128 .bf16) (ix2 j l) = rec64 := by
  have h : V m c main_v51 = broadcastInDim S128x128 ![] bcast_S_S128x128 (constant (F := Ideal) S_ .bf16 0x3C80#16) := by
    unfold V
    entry_read
    rfl
  rw [h]
  pointwise [id]
  rfl

theorem a19_at (c : Dev nD) (j l : Fin 128) :
    (V m c main_cst : Vec Ideal S128x128 .bf16) (ix2 j l) = if j.val / 64 = l.val / 64 then rec64 else 0 := by
  have h : V m c main_cst = fun i => FloatOps.ofBits (F := Ideal) .bf16 (lit0 (S128x128.rowMajor i)) := by
    unfold V
    entry_read
    rfl
  rw [h]
  pointwise [id]
  exact table_at j l

end Cert.Kernel3Ideal.Gen

end
-- ==== Proof.ProjPay.lean ====
module

public import proofs.«01_k».proof.Proof.ProjFrame
public import proofs.«01_k».proof.Proof.ProjMath
public import Idealize.ShloMosaic.Lib.Pointwise

/-! What the body's payloads hold, entry by entry. -/

@[expose] public section

set_option maxRecDepth 16384

noncomputable section

namespace Cert.Kernel3Ideal.Gen

open Idealize.ShloMosaic Idealize.ShloMosaic.TcCoe Cert.Kernel3Ideal Cert.Proj

section
variable (x0 : Vec Ideal S512x1024 .f32) (x1 : Vec Ideal S1x1024 .f32) (x3 : Vec Ideal S1024x1024 .bf16) (x18 : Vec Ideal S128x128 .bf16)
  (q : FVec Ideal S512x1024 .f32) (e : FVec Ideal S128x128 .bf16) (g : Vec Ideal S1x128 .f32) (r : Fin 512) (l : Fin 128)

/-- A normalized query lane, scaled. -/
abbrev qLane (a : Fin 128 → EReal) (v : FVec Ideal S128x128 .bf16) (g : Vec Ideal S1x128 .f32) (l : Fin 128) : EReal :=
  laneNrm a (fun j l => v (ix2 j l)) l * (g (ix2 0 l) * Ideal.ofBits FTy.f32 1040187392#32)

theorem q0_at : k0_pay7 (F := Ideal) (k0_pay5 x0 x1 x3) (k0_pay6 x0 x1 x18 x3) (Scalar.ofBits .f32 0x358637BD#32) g (ix4 0 0 r l) = qLane (fun j => k0_pay4 (F := Ideal) x0 x1 x3 (ix2 r ⟨0 + j.val, by omega⟩)) (k0_pay2 (F := Ideal) x18) g l := by
  pointwise [k0_pay5, k0_pay6, k0_pay7, laneNrm, eps, qLane]
  done

theorem q1_at : k0_pay8 (F := Ideal) e q g (ix4 0 0 r l) = qLane (fun j => q (ix2 r ⟨128 + j.val, by omega⟩)) e g l := by
  pointwise [k0_pay8, laneNrm, eps, qLane]
  done

theorem q2_at : k0_pay13 (F := Ideal) e (k0_pay9 q) (k0_pay10 q) (k0_pay11 q) (k0_pay12 q) g (ix4 0 0 r l) = qLane (fun j => q (ix2 r ⟨256 + j.val, by omega⟩)) e g l := by
  pointwise [k0_pay10, k0_pay11, k0_pay12, k0_pay13, k0_pay9, laneNrm, eps, qLane]
  done

theorem q3_at : k0_pay15 (F := Ideal) (k0_pay14 e q g) (ix4 0 0 r l) = qLane (fun j => q (ix2 r ⟨384 + j.val, by omega⟩)) e g l := by
  pointwise [k0_pay14, k0_pay15, laneNrm, eps, qLane]
  done

theorem q4_at : k0_pay16 (F := Ideal) e q g (ix4 0 0 r l) = qLane (fun j => q (ix2 r ⟨512 + j.val, by omega⟩)) e g l := by
  pointwise [k0_pay16, laneNrm, eps, qLane]
  done

theorem q5_at : k0_pay20 (F := Ideal) (k0_pay17 e q) (k0_pay18 g) k0_pay19 (ix4 0 0 r l) = qLane (fun j => q (ix2 r ⟨640 + j.val, by omega⟩)) e g l := by
  pointwise [k0_pay17, k0_pay18, k0_pay19, k0_pay20, laneNrm, eps, qLane]
  done

theorem q6_at : k0_pay21 (F := Ideal) e q g (ix4 0 0 r l) = qLane (fun j => q (ix2 r ⟨768 + j.val, by omega⟩)) e g l := by
  pointwise [k0_pay21, laneNrm, eps, qLane]
  done

theorem q7_at : k0_pay24 (F := Ideal) (k0_pay22 q) (k0_pay23 e q) g (ix4 0 0 r l) = qLane (fun j => q (ix2 r ⟨896 + j.val, by omega⟩)) e g l := by
  pointwise [k0_pay22, k0_pay23, k0_pay24, laneNrm, eps, qLane]
  done

end

section
variable (x0 : Vec Ideal S512x1024 .f32) (x1 : Vec Ideal S1x1024 .f32) (w2 : Vec Ideal S1024x512 .bf16) (w3 : Vec Ideal S1024x1024 .bf16) (w4 : Vec Ideal S1024x256 .bf16) (w7 : Vec Ideal S1024x128 .bf16)
  (h : FVec Ideal S512x1024 .bf16) (p : FVec Ideal S512x1024 .f32) (e : FVec Ideal S128x128 .bf16) (x19 : Vec Ideal S128x128 .bf16) (g b : Vec Ideal S1x128 .f32) (r : Fin 512) (l : Fin 128)

theorem h_at (d : Fin 1024) : k0_pay1 (F := Ideal) x0 x1 (ix2 r d) = hrow (fun d => x0 (ix2 r d)) (fun d => x1 (ix2 0 d)) d := by
  pointwise [k0_pay1, hrow, eps, k1024]

theorem p3_at (c : Fin 512) : k0_pay3 (F := Ideal) x0 x1 w2 (ix2 r c) = ∑ d, k0_pay1 (F := Ideal) x0 x1 (ix2 r d) * w2 (ix2 d c) := by
  pointwise [k0_pay3]
  done

theorem p4_at (c : Fin 1024) : k0_pay4 (F := Ideal) x0 x1 w3 (ix2 r c) = ∑ d, k0_pay1 (F := Ideal) x0 x1 (ix2 r d) * w3 (ix2 d c) := by
  pointwise [k0_pay4]
  done

theorem p35_at (c : Fin 1024) : k0_pay35 (F := Ideal) h w3 (ix2 r c) = ∑ d, h (ix2 r d) * w3 (ix2 d c) := by
  pointwise [k0_pay35]
  done

theorem k0_at : k0_pay26 (F := Ideal) h e w4 g (ix4 0 0 r l) = laneNrm (fun j => ∑ d, h (ix2 r d) * w4 (ix2 d ⟨0 + j.val, by omega⟩)) (fun j l => e (ix2 j l)) l * g (ix2 0 l) := by
  pointwise [k0_pay26, k0_pay25, laneNrm, eps]
  done

theorem k1_at : k0_pay30 (F := Ideal) e (k0_pay27 h w4) (k0_pay28 h w4) (k0_pay29 h w4) g (ix4 0 0 r l) = laneNrm (fun j => ∑ d, h (ix2 r d) * w4 (ix2 d ⟨128 + j.val, by omega⟩)) (fun j l => e (ix2 j l)) l * g (ix2 0 l) := by
  pointwise [k0_pay30, k0_pay27, k0_pay28, k0_pay29, k0_pay25, laneNrm, eps]
  done

theorem lane64_eq : ∀ l : Fin 128, IntOp.cmpi CmpIPredicate.eq (BitVec.ofNat 32 l.val) 64#32 = if l.val = 64 then 1#1 else 0#1 := by
  decide +kernel

theorem lane64_lt : ∀ l : Fin 128, IntOp.cmpi CmpIPredicate.slt (BitVec.ofNat 32 l.val) 64#32 = if l.val < 64 then 1#1 else 0#1 := by
  decide +kernel

theorem select_ite {α : Type} {P : Prop} [Decidable P] (x y : α) : Scalar.select (if P then 1#1 else 0#1) x y = if P then x else y := by
  by_cases h : P
  · rw [if_pos h, if_pos h]; rfl
  · rw [if_neg h, if_neg h]; rfl

theorem v0_at : k0_pay32 (F := Ideal) h k0_pay58 w4 (ix4 0 0 r l) = if l.val = 64 then 1 else ∑ d, h (ix2 r d) * w4 (ix2 d ⟨0 + l.val, by omega⟩) := by
  pointwise [k0_pay32, k0_pay31, k0_pay58]
  rw [lane64_eq, select_ite]
  done

theorem v1_at : k0_pay34 (F := Ideal) (k0_pay33 h k0_pay58 w4) (ix4 0 0 r l) = if l.val = 64 then 1 else ∑ d, h (ix2 r d) * w4 (ix2 d ⟨128 + l.val, by omega⟩) := by
  pointwise [k0_pay34, k0_pay33, k0_pay31, k0_pay58]
  rw [lane64_eq, select_ite]
  done

theorem qi0_at : k0_pay36 (F := Ideal) h w3 (ix4 0 0 r l) = k0_pay35 (F := Ideal) h w3 (ix2 r ⟨0 + l.val, by omega⟩) := by
  pointwise [k0_pay36]
  done

theorem qi1_at : k0_pay37 (F := Ideal) h w3 (ix4 0 0 r l) = k0_pay35 (F := Ideal) h w3 (ix2 r ⟨128 + l.val, by omega⟩) := by
  pointwise [k0_pay37]
  done

theorem qi2_at : k0_pay38 (F := Ideal) h w3 (ix4 0 0 r l) = k0_pay35 (F := Ideal) h w3 (ix2 r ⟨256 + l.val, by omega⟩) := by
  pointwise [k0_pay38]
  done

theorem qi3_at : k0_pay39 (F := Ideal) h w3 (ix4 0 0 r l) = k0_pay35 (F := Ideal) h w3 (ix2 r ⟨384 + l.val, by omega⟩) := by
  pointwise [k0_pay39]
  done

theorem qi4_at : k0_pay41 (F := Ideal) (k0_pay40 h w3) (ix4 0 0 r l) = k0_pay35 (F := Ideal) h w3 (ix2 r ⟨512 + l.val, by omega⟩) := by
  pointwise [k0_pay41, k0_pay40]
  done

theorem qi5_at : k0_pay42 (F := Ideal) p (ix4 0 0 r l) = p (ix2 r ⟨640 + l.val, by omega⟩) := by
  pointwise [k0_pay42]
  done

theorem qi6_at : k0_pay43 (F := Ideal) p (ix4 0 0 r l) = p (ix2 r ⟨768 + l.val, by omega⟩) := by
  pointwise [k0_pay43]
  done

theorem qi7_at : k0_pay44 (F := Ideal) p (ix4 0 0 r l) = p (ix2 r ⟨896 + l.val, by omega⟩) := by
  pointwise [k0_pay44]
  done

theorem kc45_at : k0_pay45 (F := Ideal) h e k0_pay58 w7 (ix2 r l) = if l.val < 64 then laneCen (fun j => ∑ d, h (ix2 r d) * w7 (ix2 d j)) (fun j l => e (ix2 j l)) l else 0 := by
  pointwise [k0_pay45, k0_pay58, laneCen]
  rw [lane64_lt, select_ite]
  done

theorem ki_at : k0_pay50 (F := Ideal) e (k0_pay45 h e k0_pay58 w7) (k0_pay47 h e k0_pay58 w7) (k0_pay48 h e k0_pay58 w7) k0_pay63 g b (ix2 r l) = laneNrm (fun j => k0_pay45 (F := Ideal) h e k0_pay58 w7 (ix2 r j)) (fun j l => e (ix2 j l)) l * g (ix2 0 l) + b (ix2 0 l) := by
  pointwise [k0_pay50, k0_pay49, k0_pay46, k0_pay47, k0_pay48, k0_pay63, laneNrm, eps]
  done

theorem ki64_at (c : Fin 64) : k0_pay51 (F := Ideal) e (k0_pay45 h e k0_pay58 w7) (k0_pay47 h e k0_pay58 w7) (k0_pay48 h e k0_pay58 w7) k0_pay63 g b (ix2 r c) = k0_pay50 (F := Ideal) e (k0_pay45 h e k0_pay58 w7) (k0_pay47 h e k0_pay58 w7) (k0_pay48 h e k0_pay58 w7) k0_pay63 g b (ix2 r ⟨c.val, by omega⟩) := by
  pointwise [k0_pay51, k0_pay50]
  done

theorem w_at : k0_pay52 (F := Ideal) h w7 (ix2 r l) = (∑ d, h (ix2 r d) * w7 (ix2 d l)) * Ideal.ofBits FTy.f32 1026884851#32 := by
  pointwise [k0_pay52]
  done

theorem sa_at (d' : Fin 1024) : k0_pay53 (F := Ideal) h w3 (ix2 r d') = Ideal.logistic (∑ d, h (ix2 r d) * w3 (ix2 d d')) := by
  pointwise [k0_pay53]
  done

theorem sb_at (d' : Fin 1024) : k0_pay55 (F := Ideal) h (k0_pay54 w3) (ix2 r d') = Ideal.logistic (∑ d, h (ix2 r d) * w3 (ix2 d d')) := by
  pointwise [k0_pay55, k0_pay54]
  done

theorem kc_at : k0_pay56 (F := Ideal) h w7 x19 g (ix2 r l) = laneNrm (fun j => ∑ d, h (ix2 r d) * w7 (ix2 d j)) (fun j l => x19 (ix2 j l)) l * g (ix2 0 l) := by
  pointwise [k0_pay56, laneNrm, eps]
  done

theorem vc_at : k0_pay57 (F := Ideal) h w7 (ix2 r l) = ∑ d, h (ix2 r d) * w7 (ix2 d l) := by
  pointwise [k0_pay57]
  done

end

end Cert.Kernel3Ideal.Gen

end
-- ==== Proof.ProjOut.lean ====
module

public import proofs.«01_k».proof.Proof.ProjPay
public import Idealize.ShloMosaic.Lib.Pipeline.ValueKit

/-! What a point leaves in each output block, entry by entry. -/

@[expose] public section

set_option maxRecDepth 16384

noncomputable section

namespace Cert.Kernel3Ideal.Gen

open Idealize.ShloMosaic Idealize.ShloMosaic.TcCoe Cert.Kernel3Ideal Cert.Proj

theorem ld0 (x : Vec Ideal S512x1024 .f32) : View.ld x r0_0 = x := View.ld_unit_lit _ _ (by decide)
theorem ld1 (x : Vec Ideal S1x1024 .f32) : View.ld x r0_1 = x := View.ld_unit_lit _ _ (by decide)
theorem ld2 (x : Vec Ideal S128x128 .bf16) : View.ld x r0_2 = x := View.ld_unit_lit _ _ (by decide)
theorem ld3 (x : Vec Ideal S1024x512 .bf16) : View.ld x r0_3 = x := View.ld_unit_lit _ _ (by decide)
theorem ld5 (x : Vec Ideal S1024x1024 .bf16) : View.ld x r0_5 = x := View.ld_unit_lit _ _ (by decide)
theorem ld6 (x : Vec Ideal S1x128 .f32) : View.ld x r0_6 = x := View.ld_unit_lit _ _ (by decide)
theorem ld15 (x : Vec Ideal S1024x256 .bf16) : View.ld x r0_15 = x := View.ld_unit_lit _ _ (by decide)
theorem ld18 (x : Vec Ideal S1024x128 .bf16) : View.ld x r0_18 = x := View.ld_unit_lit _ _ (by decide)

theorem tile8 {k : ℕ} {h : Fin 8} {r : Fin 512} {l : Fin 128} {w : S1x1x512x128.Idx → EReal} {v : EReal} (hw : h.val = k → w (ix4 0 0 r l) = v) :
    View.TileAt (Val := Elt Ideal) (S := S1x8x512x128) (e := .bf16) (ix4 0 h r l) ![0, k, 0, 0] S1x1x512x128.size w v := by
  intro x hx
  have h1 : h.val = k + (x 1).val := hx 1
  have h2 : r.val = 0 + (x 2).val := hx 2
  have h3 : l.val = 0 + (x 3).val := hx 3
  have b1 : (x 1).val < 1 := (x 1).isLt
  have b0 : (x 0).val < 1 := (x 0).isLt
  have e : x = ix4 0 0 r l := by
    funext a
    refine Fin.ext ?_
    match a with
    | ⟨0, _⟩ => show (x 0).val = 0; omega
    | ⟨1, _⟩ => show (x 1).val = 0; omega
    | ⟨2, _⟩ => show (x 2).val = r.val; omega
    | ⟨3, _⟩ => show (x 3).val = l.val; omega
  rw [e]
  exact hw (by omega)

theorem tile2 {k : ℕ} {h : Fin 2} {r : Fin 512} {l : Fin 128} {w : S1x1x512x128.Idx → EReal} {v : EReal} (hw : h.val = k → w (ix4 0 0 r l) = v) :
    View.TileAt (Val := Elt Ideal) (S := S1x2x512x128) (e := .bf16) (ix4 0 h r l) ![0, k, 0, 0] S1x1x512x128.size w v := by
  intro x hx
  have h1 : h.val = k + (x 1).val := hx 1
  have h2 : r.val = 0 + (x 2).val := hx 2
  have h3 : l.val = 0 + (x 3).val := hx 3
  have b1 : (x 1).val < 1 := (x 1).isLt
  have b0 : (x 0).val < 1 := (x 0).isLt
  have e : x = ix4 0 0 r l := by
    funext a
    refine Fin.ext ?_
    match a with
    | ⟨0, _⟩ => show (x 0).val = 0; omega
    | ⟨1, _⟩ => show (x 1).val = 0; omega
    | ⟨2, _⟩ => show (x 2).val = r.val; omega
    | ⟨3, _⟩ => show (x 3).val = l.val; omega
  rw [e]
  exact hw (by omega)

section
variable (x0 : Vec Ideal S512x1024 .f32) (x1 : Vec Ideal S1x1024 .f32) (x2 : Vec Ideal S1024x512 .bf16) (x3 : Vec Ideal S1024x1024 .bf16) (x4 : Vec Ideal S1024x256 .bf16) (x7 : Vec Ideal S1024x128 .bf16)
  (x18 x19 : Vec Ideal S128x128 .bf16) (g b : Vec Ideal S1x128 .f32) (r : Fin 512) (l : Fin 128)

/-- A block row of the normalized tokens against a column. -/
abbrev bz (w : Fin 1024 → EReal) : EReal := zrow (fun d => x0 (ix2 r d)) (fun d => x1 (ix2 0 d)) w

theorem hn_at (d : Fin 1024) : k0_pay59 (F := Ideal) x0 x1 (ix2 r d) = hrow (fun d => x0 (ix2 r d)) (fun d => x1 (ix2 0 d)) d := by
  unfold k0_pay59
  rw [ld0, ld1]
  exact h_at x0 x1 r d

theorem e_at (j l : Fin 128) : k0_pay60 (F := Ideal) x18 (ix2 j l) = x18 (ix2 j l) := by
  unfold k0_pay60
  rw [ld2]
  pointwise [k0_pay2]

theorem p61_at (c : Fin 1024) : k0_pay61 (F := Ideal) x0 x1 x3 (ix2 r c) = bz x0 x1 r fun d => x3 (ix2 d c) := by
  unfold k0_pay61
  rw [ld0, ld1, ld5, p4_at]
  simp only [h_at]
  rfl

theorem p62_at (c : Fin 1024) : k0_pay62 (F := Ideal) x0 x1 x3 (ix2 r c) = bz x0 x1 r fun d => x3 (ix2 d c) := by
  unfold k0_pay62
  rw [ld5, p35_at]
  simp only [hn_at]
  rfl

theorem out20_at (c : Fin 512) : out0_20 (F := Ideal) x0 x1 x2 (ix2 r c) = bz x0 x1 r fun d => x2 (ix2 d c) := by
  unfold out0_20
  rw [View.canon_cons_unit_lit _ _ _ (by decide), ld0, ld1, ld3, p3_at]
  simp only [h_at]
  rfl

theorem out21_at (h : Fin 8) : out0_21 (F := Ideal) x0 x1 x3 g x18 (ix4 0 h r l) = laneNrm (fun j => bz x0 x1 r fun d => x3 (ix2 d ⟨h.val * 128 + j.val, by omega⟩)) (fun j l => x18 (ix2 j l)) l * (g (ix2 0 l) * Ideal.ofBits FTy.f32 1040187392#32) := by
  have e : out0_21 (F := Ideal) x0 x1 x3 g x18 (ix4 0 h r l) = qLane (fun j => k0_pay61 (F := Ideal) x0 x1 x3 (ix2 r ⟨h.val * 128 + j.val, by omega⟩)) (k0_pay60 (F := Ideal) x18) (View.ld g r0_6) l := by
    obtain ⟨h, hh⟩ := h
    unfold out0_21
    refine View.canon_eq_of_allAt _ _ _ (cover0_21 ..) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_nil _ _)))))))))
    · obtain rfl : h = 7 := hk
      exact q7_at _ _ _ r l
    · obtain rfl : h = 6 := hk
      exact q6_at _ _ _ r l
    · obtain rfl : h = 5 := hk
      exact q5_at _ _ _ r l
    · obtain rfl : h = 4 := hk
      exact q4_at _ _ _ r l
    · obtain rfl : h = 3 := hk
      exact q3_at _ _ _ r l
    · obtain rfl : h = 2 := hk
      exact q2_at _ _ _ r l
    · obtain rfl : h = 1 := hk
      exact q1_at _ _ _ r l
    · obtain rfl : h = 0 := hk
      exact q0_at _ _ _ _ _ r l
  rw [e]
  rw [ld6]
  simp only [qLane, p61_at, e_at]

theorem out22_at (h : Fin 2) : out0_22 (F := Ideal) x0 x1 x4 g x18 (ix4 0 h r l) = laneNrm (fun j => bz x0 x1 r fun d => x4 (ix2 d ⟨h.val * 128 + j.val, by omega⟩)) (fun j l => x18 (ix2 j l)) l * g (ix2 0 l) := by
  have e : out0_22 (F := Ideal) x0 x1 x4 g x18 (ix4 0 h r l) = laneNrm (fun j => ∑ d, k0_pay59 (F := Ideal) x0 x1 (ix2 r d) * (View.ld x4 r0_15 : Vec Ideal S1024x256 .bf16) (ix2 d ⟨h.val * 128 + j.val, by omega⟩)) (fun j l => k0_pay60 (F := Ideal) x18 (ix2 j l)) l * (View.ld g r0_6 : Vec Ideal S1x128 .f32) (ix2 0 l) := by
    obtain ⟨h, hh⟩ := h
    unfold out0_22
    refine View.canon_eq_of_allAt _ _ _ (cover0_22 ..) (View.allAt_cons_unit _ _ _ _ _ (tile2 fun hk => ?_) (View.allAt_cons_unit _ _ _ _ _ (tile2 fun hk => ?_) (View.allAt_nil _ _)))
    · obtain rfl : h = 1 := hk
      exact k1_at _ _ _ _ r l
    · obtain rfl : h = 0 := hk
      exact k0_at _ _ _ _ r l
  rw [e]
  rw [ld6, ld15]
  simp only [hn_at, e_at]
  rfl

theorem out23_at (h : Fin 2) : out0_23 (F := Ideal) x0 x1 x4 (ix4 0 h r l) = if l.val = 64 then 1 else bz x0 x1 r fun d => x4 (ix2 d ⟨h.val * 128 + l.val, by omega⟩) := by
  have e : out0_23 (F := Ideal) x0 x1 x4 (ix4 0 h r l) = if l.val = 64 then 1 else ∑ d, k0_pay59 (F := Ideal) x0 x1 (ix2 r d) * (View.ld x4 r0_15 : Vec Ideal S1024x256 .bf16) (ix2 d ⟨h.val * 128 + l.val, by omega⟩) := by
    obtain ⟨h, hh⟩ := h
    unfold out0_23
    refine View.canon_eq_of_allAt _ _ _ (cover0_23 ..) (View.allAt_cons_unit _ _ _ _ _ (tile2 fun hk => ?_) (View.allAt_cons_unit _ _ _ _ _ (tile2 fun hk => ?_) (View.allAt_nil _ _)))
    · obtain rfl : h = 1 := hk
      exact v1_at _ _ r l
    · obtain rfl : h = 0 := hk
      exact v0_at _ _ r l
  rw [e]
  rw [ld15]
  simp only [hn_at]
  rfl

theorem out24_at (h : Fin 8) : out0_24 (F := Ideal) x0 x1 x3 (ix4 0 h r l) = bz x0 x1 r fun d => x3 (ix2 d ⟨h.val * 128 + l.val, by omega⟩) := by
  have e : out0_24 (F := Ideal) x0 x1 x3 (ix4 0 h r l) = k0_pay62 (F := Ideal) x0 x1 x3 (ix2 r ⟨h.val * 128 + l.val, by omega⟩) := by
    obtain ⟨h, hh⟩ := h
    unfold out0_24
    refine View.canon_eq_of_allAt _ _ _ (cover0_24 ..) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_cons_unit _ _ _ _ _ (tile8 fun hk => ?_) (View.allAt_nil _ _)))))))))
    · obtain rfl : h = 7 := hk
      exact qi7_at _ r l
    · obtain rfl : h = 6 := hk
      exact qi6_at _ r l
    · obtain rfl : h = 5 := hk
      exact qi5_at _ r l
    · obtain rfl : h = 4 := hk
      exact qi4_at _ _ r l
    · obtain rfl : h = 3 := hk
      exact qi3_at _ _ r l
    · obtain rfl : h = 2 := hk
      exact qi2_at _ _ r l
    · obtain rfl : h = 1 := hk
      exact qi1_at _ _ r l
    · obtain rfl : h = 0 := hk
      exact qi0_at _ _ r l
  rw [e]
  exact p62_at x0 x1 x3 r _

theorem p64_at : k0_pay64 (F := Ideal) x0 x1 x7 x18 (ix2 r l) = if l.val < 64 then laneCen (fun j => bz x0 x1 r fun d => x7 (ix2 d j)) (fun j l => x18 (ix2 j l)) l else 0 := by
  unfold k0_pay64
  rw [ld18, kc45_at]
  simp only [hn_at, e_at]
  rfl

theorem out25_at : out0_25 (F := Ideal) x0 x1 x7 g b x18 (ix2 r l) = laneNrm (fun j => k0_pay64 (F := Ideal) x0 x1 x7 x18 (ix2 r j)) (fun j l => x18 (ix2 j l)) l * g (ix2 0 l) + b (ix2 0 l) := by
  unfold out0_25
  rw [View.canon_cons_unit_lit _ _ _ (by decide), ld6, ld6]
  refine (ki_at _ _ _ _ _ r l).trans ?_
  simp only [e_at]
  rfl

theorem out31_at (c : Fin 64) : out0_31 (F := Ideal) x0 x1 x7 g b x18 (ix2 r c) = out0_25 (F := Ideal) x0 x1 x7 g b x18 (ix2 r ⟨c.val, by omega⟩) := by
  unfold out0_31 out0_25
  rw [View.canon_cons_unit_lit _ _ _ (by decide), View.canon_cons_unit_lit _ _ _ (by decide), ld6, ld6]
  exact ki64_at _ _ _ _ _ r c

theorem out26_at : out0_26 (F := Ideal) x0 x1 x7 (ix2 r l) = (bz x0 x1 r fun d => x7 (ix2 d l)) * Ideal.ofBits FTy.f32 1026884851#32 := by
  unfold out0_26
  rw [View.canon_cons_unit_lit _ _ _ (by decide), ld18, w_at]
  simp only [hn_at]
  rfl

theorem out27_at (c : Fin 1024) : out0_27 (F := Ideal) x0 x1 x3 (ix2 r c) = Ideal.logistic (bz x0 x1 r fun d => x3 (ix2 d c)) := by
  unfold out0_27
  rw [View.canon_cons_unit_lit _ _ _ (by decide), ld5, sa_at]
  simp only [hn_at]
  rfl

theorem out28_at (c : Fin 1024) : out0_28 (F := Ideal) x0 x1 x3 (ix2 r c) = Ideal.logistic (bz x0 x1 r fun d => x3 (ix2 d c)) := by
  unfold out0_28
  rw [View.canon_cons_unit_lit _ _ _ (by decide), ld5, sb_at]
  simp only [hn_at]
  rfl

theorem out29_at : out0_29 (F := Ideal) x0 x1 x7 g x19 (ix2 r l) = laneNrm (fun j => bz x0 x1 r fun d => x7 (ix2 d j)) (fun j l => x19 (ix2 j l)) l * g (ix2 0 l) := by
  unfold out0_29
  rw [View.canon_cons_unit_lit _ _ _ (by decide), ld18, ld2, ld6, kc_at]
  simp only [hn_at]
  rfl

theorem out30_at : out0_30 (F := Ideal) x0 x1 x7 (ix2 r l) = bz x0 x1 r fun d => x7 (ix2 d l) := by
  unfold out0_30
  rw [View.canon_cons_unit_lit _ _ _ (by decide), ld18, vc_at]
  simp only [hn_at]
  rfl

end

end Cert.Kernel3Ideal.Gen

end
-- ==== Proof.ProjBlocks.lean ====
module

public import proofs.«01_k».proof.Proof.ProjFrame
public import Idealize.ShloMosaic.Lib.Pointwise
public import Idealize.ShloMosaic.Lib.Pipeline.ValueKit

/-! The blocks that a point sees, and where an output block lies. -/

@[expose] public section

set_option maxRecDepth 16384

noncomputable section

namespace Cert.Kernel3Ideal.Gen

open Idealize.ShloMosaic Idealize.ShloMosaic.TcCoe Cert.Kernel3Ideal

variable (m : (ℓ : Loc nD τ sig) → Buf (Elt Ideal) ℓ)

theorem idx0 (t : Fin grid0.N) : (cfg0.win 0).index t = ![t.val, 0] := by revert t; decide +kernel
theorem idx1 (t : Fin grid0.N) : (cfg0.win 1).index t = ![0, 0] := by revert t; decide +kernel
theorem idx2 (t : Fin grid0.N) : (cfg0.win 2).index t = ![0, 0] := by revert t; decide +kernel
theorem idx3 (t : Fin grid0.N) : (cfg0.win 3).index t = ![0, 0] := by revert t; decide +kernel
theorem idx4 (t : Fin grid0.N) : (cfg0.win 4).index t = ![0, 0] := by revert t; decide +kernel
theorem idx5 (t : Fin grid0.N) : (cfg0.win 5).index t = ![0, 0] := by revert t; decide +kernel
theorem idx6 (t : Fin grid0.N) : (cfg0.win 6).index t = ![0, 0] := by revert t; decide +kernel
theorem idx7 (t : Fin grid0.N) : (cfg0.win 7).index t = ![0, 0] := by revert t; decide +kernel
theorem idx8 (t : Fin grid0.N) : (cfg0.win 8).index t = ![0, 0] := by revert t; decide +kernel
theorem idx9 (t : Fin grid0.N) : (cfg0.win 9).index t = ![0, 0] := by revert t; decide +kernel
theorem idx10 (t : Fin grid0.N) : (cfg0.win 10).index t = ![0, 0] := by revert t; decide +kernel
theorem idx11 (t : Fin grid0.N) : (cfg0.win 11).index t = ![0, 0] := by revert t; decide +kernel
theorem idx12 (t : Fin grid0.N) : (cfg0.win 12).index t = ![0, 0] := by revert t; decide +kernel
theorem idx13 (t : Fin grid0.N) : (cfg0.win 13).index t = ![0, 0] := by revert t; decide +kernel
theorem idx14 (t : Fin grid0.N) : (cfg0.win 14).index t = ![0, 0] := by revert t; decide +kernel
theorem idx15 (t : Fin grid0.N) : (cfg0.win 15).index t = ![0, 0] := by revert t; decide +kernel
theorem idx16 (t : Fin grid0.N) : (cfg0.win 16).index t = ![0, 0] := by revert t; decide +kernel
theorem idx17 (t : Fin grid0.N) : (cfg0.win 17).index t = ![0, 0] := by revert t; decide +kernel
theorem idx18 (t : Fin grid0.N) : (cfg0.win 18).index t = ![0, 0] := by revert t; decide +kernel
theorem idx19 (t : Fin grid0.N) : (cfg0.win 19).index t = ![0, 0] := by revert t; decide +kernel
theorem idx20 (t : Fin grid0.N) : (cfg0.win 20).index t = ![t.val % 8, t.val / 8] := by revert t; decide +kernel
theorem idx21 (t : Fin grid0.N) : (cfg0.win 21).index t = ![t.val / 8, 0, t.val % 8, 0] := by revert t; decide +kernel
theorem idx22 (t : Fin grid0.N) : (cfg0.win 22).index t = ![t.val / 8, 0, t.val % 8, 0] := by revert t; decide +kernel
theorem idx23 (t : Fin grid0.N) : (cfg0.win 23).index t = ![t.val / 8, 0, t.val % 8, 0] := by revert t; decide +kernel
theorem idx24 (t : Fin grid0.N) : (cfg0.win 24).index t = ![t.val / 8, 0, t.val % 8, 0] := by revert t; decide +kernel
theorem idx25 (t : Fin grid0.N) : (cfg0.win 25).index t = ![t.val, 0] := by revert t; decide +kernel
theorem idx26 (t : Fin grid0.N) : (cfg0.win 26).index t = ![t.val, 0] := by revert t; decide +kernel
theorem idx27 (t : Fin grid0.N) : (cfg0.win 27).index t = ![t.val, 0] := by revert t; decide +kernel
theorem idx28 (t : Fin grid0.N) : (cfg0.win 28).index t = ![t.val, 0] := by revert t; decide +kernel
theorem idx29 (t : Fin grid0.N) : (cfg0.win 29).index t = ![t.val, 0] := by revert t; decide +kernel
theorem idx30 (t : Fin grid0.N) : (cfg0.win 30).index t = ![t.val, 0] := by revert t; decide +kernel
theorem idx31 (t : Fin grid0.N) : (cfg0.win 31).index t = ![t.val, 0] := by revert t; decide +kernel

theorem blk0 (c : Dev nD) (t : Fin cfg0.N) (r : Fin 512) (d : Fin 1024) :
    iblk m c 0 t (ix2 r d) = V m c main_v52 (ix2 ⟨t.val * 512 + r.val, by have : t.val < 128 := t.isLt; omega⟩ d) := by
  refine congrArg (V m c main_v52) (funext fun a => Fin.ext ?_)
  refine (Pipeline.Window.rect_emb_val (cfg0.win 0) t (ix2 r d) a rfl).trans ?_
  rw [idx0 t]
  match a with
  | ⟨0, _⟩ => exact rfl
  | ⟨1, _⟩ => exact Nat.zero_add _

theorem blk1 (c : Dev nD) (t : Fin cfg0.N) : iblk m c 1 t = V m c main_v9 := by
  funext i
  refine congrArg (V m c main_v9) (funext fun a => Fin.ext ?_)
  refine (Pipeline.Window.rect_emb_val (cfg0.win 1) t i a rfl).trans ?_
  rw [idx1 t]
  match a with
  | ⟨0, _⟩ => exact (congrArg (· + _) (Nat.zero_mul _)).trans (Nat.zero_add _)
  | ⟨1, _⟩ => exact (congrArg (· + _) (Nat.zero_mul _)).trans (Nat.zero_add _)

theorem blk2 (c : Dev nD) (t : Fin cfg0.N) : iblk m c 2 t = V m c main_v10 := by
  funext i
  refine congrArg (V m c main_v10) (funext fun a => Fin.ext ?_)
  refine (Pipeline.Window.rect_emb_val (cfg0.win 2) t i a rfl).trans ?_
  rw [idx2 t]
  match a with
  | ⟨0, _⟩ => exact (congrArg (· + _) (Nat.zero_mul _)).trans (Nat.zero_add _)
  | ⟨1, _⟩ => exact (congrArg (· + _) (Nat.zero_mul _)).trans (Nat.zero_add _)

theorem blk3 (c : Dev nD) (t : Fin cfg0.N) : iblk m c 3 t = V m c main_v14 := by
  funext i
  refine congrArg (V m c main_v14) (funext fun a => Fin.ext ?_)
  refine (Pipeline.Window.rect_emb_val (cfg0.win 3) t i a rfl).trans ?_
  rw [idx3 t]
  match a with
  | ⟨0, _⟩ => exact (congrArg (· + _) (Nat.zero_mul _)).trans (Nat.zero_add _)
  | ⟨1, _⟩ => exact (congrArg (· + _) (Nat.zero_mul _)).trans (Nat.zero_add _)

theorem blk4 (c : Dev nD) (t : Fin cfg0.N) : iblk m c 4 t = V m c main_v18 := by
  funext i
  refine congrArg (V m c main_v18) (funext fun a => Fin.ext ?_)
  refine (Pipeline.Window.rect_emb_val (cfg0.win 4) t i a rfl).trans ?_
  rw [idx4 t]
  match a with
  | ⟨0, _⟩ => exact (congrArg (· + _) (Nat.zero_mul _)).trans (Nat.zero_add _)
  | ⟨1, _⟩ => exact (congrArg (· + _) (Nat.zero_mul _)).trans (Nat.zero_add _)

theorem blk5 (c : Dev nD) (t : Fin cfg0.N) : iblk m c 5 t = V m c main_v22 := by
  funext i
  refine congrArg (V m c main_v22) (funext fun a => Fin.ext ?_)
  refine (Pipeline.Window.rect_emb_val (cfg0.win 5) t i a rfl).trans ?_
  rw [idx5 t]
  match a with
  | ⟨0, _⟩ => exact (congrArg (· + _) (Nat.zero_mul _)).trans (Nat.zero_add _)
  | ⟨1, _⟩ => exact (congrArg (· + _) (Nat.zero_mul _)).trans (Nat.zero_add _)

theorem blk6 (c : Dev nD) (t : Fin cfg0.N) : iblk m c 6 t = V m c main_v26 := by
  funext i
  refine congrArg (V m c main_v26) (funext fun a => Fin.ext ?_)
  refine (Pipeline.Window.rect_emb_val (cfg0.win 6) t i a rfl).trans ?_
  rw [idx6 t]
  match a with
  | ⟨0, _⟩ => exact (congrArg (· + _) (Nat.zero_mul _)).trans (Nat.zero_add _)
  | ⟨1, _⟩ => exact (congrArg (· + _) (Nat.zero_mul _)).trans (Nat.zero_add _)

theorem blk7 (c : Dev nD) (t : Fin cfg0.N) : iblk m c 7 t = V m c main_v30 := by
  funext i
  refine congrArg (V m c main_v30) (funext fun a => Fin.ext ?_)
  refine (Pipeline.Window.rect_emb_val (cfg0.win 7) t i a rfl).trans ?_
  rw [idx7 t]
  match a with
  | ⟨0, _⟩ => exact (congrArg (· + _) (Nat.zero_mul _)).trans (Nat.zero_add _)
  | ⟨1, _⟩ => exact (congrArg (· + _) (Nat.zero_mul _)).trans (Nat.zero_add _)

theorem blk8 (c : Dev nD) (t : Fin cfg0.N) : iblk m c 8 t = V m c main_v34 := by
  funext i
  refine congrArg (V m c main_v34) (funext fun a => Fin.ext ?_)
  refine (Pipeline.Window.rect_emb_val (cfg0.win 8) t i a rfl).trans ?_
  rw [idx8 t]
  match a with
  | ⟨0, _⟩ => exact (congrArg (· + _) (Nat.zero_mul _)).trans (Nat.zero_add _)
  | ⟨1, _⟩ => exact (congrArg (· + _) (Nat.zero_mul _)).trans (Nat.zero_add _)

theorem blk9 (c : Dev nD) (t : Fin cfg0.N) : iblk m c 9 t = V m c main_v35 := by
  funext i
  refine congrArg (V m c main_v35) (funext fun a => Fin.ext ?_)
  refine (Pipeline.Window.rect_emb_val (cfg0.win 9) t i a rfl).trans ?_
  rw [idx9 t]
  match a with
  | ⟨0, _⟩ => exact (congrArg (· + _) (Nat.zero_mul _)).trans (Nat.zero_add _)
  | ⟨1, _⟩ => exact (congrArg (· + _) (Nat.zero_mul _)).trans (Nat.zero_add _)

theorem blk10 (c : Dev nD) (t : Fin cfg0.N) : iblk m c 10 t = V m c main_v36 := by
  funext i
  refine congrArg (V m c main_v36) (funext fun a => Fin.ext ?_)
  refine (Pipeline.Window.rect_emb_val (cfg0.win 10) t i a rfl).trans ?_
  rw [idx10 t]
  match a with
  | ⟨0, _⟩ => exact (congrArg (· + _) (Nat.zero_mul _)).trans (Nat.zero_add _)
  | ⟨1, _⟩ => exact (congrArg (· + _) (Nat.zero_mul _)).trans (Nat.zero_add _)

theorem blk11 (c : Dev nD) (t : Fin cfg0.N) : iblk m c 11 t = V m c main_v37 := by
  funext i
  refine congrArg (V m c main_v37) (funext fun a => Fin.ext ?_)
  refine (Pipeline.Window.rect_emb_val (cfg0.win 11) t i a rfl).trans ?_
  rw [idx11 t]
  match a with
  | ⟨0, _⟩ => exact (congrArg (· + _) (Nat.zero_mul _)).trans (Nat.zero_add _)
  | ⟨1, _⟩ => exact (congrArg (· + _) (Nat.zero_mul _)).trans (Nat.zero_add _)

theorem blk12 (c : Dev nD) (t : Fin cfg0.N) : iblk m c 12 t = V m c main_v38 := by
  funext i
  refine congrArg (V m c main_v38) (funext fun a => Fin.ext ?_)
  refine (Pipeline.Window.rect_emb_val (cfg0.win 12) t i a rfl).trans ?_
  rw [idx12 t]
  match a with
  | ⟨0, _⟩ => exact (congrArg (· + _) (Nat.zero_mul _)).trans (Nat.zero_add _)
  | ⟨1, _⟩ => exact (congrArg (· + _) (Nat.zero_mul _)).trans (Nat.zero_add _)

theorem blk13 (c : Dev nD) (t : Fin cfg0.N) : iblk m c 13 t = V m c main_v40 := by
  funext i
  refine congrArg (V m c main_v40) (funext fun a => Fin.ext ?_)
  refine (Pipeline.Window.rect_emb_val (cfg0.win 13) t i a rfl).trans ?_
  rw [idx13 t]
  match a with
  | ⟨0, _⟩ => exact (congrArg (· + _) (Nat.zero_mul _)).trans (Nat.zero_add _)
  | ⟨1, _⟩ => exact (congrArg (· + _) (Nat.zero_mul _)).trans (Nat.zero_add _)

theorem blk14 (c : Dev nD) (t : Fin cfg0.N) : iblk m c 14 t = V m c main_v42 := by
  funext i
  refine congrArg (V m c main_v42) (funext fun a => Fin.ext ?_)
  refine (Pipeline.Window.rect_emb_val (cfg0.win 14) t i a rfl).trans ?_
  rw [idx14 t]
  match a with
  | ⟨0, _⟩ => exact (congrArg (· + _) (Nat.zero_mul _)).trans (Nat.zero_add _)
  | ⟨1, _⟩ => exact (congrArg (· + _) (Nat.zero_mul _)).trans (Nat.zero_add _)

theorem blk15 (c : Dev nD) (t : Fin cfg0.N) : iblk m c 15 t = V m c main_v46 := by
  funext i
  refine congrArg (V m c main_v46) (funext fun a => Fin.ext ?_)
  refine (Pipeline.Window.rect_emb_val (cfg0.win 15) t i a rfl).trans ?_
  rw [idx15 t]
  match a with
  | ⟨0, _⟩ => exact (congrArg (· + _) (Nat.zero_mul _)).trans (Nat.zero_add _)
  | ⟨1, _⟩ => exact (congrArg (· + _) (Nat.zero_mul _)).trans (Nat.zero_add _)

theorem blk16 (c : Dev nD) (t : Fin cfg0.N) : iblk m c 16 t = V m c main_v48 := by
  funext i
  refine congrArg (V m c main_v48) (funext fun a => Fin.ext ?_)
  refine (Pipeline.Window.rect_emb_val (cfg0.win 16) t i a rfl).trans ?_
  rw [idx16 t]
  match a with
  | ⟨0, _⟩ => exact (congrArg (· + _) (Nat.zero_mul _)).trans (Nat.zero_add _)
  | ⟨1, _⟩ => exact (congrArg (· + _) (Nat.zero_mul _)).trans (Nat.zero_add _)

theorem blk17 (c : Dev nD) (t : Fin cfg0.N) : iblk m c 17 t = V m c main_v50 := by
  funext i
  refine congrArg (V m c main_v50) (funext fun a => Fin.ext ?_)
  refine (Pipeline.Window.rect_emb_val (cfg0.win 17) t i a rfl).trans ?_
  rw [idx17 t]
  match a with
  | ⟨0, _⟩ => exact (congrArg (· + _) (Nat.zero_mul _)).trans (Nat.zero_add _)
  | ⟨1, _⟩ => exact (congrArg (· + _) (Nat.zero_mul _)).trans (Nat.zero_add _)

theorem blk18 (c : Dev nD) (t : Fin cfg0.N) : iblk m c 18 t = V m c main_v51 := by
  funext i
  refine congrArg (V m c main_v51) (funext fun a => Fin.ext ?_)
  refine (Pipeline.Window.rect_emb_val (cfg0.win 18) t i a rfl).trans ?_
  rw [idx18 t]
  match a with
  | ⟨0, _⟩ => exact (congrArg (· + _) (Nat.zero_mul _)).trans (Nat.zero_add _)
  | ⟨1, _⟩ => exact (congrArg (· + _) (Nat.zero_mul _)).trans (Nat.zero_add _)

theorem blk19 (c : Dev nD) (t : Fin cfg0.N) : iblk m c 19 t = V m c main_cst := by
  funext i
  refine congrArg (V m c main_cst) (funext fun a => Fin.ext ?_)
  refine (Pipeline.Window.rect_emb_val (cfg0.win 19) t i a rfl).trans ?_
  rw [idx19 t]
  match a with
  | ⟨0, _⟩ => exact (congrArg (· + _) (Nat.zero_mul _)).trans (Nat.zero_add _)
  | ⟨1, _⟩ => exact (congrArg (· + _) (Nat.zero_mul _)).trans (Nat.zero_add _)

theorem emb20 (t : Fin cfg0.N) (r c : Fin 512) : ((cfg0.win 20).blk t).view.emb (ix2 r c) = (ix2 ⟨t.val % 8 * 512 + r.val, by omega⟩ ⟨t.val / 8 * 512 + c.val, by have : t.val < 128 := t.isLt; omega⟩ : S4096x8192.Idx) := by
  refine funext fun a => Fin.ext ?_
  refine (Pipeline.Window.rect_emb_val (cfg0.win 20) t (ix2 r c) a rfl).trans ?_
  rw [idx20 t]
  match a with
  | ⟨0, _⟩ => exact rfl
  | ⟨1, _⟩ => exact rfl

theorem cover20 (i : S4096x8192.Idx) : ∃ t : Fin cfg0.N, (cfg0.win 20).flush t = true ∧ i ∈ ((cfg0.win 20).blk t).view.set := by
  have h0 : (i 0).val < 4096 := (i 0).isLt
  have h1 : (i 1).val < 8192 := (i 1).isLt
  have hlt : (i 1).val / 512 * 8 + (i 0).val / 512 < 128 := by omega
  refine ⟨⟨(i 1).val / 512 * 8 + (i 0).val / 512, hlt⟩, flush0_20 _, ?_⟩
  have hi : i = ((cfg0.win 20).blk ⟨(i 1).val / 512 * 8 + (i 0).val / 512, hlt⟩).view.emb (ix2 ⟨(i 0).val % 512, Nat.mod_lt _ (by decide)⟩ ⟨(i 1).val % 512, Nat.mod_lt _ (by decide)⟩) := by
    refine Eq.trans ?_ (emb20 ⟨(i 1).val / 512 * 8 + (i 0).val / 512, hlt⟩ _ _).symm
    funext a
    refine Fin.ext ?_
    match a with
    | ⟨0, _⟩ => show (i 0).val = ((i 1).val / 512 * 8 + (i 0).val / 512) % 8 * 512 + (i 0).val % 512; omega
    | ⟨1, _⟩ => show (i 1).val = ((i 1).val / 512 * 8 + (i 0).val / 512) / 8 * 512 + (i 1).val % 512; omega
  exact (congrArg (fun x => x ∈ ((cfg0.win 20).blk ⟨(i 1).val / 512 * 8 + (i 0).val / 512, hlt⟩).view.set) hi).mpr (View.emb_mem_set _ _)

theorem emb21 (t : Fin cfg0.N) (h : Fin 8) (r : Fin 512) (l : Fin 128) : ((cfg0.win 21).blk t).view.emb (ix4 0 h r l) = (ix4 ⟨t.val / 8, by have : t.val < 128 := t.isLt; omega⟩ h ⟨t.val % 8 * 512 + r.val, by omega⟩ l : S16x8x4096x128.Idx) := by
  refine funext fun a => Fin.ext ?_
  refine (Pipeline.Window.rect_emb_val (cfg0.win 21) t (ix4 0 h r l) a rfl).trans ?_
  rw [idx21 t]
  match a with
  | ⟨0, _⟩ => exact Nat.mul_one _
  | ⟨1, _⟩ => exact Nat.zero_add _
  | ⟨2, _⟩ => exact rfl
  | ⟨3, _⟩ => exact Nat.zero_add _

theorem cover21 (i : S16x8x4096x128.Idx) : ∃ t : Fin cfg0.N, (cfg0.win 21).flush t = true ∧ i ∈ ((cfg0.win 21).blk t).view.set := by
  have h0 : (i 0).val < 16 := (i 0).isLt
  have h1 : (i 1).val < 8 := (i 1).isLt
  have h2 : (i 2).val < 4096 := (i 2).isLt
  have h3 : (i 3).val < 128 := (i 3).isLt
  have hlt : (i 0).val * 8 + (i 2).val / 512 < 128 := by omega
  refine ⟨⟨(i 0).val * 8 + (i 2).val / 512, hlt⟩, flush0_21 _, ?_⟩
  have hi : i = ((cfg0.win 21).blk ⟨(i 0).val * 8 + (i 2).val / 512, hlt⟩).view.emb (ix4 0 (i 1) ⟨(i 2).val % 512, Nat.mod_lt _ (by decide)⟩ (i 3)) := by
    refine Eq.trans ?_ (emb21 ⟨(i 0).val * 8 + (i 2).val / 512, hlt⟩ _ _ _).symm
    funext a
    refine Fin.ext ?_
    match a with
    | ⟨0, _⟩ => show (i 0).val = ((i 0).val * 8 + (i 2).val / 512) / 8; omega
    | ⟨1, _⟩ => rfl
    | ⟨2, _⟩ => show (i 2).val = ((i 0).val * 8 + (i 2).val / 512) % 8 * 512 + (i 2).val % 512; omega
    | ⟨3, _⟩ => rfl
  exact (congrArg (fun x => x ∈ ((cfg0.win 21).blk ⟨(i 0).val * 8 + (i 2).val / 512, hlt⟩).view.set) hi).mpr (View.emb_mem_set _ _)

theorem emb22 (t : Fin cfg0.N) (h : Fin 2) (r : Fin 512) (l : Fin 128) : ((cfg0.win 22).blk t).view.emb (ix4 0 h r l) = (ix4 ⟨t.val / 8, by have : t.val < 128 := t.isLt; omega⟩ h ⟨t.val % 8 * 512 + r.val, by omega⟩ l : S16x2x4096x128.Idx) := by
  refine funext fun a => Fin.ext ?_
  refine (Pipeline.Window.rect_emb_val (cfg0.win 22) t (ix4 0 h r l) a rfl).trans ?_
  rw [idx22 t]
  match a with
  | ⟨0, _⟩ => exact Nat.mul_one _
  | ⟨1, _⟩ => exact Nat.zero_add _
  | ⟨2, _⟩ => exact rfl
  | ⟨3, _⟩ => exact Nat.zero_add _

theorem cover22 (i : S16x2x4096x128.Idx) : ∃ t : Fin cfg0.N, (cfg0.win 22).flush t = true ∧ i ∈ ((cfg0.win 22).blk t).view.set := by
  have h0 : (i 0).val < 16 := (i 0).isLt
  have h1 : (i 1).val < 2 := (i 1).isLt
  have h2 : (i 2).val < 4096 := (i 2).isLt
  have h3 : (i 3).val < 128 := (i 3).isLt
  have hlt : (i 0).val * 8 + (i 2).val / 512 < 128 := by omega
  refine ⟨⟨(i 0).val * 8 + (i 2).val / 512, hlt⟩, flush0_22 _, ?_⟩
  have hi : i = ((cfg0.win 22).blk ⟨(i 0).val * 8 + (i 2).val / 512, hlt⟩).view.emb (ix4 0 (i 1) ⟨(i 2).val % 512, Nat.mod_lt _ (by decide)⟩ (i 3)) := by
    refine Eq.trans ?_ (emb22 ⟨(i 0).val * 8 + (i 2).val / 512, hlt⟩ _ _ _).symm
    funext a
    refine Fin.ext ?_
    match a with
    | ⟨0, _⟩ => show (i 0).val = ((i 0).val * 8 + (i 2).val / 512) / 8; omega
    | ⟨1, _⟩ => rfl
    | ⟨2, _⟩ => show (i 2).val = ((i 0).val * 8 + (i 2).val / 512) % 8 * 512 + (i 2).val % 512; omega
    | ⟨3, _⟩ => rfl
  exact (congrArg (fun x => x ∈ ((cfg0.win 22).blk ⟨(i 0).val * 8 + (i 2).val / 512, hlt⟩).view.set) hi).mpr (View.emb_mem_set _ _)

theorem emb23 (t : Fin cfg0.N) (h : Fin 2) (r : Fin 512) (l : Fin 128) : ((cfg0.win 23).blk t).view.emb (ix4 0 h r l) = (ix4 ⟨t.val / 8, by have : t.val < 128 := t.isLt; omega⟩ h ⟨t.val % 8 * 512 + r.val, by omega⟩ l : S16x2x4096x128.Idx) := by
  refine funext fun a => Fin.ext ?_
  refine (Pipeline.Window.rect_emb_val (cfg0.win 23) t (ix4 0 h r l) a rfl).trans ?_
  rw [idx23 t]
  match a with
  | ⟨0, _⟩ => exact Nat.mul_one _
  | ⟨1, _⟩ => exact Nat.zero_add _
  | ⟨2, _⟩ => exact rfl
  | ⟨3, _⟩ => exact Nat.zero_add _

theorem cover23 (i : S16x2x4096x128.Idx) : ∃ t : Fin cfg0.N, (cfg0.win 23).flush t = true ∧ i ∈ ((cfg0.win 23).blk t).view.set := by
  have h0 : (i 0).val < 16 := (i 0).isLt
  have h1 : (i 1).val < 2 := (i 1).isLt
  have h2 : (i 2).val < 4096 := (i 2).isLt
  have h3 : (i 3).val < 128 := (i 3).isLt
  have hlt : (i 0).val * 8 + (i 2).val / 512 < 128 := by omega
  refine ⟨⟨(i 0).val * 8 + (i 2).val / 512, hlt⟩, flush0_23 _, ?_⟩
  have hi : i = ((cfg0.win 23).blk ⟨(i 0).val * 8 + (i 2).val / 512, hlt⟩).view.emb (ix4 0 (i 1) ⟨(i 2).val % 512, Nat.mod_lt _ (by decide)⟩ (i 3)) := by
    refine Eq.trans ?_ (emb23 ⟨(i 0).val * 8 + (i 2).val / 512, hlt⟩ _ _ _).symm
    funext a
    refine Fin.ext ?_
    match a with
    | ⟨0, _⟩ => show (i 0).val = ((i 0).val * 8 + (i 2).val / 512) / 8; omega
    | ⟨1, _⟩ => rfl
    | ⟨2, _⟩ => show (i 2).val = ((i 0).val * 8 + (i 2).val / 512) % 8 * 512 + (i 2).val % 512; omega
    | ⟨3, _⟩ => rfl
  exact (congrArg (fun x => x ∈ ((cfg0.win 23).blk ⟨(i 0).val * 8 + (i 2).val / 512, hlt⟩).view.set) hi).mpr (View.emb_mem_set _ _)

theorem emb24 (t : Fin cfg0.N) (h : Fin 8) (r : Fin 512) (l : Fin 128) : ((cfg0.win 24).blk t).view.emb (ix4 0 h r l) = (ix4 ⟨t.val / 8, by have : t.val < 128 := t.isLt; omega⟩ h ⟨t.val % 8 * 512 + r.val, by omega⟩ l : S16x8x4096x128.Idx) := by
  refine funext fun a => Fin.ext ?_
  refine (Pipeline.Window.rect_emb_val (cfg0.win 24) t (ix4 0 h r l) a rfl).trans ?_
  rw [idx24 t]
  match a with
  | ⟨0, _⟩ => exact Nat.mul_one _
  | ⟨1, _⟩ => exact Nat.zero_add _
  | ⟨2, _⟩ => exact rfl
  | ⟨3, _⟩ => exact Nat.zero_add _

theorem cover24 (i : S16x8x4096x128.Idx) : ∃ t : Fin cfg0.N, (cfg0.win 24).flush t = true ∧ i ∈ ((cfg0.win 24).blk t).view.set := by
  have h0 : (i 0).val < 16 := (i 0).isLt
  have h1 : (i 1).val < 8 := (i 1).isLt
  have h2 : (i 2).val < 4096 := (i 2).isLt
  have h3 : (i 3).val < 128 := (i 3).isLt
  have hlt : (i 0).val * 8 + (i 2).val / 512 < 128 := by omega
  refine ⟨⟨(i 0).val * 8 + (i 2).val / 512, hlt⟩, flush0_24 _, ?_⟩
  have hi : i = ((cfg0.win 24).blk ⟨(i 0).val * 8 + (i 2).val / 512, hlt⟩).view.emb (ix4 0 (i 1) ⟨(i 2).val % 512, Nat.mod_lt _ (by decide)⟩ (i 3)) := by
    refine Eq.trans ?_ (emb24 ⟨(i 0).val * 8 + (i 2).val / 512, hlt⟩ _ _ _).symm
    funext a
    refine Fin.ext ?_
    match a with
    | ⟨0, _⟩ => show (i 0).val = ((i 0).val * 8 + (i 2).val / 512) / 8; omega
    | ⟨1, _⟩ => rfl
    | ⟨2, _⟩ => show (i 2).val = ((i 0).val * 8 + (i 2).val / 512) % 8 * 512 + (i 2).val % 512; omega
    | ⟨3, _⟩ => rfl
  exact (congrArg (fun x => x ∈ ((cfg0.win 24).blk ⟨(i 0).val * 8 + (i 2).val / 512, hlt⟩).view.set) hi).mpr (View.emb_mem_set _ _)

theorem emb25 (t : Fin cfg0.N) (r : Fin 512) (l : Fin 128) : ((cfg0.win 25).blk t).view.emb (ix2 r l) = (ix2 ⟨t.val * 512 + r.val, by have : t.val < 128 := t.isLt; omega⟩ l : S65536x128.Idx) := by
  refine funext fun a => Fin.ext ?_
  refine (Pipeline.Window.rect_emb_val (cfg0.win 25) t (ix2 r l) a rfl).trans ?_
  rw [idx25 t]
  match a with
  | ⟨0, _⟩ => exact rfl
  | ⟨1, _⟩ => exact Nat.zero_add _

theorem cover25 (i : S65536x128.Idx) : ∃ t : Fin cfg0.N, (cfg0.win 25).flush t = true ∧ i ∈ ((cfg0.win 25).blk t).view.set := by
  have h0 : (i 0).val < 65536 := (i 0).isLt
  have h1 : (i 1).val < 128 := (i 1).isLt
  have hlt : (i 0).val / 512 < 128 := by omega
  refine ⟨⟨(i 0).val / 512, hlt⟩, flush0_25 _, ?_⟩
  have hi : i = ((cfg0.win 25).blk ⟨(i 0).val / 512, hlt⟩).view.emb (ix2 ⟨(i 0).val % 512, Nat.mod_lt _ (by decide)⟩ (i 1)) := by
    refine Eq.trans ?_ (emb25 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 25).blk ⟨(i 0).val / 512, hlt⟩).view.set) hi).mpr (View.emb_mem_set _ _)

theorem emb26 (t : Fin cfg0.N) (r : Fin 512) (l : Fin 128) : ((cfg0.win 26).blk t).view.emb (ix2 r l) = (ix2 ⟨t.val * 512 + r.val, by have : t.val < 128 := t.isLt; omega⟩ l : S65536x128.Idx) := by
  refine funext fun a => Fin.ext ?_
  refine (Pipeline.Window.rect_emb_val (cfg0.win 26) t (ix2 r l) a rfl).trans ?_
  rw [idx26 t]
  match a with
  | ⟨0, _⟩ => exact rfl
  | ⟨1, _⟩ => exact Nat.zero_add _

theorem cover26 (i : S65536x128.Idx) : ∃ t : Fin cfg0.N, (cfg0.win 26).flush t = true ∧ i ∈ ((cfg0.win 26).blk t).view.set := by
  have h0 : (i 0).val < 65536 := (i 0).isLt
  have h1 : (i 1).val < 128 := (i 1).isLt
  have hlt : (i 0).val / 512 < 128 := by omega
  refine ⟨⟨(i 0).val / 512, hlt⟩, flush0_26 _, ?_⟩
  have hi : i = ((cfg0.win 26).blk ⟨(i 0).val / 512, hlt⟩).view.emb (ix2 ⟨(i 0).val % 512, Nat.mod_lt _ (by decide)⟩ (i 1)) := by
    refine Eq.trans ?_ (emb26 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 26).blk ⟨(i 0).val / 512, hlt⟩).view.set) hi).mpr (View.emb_mem_set _ _)

theorem emb27 (t : Fin cfg0.N) (r : Fin 512) (l : Fin 1024) : ((cfg0.win 27).blk t).view.emb (ix2 r l) = (ix2 ⟨t.val * 512 + r.val, by have : t.val < 128 := t.isLt; omega⟩ l : S65536x1024.Idx) := by
  refine funext fun a => Fin.ext ?_
  refine (Pipeline.Window.rect_emb_val (cfg0.win 27) t (ix2 r l) a rfl).trans ?_
  rw [idx27 t]
  match a with
  | ⟨0, _⟩ => exact rfl
  | ⟨1, _⟩ => exact Nat.zero_add _

theorem cover27 (i : S65536x1024.Idx) : ∃ t : Fin cfg0.N, (cfg0.win 27).flush t = true ∧ i ∈ ((cfg0.win 27).blk t).view.set := by
  have h0 : (i 0).val < 65536 := (i 0).isLt
  have h1 : (i 1).val < 1024 := (i 1).isLt
  have hlt : (i 0).val / 512 < 128 := by omega
  refine ⟨⟨(i 0).val / 512, hlt⟩, flush0_27 _, ?_⟩
  have hi : i = ((cfg0.win 27).blk ⟨(i 0).val / 512, hlt⟩).view.emb (ix2 ⟨(i 0).val % 512, Nat.mod_lt _ (by decide)⟩ (i 1)) := by
    refine Eq.trans ?_ (emb27 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 27).blk ⟨(i 0).val / 512, hlt⟩).view.set) hi).mpr (View.emb_mem_set _ _)

theorem emb28 (t : Fin cfg0.N) (r : Fin 512) (l : Fin 1024) : ((cfg0.win 28).blk t).view.emb (ix2 r l) = (ix2 ⟨t.val * 512 + r.val, by have : t.val < 128 := t.isLt; omega⟩ l : S65536x1024.Idx) := by
  refine funext fun a => Fin.ext ?_
  refine (Pipeline.Window.rect_emb_val (cfg0.win 28) t (ix2 r l) a rfl).trans ?_
  rw [idx28 t]
  match a with
  | ⟨0, _⟩ => exact rfl
  | ⟨1, _⟩ => exact Nat.zero_add _

theorem cover28 (i : S65536x1024.Idx) : ∃ t : Fin cfg0.N, (cfg0.win 28).flush t = true ∧ i ∈ ((cfg0.win 28).blk t).view.set := by
  have h0 : (i 0).val < 65536 := (i 0).isLt
  have h1 : (i 1).val < 1024 := (i 1).isLt
  have hlt : (i 0).val / 512 < 128 := by omega
  refine ⟨⟨(i 0).val / 512, hlt⟩, flush0_28 _, ?_⟩
  have hi : i = ((cfg0.win 28).blk ⟨(i 0).val / 512, hlt⟩).view.emb (ix2 ⟨(i 0).val % 512, Nat.mod_lt _ (by decide)⟩ (i 1)) := by
    refine Eq.trans ?_ (emb28 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 28).blk ⟨(i 0).val / 512, hlt⟩).view.set) hi).mpr (View.emb_mem_set _ _)

theorem emb29 (t : Fin cfg0.N) (r : Fin 512) (l : Fin 128) : ((cfg0.win 29).blk t).view.emb (ix2 r l) = (ix2 ⟨t.val * 512 + r.val, by have : t.val < 128 := t.isLt; omega⟩ l : S65536x128.Idx) := by
  refine funext fun a => Fin.ext ?_
  refine (Pipeline.Window.rect_emb_val (cfg0.win 29) t (ix2 r l) a rfl).trans ?_
  rw [idx29 t]
  match a with
  | ⟨0, _⟩ => exact rfl
  | ⟨1, _⟩ => exact Nat.zero_add _

theorem cover29 (i : S65536x128.Idx) : ∃ t : Fin cfg0.N, (cfg0.win 29).flush t = true ∧ i ∈ ((cfg0.win 29).blk t).view.set := by
  have h0 : (i 0).val < 65536 := (i 0).isLt
  have h1 : (i 1).val < 128 := (i 1).isLt
  have hlt : (i 0).val / 512 < 128 := by omega
  refine ⟨⟨(i 0).val / 512, hlt⟩, flush0_29 _, ?_⟩
  have hi : i = ((cfg0.win 29).blk ⟨(i 0).val / 512, hlt⟩).view.emb (ix2 ⟨(i 0).val % 512, Nat.mod_lt _ (by decide)⟩ (i 1)) := by
    refine Eq.trans ?_ (emb29 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 29).blk ⟨(i 0).val / 512, hlt⟩).view.set) hi).mpr (View.emb_mem_set _ _)

theorem emb30 (t : Fin cfg0.N) (r : Fin 512) (l : Fin 128) : ((cfg0.win 30).blk t).view.emb (ix2 r l) = (ix2 ⟨t.val * 512 + r.val, by have : t.val < 128 := t.isLt; omega⟩ l : S65536x128.Idx) := by
  refine funext fun a => Fin.ext ?_
  refine (Pipeline.Window.rect_emb_val (cfg0.win 30) t (ix2 r l) a rfl).trans ?_
  rw [idx30 t]
  match a with
  | ⟨0, _⟩ => exact rfl
  | ⟨1, _⟩ => exact Nat.zero_add _

theorem cover30 (i : S65536x128.Idx) : ∃ t : Fin cfg0.N, (cfg0.win 30).flush t = true ∧ i ∈ ((cfg0.win 30).blk t).view.set := by
  have h0 : (i 0).val < 65536 := (i 0).isLt
  have h1 : (i 1).val < 128 := (i 1).isLt
  have hlt : (i 0).val / 512 < 128 := by omega
  refine ⟨⟨(i 0).val / 512, hlt⟩, flush0_30 _, ?_⟩
  have hi : i = ((cfg0.win 30).blk ⟨(i 0).val / 512, hlt⟩).view.emb (ix2 ⟨(i 0).val % 512, Nat.mod_lt _ (by decide)⟩ (i 1)) := by
    refine Eq.trans ?_ (emb30 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 30).blk ⟨(i 0).val / 512, hlt⟩).view.set) hi).mpr (View.emb_mem_set _ _)

theorem emb31 (t : Fin cfg0.N) (r : Fin 512) (l : Fin 64) : ((cfg0.win 31).blk t).view.emb (ix2 r l) = (ix2 ⟨t.val * 512 + r.val, by have : t.val < 128 := t.isLt; omega⟩ l : S65536x64.Idx) := by
  refine funext fun a => Fin.ext ?_
  refine (Pipeline.Window.rect_emb_val (cfg0.win 31) t (ix2 r l) a rfl).trans ?_
  rw [idx31 t]
  match a with
  | ⟨0, _⟩ => exact rfl
  | ⟨1, _⟩ => exact Nat.zero_add _

theorem cover31 (i : S65536x64.Idx) : ∃ t : Fin cfg0.N, (cfg0.win 31).flush t = true ∧ i ∈ ((cfg0.win 31).blk t).view.set := by
  have h0 : (i 0).val < 65536 := (i 0).isLt
  have h1 : (i 1).val < 64 := (i 1).isLt
  have hlt : (i 0).val / 512 < 128 := by omega
  refine ⟨⟨(i 0).val / 512, hlt⟩, flush0_31 _, ?_⟩
  have hi : i = ((cfg0.win 31).blk ⟨(i 0).val / 512, hlt⟩).view.emb (ix2 ⟨(i 0).val % 512, Nat.mod_lt _ (by decide)⟩ (i 1)) := by
    refine Eq.trans ?_ (emb31 ⟨(i 0).val / 512, hlt⟩ _ _).symm
    funext a
    refine Fin.ext ?_
    match a with
    | ⟨0, _⟩ => show (i 0).val = (i 0).val / 512 * 512 + (i 0).val % 512; omega
    | ⟨1, _⟩ => rfl
  exact (congrArg (fun x => x ∈ ((cfg0.win 31).blk ⟨(i 0).val / 512, hlt⟩).view.set) hi).mpr (View.emb_mem_set _ _)

end Cert.Kernel3Ideal.Gen

end
-- ==== Proof.ProjLanes.lean ====
module

public import proofs.«01_k».proof.Proof.ProjMath

/-! The norm over padded lanes is the norm over the lanes that are not padding. -/

@[expose] public section

noncomputable section

namespace Cert.Proj

open Idealize.ShloMosaic

theorem zrow_zero (x g : Fin 1024 → EReal) : zrow x g (fun _ => 0) = 0 := by
  unfold zrow
  exact Finset.sum_eq_zero fun d _ => mul_zero _

/-- A row of 64 entries followed by 64 zeros. -/
theorem pad_fin {a : Fin 128 → EReal} {q : Fin 64 → EReal} (hq : ∀ j, Fin' (q j))
    (ha : ∀ j : Fin 128, a j = if h : j.val < 64 then q ⟨j.val, h⟩ else 0) (j : Fin 128) : Fin' (a j) := by
  rw [ha j]
  by_cases h : j.val < 64
  · rw [dif_pos h]; exact hq _
  · rw [dif_neg h]; exact Fin'.zero

theorem pad_lo {a : Fin 128 → EReal} {q : Fin 64 → EReal} (ha : ∀ j : Fin 128, a j = if h : j.val < 64 then q ⟨j.val, h⟩ else 0)
    (j : Fin 64) : a ⟨j.val, by omega⟩ = q j := (ha _).trans (dif_pos j.isLt)

theorem pad_hi {a : Fin 128 → EReal} {q : Fin 64 → EReal} (ha : ∀ j : Fin 128, a j = if h : j.val < 64 then q ⟨j.val, h⟩ else 0)
    (j : Fin 128) (h : 64 ≤ j.val) : a j = 0 := (ha _).trans (dif_neg (by omega))

theorem head_nrm {a : Fin 128 → EReal} {q : Fin 64 → EReal} {v : Fin 128 → Fin 128 → EReal} (hq : ∀ j, Fin' (q j))
    (ha : ∀ j : Fin 128, a j = if h : j.val < 64 then q ⟨j.val, h⟩ else 0) (hv : ∀ j l, v j l = rec64) (l : Fin 128) :
    laneNrm a v l = if h : l.val < 64 then nrm q ⟨l.val, h⟩ else 0 := by
  by_cases h : l.val < 64
  · rw [dif_pos h]
    unfold laneNrm nrm
    rw [mean_lanes (a := fun j => a j * a j) (c := fun j => v j l) (fun j => (pad_fin hq ha j).mul (pad_fin hq ha j))
      (fun j hj => by show a j * a j = 0; rw [pad_hi ha j hj, zero_mul]) (fun j _ => hv j l), ha l, dif_pos h]
    simp only [pad_lo ha]
  · rw [dif_neg h]
    unfold laneNrm
    rw [pad_hi ha l (by omega), zero_mul]

theorem head_cen {a : Fin 128 → EReal} {q : Fin 64 → EReal} {v : Fin 128 → Fin 128 → EReal} (hq : ∀ j, Fin' (q j))
    (ha : ∀ j : Fin 128, a j = if h : j.val < 64 then q ⟨j.val, h⟩ else 0) (hv : ∀ j l, v j l = rec64) (l : Fin 128) (h : l.val < 64) :
    laneCen a v l = cen q ⟨l.val, h⟩ := by
  unfold laneCen cen
  rw [mean_lanes (a := a) (c := fun j => v j l) (pad_fin hq ha) (pad_hi ha) (fun j _ => hv j l), ha l, dif_pos h]
  simp only [pad_lo ha]

theorem block_nrm {a : Fin 128 → EReal} {v : Fin 128 → Fin 128 → EReal} (hq : ∀ j, Fin' (a j))
    (hv : ∀ j l, v j l = if j.val / 64 = l.val / 64 then rec64 else 0) (l : Fin 128) :
    laneNrm a v l = nrm (fun j => a ⟨l.val / 64 * 64 + j.val, by omega⟩) ⟨l.val % 64, by omega⟩ := by
  unfold laneNrm nrm
  rw [mean_block (a := fun j => a j * a j) (c := fun j => v j l) (fun j => (hq j).mul (hq j)) ⟨l.val / 64, by omega⟩ (fun j => hv j l)]
  have e : a ⟨l.val / 64 * 64 + l.val % 64, by omega⟩ = a l := congrArg a (Fin.ext (by show l.val / 64 * 64 + l.val % 64 = l.val; omega))
  exact congrArg (· * _) e.symm

end Cert.Proj

end
-- ==== Proof.ProjFinal.lean ====
module

public import proofs.«01_k».proof.Proof.ProjHost
public import proofs.«01_k».proof.Proof.ProjOut
public import proofs.«01_k».proof.Proof.ProjBlocks
public import proofs.«01_k».proof.Proof.ProjLanes

/-! The result arrays of the projection call after the run. -/

@[expose] public section

set_option maxRecDepth 16384

noncomputable section

namespace Cert.Kernel3Ideal.Gen

open Idealize.ShloMosaic Idealize.ShloMosaic.TcCoe Cert.Kernel3Ideal Cert.Proj

variable (m : (ℓ : Loc nD τ sig) → Buf (Elt Ideal) ℓ) (c : Dev nD)

abbrev X : Fin 16 → Fin 4096 → Fin 1024 → EReal := fun b s d => arg0 m c (ix3 b s d)
abbrev G : Fin 1024 → EReal := fun d => arg1 m c (ix1 d)
abbrev W : Fin 1024 → Fin 3912 → EReal := fun d e => arg2 m c (ix2 d e)

/-- Gains and weights are numbers. -/
def Fine : Prop := (∀ d, Fin' (G m c d)) ∧ ∀ d e, Fin' (W m c d e)

variable {m c} in
theorem Fine.z (h : Fine m c) (b : Fin 16) (s : Fin 4096) (e : Fin 3912) : Fin' (Z (X m c) (G m c) (W m c) b s e) :=
  zrow_fin h.1 fun d => h.2 d e

abbrev tB (t : Fin cfg0.N) : Fin 16 := ⟨t.val / 8, by have : t.val < 128 := t.isLt; omega⟩
abbrev tS (t : Fin cfg0.N) (r : Fin 512) : Fin 4096 := ⟨t.val % 8 * 512 + r.val, by omega⟩

section
variable (t : Fin cfg0.N) (r : Fin 512)

theorem bz_at (w : Fin 1024 → EReal) : bz (iblk m c 0 t) (iblk m c 1 t) r w = zrow (X m c (tB t) (tS t r)) (G m c) w := by
  have h0 : ∀ d : Fin 1024, iblk m c 0 t (ix2 r d) = X m c (tB t) (tS t r) d := fun d => by
    rw [blk0, a0_at]
    have e1 : (⟨(t.val * 512 + r.val) / 4096, by have : t.val < 128 := t.isLt; omega⟩ : Fin 16) = tB t := Fin.ext (by show (t.val * 512 + r.val) / 4096 = t.val / 8; omega)
    have e2 : (⟨(t.val * 512 + r.val) % 4096, by omega⟩ : Fin 4096) = tS t r := Fin.ext (by show (t.val * 512 + r.val) % 4096 = t.val % 8 * 512 + r.val; omega)
    exact (congrArg (fun b => arg0 m c (ix3 b _ d)) e1).trans (congrArg (fun s => arg0 m c (ix3 (tB t) s d)) e2)
  have h1 : ∀ d : Fin 1024, iblk m c 1 t (ix2 0 d) = G m c d := fun d => by rw [blk1, a1_at]
  show zrow (fun d => iblk m c 0 t (ix2 r d)) (fun d => iblk m c 1 t (ix2 0 d)) w = _
  rw [funext h0, funext h1]

theorem col3 (k : Fin 8) (j : Fin 128) : (bz (iblk m c 0 t) (iblk m c 1 t) r fun d => iblk m c 3 t (ix2 d ⟨k.val * 128 + j.val, by omega⟩)) = if h : j.val < 64 then Z (X m c) (G m c) (W m c) (tB t) (tS t r) ⟨512 + (k.val * 64 + j.val), by omega⟩ else 0 := by
  rw [bz_at]
  by_cases h : j.val < 64
  · rw [dif_pos h]
    refine congrArg (zrow _ _) (funext fun d => ?_)
    rw [blk3, a3_at, dif_pos (show (k.val * 128 + j.val) % 128 < 64 by omega)]
    exact congrArg (W m c d) (Fin.ext (by show 512 + ((k.val * 128 + j.val) / 128 * 64 + (k.val * 128 + j.val) % 128) = 512 + (k.val * 64 + j.val); omega))
  · rw [dif_neg h]
    refine Eq.trans (congrArg (zrow _ _) (funext fun d => ?_)) (zrow_zero _ _)
    rw [blk3, a3_at, dif_neg (by show ¬ (k.val * 128 + j.val) % 128 < 64; omega)]

theorem col4 (k : Fin 2) (j : Fin 128) : (bz (iblk m c 0 t) (iblk m c 1 t) r fun d => iblk m c 4 t (ix2 d ⟨k.val * 128 + j.val, by omega⟩)) = if h : j.val < 64 then Z (X m c) (G m c) (W m c) (tB t) (tS t r) ⟨1024 + (k.val * 64 + j.val), by omega⟩ else 0 := by
  rw [bz_at]
  by_cases h : j.val < 64
  · rw [dif_pos h]
    refine congrArg (zrow _ _) (funext fun d => ?_)
    rw [blk4, a4_at, dif_pos (show (k.val * 128 + j.val) % 128 < 64 by omega)]
    exact congrArg (W m c d) (Fin.ext (by show 1024 + ((k.val * 128 + j.val) / 128 * 64 + (k.val * 128 + j.val) % 128) = 1024 + (k.val * 64 + j.val); omega))
  · rw [dif_neg h]
    refine Eq.trans (congrArg (zrow _ _) (funext fun d => ?_)) (zrow_zero _ _)
    rw [blk4, a4_at, dif_neg (by show ¬ (k.val * 128 + j.val) % 128 < 64; omega)]

theorem col5 (k : Fin 2) (j : Fin 128) : (bz (iblk m c 0 t) (iblk m c 1 t) r fun d => iblk m c 5 t (ix2 d ⟨k.val * 128 + j.val, by omega⟩)) = if h : j.val < 64 then Z (X m c) (G m c) (W m c) (tB t) (tS t r) ⟨1152 + (k.val * 64 + j.val), by omega⟩ else 0 := by
  rw [bz_at]
  by_cases h : j.val < 64
  · rw [dif_pos h]
    refine congrArg (zrow _ _) (funext fun d => ?_)
    rw [blk5, a5_at, dif_pos (show (k.val * 128 + j.val) % 128 < 64 by omega)]
    exact congrArg (W m c d) (Fin.ext (by show 1152 + ((k.val * 128 + j.val) / 128 * 64 + (k.val * 128 + j.val) % 128) = 1152 + (k.val * 64 + j.val); omega))
  · rw [dif_neg h]
    refine Eq.trans (congrArg (zrow _ _) (funext fun d => ?_)) (zrow_zero _ _)
    rw [blk5, a5_at, dif_neg (by show ¬ (k.val * 128 + j.val) % 128 < 64; omega)]

theorem col6 (k : Fin 8) (j : Fin 128) : (bz (iblk m c 0 t) (iblk m c 1 t) r fun d => iblk m c 6 t (ix2 d ⟨k.val * 128 + j.val, by omega⟩)) = if h : j.val < 64 then Z (X m c) (G m c) (W m c) (tB t) (tS t r) ⟨1280 + (k.val * 64 + j.val), by omega⟩ else 0 := by
  rw [bz_at]
  by_cases h : j.val < 64
  · rw [dif_pos h]
    refine congrArg (zrow _ _) (funext fun d => ?_)
    rw [blk6, a6_at, dif_pos (show (k.val * 128 + j.val) % 128 < 64 by omega)]
    exact congrArg (W m c d) (Fin.ext (by show 1280 + ((k.val * 128 + j.val) / 128 * 64 + (k.val * 128 + j.val) % 128) = 1280 + (k.val * 64 + j.val); omega))
  · rw [dif_neg h]
    refine Eq.trans (congrArg (zrow _ _) (funext fun d => ?_)) (zrow_zero _ _)
    rw [blk6, a6_at, dif_neg (by show ¬ (k.val * 128 + j.val) % 128 < 64; omega)]

theorem col7 (j : Fin 128) : (bz (iblk m c 0 t) (iblk m c 1 t) r fun d => iblk m c 7 t (ix2 d j)) = if h : j.val < 64 then Z (X m c) (G m c) (W m c) (tB t) (tS t r) ⟨1792 + j.val, by omega⟩ else 0 := by
  rw [bz_at]
  by_cases h : j.val < 64
  · rw [dif_pos h]
    refine congrArg (zrow _ _) (funext fun d => ?_)
    rw [blk7, a7_at, dif_pos h]

  · rw [dif_neg h]
    refine Eq.trans (congrArg (zrow _ _) (funext fun d => ?_)) (zrow_zero _ _)
    rw [blk7, a7_at, dif_neg h]

theorem col8 (j : Fin 128) : (bz (iblk m c 0 t) (iblk m c 1 t) r fun d => iblk m c 8 t (ix2 d j)) = if h : j.val < 8 then Z (X m c) (G m c) (W m c) (tB t) (tS t r) ⟨1856 + j.val, by omega⟩ else 0 := by
  rw [bz_at]
  by_cases h : j.val < 8
  · rw [dif_pos h]
    refine congrArg (zrow _ _) (funext fun d => ?_)
    rw [blk8, a8_at, dif_pos h]

  · rw [dif_neg h]
    refine Eq.trans (congrArg (zrow _ _) (funext fun d => ?_)) (zrow_zero _ _)
    rw [blk8, a8_at, dif_neg h]

theorem col2 (j : Fin 512) : (bz (iblk m c 0 t) (iblk m c 1 t) r fun d => iblk m c 2 t (ix2 d j)) = Z (X m c) (G m c) (W m c) (tB t) (tS t r) ⟨j.val, by omega⟩ := by
  rw [bz_at]
  exact congrArg (zrow _ _) (funext fun d => by rw [blk2, a2_at])

theorem col9 (j : Fin 1024) : (bz (iblk m c 0 t) (iblk m c 1 t) r fun d => iblk m c 9 t (ix2 d j)) = Z (X m c) (G m c) (W m c) (tB t) (tS t r) ⟨1864 + j.val, by omega⟩ := by
  rw [bz_at]
  exact congrArg (zrow _ _) (funext fun d => by rw [blk9, a9_at])

theorem col10 (j : Fin 1024) : (bz (iblk m c 0 t) (iblk m c 1 t) r fun d => iblk m c 10 t (ix2 d j)) = Z (X m c) (G m c) (W m c) (tB t) (tS t r) ⟨2888 + j.val, by omega⟩ := by
  rw [bz_at]
  exact congrArg (zrow _ _) (funext fun d => by rw [blk10, a10_at])

theorem col11 (j : Fin 128) : (bz (iblk m c 0 t) (iblk m c 1 t) r fun d => iblk m c 11 t (ix2 d j)) = Z (X m c) (G m c) (W m c) (tB t) (tS t r) ⟨1024 + j.val, by omega⟩ := by
  rw [bz_at]
  exact congrArg (zrow _ _) (funext fun d => by rw [blk11, a11_at])

theorem col12 (j : Fin 128) : (bz (iblk m c 0 t) (iblk m c 1 t) r fun d => iblk m c 12 t (ix2 d j)) = Z (X m c) (G m c) (W m c) (tB t) (tS t r) ⟨1152 + j.val, by omega⟩ := by
  rw [bz_at]
  exact congrArg (zrow _ _) (funext fun d => by rw [blk12, a12_at])

theorem v18 (j l : Fin 128) : iblk m c 18 t (ix2 j l) = rec64 := by rw [blk18, a18_at]
theorem v19 (j l : Fin 128) : iblk m c 19 t (ix2 j l) = if j.val / 64 = l.val / 64 then rec64 else 0 := by rw [blk19, a19_at]

theorem at20 (l : Fin 512) : out0_20 (F := Ideal) (iblk m c 0 t) (iblk m c 1 t) (iblk m c 2 t) (ix2 r l) = resU (X m c) (G m c) (W m c) (tS t r) ⟨t.val / 8 * 512 + l.val, by have : t.val < 128 := t.isLt; omega⟩ := by
  rw [out20_at, col2]
  unfold resU
  have e1 : (⟨(t.val / 8 * 512 + l.val) / 512, by have : t.val < 128 := t.isLt; omega⟩ : Fin 16) = tB t := Fin.ext (by show (t.val / 8 * 512 + l.val) / 512 = t.val / 8; omega)
  have e2 : (⟨(t.val / 8 * 512 + l.val) % 512, by omega⟩ : Fin 3912) = ⟨l.val, by omega⟩ := Fin.ext (by show (t.val / 8 * 512 + l.val) % 512 = l.val; omega)
  exact ((congrArg (fun b => Z (X m c) (G m c) (W m c) b (tS t r) _) e1).trans (congrArg (fun e => Z (X m c) (G m c) (W m c) (tB t) (tS t r) e) e2)).symm

theorem at21 (hf : Fine m c) (h : Fin 8) (l : Fin 128) : out0_21 (F := Ideal) (iblk m c 0 t) (iblk m c 1 t) (iblk m c 3 t) (iblk m c 13 t) (iblk m c 18 t) (ix4 0 h r l) = resQ (X m c) (G m c) (W m c) (fun l => arg3 m c (ix1 l)) (tB t) h (tS t r) l := by
  rw [out21_at, head_nrm (q := fun j => Z (X m c) (G m c) (W m c) (tB t) (tS t r) ⟨512 + (h.val * 64 + j.val), by omega⟩) (fun j => hf.z _ _ _) (fun j => col3 m c t r h j) (v18 m c t), blk13, a13_at]
  unfold resQ
  by_cases hl : l.val < 64
  · rw [dif_pos hl, dif_pos hl, dif_pos hl, mul_assoc]
  · rw [dif_neg hl, dif_neg hl, dif_neg hl, zero_mul]

theorem at22 (hf : Fine m c) (h : Fin 2) (l : Fin 128) : out0_22 (F := Ideal) (iblk m c 0 t) (iblk m c 1 t) (iblk m c 4 t) (iblk m c 14 t) (iblk m c 18 t) (ix4 0 h r l) = resK (X m c) (G m c) (W m c) (fun l => arg4 m c (ix1 l)) (tB t) h (tS t r) l := by
  rw [out22_at, head_nrm (q := fun j => Z (X m c) (G m c) (W m c) (tB t) (tS t r) ⟨1024 + (h.val * 64 + j.val), by omega⟩) (fun j => hf.z _ _ _) (fun j => col4 m c t r h j) (v18 m c t), blk14, a14_at]
  unfold resK key
  by_cases hl : l.val < 64
  · rw [dif_pos hl, dif_pos hl, dif_pos hl]
  · rw [dif_neg hl, dif_neg hl, dif_neg hl, zero_mul]

theorem at23 (h : Fin 2) (l : Fin 128) : out0_23 (F := Ideal) (iblk m c 0 t) (iblk m c 1 t) (iblk m c 5 t) (ix4 0 h r l) = resV (X m c) (G m c) (W m c) (tB t) h (tS t r) l := by
  rw [out23_at, col5]
  unfold resV
  by_cases h1 : l.val < 64
  · rw [if_neg (by omega), dif_pos h1, dif_pos h1]
  · rw [dif_neg h1, dif_neg h1]

theorem at24 (h : Fin 8) (l : Fin 128) : out0_24 (F := Ideal) (iblk m c 0 t) (iblk m c 1 t) (iblk m c 6 t) (ix4 0 h r l) = resQI (X m c) (G m c) (W m c) (tB t) h (tS t r) l := by
  rw [out24_at, col6]
  rfl

theorem at25 (hf : Fine m c) (l : Fin 128) : out0_25 (F := Ideal) (iblk m c 0 t) (iblk m c 1 t) (iblk m c 7 t) (iblk m c 16 t) (iblk m c 17 t) (iblk m c 18 t) (ix2 r l) = resKI (X m c) (G m c) (W m c) (fun l => arg5 m c (ix1 l)) (fun l => arg6 m c (ix1 l)) (tB t) (tS t r) l := by
  have hq : ∀ j : Fin 64, Fin' (Z (X m c) (G m c) (W m c) (tB t) (tS t r) ⟨1792 + j.val, by omega⟩) := fun j => hf.z _ _ _
  have ha : ∀ j : Fin 128, k0_pay64 (F := Ideal) (iblk m c 0 t) (iblk m c 1 t) (iblk m c 7 t) (iblk m c 18 t) (ix2 r j)
      = if h : j.val < 64 then cen (fun j => Z (X m c) (G m c) (W m c) (tB t) (tS t r) ⟨1792 + j.val, by omega⟩) ⟨j.val, h⟩ else 0 := fun j => by
    rw [p64_at]
    by_cases h : j.val < 64
    · rw [if_pos h, dif_pos h, head_cen hq (fun j => col7 m c t r j) (v18 m c t) j h]
    · rw [if_neg h, dif_neg h]
  rw [out25_at, head_nrm (cen_fin hq) ha (v18 m c t), blk16, a16_at, blk17, a17_at]
  unfold resKI ikey
  by_cases hl : l.val < 64
  · rw [dif_pos hl, dif_pos hl, dif_pos hl, dif_pos hl]
  · rw [dif_neg hl, dif_neg hl, dif_neg hl, dif_neg hl, zero_mul, zero_add]

theorem at26 (l : Fin 128) : out0_26 (F := Ideal) (iblk m c 0 t) (iblk m c 1 t) (iblk m c 8 t) (ix2 r l) = resW (X m c) (G m c) (W m c) (tB t) (tS t r) l := by
  rw [out26_at, col8]
  unfold resW
  by_cases hl : l.val < 8
  · rw [dif_pos hl, dif_pos hl]
  · rw [dif_neg hl, dif_neg hl, zero_mul]

theorem at27 (l : Fin 1024) : out0_27 (F := Ideal) (iblk m c 0 t) (iblk m c 1 t) (iblk m c 9 t) (ix2 r l) = resA (X m c) (G m c) (W m c) (tB t) (tS t r) l := by
  rw [out27_at, col9]
  rfl

theorem at28 (l : Fin 1024) : out0_28 (F := Ideal) (iblk m c 0 t) (iblk m c 1 t) (iblk m c 10 t) (ix2 r l) = resB (X m c) (G m c) (W m c) (tB t) (tS t r) l := by
  rw [out28_at, col10]
  rfl

theorem at29 (hf : Fine m c) (l : Fin 128) : out0_29 (F := Ideal) (iblk m c 0 t) (iblk m c 1 t) (iblk m c 11 t) (iblk m c 15 t) (iblk m c 19 t) (ix2 r l) = resKC (X m c) (G m c) (W m c) (fun l => arg4 m c (ix1 l)) (tB t) (tS t r) l := by
  rw [out29_at, block_nrm (fun j => (col11 m c t r j).symm ▸ hf.z _ _ _) (v19 m c t), blk15, a15_at]
  simp only [col11]
  rfl

theorem at30 (l : Fin 128) : out0_30 (F := Ideal) (iblk m c 0 t) (iblk m c 1 t) (iblk m c 12 t) (ix2 r l) = resVC (X m c) (G m c) (W m c) (tB t) (tS t r) l := by
  rw [out30_at, col12]
  rfl

theorem at31 (hf : Fine m c) (l : Fin 64) : out0_31 (F := Ideal) (iblk m c 0 t) (iblk m c 1 t) (iblk m c 7 t) (iblk m c 16 t) (iblk m c 17 t) (iblk m c 18 t) (ix2 r l) = ikey (X m c) (G m c) (W m c) (fun l => arg5 m c (ix1 l)) (fun l => arg6 m c (ix1 l)) (tB t) (tS t r) l := by
  rw [out31_at, at25 m c t r hf]
  exact dif_pos l.isLt

end

/-! The results. -/

theorem rows_eq {α : Type} (t : Fin cfg0.N) (r : Fin 512) (f : Fin 16 → Fin 4096 → α) :
    f (tB t) (tS t r) = f ⟨(t.val * 512 + r.val) / 4096, by have : t.val < 128 := t.isLt; omega⟩ ⟨(t.val * 512 + r.val) % 4096, by omega⟩ := by
  have e1 : tB t = ⟨(t.val * 512 + r.val) / 4096, by have : t.val < 128 := t.isLt; omega⟩ := Fin.ext (by show t.val / 8 = (t.val * 512 + r.val) / 4096; omega)
  have e2 : tS t r = ⟨(t.val * 512 + r.val) % 4096, by omega⟩ := Fin.ext (by show t.val % 8 * 512 + r.val = (t.val * 512 + r.val) % 4096; omega)
  rw [e1, e2]

def result0 : Buf (Elt Ideal) ((c : Thread nD τ).loc main_v53_0) := fun i : S4096x8192.Idx => resU (X m c) (G m c) (W m c) (i 0) (i 1)

theorem final0 : (dats m 0 c).arrAt 20 cfg0.N = result0 m c := by
  refine (dats m 0 c).arrAt_eq_of_emb 20 _ (fun t hf' y => ?_) fun i => cover20 i
  refine (congrFun (after0_20 m c t) y).trans ?_
  obtain ⟨r, l, rfl⟩ : ∃ (r : Fin 512) (l : Fin 512), y = ix2 r l := ⟨y 0, y 1, by funext a; match a with | ⟨0, _⟩ => rfl | ⟨1, _⟩ => rfl⟩
  exact (at20 m c t r l).trans (congrArg (result0 m c) (emb20 t r l)).symm

def result1 : Buf (Elt Ideal) ((c : Thread nD τ).loc main_v53_1) := fun i : S16x8x4096x128.Idx => resQ (X m c) (G m c) (W m c) (fun l => arg3 m c (ix1 l)) (i 0) (i 1) (i 2) (i 3)

theorem final1 (hf : Fine m c) : (dats m 0 c).arrAt 21 cfg0.N = result1 m c := by
  refine (dats m 0 c).arrAt_eq_of_emb 21 _ (fun t hf' y => ?_) fun i => cover21 i
  refine (congrFun (after0_21 m c t) y).trans ?_
  obtain ⟨z, h, r, l, rfl⟩ : ∃ (z : Fin 1) (h : Fin 8) (r : Fin 512) (l : Fin 128), y = ix4 z h r l := ⟨y 0, y 1, y 2, y 3, by funext a; match a with | ⟨0, _⟩ => rfl | ⟨1, _⟩ => rfl | ⟨2, _⟩ => rfl | ⟨3, _⟩ => rfl⟩
  obtain rfl : z = 0 := Subsingleton.elim _ _
  exact (at21 m c t r hf h l).trans (congrArg (result1 m c) (emb21 t h r l)).symm

def result2 : Buf (Elt Ideal) ((c : Thread nD τ).loc main_v53_2) := fun i : S16x2x4096x128.Idx => resK (X m c) (G m c) (W m c) (fun l => arg4 m c (ix1 l)) (i 0) (i 1) (i 2) (i 3)

theorem final2 (hf : Fine m c) : (dats m 0 c).arrAt 22 cfg0.N = result2 m c := by
  refine (dats m 0 c).arrAt_eq_of_emb 22 _ (fun t hf' y => ?_) fun i => cover22 i
  refine (congrFun (after0_22 m c t) y).trans ?_
  obtain ⟨z, h, r, l, rfl⟩ : ∃ (z : Fin 1) (h : Fin 2) (r : Fin 512) (l : Fin 128), y = ix4 z h r l := ⟨y 0, y 1, y 2, y 3, by funext a; match a with | ⟨0, _⟩ => rfl | ⟨1, _⟩ => rfl | ⟨2, _⟩ => rfl | ⟨3, _⟩ => rfl⟩
  obtain rfl : z = 0 := Subsingleton.elim _ _
  exact (at22 m c t r hf h l).trans (congrArg (result2 m c) (emb22 t h r l)).symm

def result3 : Buf (Elt Ideal) ((c : Thread nD τ).loc main_v53_3) := fun i : S16x2x4096x128.Idx => resV (X m c) (G m c) (W m c) (i 0) (i 1) (i 2) (i 3)

theorem final3 : (dats m 0 c).arrAt 23 cfg0.N = result3 m c := by
  refine (dats m 0 c).arrAt_eq_of_emb 23 _ (fun t hf' y => ?_) fun i => cover23 i
  refine (congrFun (after0_23 m c t) y).trans ?_
  obtain ⟨z, h, r, l, rfl⟩ : ∃ (z : Fin 1) (h : Fin 2) (r : Fin 512) (l : Fin 128), y = ix4 z h r l := ⟨y 0, y 1, y 2, y 3, by funext a; match a with | ⟨0, _⟩ => rfl | ⟨1, _⟩ => rfl | ⟨2, _⟩ => rfl | ⟨3, _⟩ => rfl⟩
  obtain rfl : z = 0 := Subsingleton.elim _ _
  exact (at23 m c t r h l).trans (congrArg (result3 m c) (emb23 t h r l)).symm

def result4 : Buf (Elt Ideal) ((c : Thread nD τ).loc main_v53_4) := fun i : S16x8x4096x128.Idx => resQI (X m c) (G m c) (W m c) (i 0) (i 1) (i 2) (i 3)

theorem final4 : (dats m 0 c).arrAt 24 cfg0.N = result4 m c := by
  refine (dats m 0 c).arrAt_eq_of_emb 24 _ (fun t hf' y => ?_) fun i => cover24 i
  refine (congrFun (after0_24 m c t) y).trans ?_
  obtain ⟨z, h, r, l, rfl⟩ : ∃ (z : Fin 1) (h : Fin 8) (r : Fin 512) (l : Fin 128), y = ix4 z h r l := ⟨y 0, y 1, y 2, y 3, by funext a; match a with | ⟨0, _⟩ => rfl | ⟨1, _⟩ => rfl | ⟨2, _⟩ => rfl | ⟨3, _⟩ => rfl⟩
  obtain rfl : z = 0 := Subsingleton.elim _ _
  exact (at24 m c t r h l).trans (congrArg (result4 m c) (emb24 t h r l)).symm

def result5 : Buf (Elt Ideal) ((c : Thread nD τ).loc main_v53_5) := fun i : S65536x128.Idx => resKI (X m c) (G m c) (W m c) (fun l => arg5 m c (ix1 l)) (fun l => arg6 m c (ix1 l)) ⟨(i 0).val / 4096, by have : (i 0).val < 65536 := (i 0).isLt; omega⟩ ⟨(i 0).val % 4096, by omega⟩ (i 1)

theorem final5 (hf : Fine m c) : (dats m 0 c).arrAt 25 cfg0.N = result5 m c := by
  refine (dats m 0 c).arrAt_eq_of_emb 25 _ (fun t hf' y => ?_) fun i => cover25 i
  refine (congrFun (after0_25 m c t) y).trans ?_
  obtain ⟨r, l, rfl⟩ : ∃ (r : Fin 512) (l : Fin 128), y = ix2 r l := ⟨y 0, y 1, by funext a; match a with | ⟨0, _⟩ => rfl | ⟨1, _⟩ => rfl⟩
  refine (at25 m c t r hf l).trans (Eq.trans ?_ (congrArg (result5 m c) (emb25 t r l)).symm)
  exact rows_eq t r fun b s => resKI (X m c) (G m c) (W m c) (fun l => arg5 m c (ix1 l)) (fun l => arg6 m c (ix1 l)) b s l

def result6 : Buf (Elt Ideal) ((c : Thread nD τ).loc main_v53_6) := fun i : S65536x128.Idx => resW (X m c) (G m c) (W m c) ⟨(i 0).val / 4096, by have : (i 0).val < 65536 := (i 0).isLt; omega⟩ ⟨(i 0).val % 4096, by omega⟩ (i 1)

theorem final6 : (dats m 0 c).arrAt 26 cfg0.N = result6 m c := by
  refine (dats m 0 c).arrAt_eq_of_emb 26 _ (fun t hf' y => ?_) fun i => cover26 i
  refine (congrFun (after0_26 m c t) y).trans ?_
  obtain ⟨r, l, rfl⟩ : ∃ (r : Fin 512) (l : Fin 128), y = ix2 r l := ⟨y 0, y 1, by funext a; match a with | ⟨0, _⟩ => rfl | ⟨1, _⟩ => rfl⟩
  refine (at26 m c t r l).trans (Eq.trans ?_ (congrArg (result6 m c) (emb26 t r l)).symm)
  exact rows_eq t r fun b s => resW (X m c) (G m c) (W m c) b s l

def result7 : Buf (Elt Ideal) ((c : Thread nD τ).loc main_v53_7) := fun i : S65536x1024.Idx => resA (X m c) (G m c) (W m c) ⟨(i 0).val / 4096, by have : (i 0).val < 65536 := (i 0).isLt; omega⟩ ⟨(i 0).val % 4096, by omega⟩ (i 1)

theorem final7 : (dats m 0 c).arrAt 27 cfg0.N = result7 m c := by
  refine (dats m 0 c).arrAt_eq_of_emb 27 _ (fun t hf' y => ?_) fun i => cover27 i
  refine (congrFun (after0_27 m c t) y).trans ?_
  obtain ⟨r, l, rfl⟩ : ∃ (r : Fin 512) (l : Fin 1024), y = ix2 r l := ⟨y 0, y 1, by funext a; match a with | ⟨0, _⟩ => rfl | ⟨1, _⟩ => rfl⟩
  refine (at27 m c t r l).trans (Eq.trans ?_ (congrArg (result7 m c) (emb27 t r l)).symm)
  exact rows_eq t r fun b s => resA (X m c) (G m c) (W m c) b s l

def result8 : Buf (Elt Ideal) ((c : Thread nD τ).loc main_v53_8) := fun i : S65536x1024.Idx => resB (X m c) (G m c) (W m c) ⟨(i 0).val / 4096, by have : (i 0).val < 65536 := (i 0).isLt; omega⟩ ⟨(i 0).val % 4096, by omega⟩ (i 1)

theorem final8 : (dats m 0 c).arrAt 28 cfg0.N = result8 m c := by
  refine (dats m 0 c).arrAt_eq_of_emb 28 _ (fun t hf' y => ?_) fun i => cover28 i
  refine (congrFun (after0_28 m c t) y).trans ?_
  obtain ⟨r, l, rfl⟩ : ∃ (r : Fin 512) (l : Fin 1024), y = ix2 r l := ⟨y 0, y 1, by funext a; match a with | ⟨0, _⟩ => rfl | ⟨1, _⟩ => rfl⟩
  refine (at28 m c t r l).trans (Eq.trans ?_ (congrArg (result8 m c) (emb28 t r l)).symm)
  exact rows_eq t r fun b s => resB (X m c) (G m c) (W m c) b s l

def result9 : Buf (Elt Ideal) ((c : Thread nD τ).loc main_v53_9) := fun i : S65536x128.Idx => resKC (X m c) (G m c) (W m c) (fun l => arg4 m c (ix1 l)) ⟨(i 0).val / 4096, by have : (i 0).val < 65536 := (i 0).isLt; omega⟩ ⟨(i 0).val % 4096, by omega⟩ (i 1)

theorem final9 (hf : Fine m c) : (dats m 0 c).arrAt 29 cfg0.N = result9 m c := by
  refine (dats m 0 c).arrAt_eq_of_emb 29 _ (fun t hf' y => ?_) fun i => cover29 i
  refine (congrFun (after0_29 m c t) y).trans ?_
  obtain ⟨r, l, rfl⟩ : ∃ (r : Fin 512) (l : Fin 128), y = ix2 r l := ⟨y 0, y 1, by funext a; match a with | ⟨0, _⟩ => rfl | ⟨1, _⟩ => rfl⟩
  refine (at29 m c t r hf l).trans (Eq.trans ?_ (congrArg (result9 m c) (emb29 t r l)).symm)
  exact rows_eq t r fun b s => resKC (X m c) (G m c) (W m c) (fun l => arg4 m c (ix1 l)) b s l

def result10 : Buf (Elt Ideal) ((c : Thread nD τ).loc main_v53_10) := fun i : S65536x128.Idx => resVC (X m c) (G m c) (W m c) ⟨(i 0).val / 4096, by have : (i 0).val < 65536 := (i 0).isLt; omega⟩ ⟨(i 0).val % 4096, by omega⟩ (i 1)

theorem final10 : (dats m 0 c).arrAt 30 cfg0.N = result10 m c := by
  refine (dats m 0 c).arrAt_eq_of_emb 30 _ (fun t hf' y => ?_) fun i => cover30 i
  refine (congrFun (after0_30 m c t) y).trans ?_
  obtain ⟨r, l, rfl⟩ : ∃ (r : Fin 512) (l : Fin 128), y = ix2 r l := ⟨y 0, y 1, by funext a; match a with | ⟨0, _⟩ => rfl | ⟨1, _⟩ => rfl⟩
  refine (at30 m c t r l).trans (Eq.trans ?_ (congrArg (result10 m c) (emb30 t r l)).symm)
  exact rows_eq t r fun b s => resVC (X m c) (G m c) (W m c) b s l

def result11 : Buf (Elt Ideal) ((c : Thread nD τ).loc main_v53_11) := fun i : S65536x64.Idx => ikey (X m c) (G m c) (W m c) (fun l => arg5 m c (ix1 l)) (fun l => arg6 m c (ix1 l)) ⟨(i 0).val / 4096, by have : (i 0).val < 65536 := (i 0).isLt; omega⟩ ⟨(i 0).val % 4096, by omega⟩ (i 1)

theorem final11 (hf : Fine m c) : (dats m 0 c).arrAt 31 cfg0.N = result11 m c := by
  refine (dats m 0 c).arrAt_eq_of_emb 31 _ (fun t hf' y => ?_) fun i => cover31 i
  refine (congrFun (after0_31 m c t) y).trans ?_
  obtain ⟨r, l, rfl⟩ : ∃ (r : Fin 512) (l : Fin 64), y = ix2 r l := ⟨y 0, y 1, by funext a; match a with | ⟨0, _⟩ => rfl | ⟨1, _⟩ => rfl⟩
  refine (at31 m c t r hf l).trans (Eq.trans ?_ (congrArg (result11 m c) (emb31 t r l)).symm)
  exact rows_eq t r fun b s => ikey (X m c) (G m c) (W m c) (fun l => arg5 m c (ix1 l)) (fun l => arg6 m c (ix1 l)) b s l

end Cert.Kernel3Ideal.Gen

end
-- ==== Proof.ProjFine.lean ====
module

public import proofs.«01_k».proof.Proof.ProjMath
public import proofs.«01_k».proof.Proof.Gen.Pre_finite
public import Idealize.ShloMosaic.Lib.ReduceAll
public import Idealize.ShloMosaic.Lib.Pointwise

/-! The stated precondition of the projection call says that gains and weights are numbers. -/

@[expose] public section

set_option maxRecDepth 16384

noncomputable section

namespace Cert.Pre_finite

open Idealize.ShloMosaic Cert.Pre_finite.Gen Cert.Proj

instance : Subsingleton S_.Idx := ⟨fun a b => funext fun i => i.elim0⟩

theorem fin_of (x y : EReal) (h : BitVec.ofBool (decide (max x (-x) < y)) = 1#1) : Fin' x := by
  by_cases hp : max x (-x) < y
  · have ht : max x (-x) < ⊤ := lt_of_lt_of_le hp le_top
    induction x using EReal.rec with
    | bot => exact absurd ht (by simp)
    | top => exact absurd ht (by simp)
    | coe r => exact ⟨r, rfl⟩
  · rw [decide_eq_false hp] at h
    exact absurd h (by decide)

variable (x0 : FVec Ideal S16x4096x1024 .f32) (x1 : FVec Ideal S1024 .f32) (x2 : FVec Ideal S1024x3912 .f32) (x3 x4 x5 x6 : FVec Ideal S64 .f32)

theorem facts_of (h : fn (F := Ideal) x0 x1 x2 x3 x4 x5 x6 = fun _ => 1#1) :
    (∀ d, Fin' (x1 (ix1 d))) ∧ ∀ d e, Fin' (x2 (ix2 d e)) := by
  have h0 := congrFun h (Shape.Idx.first Facts.h_S_)
  obtain ⟨hB, hC⟩ := IntOp.andi_eq_one.1 h0
  refine ⟨fun d => ?_, fun d e => ?_⟩
  · have := Host.reduce_andi_all _ _ _ _ _ hB (ix1 d)
    clear h h0 hB hC
    pointwise at this
    exact fin_of _ _ this
  · have := Host.reduce_andi_all _ _ _ _ _ hC (ix2 d e)
    clear h h0 hB hC
    pointwise at this
    exact fin_of _ _ this

end Cert.Pre_finite

end
-- ==== Proof.ProjRef.lean ====
/- The reference's results, entry by entry. -/
module

public import proofs.«01_k».proof.Proof.ProjMath
public import proofs.«01_k».proof.Proof.Gen.Reference3Ideal.Read
public import Idealize.ShloMosaic.Lib.Pointwise

@[expose] public section

set_option maxRecDepth 16384

noncomputable section

namespace Cert.Reference3Ideal.Read

open Idealize.ShloMosaic Cert.Reference3Ideal Cert.Reference3Ideal.Gen Cert.Proj

variable (x0 : FVec Ideal S16x4096x1024 .f32) (x1 : FVec Ideal S1024 .f32) (x2 : FVec Ideal S1024x3912 .f32) (x3 x4 x5 x6 : FVec Ideal S64 .f32)

theorem sitofp_zero : (FloatOps.sitofp FTy.f32 (0#32 : BitVec 32) : Ideal .f32) = 0 := by
  show (((0#32 : BitVec 32).toInt : ℝ) : EReal) = 0
  simp

/-- A row index as its device row and its position. -/
abbrev bOf (n : Fin 65536) : Fin 16 := ⟨n.val / 4096, by omega⟩
abbrev sOf (n : Fin 65536) : Fin 4096 := ⟨n.val % 4096, by omega⟩

theorem h_at (b : Fin 16) (s : Fin 4096) (d : Fin 1024) :
    val_main_v12 (F := Ideal) x0 x1 (ix3 b s d) = hrow (fun d => x0 (ix3 b s d)) (fun d => x1 (ix1 d)) d := by
  pointwise [val_main_v12, val_main_v9, val_main_v11, val_main_v8, val_main_v10, val_main_v7, val_main_v6, val_main_v4, val_main_v5, val_main_v2, val_main_v3, val_main_cst_1, val_main_v1, val_main_cst_0, val_main_v0, val_main_cst, hrow, eps, k1024]

theorem z_at (b : Fin 16) (s : Fin 4096) (e : Fin 3912) :
    val_main_v13 (F := Ideal) x0 x1 x2 (ix3 b s e) = Z (fun b s d => x0 (ix3 b s d)) (fun d => x1 (ix1 d)) (fun d e => x2 (ix2 d e)) b s e := by
  have h : val_main_v13 (F := Ideal) x0 x1 x2 (ix3 b s e) = ∑ d : Fin 1024, val_main_v12 (F := Ideal) x0 x1 (ix3 b s d) * x2 (ix2 d e) := by
    pointwise [val_main_v13]
  rw [h]
  simp only [h_at]
  rfl

theorem u_at (s : Fin 4096) (l : Fin 8192) :
    val_main_v82 (F := Ideal) x0 x1 x2 (ix2 s l) = resU (fun b s d => x0 (ix3 b s d)) (fun d => x1 (ix1 d)) (fun d e => x2 (ix2 d e)) s l := by
  pointwise [val_main_v82, val_main_v81, val_main_v80, val_main_v14]
  simp only [z_at]
  rfl

theorem query_at (b : Fin 16) (s : Fin 4096) (h : Fin 8) (l : Fin 64) :
    val_main_v38 (F := Ideal) x0 x1 x2 x3 (ix4 b s h l) = nrm (fun j => Z (fun b s d => x0 (ix3 b s d)) (fun d => x1 (ix1 d)) (fun d e => x2 (ix2 d e)) b s ⟨512 + (h.val * 64 + j.val), by omega⟩) l * x3 (ix1 l) * Ideal.ofBits FTy.f32 1040187392#32 := by
  pointwise [val_main_v38, val_main_v36, val_main_v37, val_main_v33, val_main_v35, val_main_cst_5, val_main_v23, val_main_v32, val_main_v34, val_main_v15, val_main_v31, val_main_v30, val_main_v28, val_main_v29, val_main_v26, val_main_v27, val_main_cst_4, val_main_v25, val_main_cst_3, val_main_v24, val_main_cst_2]
  simp only [z_at]
  rfl

theorem q_at (b : Fin 16) (h : Fin 8) (s : Fin 4096) (l : Fin 128) :
    val_main_v85 (F := Ideal) x0 x1 x2 x3 (ix4 b h s l) = resQ (fun b s d => x0 (ix3 b s d)) (fun d => x1 (ix1 d)) (fun d e => x2 (ix2 d e)) (fun l => x3 (ix1 l)) b h s l := by
  pointwise [val_main_v85, val_main_v84, val_main_v83, val_main_call0_v0, val_main_c]
  simp only [query_at, sitofp_zero]
  rfl

theorem key_at (b : Fin 16) (s : Fin 4096) (h : Fin 2) (l : Fin 64) :
    val_main_v52 (F := Ideal) x0 x1 x2 x4 (ix4 b s h l) = key (fun b s d => x0 (ix3 b s d)) (fun d => x1 (ix1 d)) (fun d e => x2 (ix2 d e)) (fun l => x4 (ix1 l)) b h s l := by
  pointwise [val_main_v52, val_main_v49, val_main_v51, val_main_v39, val_main_v48, val_main_v50, val_main_v16, val_main_v47, val_main_v46, val_main_v44, val_main_v45, val_main_v42, val_main_v43, val_main_cst_8, val_main_v41, val_main_cst_7, val_main_v40, val_main_cst_6]
  simp only [z_at]
  rfl

theorem k_at (b : Fin 16) (h : Fin 2) (s : Fin 4096) (l : Fin 128) :
    val_main_v88 (F := Ideal) x0 x1 x2 x4 (ix4 b h s l) = resK (fun b s d => x0 (ix3 b s d)) (fun d => x1 (ix1 d)) (fun d e => x2 (ix2 d e)) (fun l => x4 (ix1 l)) b h s l := by
  pointwise [val_main_v88, val_main_v87, val_main_v86, val_main_call1_v0, val_main_c_16]
  simp only [key_at, sitofp_zero]
  rfl

theorem v_at (b : Fin 16) (h : Fin 2) (s : Fin 4096) (l : Fin 128) :
    val_main_v91 (F := Ideal) x0 x1 x2 (ix4 b h s l) = resV (fun b s d => x0 (ix3 b s d)) (fun d => x1 (ix1 d)) (fun d e => x2 (ix2 d e)) b h s l := by
  pointwise [val_main_v91, val_main_v90, val_main_v89, val_main_call2_v0, val_main_v79, val_main_c_17, val_main_v77, val_main_v78, val_main_v17, val_main_cst_15]
  simp only [z_at, sitofp_zero]
  unfold resV
  by_cases h1 : l.val < 64
  · simp [h1, show l.val < 65 by omega]
  · by_cases h2 : l.val = 64
    · simp [h1, h2]
    · simp [h1, h2, show ¬ l.val < 65 by omega]

theorem qi_at (b : Fin 16) (h : Fin 8) (s : Fin 4096) (l : Fin 128) :
    val_main_v95 (F := Ideal) x0 x1 x2 (ix4 b h s l) = resQI (fun b s d => x0 (ix3 b s d)) (fun d => x1 (ix1 d)) (fun d e => x2 (ix2 d e)) b h s l := by
  pointwise [val_main_v95, val_main_v94, val_main_v93, val_main_call3_v0, val_main_v92, val_main_c_18, val_main_v18]
  simp only [z_at, sitofp_zero]
  rfl

theorem cen_at (b : Fin 16) (s : Fin 4096) (l : Fin 64) :
    val_main_v58 (F := Ideal) x0 x1 x2 (ix3 b s l) = cen (fun j => Z (fun b s d => x0 (ix3 b s d)) (fun d => x1 (ix1 d)) (fun d e => x2 (ix2 d e)) b s ⟨1792 + j.val, by omega⟩) l := by
  pointwise [val_main_v58, val_main_v19, val_main_v57, val_main_v56, val_main_v54, val_main_v55, val_main_v53, val_main_cst_10, val_main_cst_9]
  simp only [z_at]
  rfl

theorem ikey_at (b : Fin 16) (s : Fin 4096) (l : Fin 64) :
    val_main_v74 (F := Ideal) x0 x1 x2 x5 x6 (ix3 b s l) = ikey (fun b s d => x0 (ix3 b s d)) (fun d => x1 (ix1 d)) (fun d e => x2 (ix2 d e)) (fun l => x5 (ix1 l)) (fun l => x6 (ix1 l)) b s l := by
  pointwise [val_main_v74, val_main_v71, val_main_v73, val_main_v68, val_main_v70, val_main_v72, val_main_v67, val_main_v69, val_main_v66, val_main_v65, val_main_v63, val_main_v64, val_main_v61, val_main_v62, val_main_cst_13, val_main_v60, val_main_cst_12, val_main_v59, val_main_cst_11]
  simp only [cen_at]
  rfl

theorem ki_at (n : Fin 65536) (l : Fin 128) :
    val_main_v98 (F := Ideal) x0 x1 x2 x5 x6 (ix2 n l) = resKI (fun b s d => x0 (ix3 b s d)) (fun d => x1 (ix1 d)) (fun d e => x2 (ix2 d e)) (fun l => x5 (ix1 l)) (fun l => x6 (ix1 l)) (bOf n) (sOf n) l := by
  pointwise [val_main_v98, val_main_v97, val_main_v96, val_main_call4_v0, val_main_c_19]
  unfold resKI
  by_cases h1 : l.val < 64
  · simp only [ikey_at, h1, show n.val / 4096 < 16 by omega, show n.val % 4096 < 4096 by omega, and_self, dite_true]
  · simp only [h1, and_false, dite_false, sitofp_zero]

theorem w_at (n : Fin 65536) (l : Fin 128) :
    val_main_v100 (F := Ideal) x0 x1 x2 (ix2 n l) = resW (fun b s d => x0 (ix3 b s d)) (fun d => x1 (ix1 d)) (fun d e => x2 (ix2 d e)) (bOf n) (sOf n) l := by
  pointwise [val_main_v100, val_main_v99, val_main_v76, val_main_call5_v0, val_main_v20, val_main_v75, val_main_c_20, val_main_cst_14]
  unfold resW
  by_cases h1 : l.val < 8
  · simp only [z_at, h1, show n.val / 4096 < 16 by omega, show n.val % 4096 < 4096 by omega, and_self, dite_true]
  · simp only [h1, and_false, dite_false, sitofp_zero]

theorem sga_at (n : Fin 65536) (d : Fin 1024) :
    val_main_v108 (F := Ideal) x0 x1 x2 (ix2 n d) = resA (fun b s d => x0 (ix3 b s d)) (fun d => x1 (ix1 d)) (fun d e => x2 (ix2 d e)) (bOf n) (sOf n) d := by
  pointwise [val_main_v108, val_main_v107, val_main_v106, val_main_v105, val_main_v104, val_main_cst_22, val_main_v103, val_main_v102, val_main_cst_21, val_main_v101, val_main_v21]
  simp only [z_at]
  rfl

theorem sgb_at (n : Fin 65536) (d : Fin 1024) :
    val_main_v116 (F := Ideal) x0 x1 x2 (ix2 n d) = resB (fun b s d => x0 (ix3 b s d)) (fun d => x1 (ix1 d)) (fun d e => x2 (ix2 d e)) (bOf n) (sOf n) d := by
  pointwise [val_main_v116, val_main_v115, val_main_v114, val_main_v113, val_main_v112, val_main_cst_24, val_main_v111, val_main_v110, val_main_cst_23, val_main_v109, val_main_v22]
  simp only [z_at]
  rfl

theorem kc_at (n : Fin 65536) (l : Fin 128) :
    val_main_v117 (F := Ideal) x0 x1 x2 x4 (ix2 n l) = resKC (fun b s d => x0 (ix3 b s d)) (fun d => x1 (ix1 d)) (fun d e => x2 (ix2 d e)) (fun l => x4 (ix1 l)) (bOf n) (sOf n) l := by
  pointwise [val_main_v117]
  simp only [key_at]
  rfl

theorem vc_at (n : Fin 65536) (l : Fin 128) :
    val_main_v118 (F := Ideal) x0 x1 x2 (ix2 n l) = resVC (fun b s d => x0 (ix3 b s d)) (fun d => x1 (ix1 d)) (fun d e => x2 (ix2 d e)) (bOf n) (sOf n) l := by
  pointwise [val_main_v118, val_main_v17]
  simp only [z_at]
  rfl

theorem kic_at (n : Fin 65536) (l : Fin 64) :
    val_main_v119 (F := Ideal) x0 x1 x2 x5 x6 (ix2 n l) = ikey (fun b s d => x0 (ix3 b s d)) (fun d => x1 (ix1 d)) (fun d e => x2 (ix2 d e)) (fun l => x5 (ix1 l)) (fun l => x6 (ix1 l)) (bOf n) (sOf n) l := by
  pointwise [val_main_v119]
  simp only [ikey_at]

end Cert.Reference3Ideal.Read

end
-- ==== Proof.ProjPrinted.lean ====
module

public import proofs.«01_k».proof.Defs
public import proofs.«01_k».proof.Proof.Gen.Kernel3
public import proofs.«01_k».proof.Proof.ProjFrame

/-! The projection call as printed: its program is the idealized one's, so its run ends the same way. -/

@[expose] public section

set_option maxRecDepth 65536
set_option maxHeartbeats 8000000

namespace Cert.Proj

open Idealize.ShloMosaic Idealize.ShloMosaic.TcCoe Idealize.SL.Sem

theorem bodies_eq {F : FTy → Type} [FloatOps F] : (Cert.Kernel3.defs₀ (F := F)) = Cert.Kernel3Ideal.defs₀ (F := F) := by
  refine congrArg Defs.onTc (funext fun k => funext fun a => ?_)
  match k, a with
  | 0, (t, s) => rfl

theorem defs_eq {F : FTy → Type} [FloatOps F] : (Cert.Kernel3.defs (F := F)) = Cert.Kernel3Ideal.defs (F := F) :=
  congrArg (Pipeline.defs Cert.Kernel3.pcfgs) bodies_eq

theorem main_eq {F : FTy → Type} [FloatOps F] : (Cert.Kernel3.main (F := F)) = Cert.Kernel3Ideal.main (F := F) := rfl

theorem frame_p : Cert.quiescent_Kernel3 (hKernel3 := Cert.Kernel3.Gen.facts) := by
  intro m ρ _
  rw [defs_eq, main_eq]
  exact Cert.Kernel3Ideal.Gen.frame (F := Bits) m ρ

end Cert.Proj

end
-- ==== Proof.ProjClaims.lean ====
/- The claims about the projection call: the frames, and that its twelve results are the reference's. -/
module

public import proofs.«01_k».proof.Defs
public import proofs.«01_k».proof.Proof.ProjFinal
public import proofs.«01_k».proof.Proof.ProjFine
public import proofs.«01_k».proof.Proof.ProjRef
public import proofs.«01_k».proof.Proof.ProjPrinted
public import proofs.«01_k».proof.Proof.Gen.Reference3Ideal.Run

@[expose] public section

set_option maxRecDepth 16384
set_option maxHeartbeats 4000000

noncomputable section

namespace Cert.Proj

open Idealize.ShloMosaic Idealize.ShloMosaic.TcCoe Idealize.SL.Sem

theorem frame_pi : Cert.quiescent_Kernel3Ideal (hKernel3Ideal := Cert.Kernel3Ideal.Gen.facts) := fun m ρ _ => Cert.Kernel3Ideal.Gen.frame m ρ

theorem frame_pi_finite : Cert.quiescent_Kernel3Ideal_pre_finite (hKernel3Ideal := Cert.Kernel3Ideal.Gen.facts) (hPre_finite := Cert.Pre_finite.Gen.facts) :=
  fun m ρ _ => frame_pi m ρ trivial

theorem frame_ri : Cert.quiescent_Reference3Ideal (hReference3Ideal := Cert.Reference3Ideal.Gen.facts) := fun m ρ _ =>
  (θ_run Cert.Reference3Ideal.defs _ _).mono (fun r h => ⟨fun c => (h c).2.2.2.2.2.2.2.2.2.2.2.2, sem_eq_zero_of_no_sems (by decide) r.2⟩)
    (Cert.Reference3Ideal.Value.run (F := Ideal) m ρ)

theorem frame_ri_finite : Cert.quiescent_Reference3Ideal_pre_finite (hReference3Ideal := Cert.Reference3Ideal.Gen.facts) (hPre_finite := Cert.Pre_finite.Gen.facts) :=
  fun m ρ _ => frame_ri m ρ trivial

theorem ix2_eta {a b : ℕ} (i : (⟨2, ![a, b]⟩ : Shape).Idx) : ∃ (x : Fin a) (y : Fin b), i = ix2 x y :=
  ⟨i 0, i 1, by funext k; match k with | ⟨0, _⟩ => rfl | ⟨1, _⟩ => rfl⟩
theorem ix4_eta {a b c d : ℕ} (i : (⟨4, ![a, b, c, d]⟩ : Shape).Idx) : ∃ (x : Fin a) (y : Fin b) (z : Fin c) (w : Fin d), i = ix4 x y z w :=
  ⟨i 0, i 1, i 2, i 3, by funext k; match k with | ⟨0, _⟩ => rfl | ⟨1, _⟩ => rfl | ⟨2, _⟩ => rfl | ⟨3, _⟩ => rfl⟩

theorem algebraic : Cert.algebraic_Kernel3Ideal_Reference3Ideal_pre_finite (hKernel3Ideal := Cert.Kernel3Ideal.Gen.facts)
    (hReference3Ideal := Cert.Reference3Ideal.Gen.facts) (hPre_finite := Cert.Pre_finite.Gen.facts) := by
  intro m g m' g' hpre hagree
  have hf : ∀ c, Cert.Kernel3Ideal.Gen.Fine m c := fun c => Cert.Pre_finite.facts_of _ _ _ _ _ _ _ (hpre c)
  refine ⟨fun c => Cert.Kernel3Ideal.Gen.result0 m c, fun c => Cert.Kernel3Ideal.Gen.result1 m c, fun c => Cert.Kernel3Ideal.Gen.result2 m c, fun c => Cert.Kernel3Ideal.Gen.result3 m c, fun c => Cert.Kernel3Ideal.Gen.result4 m c, fun c => Cert.Kernel3Ideal.Gen.result5 m c, fun c => Cert.Kernel3Ideal.Gen.result6 m c, fun c => Cert.Kernel3Ideal.Gen.result7 m c, fun c => Cert.Kernel3Ideal.Gen.result8 m c, fun c => Cert.Kernel3Ideal.Gen.result9 m c, fun c => Cert.Kernel3Ideal.Gen.result10 m c, fun c => Cert.Kernel3Ideal.Gen.result11 m c, ?_, ?_⟩
  · refine (θ_run _ _ _).mono (fun r hr => ?_) (θ_run_and (Cert.Kernel3Ideal.Gen.run_main m g) (Cert.Kernel3Ideal.Gen.unchanged m g))
    exact fun c => ⟨((hr.1 c).1 20).trans (Cert.Kernel3Ideal.Gen.final0 m c),
      ((hr.1 c).1 21).trans (Cert.Kernel3Ideal.Gen.final1 m c (hf c)),
      ((hr.1 c).1 22).trans (Cert.Kernel3Ideal.Gen.final2 m c (hf c)),
      ((hr.1 c).1 23).trans (Cert.Kernel3Ideal.Gen.final3 m c),
      ((hr.1 c).1 24).trans (Cert.Kernel3Ideal.Gen.final4 m c),
      ((hr.1 c).1 25).trans (Cert.Kernel3Ideal.Gen.final5 m c (hf c)),
      ((hr.1 c).1 26).trans (Cert.Kernel3Ideal.Gen.final6 m c),
      ((hr.1 c).1 27).trans (Cert.Kernel3Ideal.Gen.final7 m c),
      ((hr.1 c).1 28).trans (Cert.Kernel3Ideal.Gen.final8 m c),
      ((hr.1 c).1 29).trans (Cert.Kernel3Ideal.Gen.final9 m c (hf c)),
      ((hr.1 c).1 30).trans (Cert.Kernel3Ideal.Gen.final10 m c),
      ((hr.1 c).1 31).trans (Cert.Kernel3Ideal.Gen.final11 m c (hf c)), hr.2 c⟩
  · refine (θ_run _ _ _).mono (fun r hr => ?_) (Cert.Reference3Ideal.Value.run (F := Ideal) m' g')
    intro c
    obtain ⟨h0, h1, h2, h3, h4, h5, h6⟩ := hagree c
    obtain ⟨r0, r1, r2, r3, r4, r5, r6, r7, r8, r9, r10, r11, hu⟩ := hr c
    refine ⟨r0.trans ?_, r1.trans ?_, r2.trans ?_, r3.trans ?_, r4.trans ?_, r5.trans ?_, r6.trans ?_, r7.trans ?_, r8.trans ?_, r9.trans ?_, r10.trans ?_, r11.trans ?_, hu⟩
    · refine (Cert.Reference3Ideal.Read.val_main_v82_eq _ _ _).trans ?_
      rw [h0, h1, h2]
      funext i
      obtain ⟨n, l, rfl⟩ := ix2_eta i
      exact Cert.Reference3Ideal.Read.u_at _ _ _ n l
    · refine (Cert.Reference3Ideal.Read.val_main_v85_eq m' c).trans ?_
      rw [h0, h1, h2, h3]
      funext i
      obtain ⟨b, h, s, l, rfl⟩ := ix4_eta i
      exact Cert.Reference3Ideal.Read.q_at _ _ _ _ b h s l
    · refine (Cert.Reference3Ideal.Read.val_main_v88_eq _ _ _ _).trans ?_
      rw [h0, h1, h2, h4]
      funext i
      obtain ⟨b, h, s, l, rfl⟩ := ix4_eta i
      exact Cert.Reference3Ideal.Read.k_at _ _ _ _ b h s l
    · refine (Cert.Reference3Ideal.Read.val_main_v91_eq _ _ _).trans ?_
      rw [h0, h1, h2]
      funext i
      obtain ⟨b, h, s, l, rfl⟩ := ix4_eta i
      exact Cert.Reference3Ideal.Read.v_at _ _ _ b h s l
    · refine (Cert.Reference3Ideal.Read.val_main_v95_eq _ _ _).trans ?_
      rw [h0, h1, h2]
      funext i
      obtain ⟨b, h, s, l, rfl⟩ := ix4_eta i
      exact Cert.Reference3Ideal.Read.qi_at _ _ _ b h s l
    · refine (Cert.Reference3Ideal.Read.val_main_v98_eq m' c).trans ?_
      rw [h0, h1, h2, h5, h6]
      funext i
      obtain ⟨n, l, rfl⟩ := ix2_eta i
      exact Cert.Reference3Ideal.Read.ki_at _ _ _ _ _ n l
    · refine (Cert.Reference3Ideal.Read.val_main_v100_eq _ _ _).trans ?_
      rw [h0, h1, h2]
      funext i
      obtain ⟨n, l, rfl⟩ := ix2_eta i
      exact Cert.Reference3Ideal.Read.w_at _ _ _ n l
    · refine (Cert.Reference3Ideal.Read.val_main_v108_eq _ _ _).trans ?_
      rw [h0, h1, h2]
      funext i
      obtain ⟨n, l, rfl⟩ := ix2_eta i
      exact Cert.Reference3Ideal.Read.sga_at _ _ _ n l
    · refine (Cert.Reference3Ideal.Read.val_main_v116_eq _ _ _).trans ?_
      rw [h0, h1, h2]
      funext i
      obtain ⟨n, l, rfl⟩ := ix2_eta i
      exact Cert.Reference3Ideal.Read.sgb_at _ _ _ n l
    · refine (Cert.Reference3Ideal.Read.val_main_v117_eq _ _ _ _).trans ?_
      rw [h0, h1, h2, h4]
      funext i
      obtain ⟨n, l, rfl⟩ := ix2_eta i
      exact Cert.Reference3Ideal.Read.kc_at _ _ _ _ n l
    · refine (Cert.Reference3Ideal.Read.val_main_v118_eq _ _ _).trans ?_
      rw [h0, h1, h2]
      funext i
      obtain ⟨n, l, rfl⟩ := ix2_eta i
      exact Cert.Reference3Ideal.Read.vc_at _ _ _ n l
    · refine (Cert.Reference3Ideal.Read.val_main_v119_eq m' c).trans ?_
      rw [h0, h1, h2, h5, h6]
      funext i
      obtain ⟨n, l, rfl⟩ := ix2_eta i
      exact Cert.Reference3Ideal.Read.kic_at _ _ _ _ _ n l

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.MoeClaims
public import proofs.«01_k».proof.Proof.S5Claims
public import proofs.«01_k».proof.Proof.ProjClaims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_routed.Gen.facts, Cert.Pre_finite.Gen.facts,
  Cert.S5.frame_p, Cert.S5.frame_pi, Cert.S5.frame_ri, Cert.Moe.frame_p, Cert.Moe.frame_pi, Cert.Moe.frame_pi_routed, Cert.Moe.frame_ri,
  Cert.Moe.frame_ri_routed, Cert.Proj.frame_p, Cert.Proj.frame_pi, Cert.Proj.frame_pi_finite, Cert.Proj.frame_ri, Cert.Proj.frame_ri_finite,
  trivial, Cert.S5.algebraic, trivial, Cert.Moe.algebraic, trivial, Cert.Proj.algebraic⟩

end Cert.Proof

end
